-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Encoder (m : (ℓ : Loc Cert.Encoder.nD Cert.Encoder.τ Cert.Encoder.sig) → Buf (Elt Bits) ℓ) : Prop :=
  True

def Pre_EncoderIdeal (m : (ℓ : Loc Cert.EncoderIdeal.nD Cert.EncoderIdeal.τ Cert.EncoderIdeal.sig) → Buf (Elt Ideal) ℓ) : Prop :=
  True

def Pre_EncoderReferenceIdeal (m : (ℓ : Loc Cert.EncoderReferenceIdeal.nD Cert.EncoderReferenceIdeal.τ Cert.EncoderReferenceIdeal.sig) → Buf (Elt Ideal) ℓ) : Prop :=
  True

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Encoder [hEncoder : Cert.Encoder.Facts] : Prop :=
  ∀ (m : (ℓ : Loc Cert.Encoder.nD Cert.Encoder.τ Cert.Encoder.sig) → Buf (Elt Bits) ℓ) (g : Dev Cert.Encoder.nD → PrngReg), Pre_Encoder m →
    θ_run (Cert.Encoder.defs (F := Bits)) (onTc (τ := Cert.Encoder.τ) (Cert.Encoder.main (F := Bits))) ⟨m, fun _ => 0, g⟩ (fun r => (∀ c : Dev Cert.Encoder.nD,
      r.2.mem ((c.tc : Thread Cert.Encoder.nD Cert.Encoder.τ).loc Cert.Encoder.main_arg0) = m ((c.tc : Thread Cert.Encoder.nD Cert.Encoder.τ).loc Cert.Encoder.main_arg0)
      ∧ r.2.mem ((c.tc : Thread Cert.Encoder.nD Cert.Encoder.τ).loc Cert.Encoder.main_arg1) = m ((c.tc : Thread Cert.Encoder.nD Cert.Encoder.τ).loc Cert.Encoder.main_arg1)
      ∧ r.2.mem ((c.tc : Thread Cert.Encoder.nD Cert.Encoder.τ).loc Cert.Encoder.main_arg2) = m ((c.tc : Thread Cert.Encoder.nD Cert.Encoder.τ).loc Cert.Encoder.main_arg2)
      ∧ r.2.mem ((c.tc : Thread Cert.Encoder.nD Cert.Encoder.τ).loc Cert.Encoder.main_arg3) = m ((c.tc : Thread Cert.Encoder.nD Cert.Encoder.τ).loc Cert.Encoder.main_arg3)
      ∧ r.2.mem ((c.tc : Thread Cert.Encoder.nD Cert.Encoder.τ).loc Cert.Encoder.main_arg4) = m ((c.tc : Thread Cert.Encoder.nD Cert.Encoder.τ).loc Cert.Encoder.main_arg4)
      ∧ r.2.mem ((c.tc : Thread Cert.Encoder.nD Cert.Encoder.τ).loc Cert.Encoder.main_arg5) = m ((c.tc : Thread Cert.Encoder.nD Cert.Encoder.τ).loc Cert.Encoder.main_arg5)
      ∧ r.2.mem ((c.tc : Thread Cert.Encoder.nD Cert.Encoder.τ).loc Cert.Encoder.main_arg6) = m ((c.tc : Thread Cert.Encoder.nD Cert.Encoder.τ).loc Cert.Encoder.main_arg6)
      ∧ r.2.mem ((c.tc : Thread Cert.Encoder.nD Cert.Encoder.τ).loc Cert.Encoder.main_arg7) = m ((c.tc : Thread Cert.Encoder.nD Cert.Encoder.τ).loc Cert.Encoder.main_arg7)
      ∧ r.2.mem ((c.tc : Thread Cert.Encoder.nD Cert.Encoder.τ).loc Cert.Encoder.main_arg8) = m ((c.tc : Thread Cert.Encoder.nD Cert.Encoder.τ).loc Cert.Encoder.main_arg8)
      ∧ r.2.mem ((c.tc : Thread Cert.Encoder.nD Cert.Encoder.τ).loc Cert.Encoder.main_arg9) = m ((c.tc : Thread Cert.Encoder.nD Cert.Encoder.τ).loc Cert.Encoder.main_arg9)
      ∧ r.2.mem ((c.tc : Thread Cert.Encoder.nD Cert.Encoder.τ).loc Cert.Encoder.main_arg10) = m ((c.tc : Thread Cert.Encoder.nD Cert.Encoder.τ).loc Cert.Encoder.main_arg10)
      ∧ r.2.mem ((c.tc : Thread Cert.Encoder.nD Cert.Encoder.τ).loc Cert.Encoder.main_arg11) = m ((c.tc : Thread Cert.Encoder.nD Cert.Encoder.τ).loc Cert.Encoder.main_arg11)
      ∧ r.2.mem ((c.tc : Thread Cert.Encoder.nD Cert.Encoder.τ).loc Cert.Encoder.main_arg12) = m ((c.tc : Thread Cert.Encoder.nD Cert.Encoder.τ).loc Cert.Encoder.main_arg12)
      ∧ r.2.mem ((c.tc : Thread Cert.Encoder.nD Cert.Encoder.τ).loc Cert.Encoder.main_arg13) = m ((c.tc : Thread Cert.Encoder.nD Cert.Encoder.τ).loc Cert.Encoder.main_arg13)
      ∧ r.2.mem ((c.tc : Thread Cert.Encoder.nD Cert.Encoder.τ).loc Cert.Encoder.main_arg14) = m ((c.tc : Thread Cert.Encoder.nD Cert.Encoder.τ).loc Cert.Encoder.main_arg14)
      ∧ r.2.mem ((c.tc : Thread Cert.Encoder.nD Cert.Encoder.τ).loc Cert.Encoder.main_arg15) = m ((c.tc : Thread Cert.Encoder.nD Cert.Encoder.τ).loc Cert.Encoder.main_arg15)
      ∧ r.2.mem ((c.tc : Thread Cert.Encoder.nD Cert.Encoder.τ).loc Cert.Encoder.main_arg16) = m ((c.tc : Thread Cert.Encoder.nD Cert.Encoder.τ).loc Cert.Encoder.main_arg16)
      ∧ r.2.mem ((c.tc : Thread Cert.Encoder.nD Cert.Encoder.τ).loc Cert.Encoder.main_arg17) = m ((c.tc : Thread Cert.Encoder.nD Cert.Encoder.τ).loc Cert.Encoder.main_arg17)
      ∧ r.2.mem ((c.tc : Thread Cert.Encoder.nD Cert.Encoder.τ).loc Cert.Encoder.main_arg18) = m ((c.tc : Thread Cert.Encoder.nD Cert.Encoder.τ).loc Cert.Encoder.main_arg18))
      ∧ r.2.sem = fun _ => 0)

def quiescent_EncoderIdeal [hEncoderIdeal : Cert.EncoderIdeal.Facts] : Prop :=
  ∀ (m : (ℓ : Loc Cert.EncoderIdeal.nD Cert.EncoderIdeal.τ Cert.EncoderIdeal.sig) → Buf (Elt Ideal) ℓ) (g : Dev Cert.EncoderIdeal.nD → PrngReg), Pre_EncoderIdeal m →
    θ_run (Cert.EncoderIdeal.defs (F := Ideal)) (onTc (τ := Cert.EncoderIdeal.τ) (Cert.EncoderIdeal.main (F := Ideal))) ⟨m, fun _ => 0, g⟩ (fun r => (∀ c : Dev Cert.EncoderIdeal.nD,
      r.2.mem ((c.tc : Thread Cert.EncoderIdeal.nD Cert.EncoderIdeal.τ).loc Cert.EncoderIdeal.main_arg0) = m ((c.tc : Thread Cert.EncoderIdeal.nD Cert.EncoderIdeal.τ).loc Cert.EncoderIdeal.main_arg0)
      ∧ r.2.mem ((c.tc : Thread Cert.EncoderIdeal.nD Cert.EncoderIdeal.τ).loc Cert.EncoderIdeal.main_arg1) = m ((c.tc : Thread Cert.EncoderIdeal.nD Cert.EncoderIdeal.τ).loc Cert.EncoderIdeal.main_arg1)
      ∧ r.2.mem ((c.tc : Thread Cert.EncoderIdeal.nD Cert.EncoderIdeal.τ).loc Cert.EncoderIdeal.main_arg2) = m ((c.tc : Thread Cert.EncoderIdeal.nD Cert.EncoderIdeal.τ).loc Cert.EncoderIdeal.main_arg2)
      ∧ r.2.mem ((c.tc : Thread Cert.EncoderIdeal.nD Cert.EncoderIdeal.τ).loc Cert.EncoderIdeal.main_arg3) = m ((c.tc : Thread Cert.EncoderIdeal.nD Cert.EncoderIdeal.τ).loc Cert.EncoderIdeal.main_arg3)
      ∧ r.2.mem ((c.tc : Thread Cert.EncoderIdeal.nD Cert.EncoderIdeal.τ).loc Cert.EncoderIdeal.main_arg4) = m ((c.tc : Thread Cert.EncoderIdeal.nD Cert.EncoderIdeal.τ).loc Cert.EncoderIdeal.main_arg4)
      ∧ r.2.mem ((c.tc : Thread Cert.EncoderIdeal.nD Cert.EncoderIdeal.τ).loc Cert.EncoderIdeal.main_arg5) = m ((c.tc : Thread Cert.EncoderIdeal.nD Cert.EncoderIdeal.τ).loc Cert.EncoderIdeal.main_arg5)
      ∧ r.2.mem ((c.tc : Thread Cert.EncoderIdeal.nD Cert.EncoderIdeal.τ).loc Cert.EncoderIdeal.main_arg6) = m ((c.tc : Thread Cert.EncoderIdeal.nD Cert.EncoderIdeal.τ).loc Cert.EncoderIdeal.main_arg6)
      ∧ r.2.mem ((c.tc : Thread Cert.EncoderIdeal.nD Cert.EncoderIdeal.τ).loc Cert.EncoderIdeal.main_arg7) = m ((c.tc : Thread Cert.EncoderIdeal.nD Cert.EncoderIdeal.τ).loc Cert.EncoderIdeal.main_arg7)
      ∧ r.2.mem ((c.tc : Thread Cert.EncoderIdeal.nD Cert.EncoderIdeal.τ).loc Cert.EncoderIdeal.main_arg8) = m ((c.tc : Thread Cert.EncoderIdeal.nD Cert.EncoderIdeal.τ).loc Cert.EncoderIdeal.main_arg8)
      ∧ r.2.mem ((c.tc : Thread Cert.EncoderIdeal.nD Cert.EncoderIdeal.τ).loc Cert.EncoderIdeal.main_arg9) = m ((c.tc : Thread Cert.EncoderIdeal.nD Cert.EncoderIdeal.τ).loc Cert.EncoderIdeal.main_arg9)
      ∧ r.2.mem ((c.tc : Thread Cert.EncoderIdeal.nD Cert.EncoderIdeal.τ).loc Cert.EncoderIdeal.main_arg10) = m ((c.tc : Thread Cert.EncoderIdeal.nD Cert.EncoderIdeal.τ).loc Cert.EncoderIdeal.main_arg10)
      ∧ r.2.mem ((c.tc : Thread Cert.EncoderIdeal.nD Cert.EncoderIdeal.τ).loc Cert.EncoderIdeal.main_arg11) = m ((c.tc : Thread Cert.EncoderIdeal.nD Cert.EncoderIdeal.τ).loc Cert.EncoderIdeal.main_arg11)
      ∧ r.2.mem ((c.tc : Thread Cert.EncoderIdeal.nD Cert.EncoderIdeal.τ).loc Cert.EncoderIdeal.main_arg12) = m ((c.tc : Thread Cert.EncoderIdeal.nD Cert.EncoderIdeal.τ).loc Cert.EncoderIdeal.main_arg12)
      ∧ r.2.mem ((c.tc : Thread Cert.EncoderIdeal.nD Cert.EncoderIdeal.τ).loc Cert.EncoderIdeal.main_arg13) = m ((c.tc : Thread Cert.EncoderIdeal.nD Cert.EncoderIdeal.τ).loc Cert.EncoderIdeal.main_arg13)
      ∧ r.2.mem ((c.tc : Thread Cert.EncoderIdeal.nD Cert.EncoderIdeal.τ).loc Cert.EncoderIdeal.main_arg14) = m ((c.tc : Thread Cert.EncoderIdeal.nD Cert.EncoderIdeal.τ).loc Cert.EncoderIdeal.main_arg14)
      ∧ r.2.mem ((c.tc : Thread Cert.EncoderIdeal.nD Cert.EncoderIdeal.τ).loc Cert.EncoderIdeal.main_arg15) = m ((c.tc : Thread Cert.EncoderIdeal.nD Cert.EncoderIdeal.τ).loc Cert.EncoderIdeal.main_arg15)
      ∧ r.2.mem ((c.tc : Thread Cert.EncoderIdeal.nD Cert.EncoderIdeal.τ).loc Cert.EncoderIdeal.main_arg16) = m ((c.tc : Thread Cert.EncoderIdeal.nD Cert.EncoderIdeal.τ).loc Cert.EncoderIdeal.main_arg16)
      ∧ r.2.mem ((c.tc : Thread Cert.EncoderIdeal.nD Cert.EncoderIdeal.τ).loc Cert.EncoderIdeal.main_arg17) = m ((c.tc : Thread Cert.EncoderIdeal.nD Cert.EncoderIdeal.τ).loc Cert.EncoderIdeal.main_arg17)
      ∧ r.2.mem ((c.tc : Thread Cert.EncoderIdeal.nD Cert.EncoderIdeal.τ).loc Cert.EncoderIdeal.main_arg18) = m ((c.tc : Thread Cert.EncoderIdeal.nD Cert.EncoderIdeal.τ).loc Cert.EncoderIdeal.main_arg18))
      ∧ r.2.sem = fun _ => 0)

def quiescent_EncoderReferenceIdeal [hEncoderReferenceIdeal : Cert.EncoderReferenceIdeal.Facts] : Prop :=
  ∀ (m : (ℓ : Loc Cert.EncoderReferenceIdeal.nD Cert.EncoderReferenceIdeal.τ Cert.EncoderReferenceIdeal.sig) → Buf (Elt Ideal) ℓ) (g : Dev Cert.EncoderReferenceIdeal.nD → PrngReg), Pre_EncoderReferenceIdeal m →
    θ_run (Cert.EncoderReferenceIdeal.defs (F := Ideal)) (onTc (τ := Cert.EncoderReferenceIdeal.τ) (Cert.EncoderReferenceIdeal.main (F := Ideal))) ⟨m, fun _ => 0, g⟩ (fun r => (∀ c : Dev Cert.EncoderReferenceIdeal.nD,
      r.2.mem ((c.tc : Thread Cert.EncoderReferenceIdeal.nD Cert.EncoderReferenceIdeal.τ).loc Cert.EncoderReferenceIdeal.main_arg0) = m ((c.tc : Thread Cert.EncoderReferenceIdeal.nD Cert.EncoderReferenceIdeal.τ).loc Cert.EncoderReferenceIdeal.main_arg0)
      ∧ r.2.mem ((c.tc : Thread Cert.EncoderReferenceIdeal.nD Cert.EncoderReferenceIdeal.τ).loc Cert.EncoderReferenceIdeal.main_arg1) = m ((c.tc : Thread Cert.EncoderReferenceIdeal.nD Cert.EncoderReferenceIdeal.τ).loc Cert.EncoderReferenceIdeal.main_arg1)
      ∧ r.2.mem ((c.tc : Thread Cert.EncoderReferenceIdeal.nD Cert.EncoderReferenceIdeal.τ).loc Cert.EncoderReferenceIdeal.main_arg2) = m ((c.tc : Thread Cert.EncoderReferenceIdeal.nD Cert.EncoderReferenceIdeal.τ).loc Cert.EncoderReferenceIdeal.main_arg2)
      ∧ r.2.mem ((c.tc : Thread Cert.EncoderReferenceIdeal.nD Cert.EncoderReferenceIdeal.τ).loc Cert.EncoderReferenceIdeal.main_arg3) = m ((c.tc : Thread Cert.EncoderReferenceIdeal.nD Cert.EncoderReferenceIdeal.τ).loc Cert.EncoderReferenceIdeal.main_arg3)
      ∧ r.2.mem ((c.tc : Thread Cert.EncoderReferenceIdeal.nD Cert.EncoderReferenceIdeal.τ).loc Cert.EncoderReferenceIdeal.main_arg4) = m ((c.tc : Thread Cert.EncoderReferenceIdeal.nD Cert.EncoderReferenceIdeal.τ).loc Cert.EncoderReferenceIdeal.main_arg4)
      ∧ r.2.mem ((c.tc : Thread Cert.EncoderReferenceIdeal.nD Cert.EncoderReferenceIdeal.τ).loc Cert.EncoderReferenceIdeal.main_arg5) = m ((c.tc : Thread Cert.EncoderReferenceIdeal.nD Cert.EncoderReferenceIdeal.τ).loc Cert.EncoderReferenceIdeal.main_arg5)
      ∧ r.2.mem ((c.tc : Thread Cert.EncoderReferenceIdeal.nD Cert.EncoderReferenceIdeal.τ).loc Cert.EncoderReferenceIdeal.main_arg6) = m ((c.tc : Thread Cert.EncoderReferenceIdeal.nD Cert.EncoderReferenceIdeal.τ).loc Cert.EncoderReferenceIdeal.main_arg6)
      ∧ r.2.mem ((c.tc : Thread Cert.EncoderReferenceIdeal.nD Cert.EncoderReferenceIdeal.τ).loc Cert.EncoderReferenceIdeal.main_arg7) = m ((c.tc : Thread Cert.EncoderReferenceIdeal.nD Cert.EncoderReferenceIdeal.τ).loc Cert.EncoderReferenceIdeal.main_arg7)
      ∧ r.2.mem ((c.tc : Thread Cert.EncoderReferenceIdeal.nD Cert.EncoderReferenceIdeal.τ).loc Cert.EncoderReferenceIdeal.main_arg8) = m ((c.tc : Thread Cert.EncoderReferenceIdeal.nD Cert.EncoderReferenceIdeal.τ).loc Cert.EncoderReferenceIdeal.main_arg8)
      ∧ r.2.mem ((c.tc : Thread Cert.EncoderReferenceIdeal.nD Cert.EncoderReferenceIdeal.τ).loc Cert.EncoderReferenceIdeal.main_arg9) = m ((c.tc : Thread Cert.EncoderReferenceIdeal.nD Cert.EncoderReferenceIdeal.τ).loc Cert.EncoderReferenceIdeal.main_arg9)
      ∧ r.2.mem ((c.tc : Thread Cert.EncoderReferenceIdeal.nD Cert.EncoderReferenceIdeal.τ).loc Cert.EncoderReferenceIdeal.main_arg10) = m ((c.tc : Thread Cert.EncoderReferenceIdeal.nD Cert.EncoderReferenceIdeal.τ).loc Cert.EncoderReferenceIdeal.main_arg10)
      ∧ r.2.mem ((c.tc : Thread Cert.EncoderReferenceIdeal.nD Cert.EncoderReferenceIdeal.τ).loc Cert.EncoderReferenceIdeal.main_arg11) = m ((c.tc : Thread Cert.EncoderReferenceIdeal.nD Cert.EncoderReferenceIdeal.τ).loc Cert.EncoderReferenceIdeal.main_arg11)
      ∧ r.2.mem ((c.tc : Thread Cert.EncoderReferenceIdeal.nD Cert.EncoderReferenceIdeal.τ).loc Cert.EncoderReferenceIdeal.main_arg12) = m ((c.tc : Thread Cert.EncoderReferenceIdeal.nD Cert.EncoderReferenceIdeal.τ).loc Cert.EncoderReferenceIdeal.main_arg12)
      ∧ r.2.mem ((c.tc : Thread Cert.EncoderReferenceIdeal.nD Cert.EncoderReferenceIdeal.τ).loc Cert.EncoderReferenceIdeal.main_arg13) = m ((c.tc : Thread Cert.EncoderReferenceIdeal.nD Cert.EncoderReferenceIdeal.τ).loc Cert.EncoderReferenceIdeal.main_arg13)
      ∧ r.2.mem ((c.tc : Thread Cert.EncoderReferenceIdeal.nD Cert.EncoderReferenceIdeal.τ).loc Cert.EncoderReferenceIdeal.main_arg14) = m ((c.tc : Thread Cert.EncoderReferenceIdeal.nD Cert.EncoderReferenceIdeal.τ).loc Cert.EncoderReferenceIdeal.main_arg14)
      ∧ r.2.mem ((c.tc : Thread Cert.EncoderReferenceIdeal.nD Cert.EncoderReferenceIdeal.τ).loc Cert.EncoderReferenceIdeal.main_arg15) = m ((c.tc : Thread Cert.EncoderReferenceIdeal.nD Cert.EncoderReferenceIdeal.τ).loc Cert.EncoderReferenceIdeal.main_arg15)
      ∧ r.2.mem ((c.tc : Thread Cert.EncoderReferenceIdeal.nD Cert.EncoderReferenceIdeal.τ).loc Cert.EncoderReferenceIdeal.main_arg16) = m ((c.tc : Thread Cert.EncoderReferenceIdeal.nD Cert.EncoderReferenceIdeal.τ).loc Cert.EncoderReferenceIdeal.main_arg16)
      ∧ r.2.mem ((c.tc : Thread Cert.EncoderReferenceIdeal.nD Cert.EncoderReferenceIdeal.τ).loc Cert.EncoderReferenceIdeal.main_arg17) = m ((c.tc : Thread Cert.EncoderReferenceIdeal.nD Cert.EncoderReferenceIdeal.τ).loc Cert.EncoderReferenceIdeal.main_arg17)
      ∧ r.2.mem ((c.tc : Thread Cert.EncoderReferenceIdeal.nD Cert.EncoderReferenceIdeal.τ).loc Cert.EncoderReferenceIdeal.main_arg18) = m ((c.tc : Thread Cert.EncoderReferenceIdeal.nD Cert.EncoderReferenceIdeal.τ).loc Cert.EncoderReferenceIdeal.main_arg18))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Encoder_EncoderIdeal : Prop :=
  True

def algebraic_EncoderIdeal_EncoderReferenceIdeal [hEncoderIdeal : Cert.EncoderIdeal.Facts] [hEncoderReferenceIdeal : Cert.EncoderReferenceIdeal.Facts] : Prop :=
  ∀ (m : (ℓ : Loc Cert.EncoderIdeal.nD Cert.EncoderIdeal.τ Cert.EncoderIdeal.sig) → Buf (Elt Ideal) ℓ) (g : Dev Cert.EncoderIdeal.nD → PrngReg)
    (m' : (ℓ : Loc Cert.EncoderReferenceIdeal.nD Cert.EncoderReferenceIdeal.τ Cert.EncoderReferenceIdeal.sig) → Buf (Elt Ideal) ℓ) (g' : Dev Cert.EncoderReferenceIdeal.nD → PrngReg), Pre_EncoderIdeal m →
    (∀ c : Dev Cert.EncoderIdeal.nD,
      m' ((c.tc : Thread Cert.EncoderReferenceIdeal.nD Cert.EncoderReferenceIdeal.τ).loc Cert.EncoderReferenceIdeal.main_arg0) = m ((c.tc : Thread Cert.EncoderIdeal.nD Cert.EncoderIdeal.τ).loc Cert.EncoderIdeal.main_arg0)
      ∧ m' ((c.tc : Thread Cert.EncoderReferenceIdeal.nD Cert.EncoderReferenceIdeal.τ).loc Cert.EncoderReferenceIdeal.main_arg1) = m ((c.tc : Thread Cert.EncoderIdeal.nD Cert.EncoderIdeal.τ).loc Cert.EncoderIdeal.main_arg1)
      ∧ m' ((c.tc : Thread Cert.EncoderReferenceIdeal.nD Cert.EncoderReferenceIdeal.τ).loc Cert.EncoderReferenceIdeal.main_arg2) = m ((c.tc : Thread Cert.EncoderIdeal.nD Cert.EncoderIdeal.τ).loc Cert.EncoderIdeal.main_arg2)
      ∧ m' ((c.tc : Thread Cert.EncoderReferenceIdeal.nD Cert.EncoderReferenceIdeal.τ).loc Cert.EncoderReferenceIdeal.main_arg3) = m ((c.tc : Thread Cert.EncoderIdeal.nD Cert.EncoderIdeal.τ).loc Cert.EncoderIdeal.main_arg3)
      ∧ m' ((c.tc : Thread Cert.EncoderReferenceIdeal.nD Cert.EncoderReferenceIdeal.τ).loc Cert.EncoderReferenceIdeal.main_arg4) = m ((c.tc : Thread Cert.EncoderIdeal.nD Cert.EncoderIdeal.τ).loc Cert.EncoderIdeal.main_arg4)
      ∧ m' ((c.tc : Thread Cert.EncoderReferenceIdeal.nD Cert.EncoderReferenceIdeal.τ).loc Cert.EncoderReferenceIdeal.main_arg5) = m ((c.tc : Thread Cert.EncoderIdeal.nD Cert.EncoderIdeal.τ).loc Cert.EncoderIdeal.main_arg5)
      ∧ m' ((c.tc : Thread Cert.EncoderReferenceIdeal.nD Cert.EncoderReferenceIdeal.τ).loc Cert.EncoderReferenceIdeal.main_arg6) = m ((c.tc : Thread Cert.EncoderIdeal.nD Cert.EncoderIdeal.τ).loc Cert.EncoderIdeal.main_arg6)
      ∧ m' ((c.tc : Thread Cert.EncoderReferenceIdeal.nD Cert.EncoderReferenceIdeal.τ).loc Cert.EncoderReferenceIdeal.main_arg7) = m ((c.tc : Thread Cert.EncoderIdeal.nD Cert.EncoderIdeal.τ).loc Cert.EncoderIdeal.main_arg7)
      ∧ m' ((c.tc : Thread Cert.EncoderReferenceIdeal.nD Cert.EncoderReferenceIdeal.τ).loc Cert.EncoderReferenceIdeal.main_arg8) = m ((c.tc : Thread Cert.EncoderIdeal.nD Cert.EncoderIdeal.τ).loc Cert.EncoderIdeal.main_arg8)
      ∧ m' ((c.tc : Thread Cert.EncoderReferenceIdeal.nD Cert.EncoderReferenceIdeal.τ).loc Cert.EncoderReferenceIdeal.main_arg9) = m ((c.tc : Thread Cert.EncoderIdeal.nD Cert.EncoderIdeal.τ).loc Cert.EncoderIdeal.main_arg9)
      ∧ m' ((c.tc : Thread Cert.EncoderReferenceIdeal.nD Cert.EncoderReferenceIdeal.τ).loc Cert.EncoderReferenceIdeal.main_arg10) = m ((c.tc : Thread Cert.EncoderIdeal.nD Cert.EncoderIdeal.τ).loc Cert.EncoderIdeal.main_arg10)
      ∧ m' ((c.tc : Thread Cert.EncoderReferenceIdeal.nD Cert.EncoderReferenceIdeal.τ).loc Cert.EncoderReferenceIdeal.main_arg11) = m ((c.tc : Thread Cert.EncoderIdeal.nD Cert.EncoderIdeal.τ).loc Cert.EncoderIdeal.main_arg11)
      ∧ m' ((c.tc : Thread Cert.EncoderReferenceIdeal.nD Cert.EncoderReferenceIdeal.τ).loc Cert.EncoderReferenceIdeal.main_arg12) = m ((c.tc : Thread Cert.EncoderIdeal.nD Cert.EncoderIdeal.τ).loc Cert.EncoderIdeal.main_arg12)
      ∧ m' ((c.tc : Thread Cert.EncoderReferenceIdeal.nD Cert.EncoderReferenceIdeal.τ).loc Cert.EncoderReferenceIdeal.main_arg13) = m ((c.tc : Thread Cert.EncoderIdeal.nD Cert.EncoderIdeal.τ).loc Cert.EncoderIdeal.main_arg13)
      ∧ m' ((c.tc : Thread Cert.EncoderReferenceIdeal.nD Cert.EncoderReferenceIdeal.τ).loc Cert.EncoderReferenceIdeal.main_arg14) = m ((c.tc : Thread Cert.EncoderIdeal.nD Cert.EncoderIdeal.τ).loc Cert.EncoderIdeal.main_arg14)
      ∧ m' ((c.tc : Thread Cert.EncoderReferenceIdeal.nD Cert.EncoderReferenceIdeal.τ).loc Cert.EncoderReferenceIdeal.main_arg15) = m ((c.tc : Thread Cert.EncoderIdeal.nD Cert.EncoderIdeal.τ).loc Cert.EncoderIdeal.main_arg15)
      ∧ m' ((c.tc : Thread Cert.EncoderReferenceIdeal.nD Cert.EncoderReferenceIdeal.τ).loc Cert.EncoderReferenceIdeal.main_arg16) = m ((c.tc : Thread Cert.EncoderIdeal.nD Cert.EncoderIdeal.τ).loc Cert.EncoderIdeal.main_arg16)
      ∧ m' ((c.tc : Thread Cert.EncoderReferenceIdeal.nD Cert.EncoderReferenceIdeal.τ).loc Cert.EncoderReferenceIdeal.main_arg17) = m ((c.tc : Thread Cert.EncoderIdeal.nD Cert.EncoderIdeal.τ).loc Cert.EncoderIdeal.main_arg17)
      ∧ m' ((c.tc : Thread Cert.EncoderReferenceIdeal.nD Cert.EncoderReferenceIdeal.τ).loc Cert.EncoderReferenceIdeal.main_arg18) = m ((c.tc : Thread Cert.EncoderIdeal.nD Cert.EncoderIdeal.τ).loc Cert.EncoderIdeal.main_arg18)) →
    ∃ (v0 : (c : Dev Cert.EncoderIdeal.nD) → Buf (Elt Ideal) ((c.tc : Thread Cert.EncoderIdeal.nD Cert.EncoderIdeal.τ).loc Cert.EncoderIdeal.main_v45)),
      θ_run (Cert.EncoderIdeal.defs (F := Ideal)) (onTc (τ := Cert.EncoderIdeal.τ) (Cert.EncoderIdeal.main (F := Ideal))) ⟨m, fun _ => 0, g⟩ (fun r => ∀ c : Dev Cert.EncoderIdeal.nD,
          r.2.mem ((c.tc : Thread Cert.EncoderIdeal.nD Cert.EncoderIdeal.τ).loc Cert.EncoderIdeal.main_v45) = v0 c
          ∧ r.2.mem ((c.tc : Thread Cert.EncoderIdeal.nD Cert.EncoderIdeal.τ).loc Cert.EncoderIdeal.main_arg0) = m ((c.tc : Thread Cert.EncoderIdeal.nD Cert.EncoderIdeal.τ).loc Cert.EncoderIdeal.main_arg0)
          ∧ r.2.mem ((c.tc : Thread Cert.EncoderIdeal.nD Cert.EncoderIdeal.τ).loc Cert.EncoderIdeal.main_arg1) = m ((c.tc : Thread Cert.EncoderIdeal.nD Cert.EncoderIdeal.τ).loc Cert.EncoderIdeal.main_arg1)
          ∧ r.2.mem ((c.tc : Thread Cert.EncoderIdeal.nD Cert.EncoderIdeal.τ).loc Cert.EncoderIdeal.main_arg2) = m ((c.tc : Thread Cert.EncoderIdeal.nD Cert.EncoderIdeal.τ).loc Cert.EncoderIdeal.main_arg2)
          ∧ r.2.mem ((c.tc : Thread Cert.EncoderIdeal.nD Cert.EncoderIdeal.τ).loc Cert.EncoderIdeal.main_arg3) = m ((c.tc : Thread Cert.EncoderIdeal.nD Cert.EncoderIdeal.τ).loc Cert.EncoderIdeal.main_arg3)
          ∧ r.2.mem ((c.tc : Thread Cert.EncoderIdeal.nD Cert.EncoderIdeal.τ).loc Cert.EncoderIdeal.main_arg4) = m ((c.tc : Thread Cert.EncoderIdeal.nD Cert.EncoderIdeal.τ).loc Cert.EncoderIdeal.main_arg4)
          ∧ r.2.mem ((c.tc : Thread Cert.EncoderIdeal.nD Cert.EncoderIdeal.τ).loc Cert.EncoderIdeal.main_arg5) = m ((c.tc : Thread Cert.EncoderIdeal.nD Cert.EncoderIdeal.τ).loc Cert.EncoderIdeal.main_arg5)
          ∧ r.2.mem ((c.tc : Thread Cert.EncoderIdeal.nD Cert.EncoderIdeal.τ).loc Cert.EncoderIdeal.main_arg6) = m ((c.tc : Thread Cert.EncoderIdeal.nD Cert.EncoderIdeal.τ).loc Cert.EncoderIdeal.main_arg6)
          ∧ r.2.mem ((c.tc : Thread Cert.EncoderIdeal.nD Cert.EncoderIdeal.τ).loc Cert.EncoderIdeal.main_arg7) = m ((c.tc : Thread Cert.EncoderIdeal.nD Cert.EncoderIdeal.τ).loc Cert.EncoderIdeal.main_arg7)
          ∧ r.2.mem ((c.tc : Thread Cert.EncoderIdeal.nD Cert.EncoderIdeal.τ).loc Cert.EncoderIdeal.main_arg8) = m ((c.tc : Thread Cert.EncoderIdeal.nD Cert.EncoderIdeal.τ).loc Cert.EncoderIdeal.main_arg8)
          ∧ r.2.mem ((c.tc : Thread Cert.EncoderIdeal.nD Cert.EncoderIdeal.τ).loc Cert.EncoderIdeal.main_arg9) = m ((c.tc : Thread Cert.EncoderIdeal.nD Cert.EncoderIdeal.τ).loc Cert.EncoderIdeal.main_arg9)
          ∧ r.2.mem ((c.tc : Thread Cert.EncoderIdeal.nD Cert.EncoderIdeal.τ).loc Cert.EncoderIdeal.main_arg10) = m ((c.tc : Thread Cert.EncoderIdeal.nD Cert.EncoderIdeal.τ).loc Cert.EncoderIdeal.main_arg10)
          ∧ r.2.mem ((c.tc : Thread Cert.EncoderIdeal.nD Cert.EncoderIdeal.τ).loc Cert.EncoderIdeal.main_arg11) = m ((c.tc : Thread Cert.EncoderIdeal.nD Cert.EncoderIdeal.τ).loc Cert.EncoderIdeal.main_arg11)
          ∧ r.2.mem ((c.tc : Thread Cert.EncoderIdeal.nD Cert.EncoderIdeal.τ).loc Cert.EncoderIdeal.main_arg12) = m ((c.tc : Thread Cert.EncoderIdeal.nD Cert.EncoderIdeal.τ).loc Cert.EncoderIdeal.main_arg12)
          ∧ r.2.mem ((c.tc : Thread Cert.EncoderIdeal.nD Cert.EncoderIdeal.τ).loc Cert.EncoderIdeal.main_arg13) = m ((c.tc : Thread Cert.EncoderIdeal.nD Cert.EncoderIdeal.τ).loc Cert.EncoderIdeal.main_arg13)
          ∧ r.2.mem ((c.tc : Thread Cert.EncoderIdeal.nD Cert.EncoderIdeal.τ).loc Cert.EncoderIdeal.main_arg14) = m ((c.tc : Thread Cert.EncoderIdeal.nD Cert.EncoderIdeal.τ).loc Cert.EncoderIdeal.main_arg14)
          ∧ r.2.mem ((c.tc : Thread Cert.EncoderIdeal.nD Cert.EncoderIdeal.τ).loc Cert.EncoderIdeal.main_arg15) = m ((c.tc : Thread Cert.EncoderIdeal.nD Cert.EncoderIdeal.τ).loc Cert.EncoderIdeal.main_arg15)
          ∧ r.2.mem ((c.tc : Thread Cert.EncoderIdeal.nD Cert.EncoderIdeal.τ).loc Cert.EncoderIdeal.main_arg16) = m ((c.tc : Thread Cert.EncoderIdeal.nD Cert.EncoderIdeal.τ).loc Cert.EncoderIdeal.main_arg16)
          ∧ r.2.mem ((c.tc : Thread Cert.EncoderIdeal.nD Cert.EncoderIdeal.τ).loc Cert.EncoderIdeal.main_arg17) = m ((c.tc : Thread Cert.EncoderIdeal.nD Cert.EncoderIdeal.τ).loc Cert.EncoderIdeal.main_arg17)
          ∧ r.2.mem ((c.tc : Thread Cert.EncoderIdeal.nD Cert.EncoderIdeal.τ).loc Cert.EncoderIdeal.main_arg18) = m ((c.tc : Thread Cert.EncoderIdeal.nD Cert.EncoderIdeal.τ).loc Cert.EncoderIdeal.main_arg18))
      ∧ θ_run (Cert.EncoderReferenceIdeal.defs (F := Ideal)) (onTc (τ := Cert.EncoderReferenceIdeal.τ) (Cert.EncoderReferenceIdeal.main (F := Ideal))) ⟨m', fun _ => 0, g'⟩ (fun r => ∀ c : Dev Cert.EncoderReferenceIdeal.nD,
          r.2.mem ((c.tc : Thread Cert.EncoderReferenceIdeal.nD Cert.EncoderReferenceIdeal.τ).loc Cert.EncoderReferenceIdeal.main_v83) = v0 c
          ∧ r.2.mem ((c.tc : Thread Cert.EncoderReferenceIdeal.nD Cert.EncoderReferenceIdeal.τ).loc Cert.EncoderReferenceIdeal.main_arg0) = m' ((c.tc : Thread Cert.EncoderReferenceIdeal.nD Cert.EncoderReferenceIdeal.τ).loc Cert.EncoderReferenceIdeal.main_arg0)
          ∧ r.2.mem ((c.tc : Thread Cert.EncoderReferenceIdeal.nD Cert.EncoderReferenceIdeal.τ).loc Cert.EncoderReferenceIdeal.main_arg1) = m' ((c.tc : Thread Cert.EncoderReferenceIdeal.nD Cert.EncoderReferenceIdeal.τ).loc Cert.EncoderReferenceIdeal.main_arg1)
          ∧ r.2.mem ((c.tc : Thread Cert.EncoderReferenceIdeal.nD Cert.EncoderReferenceIdeal.τ).loc Cert.EncoderReferenceIdeal.main_arg2) = m' ((c.tc : Thread Cert.EncoderReferenceIdeal.nD Cert.EncoderReferenceIdeal.τ).loc Cert.EncoderReferenceIdeal.main_arg2)
          ∧ r.2.mem ((c.tc : Thread Cert.EncoderReferenceIdeal.nD Cert.EncoderReferenceIdeal.τ).loc Cert.EncoderReferenceIdeal.main_arg3) = m' ((c.tc : Thread Cert.EncoderReferenceIdeal.nD Cert.EncoderReferenceIdeal.τ).loc Cert.EncoderReferenceIdeal.main_arg3)
          ∧ r.2.mem ((c.tc : Thread Cert.EncoderReferenceIdeal.nD Cert.EncoderReferenceIdeal.τ).loc Cert.EncoderReferenceIdeal.main_arg4) = m' ((c.tc : Thread Cert.EncoderReferenceIdeal.nD Cert.EncoderReferenceIdeal.τ).loc Cert.EncoderReferenceIdeal.main_arg4)
          ∧ r.2.mem ((c.tc : Thread Cert.EncoderReferenceIdeal.nD Cert.EncoderReferenceIdeal.τ).loc Cert.EncoderReferenceIdeal.main_arg5) = m' ((c.tc : Thread Cert.EncoderReferenceIdeal.nD Cert.EncoderReferenceIdeal.τ).loc Cert.EncoderReferenceIdeal.main_arg5)
          ∧ r.2.mem ((c.tc : Thread Cert.EncoderReferenceIdeal.nD Cert.EncoderReferenceIdeal.τ).loc Cert.EncoderReferenceIdeal.main_arg6) = m' ((c.tc : Thread Cert.EncoderReferenceIdeal.nD Cert.EncoderReferenceIdeal.τ).loc Cert.EncoderReferenceIdeal.main_arg6)
          ∧ r.2.mem ((c.tc : Thread Cert.EncoderReferenceIdeal.nD Cert.EncoderReferenceIdeal.τ).loc Cert.EncoderReferenceIdeal.main_arg7) = m' ((c.tc : Thread Cert.EncoderReferenceIdeal.nD Cert.EncoderReferenceIdeal.τ).loc Cert.EncoderReferenceIdeal.main_arg7)
          ∧ r.2.mem ((c.tc : Thread Cert.EncoderReferenceIdeal.nD Cert.EncoderReferenceIdeal.τ).loc Cert.EncoderReferenceIdeal.main_arg8) = m' ((c.tc : Thread Cert.EncoderReferenceIdeal.nD Cert.EncoderReferenceIdeal.τ).loc Cert.EncoderReferenceIdeal.main_arg8)
          ∧ r.2.mem ((c.tc : Thread Cert.EncoderReferenceIdeal.nD Cert.EncoderReferenceIdeal.τ).loc Cert.EncoderReferenceIdeal.main_arg9) = m' ((c.tc : Thread Cert.EncoderReferenceIdeal.nD Cert.EncoderReferenceIdeal.τ).loc Cert.EncoderReferenceIdeal.main_arg9)
          ∧ r.2.mem ((c.tc : Thread Cert.EncoderReferenceIdeal.nD Cert.EncoderReferenceIdeal.τ).loc Cert.EncoderReferenceIdeal.main_arg10) = m' ((c.tc : Thread Cert.EncoderReferenceIdeal.nD Cert.EncoderReferenceIdeal.τ).loc Cert.EncoderReferenceIdeal.main_arg10)
          ∧ r.2.mem ((c.tc : Thread Cert.EncoderReferenceIdeal.nD Cert.EncoderReferenceIdeal.τ).loc Cert.EncoderReferenceIdeal.main_arg11) = m' ((c.tc : Thread Cert.EncoderReferenceIdeal.nD Cert.EncoderReferenceIdeal.τ).loc Cert.EncoderReferenceIdeal.main_arg11)
          ∧ r.2.mem ((c.tc : Thread Cert.EncoderReferenceIdeal.nD Cert.EncoderReferenceIdeal.τ).loc Cert.EncoderReferenceIdeal.main_arg12) = m' ((c.tc : Thread Cert.EncoderReferenceIdeal.nD Cert.EncoderReferenceIdeal.τ).loc Cert.EncoderReferenceIdeal.main_arg12)
          ∧ r.2.mem ((c.tc : Thread Cert.EncoderReferenceIdeal.nD Cert.EncoderReferenceIdeal.τ).loc Cert.EncoderReferenceIdeal.main_arg13) = m' ((c.tc : Thread Cert.EncoderReferenceIdeal.nD Cert.EncoderReferenceIdeal.τ).loc Cert.EncoderReferenceIdeal.main_arg13)
          ∧ r.2.mem ((c.tc : Thread Cert.EncoderReferenceIdeal.nD Cert.EncoderReferenceIdeal.τ).loc Cert.EncoderReferenceIdeal.main_arg14) = m' ((c.tc : Thread Cert.EncoderReferenceIdeal.nD Cert.EncoderReferenceIdeal.τ).loc Cert.EncoderReferenceIdeal.main_arg14)
          ∧ r.2.mem ((c.tc : Thread Cert.EncoderReferenceIdeal.nD Cert.EncoderReferenceIdeal.τ).loc Cert.EncoderReferenceIdeal.main_arg15) = m' ((c.tc : Thread Cert.EncoderReferenceIdeal.nD Cert.EncoderReferenceIdeal.τ).loc Cert.EncoderReferenceIdeal.main_arg15)
          ∧ r.2.mem ((c.tc : Thread Cert.EncoderReferenceIdeal.nD Cert.EncoderReferenceIdeal.τ).loc Cert.EncoderReferenceIdeal.main_arg16) = m' ((c.tc : Thread Cert.EncoderReferenceIdeal.nD Cert.EncoderReferenceIdeal.τ).loc Cert.EncoderReferenceIdeal.main_arg16)
          ∧ r.2.mem ((c.tc : Thread Cert.EncoderReferenceIdeal.nD Cert.EncoderReferenceIdeal.τ).loc Cert.EncoderReferenceIdeal.main_arg17) = m' ((c.tc : Thread Cert.EncoderReferenceIdeal.nD Cert.EncoderReferenceIdeal.τ).loc Cert.EncoderReferenceIdeal.main_arg17)
          ∧ r.2.mem ((c.tc : Thread Cert.EncoderReferenceIdeal.nD Cert.EncoderReferenceIdeal.τ).loc Cert.EncoderReferenceIdeal.main_arg18) = m' ((c.tc : Thread Cert.EncoderReferenceIdeal.nD Cert.EncoderReferenceIdeal.τ).loc Cert.EncoderReferenceIdeal.main_arg18))

def Claim : Prop :=
  ∃ (hKernel : Cert.Kernel.Facts) (hKernelIdeal : Cert.KernelIdeal.Facts) (hReferenceIdeal : Cert.ReferenceIdeal.Facts) (hEncoder : Cert.Encoder.Facts) (hEncoderIdeal : Cert.EncoderIdeal.Facts) (hEncoderReferenceIdeal : Cert.EncoderReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Encoder (hEncoder := hEncoder)
    ∧ quiescent_EncoderIdeal (hEncoderIdeal := hEncoderIdeal)
    ∧ quiescent_EncoderReferenceIdeal (hEncoderReferenceIdeal := hEncoderReferenceIdeal)
    ∧ preserves_Kernel_KernelIdeal
    ∧ algebraic_KernelIdeal_ReferenceIdeal (hKernelIdeal := hKernelIdeal) (hReferenceIdeal := hReferenceIdeal) (hPre_in_range := hPre_in_range)
    ∧ preserves_Encoder_EncoderIdeal
    ∧ algebraic_EncoderIdeal_EncoderReferenceIdeal (hEncoderIdeal := hEncoderIdeal) (hEncoderReferenceIdeal := hEncoderReferenceIdeal)
-- ==== Pre_in_range.lean ====
abbrev S16x128 : Shape := ⟨2, ![16, 128]⟩
abbrev S16 : Shape := ⟨1, ![16]⟩
abbrev S22x128x1024 : Shape := ⟨3, ![22, 128, 1024]⟩
abbrev S22 : Shape := ⟨1, ![22]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel
  bcast_S_S22 : S_.BroadcastsInDim S22 (![] : Fin 0 → Fin S22.rank)
  reducesTo_S22_S_d0 : S22.ReducesTo [0] S_

variable [Facts]

def fn {F : FTy → Type} [FloatOps F] (main_arg0 : FVec F S16x128 .f32) (main_arg1 : IVec S16 32) (main_arg2 : FVec F S22x128x1024 .f32) (main_arg3 : IVec S22 32) : IVec S_ 1 :=
  let main_c : IVec S_ 32 := constantI S_ 32 0#32
  let main_v0 : IVec S16 32 := broadcastInDim S16 ![] bcast_S_S16 main_c
  let main_v1 : IVec S16 1 := cmpi .sge main_arg1 main_v0
  let main_c_0 : IVec S_ 1 := constantI S_ 1 1#1
  let main_v2 : IVec S_ 1 := (fun x v => Host.reduce IntOp.andi x v reducesTo_S16_S_d0 h_S_) main_v1 main_c_0
  let main_c_1 : IVec S_ 32 := constantI S_ 32 22#32
  let main_v3 : IVec S16 32 := broadcastInDim S16 ![] bcast_S_S16 main_c_1
  let main_v4 : IVec S16 1 := cmpi .slt main_arg1 main_v3
  let main_c_2 : IVec S_ 1 := constantI S_ 1 1#1
  let main_v5 : IVec S_ 1 := (fun x v => Host.reduce IntOp.andi x v reducesTo_S16_S_d0 h_S_) main_v4 main_c_2
  let main_v6 : IVec S_ 1 := andi main_v2 main_v5
  let main_c_3 : IVec S_ 32 := constantI S_ 32 0#32
  let main_v7 : IVec S22 32 := broadcastInDim S22 ![] bcast_S_S22 main_c_3
  let main_v8 : IVec S22 1 := cmpi .sge main_arg3 main_v7
  let main_c_4 : IVec S_ 1 := constantI S_ 1 1#1
  let main_v9 : IVec S_ 1 := (fun x v => Host.reduce IntOp.andi x v reducesTo_S22_S_d0 h_S_) main_v8 main_c_4
  let main_v10 : IVec S_ 1 := andi main_v6 main_v9
  let main_c_5 : IVec S_ 32 := constantI S_ 32 1024#32
  let main_v11 : IVec S22 32 := broadcastInDim S22 ![] bcast_S_S22 main_c_5
  let main_v12 : IVec S22 1 := cmpi .slt main_arg3 main_v11
  let main_c_6 : IVec S_ 1 := constantI S_ 1 1#1
  let main_v13 : IVec S_ 1 := (fun x v => Host.reduce IntOp.andi x v reducesTo_S22_S_d0 h_S_) main_v12 main_c_6
  let main_v14 : IVec S_ 1 := andi main_v10 main_v13
  main_v14
-- ==== Kernel.lean ====
abbrev S16x128 : Shape := ⟨2, ![16, 128]⟩
abbrev S16 : Shape := ⟨1, ![16]⟩
abbrev S22x128x1024 : Shape := ⟨3, ![22, 128, 1024]⟩
abbrev S22 : Shape := ⟨1, ![22]⟩
abbrev S_ : Shape := ⟨0, ![]⟩
abbrev S32 : Shape := ⟨1, ![32]⟩
abbrev S2816x1024 : Shape := ⟨2, ![2816, 1024]⟩
abbrev S8x1024 : Shape := ⟨2, ![8, 1024]⟩

abbrev nBuf : Table → Nat
  | .hbm => 12
  | .local .scVector .vmem => 6
  | _ => 0

abbrev bufTy : (tb : Table) → Fin (nBuf tb) → BufTy
  | .hbm, ⟨0, _⟩ => ⟨S16x128, .f32⟩
  | .hbm, ⟨1, _⟩ => ⟨S16, .i32⟩
  | .hbm, ⟨2, _⟩ => ⟨S22x128x1024, .f32⟩
  | .hbm, ⟨3, _⟩ => ⟨S22, .i32⟩
  | .hbm, ⟨4, _⟩ => ⟨S_, .i32⟩
  | .hbm, ⟨5, _⟩ => ⟨S_, .i32⟩
  | .hbm, ⟨6, _⟩ => ⟨S32, .i32⟩
  | .hbm, ⟨7, _⟩ => ⟨S2816x1024, .f32⟩
  | .hbm, ⟨8, _⟩ => ⟨S2816x1024, .f32⟩
  | .hbm, ⟨9, _⟩ => ⟨S32, .i32⟩
  | .hbm, ⟨10, _⟩ => ⟨S22x128x1024, .f32⟩
  | .hbm, ⟨11, _⟩ => ⟨S22, .i32⟩
  | .local .scVector .vmem, ⟨0, _⟩ => ⟨S16, .i32⟩
  | .local .scVector .vmem, ⟨1, _⟩ => ⟨S32, .i32⟩
  | .local .scVector .vmem, ⟨2, _⟩ => ⟨S16x128, .f32⟩
  | .local .scVector .vmem, ⟨3, _⟩ => ⟨S32, .i32⟩
  | .local .scVector .vmem, ⟨4, _⟩ => ⟨S8x1024, .f32⟩
  | .local .scVector .vmem, ⟨5, _⟩ => ⟨S8x1024, .f32⟩
  | _, _ => ⟨S16x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev main_v4 : Ref sig .tc := ⟨.hbm, 11, rfl⟩
abbrev main_v1_scv : Ref sig .scVector := ⟨.hbm, 7, rfl⟩
abbrev main_arg0_scv : Ref sig .scVector := ⟨.hbm, 0, rfl⟩
abbrev main_arg1_scv : Ref sig .scVector := ⟨.hbm, 1, rfl⟩
abbrev main_v0_scv : Ref sig .scVector := ⟨.hbm, 6, rfl⟩
abbrev main_v2_0_scv : Ref sig .scVector := ⟨.hbm, 8, rfl⟩
abbrev main_v2_1_scv : Ref sig .scVector := ⟨.hbm, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_chk1 (v3 : IVec S16 32) : Prop :=
  (∀ a x, ((![v3] : Fin 1 → IVec S16 32) a x).toNat < S32.size a)
theorem k0_idx1_inb : ∀ (v3 : IVec S16 32) (k0_hw1 : k0_chk1 v3), ∀ a x, ((![v3] : Fin 1 → IVec S16 32) a x).toNat < S32.size a := fun v3 k0_hw1 => k0_hw1
def k0_off1 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c88_i32 : BitVec 32 := 88#32
  let v241 : BitVec 32 := Scalar.muli v1 c88_i32
  let c0_i32_52 : BitVec 32 := 0#32
  ![v241.toNat, 0]
def k0_off2 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c88_i32 : BitVec 32 := 88#32
  let v241 : BitVec 32 := Scalar.muli v1 c88_i32
  let c8_i32_56 : BitVec 32 := 8#32
  let v246 : BitVec 32 := Scalar.addi v241 c8_i32_56
  let c0_i32_57 : BitVec 32 := 0#32
  ![v246.toNat, 0]

def k0_chk2 (v2 : IVec S16 32) (v255 : IVec S16 32) : Prop :=
  (∀ a x, ((![v2, v255] : Fin 2 → IVec S16 32) a x).toNat < S16x128.size a)
theorem k0_idx2_inb : ∀ (v2 : IVec S16 32) (v255 : IVec S16 32) (k0_hw2 : k0_chk2 v2 v255), ∀ a x, ((![v2, v255] : Fin 2 → IVec S16 32) a x).toNat < S16x128.size a := fun v2 v255 k0_hw2 => k0_hw2

def k0_chk3 (v232 : IVec S16 32) (v258 : IVec S16 32) : Prop :=
  (∀ a x, ((![v258, v232] : Fin 2 → IVec S16 32) a x).toNat < S8x1024.size a)
theorem k0_idx3_inb : ∀ (v232 : IVec S16 32) (v258 : IVec S16 32) (k0_hw3 : k0_chk3 v232 v258), ∀ a x, ((![v258, v232] : Fin 2 → IVec S16 32) a x).toNat < S8x1024.size a := fun v232 v258 k0_hw3 => k0_hw3

def k0_chk4 (v2 : IVec S16 32) (v260 : IVec S16 32) : Prop :=
  (∀ a x, ((![v2, v260] : Fin 2 → IVec S16 32) a x).toNat < S16x128.size a)
theorem k0_idx4_inb : ∀ (v2 : IVec S16 32) (v260 : IVec S16 32) (k0_hw4 : k0_chk4 v2 v260), ∀ a x, ((![v2, v260] : Fin 2 → IVec S16 32) a x).toNat < S16x128.size a := fun v2 v260 k0_hw4 => k0_hw4

def k0_chk5 (v232 : IVec S16 32) (v263 : IVec S16 32) : Prop :=
  (∀ a x, ((![v263, v232] : Fin 2 → IVec S16 32) a x).toNat < S8x1024.size a)
theorem k0_idx5_inb : ∀ (v232 : IVec S16 32) (v263 : IVec S16 32) (k0_hw5 : k0_chk5 v232 v263), ∀ a x, ((![v263, v232] : Fin 2 → IVec S16 32) a x).toNat < S8x1024.size a := fun v232 v263 k0_hw5 => k0_hw5

def k0_chk6 (v2 : IVec S16 32) (v265 : IVec S16 32) : Prop :=
  (∀ a x, ((![v2, v265] : Fin 2 → IVec S16 32) a x).toNat < S16x128.size a)
theorem k0_idx6_inb : ∀ (v2 : IVec S16 32) (v265 : IVec S16 32) (k0_hw6 : k0_chk6 v2 v265), ∀ a x, ((![v2, v265] : Fin 2 → IVec S16 32) a x).toNat < S16x128.size a := fun v2 v265 k0_hw6 => k0_hw6

def k0_chk7 (v232 : IVec S16 32) (v268 : IVec S16 32) : Prop :=
  (∀ a x, ((![v268, v232] : Fin 2 → IVec S16 32) a x).toNat < S8x1024.size a)
theorem k0_idx7_inb : ∀ (v232 : IVec S16 32) (v268 : IVec S16 32) (k0_hw7 : k0_chk7 v232 v268), ∀ a x, ((![v268, v232] : Fin 2 → IVec S16 32) a x).toNat < S8x1024.size a := fun v232 v268 k0_hw7 => k0_hw7

def k0_chk8 (v2 : IVec S16 32) (v270 : IVec S16 32) : Prop :=
  (∀ a x, ((![v2, v270] : Fin 2 → IVec S16 32) a x).toNat < S16x128.size a)
theorem k0_idx8_inb : ∀ (v2 : IVec S16 32) (v270 : IVec S16 32) (k0_hw8 : k0_chk8 v2 v270), ∀ a x, ((![v2, v270] : Fin 2 → IVec S16 32) a x).toNat < S16x128.size a := fun v2 v270 k0_hw8 => k0_hw8

def k0_chk9 (v232 : IVec S16 32) (v273 : IVec S16 32) : Prop :=
  (∀ a x, ((![v273, v232] : Fin 2 → IVec S16 32) a x).toNat < S8x1024.size a)
theorem k0_idx9_inb : ∀ (v232 : IVec S16 32) (v273 : IVec S16 32) (k0_hw9 : k0_chk9 v232 v273), ∀ a x, ((![v273, v232] : Fin 2 → IVec S16 32) a x).toNat < S8x1024.size a := fun v232 v273 k0_hw9 => k0_hw9

def k0_chk10 (v2 : IVec S16 32) (v275 : IVec S16 32) : Prop :=
  (∀ a x, ((![v2, v275] : Fin 2 → IVec S16 32) a x).toNat < S16x128.size a)
theorem k0_idx10_inb : ∀ (v2 : IVec S16 32) (v275 : IVec S16 32) (k0_hw10 : k0_chk10 v2 v275), ∀ a x, ((![v2, v275] : Fin 2 → IVec S16 32) a x).toNat < S16x128.size a := fun v2 v275 k0_hw10 => k0_hw10

def k0_chk11 (v232 : IVec S16 32) (v278 : IVec S16 32) : Prop :=
  (∀ a x, ((![v278, v232] : Fin 2 → IVec S16 32) a x).toNat < S8x1024.size a)
theorem k0_idx11_inb : ∀ (v232 : IVec S16 32) (v278 : IVec S16 32) (k0_hw11 : k0_chk11 v232 v278), ∀ a x, ((![v278, v232] : Fin 2 → IVec S16 32) a x).toNat < S8x1024.size a := fun v232 v278 k0_hw11 => k0_hw11

def k0_chk12 (v2 : IVec S16 32) (v280 : IVec S16 32) : Prop :=
  (∀ a x, ((![v2, v280] : Fin 2 → IVec S16 32) a x).toNat < S16x128.size a)
theorem k0_idx12_inb : ∀ (v2 : IVec S16 32) (v280 : IVec S16 32) (k0_hw12 : k0_chk12 v2 v280), ∀ a x, ((![v2, v280] : Fin 2 → IVec S16 32) a x).toNat < S16x128.size a := fun v2 v280 k0_hw12 => k0_hw12

def k0_chk13 (v232 : IVec S16 32) (v283 : IVec S16 32) : Prop :=
  (∀ a x, ((![v283, v232] : Fin 2 → IVec S16 32) a x).toNat < S8x1024.size a)
theorem k0_idx13_inb : ∀ (v232 : IVec S16 32) (v283 : IVec S16 32) (k0_hw13 : k0_chk13 v232 v283), ∀ a x, ((![v283, v232] : Fin 2 → IVec S16 32) a x).toNat < S8x1024.size a := fun v232 v283 k0_hw13 => k0_hw13

def k0_chk14 (v2 : IVec S16 32) (v285 : IVec S16 32) : Prop :=
  (∀ a x, ((![v2, v285] : Fin 2 → IVec S16 32) a x).toNat < S16x128.size a)
theorem k0_idx14_inb : ∀ (v2 : IVec S16 32) (v285 : IVec S16 32) (k0_hw14 : k0_chk14 v2 v285), ∀ a x, ((![v2, v285] : Fin 2 → IVec S16 32) a x).toNat < S16x128.size a := fun v2 v285 k0_hw14 => k0_hw14

def k0_chk15 (v232 : IVec S16 32) (v288 : IVec S16 32) : Prop :=
  (∀ a x, ((![v288, v232] : Fin 2 → IVec S16 32) a x).toNat < S8x1024.size a)
theorem k0_idx15_inb : ∀ (v232 : IVec S16 32) (v288 : IVec S16 32) (k0_hw15 : k0_chk15 v232 v288), ∀ a x, ((![v288, v232] : Fin 2 → IVec S16 32) a x).toNat < S8x1024.size a := fun v232 v288 k0_hw15 => k0_hw15

def k0_chk16 (v2 : IVec S16 32) (v290 : IVec S16 32) : Prop :=
  (∀ a x, ((![v2, v290] : Fin 2 → IVec S16 32) a x).toNat < S16x128.size a)
theorem k0_idx16_inb : ∀ (v2 : IVec S16 32) (v290 : IVec S16 32) (k0_hw16 : k0_chk16 v2 v290), ∀ a x, ((![v2, v290] : Fin 2 → IVec S16 32) a x).toNat < S16x128.size a := fun v2 v290 k0_hw16 => k0_hw16

def k0_chk17 (v232 : IVec S16 32) (v293 : IVec S16 32) : Prop :=
  (∀ a x, ((![v293, v232] : Fin 2 → IVec S16 32) a x).toNat < S8x1024.size a)
theorem k0_idx17_inb : ∀ (v232 : IVec S16 32) (v293 : IVec S16 32) (k0_hw17 : k0_chk17 v232 v293), ∀ a x, ((![v293, v232] : Fin 2 → IVec S16 32) a x).toNat < S8x1024.size a := fun v232 v293 k0_hw17 => k0_hw17
def k0_off3 (i : grid0.Coords) (c0_i32_77 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c88_i32 : BitVec 32 := 88#32
  let v241 : BitVec 32 := Scalar.muli v1 c88_i32
  let v294 : BitVec 32 := Scalar.addi v241 c0_i32_77
  let c0_i32_78 : BitVec 32 := 0#32
  ![v294.toNat, 0]

def k0_chk18 (v2 : IVec S16 32) (v310 : IVec S16 32) : Prop :=
  (∀ a x, ((![v2, v310] : Fin 2 → IVec S16 32) a x).toNat < S16x128.size a)
theorem k0_idx18_inb : ∀ (v2 : IVec S16 32) (v310 : IVec S16 32) (k0_hw18 : k0_chk18 v2 v310), ∀ a x, ((![v2, v310] : Fin 2 → IVec S16 32) a x).toNat < S16x128.size a := fun v2 v310 k0_hw18 => k0_hw18

def k0_chk19 (v232 : IVec S16 32) (v313 : IVec S16 32) : Prop :=
  (∀ a x, ((![v313, v232] : Fin 2 → IVec S16 32) a x).toNat < S8x1024.size a)
theorem k0_idx19_inb : ∀ (v232 : IVec S16 32) (v313 : IVec S16 32) (k0_hw19 : k0_chk19 v232 v313), ∀ a x, ((![v313, v232] : Fin 2 → IVec S16 32) a x).toNat < S8x1024.size a := fun v232 v313 k0_hw19 => k0_hw19

def k0_chk20 (v2 : IVec S16 32) (v315 : IVec S16 32) : Prop :=
  (∀ a x, ((![v2, v315] : Fin 2 → IVec S16 32) a x).toNat < S16x128.size a)
theorem k0_idx20_inb : ∀ (v2 : IVec S16 32) (v315 : IVec S16 32) (k0_hw20 : k0_chk20 v2 v315), ∀ a x, ((![v2, v315] : Fin 2 → IVec S16 32) a x).toNat < S16x128.size a := fun v2 v315 k0_hw20 => k0_hw20

def k0_chk21 (v232 : IVec S16 32) (v318 : IVec S16 32) : Prop :=
  (∀ a x, ((![v318, v232] : Fin 2 → IVec S16 32) a x).toNat < S8x1024.size a)
theorem k0_idx21_inb : ∀ (v232 : IVec S16 32) (v318 : IVec S16 32) (k0_hw21 : k0_chk21 v232 v318), ∀ a x, ((![v318, v232] : Fin 2 → IVec S16 32) a x).toNat < S8x1024.size a := fun v232 v318 k0_hw21 => k0_hw21

def k0_chk22 (v2 : IVec S16 32) (v320 : IVec S16 32) : Prop :=
  (∀ a x, ((![v2, v320] : Fin 2 → IVec S16 32) a x).toNat < S16x128.size a)
theorem k0_idx22_inb : ∀ (v2 : IVec S16 32) (v320 : IVec S16 32) (k0_hw22 : k0_chk22 v2 v320), ∀ a x, ((![v2, v320] : Fin 2 → IVec S16 32) a x).toNat < S16x128.size a := fun v2 v320 k0_hw22 => k0_hw22

def k0_chk23 (v232 : IVec S16 32) (v323 : IVec S16 32) : Prop :=
  (∀ a x, ((![v323, v232] : Fin 2 → IVec S16 32) a x).toNat < S8x1024.size a)
theorem k0_idx23_inb : ∀ (v232 : IVec S16 32) (v323 : IVec S16 32) (k0_hw23 : k0_chk23 v232 v323), ∀ a x, ((![v323, v232] : Fin 2 → IVec S16 32) a x).toNat < S8x1024.size a := fun v232 v323 k0_hw23 => k0_hw23

def k0_chk24 (v2 : IVec S16 32) (v325 : IVec S16 32) : Prop :=
  (∀ a x, ((![v2, v325] : Fin 2 → IVec S16 32) a x).toNat < S16x128.size a)
theorem k0_idx24_inb : ∀ (v2 : IVec S16 32) (v325 : IVec S16 32) (k0_hw24 : k0_chk24 v2 v325), ∀ a x, ((![v2, v325] : Fin 2 → IVec S16 32) a x).toNat < S16x128.size a := fun v2 v325 k0_hw24 => k0_hw24

def k0_chk25 (v232 : IVec S16 32) (v328 : IVec S16 32) : Prop :=
  (∀ a x, ((![v328, v232] : Fin 2 → IVec S16 32) a x).toNat < S8x1024.size a)
theorem k0_idx25_inb : ∀ (v232 : IVec S16 32) (v328 : IVec S16 32) (k0_hw25 : k0_chk25 v232 v328), ∀ a x, ((![v328, v232] : Fin 2 → IVec S16 32) a x).toNat < S8x1024.size a := fun v232 v328 k0_hw25 => k0_hw25

def k0_chk26 (v2 : IVec S16 32) (v330 : IVec S16 32) : Prop :=
  (∀ a x, ((![v2, v330] : Fin 2 → IVec S16 32) a x).toNat < S16x128.size a)
theorem k0_idx26_inb : ∀ (v2 : IVec S16 32) (v330 : IVec S16 32) (k0_hw26 : k0_chk26 v2 v330), ∀ a x, ((![v2, v330] : Fin 2 → IVec S16 32) a x).toNat < S16x128.size a := fun v2 v330 k0_hw26 => k0_hw26

def k0_chk27 (v232 : IVec S16 32) (v333 : IVec S16 32) : Prop :=
  (∀ a x, ((![v333, v232] : Fin 2 → IVec S16 32) a x).toNat < S8x1024.size a)
theorem k0_idx27_inb : ∀ (v232 : IVec S16 32) (v333 : IVec S16 32) (k0_hw27 : k0_chk27 v232 v333), ∀ a x, ((![v333, v232] : Fin 2 → IVec S16 32) a x).toNat < S8x1024.size a := fun v232 v333 k0_hw27 => k0_hw27

def k0_chk28 (v2 : IVec S16 32) (v335 : IVec S16 32) : Prop :=
  (∀ a x, ((![v2, v335] : Fin 2 → IVec S16 32) a x).toNat < S16x128.size a)
theorem k0_idx28_inb : ∀ (v2 : IVec S16 32) (v335 : IVec S16 32) (k0_hw28 : k0_chk28 v2 v335), ∀ a x, ((![v2, v335] : Fin 2 → IVec S16 32) a x).toNat < S16x128.size a := fun v2 v335 k0_hw28 => k0_hw28

def k0_chk29 (v232 : IVec S16 32) (v338 : IVec S16 32) : Prop :=
  (∀ a x, ((![v338, v232] : Fin 2 → IVec S16 32) a x).toNat < S8x1024.size a)
theorem k0_idx29_inb : ∀ (v232 : IVec S16 32) (v338 : IVec S16 32) (k0_hw29 : k0_chk29 v232 v338), ∀ a x, ((![v338, v232] : Fin 2 → IVec S16 32) a x).toNat < S8x1024.size a := fun v232 v338 k0_hw29 => k0_hw29

def k0_chk30 (v2 : IVec S16 32) (v340 : IVec S16 32) : Prop :=
  (∀ a x, ((![v2, v340] : Fin 2 → IVec S16 32) a x).toNat < S16x128.size a)
theorem k0_idx30_inb : ∀ (v2 : IVec S16 32) (v340 : IVec S16 32) (k0_hw30 : k0_chk30 v2 v340), ∀ a x, ((![v2, v340] : Fin 2 → IVec S16 32) a x).toNat < S16x128.size a := fun v2 v340 k0_hw30 => k0_hw30

def k0_chk31 (v232 : IVec S16 32) (v343 : IVec S16 32) : Prop :=
  (∀ a x, ((![v343, v232] : Fin 2 → IVec S16 32) a x).toNat < S8x1024.size a)
theorem k0_idx31_inb : ∀ (v232 : IVec S16 32) (v343 : IVec S16 32) (k0_hw31 : k0_chk31 v232 v343), ∀ a x, ((![v343, v232] : Fin 2 → IVec S16 32) a x).toNat < S8x1024.size a := fun v232 v343 k0_hw31 => k0_hw31

def k0_chk32 (v2 : IVec S16 32) (v345 : IVec S16 32) : Prop :=
  (∀ a x, ((![v2, v345] : Fin 2 → IVec S16 32) a x).toNat < S16x128.size a)
theorem k0_idx32_inb : ∀ (v2 : IVec S16 32) (v345 : IVec S16 32) (k0_hw32 : k0_chk32 v2 v345), ∀ a x, ((![v2, v345] : Fin 2 → IVec S16 32) a x).toNat < S16x128.size a := fun v2 v345 k0_hw32 => k0_hw32

def k0_chk33 (v232 : IVec S16 32) (v348 : IVec S16 32) : Prop :=
  (∀ a x, ((![v348, v232] : Fin 2 → IVec S16 32) a x).toNat < S8x1024.size a)
theorem k0_idx33_inb : ∀ (v232 : IVec S16 32) (v348 : IVec S16 32) (k0_hw33 : k0_chk33 v232 v348), ∀ a x, ((![v348, v232] : Fin 2 → IVec S16 32) a x).toNat < S8x1024.size a := fun v232 v348 k0_hw33 => k0_hw33
def k0_off4 (i : grid0.Coords) (c8_i32_106 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c88_i32 : BitVec 32 := 88#32
  let v241 : BitVec 32 := Scalar.muli v1 c88_i32
  let v349 : BitVec 32 := Scalar.addi v241 c8_i32_106
  let c0_i32_107 : BitVec 32 := 0#32
  ![v349.toNat, 0]

def k0_chk34 (v2 : IVec S16 32) (v365 : IVec S16 32) : Prop :=
  (∀ a x, ((![v2, v365] : Fin 2 → IVec S16 32) a x).toNat < S16x128.size a)
theorem k0_idx34_inb : ∀ (v2 : IVec S16 32) (v365 : IVec S16 32) (k0_hw34 : k0_chk34 v2 v365), ∀ a x, ((![v2, v365] : Fin 2 → IVec S16 32) a x).toNat < S16x128.size a := fun v2 v365 k0_hw34 => k0_hw34

def k0_chk35 (v232 : IVec S16 32) (v368 : IVec S16 32) : Prop :=
  (∀ a x, ((![v368, v232] : Fin 2 → IVec S16 32) a x).toNat < S8x1024.size a)
theorem k0_idx35_inb : ∀ (v232 : IVec S16 32) (v368 : IVec S16 32) (k0_hw35 : k0_chk35 v232 v368), ∀ a x, ((![v368, v232] : Fin 2 → IVec S16 32) a x).toNat < S8x1024.size a := fun v232 v368 k0_hw35 => k0_hw35

def k0_chk36 (v2 : IVec S16 32) (v370 : IVec S16 32) : Prop :=
  (∀ a x, ((![v2, v370] : Fin 2 → IVec S16 32) a x).toNat < S16x128.size a)
theorem k0_idx36_inb : ∀ (v2 : IVec S16 32) (v370 : IVec S16 32) (k0_hw36 : k0_chk36 v2 v370), ∀ a x, ((![v2, v370] : Fin 2 → IVec S16 32) a x).toNat < S16x128.size a := fun v2 v370 k0_hw36 => k0_hw36

def k0_chk37 (v232 : IVec S16 32) (v373 : IVec S16 32) : Prop :=
  (∀ a x, ((![v373, v232] : Fin 2 → IVec S16 32) a x).toNat < S8x1024.size a)
theorem k0_idx37_inb : ∀ (v232 : IVec S16 32) (v373 : IVec S16 32) (k0_hw37 : k0_chk37 v232 v373), ∀ a x, ((![v373, v232] : Fin 2 → IVec S16 32) a x).toNat < S8x1024.size a := fun v232 v373 k0_hw37 => k0_hw37

def k0_chk38 (v2 : IVec S16 32) (v375 : IVec S16 32) : Prop :=
  (∀ a x, ((![v2, v375] : Fin 2 → IVec S16 32) a x).toNat < S16x128.size a)
theorem k0_idx38_inb : ∀ (v2 : IVec S16 32) (v375 : IVec S16 32) (k0_hw38 : k0_chk38 v2 v375), ∀ a x, ((![v2, v375] : Fin 2 → IVec S16 32) a x).toNat < S16x128.size a := fun v2 v375 k0_hw38 => k0_hw38

def k0_chk39 (v232 : IVec S16 32) (v378 : IVec S16 32) : Prop :=
  (∀ a x, ((![v378, v232] : Fin 2 → IVec S16 32) a x).toNat < S8x1024.size a)
theorem k0_idx39_inb : ∀ (v232 : IVec S16 32) (v378 : IVec S16 32) (k0_hw39 : k0_chk39 v232 v378), ∀ a x, ((![v378, v232] : Fin 2 → IVec S16 32) a x).toNat < S8x1024.size a := fun v232 v378 k0_hw39 => k0_hw39

def k0_chk40 (v2 : IVec S16 32) (v380 : IVec S16 32) : Prop :=
  (∀ a x, ((![v2, v380] : Fin 2 → IVec S16 32) a x).toNat < S16x128.size a)
theorem k0_idx40_inb : ∀ (v2 : IVec S16 32) (v380 : IVec S16 32) (k0_hw40 : k0_chk40 v2 v380), ∀ a x, ((![v2, v380] : Fin 2 → IVec S16 32) a x).toNat < S16x128.size a := fun v2 v380 k0_hw40 => k0_hw40

def k0_chk41 (v232 : IVec S16 32) (v383 : IVec S16 32) : Prop :=
  (∀ a x, ((![v383, v232] : Fin 2 → IVec S16 32) a x).toNat < S8x1024.size a)
theorem k0_idx41_inb : ∀ (v232 : IVec S16 32) (v383 : IVec S16 32) (k0_hw41 : k0_chk41 v232 v383), ∀ a x, ((![v383, v232] : Fin 2 → IVec S16 32) a x).toNat < S8x1024.size a := fun v232 v383 k0_hw41 => k0_hw41

def k0_chk42 (v2 : IVec S16 32) (v385 : IVec S16 32) : Prop :=
  (∀ a x, ((![v2, v385] : Fin 2 → IVec S16 32) a x).toNat < S16x128.size a)
theorem k0_idx42_inb : ∀ (v2 : IVec S16 32) (v385 : IVec S16 32) (k0_hw42 : k0_chk42 v2 v385), ∀ a x, ((![v2, v385] : Fin 2 → IVec S16 32) a x).toNat < S16x128.size a := fun v2 v385 k0_hw42 => k0_hw42

def k0_chk43 (v232 : IVec S16 32) (v388 : IVec S16 32) : Prop :=
  (∀ a x, ((![v388, v232] : Fin 2 → IVec S16 32) a x).toNat < S8x1024.size a)
theorem k0_idx43_inb : ∀ (v232 : IVec S16 32) (v388 : IVec S16 32) (k0_hw43 : k0_chk43 v232 v388), ∀ a x, ((![v388, v232] : Fin 2 → IVec S16 32) a x).toNat < S8x1024.size a := fun v232 v388 k0_hw43 => k0_hw43

def k0_chk44 (v2 : IVec S16 32) (v390 : IVec S16 32) : Prop :=
  (∀ a x, ((![v2, v390] : Fin 2 → IVec S16 32) a x).toNat < S16x128.size a)
theorem k0_idx44_inb : ∀ (v2 : IVec S16 32) (v390 : IVec S16 32) (k0_hw44 : k0_chk44 v2 v390), ∀ a x, ((![v2, v390] : Fin 2 → IVec S16 32) a x).toNat < S16x128.size a := fun v2 v390 k0_hw44 => k0_hw44

def k0_chk45 (v232 : IVec S16 32) (v393 : IVec S16 32) : Prop :=
  (∀ a x, ((![v393, v232] : Fin 2 → IVec S16 32) a x).toNat < S8x1024.size a)
theorem k0_idx45_inb : ∀ (v232 : IVec S16 32) (v393 : IVec S16 32) (k0_hw45 : k0_chk45 v232 v393), ∀ a x, ((![v393, v232] : Fin 2 → IVec S16 32) a x).toNat < S8x1024.size a := fun v232 v393 k0_hw45 => k0_hw45

def k0_chk46 (v2 : IVec S16 32) (v395 : IVec S16 32) : Prop :=
  (∀ a x, ((![v2, v395] : Fin 2 → IVec S16 32) a x).toNat < S16x128.size a)
theorem k0_idx46_inb : ∀ (v2 : IVec S16 32) (v395 : IVec S16 32) (k0_hw46 : k0_chk46 v2 v395), ∀ a x, ((![v2, v395] : Fin 2 → IVec S16 32) a x).toNat < S16x128.size a := fun v2 v395 k0_hw46 => k0_hw46

def k0_chk47 (v232 : IVec S16 32) (v398 : IVec S16 32) : Prop :=
  (∀ a x, ((![v398, v232] : Fin 2 → IVec S16 32) a x).toNat < S8x1024.size a)
theorem k0_idx47_inb : ∀ (v232 : IVec S16 32) (v398 : IVec S16 32) (k0_hw47 : k0_chk47 v232 v398), ∀ a x, ((![v398, v232] : Fin 2 → IVec S16 32) a x).toNat < S8x1024.size a := fun v232 v398 k0_hw47 => k0_hw47

def k0_chk48 (v2 : IVec S16 32) (v400 : IVec S16 32) : Prop :=
  (∀ a x, ((![v2, v400] : Fin 2 → IVec S16 32) a x).toNat < S16x128.size a)
theorem k0_idx48_inb : ∀ (v2 : IVec S16 32) (v400 : IVec S16 32) (k0_hw48 : k0_chk48 v2 v400), ∀ a x, ((![v2, v400] : Fin 2 → IVec S16 32) a x).toNat < S16x128.size a := fun v2 v400 k0_hw48 => k0_hw48

def k0_chk49 (v232 : IVec S16 32) (v403 : IVec S16 32) : Prop :=
  (∀ a x, ((![v403, v232] : Fin 2 → IVec S16 32) a x).toNat < S8x1024.size a)
theorem k0_idx49_inb : ∀ (v232 : IVec S16 32) (v403 : IVec S16 32) (k0_hw49 : k0_chk49 v232 v403), ∀ a x, ((![v403, v232] : Fin 2 → IVec S16 32) a x).toNat < S8x1024.size a := fun v232 v403 k0_hw49 => k0_hw49
def k0_off5 (i : grid0.Coords) (c16_i32_134 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c88_i32 : BitVec 32 := 88#32
  let v241 : BitVec 32 := Scalar.muli v1 c88_i32
  let v404 : BitVec 32 := Scalar.addi v241 c16_i32_134
  let c0_i32_135 : BitVec 32 := 0#32
  ![v404.toNat, 0]

def k0_chk50 (v2 : IVec S16 32) (v420 : IVec S16 32) : Prop :=
  (∀ a x, ((![v2, v420] : Fin 2 → IVec S16 32) a x).toNat < S16x128.size a)
theorem k0_idx50_inb : ∀ (v2 : IVec S16 32) (v420 : IVec S16 32) (k0_hw50 : k0_chk50 v2 v420), ∀ a x, ((![v2, v420] : Fin 2 → IVec S16 32) a x).toNat < S16x128.size a := fun v2 v420 k0_hw50 => k0_hw50

def k0_chk51 (v232 : IVec S16 32) (v423 : IVec S16 32) : Prop :=
  (∀ a x, ((![v423, v232] : Fin 2 → IVec S16 32) a x).toNat < S8x1024.size a)
theorem k0_idx51_inb : ∀ (v232 : IVec S16 32) (v423 : IVec S16 32) (k0_hw51 : k0_chk51 v232 v423), ∀ a x, ((![v423, v232] : Fin 2 → IVec S16 32) a x).toNat < S8x1024.size a := fun v232 v423 k0_hw51 => k0_hw51

def k0_chk52 (v2 : IVec S16 32) (v425 : IVec S16 32) : Prop :=
  (∀ a x, ((![v2, v425] : Fin 2 → IVec S16 32) a x).toNat < S16x128.size a)
theorem k0_idx52_inb : ∀ (v2 : IVec S16 32) (v425 : IVec S16 32) (k0_hw52 : k0_chk52 v2 v425), ∀ a x, ((![v2, v425] : Fin 2 → IVec S16 32) a x).toNat < S16x128.size a := fun v2 v425 k0_hw52 => k0_hw52

def k0_chk53 (v232 : IVec S16 32) (v428 : IVec S16 32) : Prop :=
  (∀ a x, ((![v428, v232] : Fin 2 → IVec S16 32) a x).toNat < S8x1024.size a)
theorem k0_idx53_inb : ∀ (v232 : IVec S16 32) (v428 : IVec S16 32) (k0_hw53 : k0_chk53 v232 v428), ∀ a x, ((![v428, v232] : Fin 2 → IVec S16 32) a x).toNat < S8x1024.size a := fun v232 v428 k0_hw53 => k0_hw53

def k0_chk54 (v2 : IVec S16 32) (v430 : IVec S16 32) : Prop :=
  (∀ a x, ((![v2, v430] : Fin 2 → IVec S16 32) a x).toNat < S16x128.size a)
theorem k0_idx54_inb : ∀ (v2 : IVec S16 32) (v430 : IVec S16 32) (k0_hw54 : k0_chk54 v2 v430), ∀ a x, ((![v2, v430] : Fin 2 → IVec S16 32) a x).toNat < S16x128.size a := fun v2 v430 k0_hw54 => k0_hw54

def k0_chk55 (v232 : IVec S16 32) (v433 : IVec S16 32) : Prop :=
  (∀ a x, ((![v433, v232] : Fin 2 → IVec S16 32) a x).toNat < S8x1024.size a)
theorem k0_idx55_inb : ∀ (v232 : IVec S16 32) (v433 : IVec S16 32) (k0_hw55 : k0_chk55 v232 v433), ∀ a x, ((![v433, v232] : Fin 2 → IVec S16 32) a x).toNat < S8x1024.size a := fun v232 v433 k0_hw55 => k0_hw55

def k0_chk56 (v2 : IVec S16 32) (v435 : IVec S16 32) : Prop :=
  (∀ a x, ((![v2, v435] : Fin 2 → IVec S16 32) a x).toNat < S16x128.size a)
theorem k0_idx56_inb : ∀ (v2 : IVec S16 32) (v435 : IVec S16 32) (k0_hw56 : k0_chk56 v2 v435), ∀ a x, ((![v2, v435] : Fin 2 → IVec S16 32) a x).toNat < S16x128.size a := fun v2 v435 k0_hw56 => k0_hw56

def k0_chk57 (v232 : IVec S16 32) (v438 : IVec S16 32) : Prop :=
  (∀ a x, ((![v438, v232] : Fin 2 → IVec S16 32) a x).toNat < S8x1024.size a)
theorem k0_idx57_inb : ∀ (v232 : IVec S16 32) (v438 : IVec S16 32) (k0_hw57 : k0_chk57 v232 v438), ∀ a x, ((![v438, v232] : Fin 2 → IVec S16 32) a x).toNat < S8x1024.size a := fun v232 v438 k0_hw57 => k0_hw57

def k0_chk58 (v2 : IVec S16 32) (v440 : IVec S16 32) : Prop :=
  (∀ a x, ((![v2, v440] : Fin 2 → IVec S16 32) a x).toNat < S16x128.size a)
theorem k0_idx58_inb : ∀ (v2 : IVec S16 32) (v440 : IVec S16 32) (k0_hw58 : k0_chk58 v2 v440), ∀ a x, ((![v2, v440] : Fin 2 → IVec S16 32) a x).toNat < S16x128.size a := fun v2 v440 k0_hw58 => k0_hw58

def k0_chk59 (v232 : IVec S16 32) (v443 : IVec S16 32) : Prop :=
  (∀ a x, ((![v443, v232] : Fin 2 → IVec S16 32) a x).toNat < S8x1024.size a)
theorem k0_idx59_inb : ∀ (v232 : IVec S16 32) (v443 : IVec S16 32) (k0_hw59 : k0_chk59 v232 v443), ∀ a x, ((![v443, v232] : Fin 2 → IVec S16 32) a x).toNat < S8x1024.size a := fun v232 v443 k0_hw59 => k0_hw59

def k0_chk60 (v2 : IVec S16 32) (v445 : IVec S16 32) : Prop :=
  (∀ a x, ((![v2, v445] : Fin 2 → IVec S16 32) a x).toNat < S16x128.size a)
theorem k0_idx60_inb : ∀ (v2 : IVec S16 32) (v445 : IVec S16 32) (k0_hw60 : k0_chk60 v2 v445), ∀ a x, ((![v2, v445] : Fin 2 → IVec S16 32) a x).toNat < S16x128.size a := fun v2 v445 k0_hw60 => k0_hw60

def k0_chk61 (v232 : IVec S16 32) (v448 : IVec S16 32) : Prop :=
  (∀ a x, ((![v448, v232] : Fin 2 → IVec S16 32) a x).toNat < S8x1024.size a)
theorem k0_idx61_inb : ∀ (v232 : IVec S16 32) (v448 : IVec S16 32) (k0_hw61 : k0_chk61 v232 v448), ∀ a x, ((![v448, v232] : Fin 2 → IVec S16 32) a x).toNat < S8x1024.size a := fun v232 v448 k0_hw61 => k0_hw61

def k0_chk62 (v2 : IVec S16 32) (v450 : IVec S16 32) : Prop :=
  (∀ a x, ((![v2, v450] : Fin 2 → IVec S16 32) a x).toNat < S16x128.size a)
theorem k0_idx62_inb : ∀ (v2 : IVec S16 32) (v450 : IVec S16 32) (k0_hw62 : k0_chk62 v2 v450), ∀ a x, ((![v2, v450] : Fin 2 → IVec S16 32) a x).toNat < S16x128.size a := fun v2 v450 k0_hw62 => k0_hw62

def k0_chk63 (v232 : IVec S16 32) (v453 : IVec S16 32) : Prop :=
  (∀ a x, ((![v453, v232] : Fin 2 → IVec S16 32) a x).toNat < S8x1024.size a)
theorem k0_idx63_inb : ∀ (v232 : IVec S16 32) (v453 : IVec S16 32) (k0_hw63 : k0_chk63 v232 v453), ∀ a x, ((![v453, v232] : Fin 2 → IVec S16 32) a x).toNat < S8x1024.size a := fun v232 v453 k0_hw63 => k0_hw63

def k0_chk64 (v2 : IVec S16 32) (v455 : IVec S16 32) : Prop :=
  (∀ a x, ((![v2, v455] : Fin 2 → IVec S16 32) a x).toNat < S16x128.size a)
theorem k0_idx64_inb : ∀ (v2 : IVec S16 32) (v455 : IVec S16 32) (k0_hw64 : k0_chk64 v2 v455), ∀ a x, ((![v2, v455] : Fin 2 → IVec S16 32) a x).toNat < S16x128.size a := fun v2 v455 k0_hw64 => k0_hw64

def k0_chk65 (v232 : IVec S16 32) (v458 : IVec S16 32) : Prop :=
  (∀ a x, ((![v458, v232] : Fin 2 → IVec S16 32) a x).toNat < S8x1024.size a)
theorem k0_idx65_inb : ∀ (v232 : IVec S16 32) (v458 : IVec S16 32) (k0_hw65 : k0_chk65 v232 v458), ∀ a x, ((![v458, v232] : Fin 2 → IVec S16 32) a x).toNat < S8x1024.size a := fun v232 v458 k0_hw65 => k0_hw65
def k0_off6 (i : grid0.Coords) (c24_i32_162 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c88_i32 : BitVec 32 := 88#32
  let v241 : BitVec 32 := Scalar.muli v1 c88_i32
  let v459 : BitVec 32 := Scalar.addi v241 c24_i32_162
  let c0_i32_163 : BitVec 32 := 0#32
  ![v459.toNat, 0]

def k0_chk66 (v2 : IVec S16 32) (v475 : IVec S16 32) : Prop :=
  (∀ a x, ((![v2, v475] : Fin 2 → IVec S16 32) a x).toNat < S16x128.size a)
theorem k0_idx66_inb : ∀ (v2 : IVec S16 32) (v475 : IVec S16 32) (k0_hw66 : k0_chk66 v2 v475), ∀ a x, ((![v2, v475] : Fin 2 → IVec S16 32) a x).toNat < S16x128.size a := fun v2 v475 k0_hw66 => k0_hw66

def k0_chk67 (v232 : IVec S16 32) (v478 : IVec S16 32) : Prop :=
  (∀ a x, ((![v478, v232] : Fin 2 → IVec S16 32) a x).toNat < S8x1024.size a)
theorem k0_idx67_inb : ∀ (v232 : IVec S16 32) (v478 : IVec S16 32) (k0_hw67 : k0_chk67 v232 v478), ∀ a x, ((![v478, v232] : Fin 2 → IVec S16 32) a x).toNat < S8x1024.size a := fun v232 v478 k0_hw67 => k0_hw67

def k0_chk68 (v2 : IVec S16 32) (v480 : IVec S16 32) : Prop :=
  (∀ a x, ((![v2, v480] : Fin 2 → IVec S16 32) a x).toNat < S16x128.size a)
theorem k0_idx68_inb : ∀ (v2 : IVec S16 32) (v480 : IVec S16 32) (k0_hw68 : k0_chk68 v2 v480), ∀ a x, ((![v2, v480] : Fin 2 → IVec S16 32) a x).toNat < S16x128.size a := fun v2 v480 k0_hw68 => k0_hw68

def k0_chk69 (v232 : IVec S16 32) (v483 : IVec S16 32) : Prop :=
  (∀ a x, ((![v483, v232] : Fin 2 → IVec S16 32) a x).toNat < S8x1024.size a)
theorem k0_idx69_inb : ∀ (v232 : IVec S16 32) (v483 : IVec S16 32) (k0_hw69 : k0_chk69 v232 v483), ∀ a x, ((![v483, v232] : Fin 2 → IVec S16 32) a x).toNat < S8x1024.size a := fun v232 v483 k0_hw69 => k0_hw69

def k0_chk70 (v2 : IVec S16 32) (v485 : IVec S16 32) : Prop :=
  (∀ a x, ((![v2, v485] : Fin 2 → IVec S16 32) a x).toNat < S16x128.size a)
theorem k0_idx70_inb : ∀ (v2 : IVec S16 32) (v485 : IVec S16 32) (k0_hw70 : k0_chk70 v2 v485), ∀ a x, ((![v2, v485] : Fin 2 → IVec S16 32) a x).toNat < S16x128.size a := fun v2 v485 k0_hw70 => k0_hw70

def k0_chk71 (v232 : IVec S16 32) (v488 : IVec S16 32) : Prop :=
  (∀ a x, ((![v488, v232] : Fin 2 → IVec S16 32) a x).toNat < S8x1024.size a)
theorem k0_idx71_inb : ∀ (v232 : IVec S16 32) (v488 : IVec S16 32) (k0_hw71 : k0_chk71 v232 v488), ∀ a x, ((![v488, v232] : Fin 2 → IVec S16 32) a x).toNat < S8x1024.size a := fun v232 v488 k0_hw71 => k0_hw71

def k0_chk72 (v2 : IVec S16 32) (v490 : IVec S16 32) : Prop :=
  (∀ a x, ((![v2, v490] : Fin 2 → IVec S16 32) a x).toNat < S16x128.size a)
theorem k0_idx72_inb : ∀ (v2 : IVec S16 32) (v490 : IVec S16 32) (k0_hw72 : k0_chk72 v2 v490), ∀ a x, ((![v2, v490] : Fin 2 → IVec S16 32) a x).toNat < S16x128.size a := fun v2 v490 k0_hw72 => k0_hw72

def k0_chk73 (v232 : IVec S16 32) (v493 : IVec S16 32) : Prop :=
  (∀ a x, ((![v493, v232] : Fin 2 → IVec S16 32) a x).toNat < S8x1024.size a)
theorem k0_idx73_inb : ∀ (v232 : IVec S16 32) (v493 : IVec S16 32) (k0_hw73 : k0_chk73 v232 v493), ∀ a x, ((![v493, v232] : Fin 2 → IVec S16 32) a x).toNat < S8x1024.size a := fun v232 v493 k0_hw73 => k0_hw73

def k0_chk74 (v2 : IVec S16 32) (v495 : IVec S16 32) : Prop :=
  (∀ a x, ((![v2, v495] : Fin 2 → IVec S16 32) a x).toNat < S16x128.size a)
theorem k0_idx74_inb : ∀ (v2 : IVec S16 32) (v495 : IVec S16 32) (k0_hw74 : k0_chk74 v2 v495), ∀ a x, ((![v2, v495] : Fin 2 → IVec S16 32) a x).toNat < S16x128.size a := fun v2 v495 k0_hw74 => k0_hw74

def k0_chk75 (v232 : IVec S16 32) (v498 : IVec S16 32) : Prop :=
  (∀ a x, ((![v498, v232] : Fin 2 → IVec S16 32) a x).toNat < S8x1024.size a)
theorem k0_idx75_inb : ∀ (v232 : IVec S16 32) (v498 : IVec S16 32) (k0_hw75 : k0_chk75 v232 v498), ∀ a x, ((![v498, v232] : Fin 2 → IVec S16 32) a x).toNat < S8x1024.size a := fun v232 v498 k0_hw75 => k0_hw75

def k0_chk76 (v2 : IVec S16 32) (v500 : IVec S16 32) : Prop :=
  (∀ a x, ((![v2, v500] : Fin 2 → IVec S16 32) a x).toNat < S16x128.size a)
theorem k0_idx76_inb : ∀ (v2 : IVec S16 32) (v500 : IVec S16 32) (k0_hw76 : k0_chk76 v2 v500), ∀ a x, ((![v2, v500] : Fin 2 → IVec S16 32) a x).toNat < S16x128.size a := fun v2 v500 k0_hw76 => k0_hw76

def k0_chk77 (v232 : IVec S16 32) (v503 : IVec S16 32) : Prop :=
  (∀ a x, ((![v503, v232] : Fin 2 → IVec S16 32) a x).toNat < S8x1024.size a)
theorem k0_idx77_inb : ∀ (v232 : IVec S16 32) (v503 : IVec S16 32) (k0_hw77 : k0_chk77 v232 v503), ∀ a x, ((![v503, v232] : Fin 2 → IVec S16 32) a x).toNat < S8x1024.size a := fun v232 v503 k0_hw77 => k0_hw77

def k0_chk78 (v2 : IVec S16 32) (v505 : IVec S16 32) : Prop :=
  (∀ a x, ((![v2, v505] : Fin 2 → IVec S16 32) a x).toNat < S16x128.size a)
theorem k0_idx78_inb : ∀ (v2 : IVec S16 32) (v505 : IVec S16 32) (k0_hw78 : k0_chk78 v2 v505), ∀ a x, ((![v2, v505] : Fin 2 → IVec S16 32) a x).toNat < S16x128.size a := fun v2 v505 k0_hw78 => k0_hw78

def k0_chk79 (v232 : IVec S16 32) (v508 : IVec S16 32) : Prop :=
  (∀ a x, ((![v508, v232] : Fin 2 → IVec S16 32) a x).toNat < S8x1024.size a)
theorem k0_idx79_inb : ∀ (v232 : IVec S16 32) (v508 : IVec S16 32) (k0_hw79 : k0_chk79 v232 v508), ∀ a x, ((![v508, v232] : Fin 2 → IVec S16 32) a x).toNat < S8x1024.size a := fun v232 v508 k0_hw79 => k0_hw79

def k0_chk80 (v2 : IVec S16 32) (v510 : IVec S16 32) : Prop :=
  (∀ a x, ((![v2, v510] : Fin 2 → IVec S16 32) a x).toNat < S16x128.size a)
theorem k0_idx80_inb : ∀ (v2 : IVec S16 32) (v510 : IVec S16 32) (k0_hw80 : k0_chk80 v2 v510), ∀ a x, ((![v2, v510] : Fin 2 → IVec S16 32) a x).toNat < S16x128.size a := fun v2 v510 k0_hw80 => k0_hw80

def k0_chk81 (v232 : IVec S16 32) (v513 : IVec S16 32) : Prop :=
  (∀ a x, ((![v513, v232] : Fin 2 → IVec S16 32) a x).toNat < S8x1024.size a)
theorem k0_idx81_inb : ∀ (v232 : IVec S16 32) (v513 : IVec S16 32) (k0_hw81 : k0_chk81 v232 v513), ∀ a x, ((![v513, v232] : Fin 2 → IVec S16 32) a x).toNat < S8x1024.size a := fun v232 v513 k0_hw81 => k0_hw81
def k0_off7 (i : grid0.Coords) (c32_i32_190 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c88_i32 : BitVec 32 := 88#32
  let v241 : BitVec 32 := Scalar.muli v1 c88_i32
  let v514 : BitVec 32 := Scalar.addi v241 c32_i32_190
  let c0_i32_191 : BitVec 32 := 0#32
  ![v514.toNat, 0]

def k0_chk82 (v2 : IVec S16 32) (v530 : IVec S16 32) : Prop :=
  (∀ a x, ((![v2, v530] : Fin 2 → IVec S16 32) a x).toNat < S16x128.size a)
theorem k0_idx82_inb : ∀ (v2 : IVec S16 32) (v530 : IVec S16 32) (k0_hw82 : k0_chk82 v2 v530), ∀ a x, ((![v2, v530] : Fin 2 → IVec S16 32) a x).toNat < S16x128.size a := fun v2 v530 k0_hw82 => k0_hw82

def k0_chk83 (v232 : IVec S16 32) (v533 : IVec S16 32) : Prop :=
  (∀ a x, ((![v533, v232] : Fin 2 → IVec S16 32) a x).toNat < S8x1024.size a)
theorem k0_idx83_inb : ∀ (v232 : IVec S16 32) (v533 : IVec S16 32) (k0_hw83 : k0_chk83 v232 v533), ∀ a x, ((![v533, v232] : Fin 2 → IVec S16 32) a x).toNat < S8x1024.size a := fun v232 v533 k0_hw83 => k0_hw83

def k0_chk84 (v2 : IVec S16 32) (v535 : IVec S16 32) : Prop :=
  (∀ a x, ((![v2, v535] : Fin 2 → IVec S16 32) a x).toNat < S16x128.size a)
theorem k0_idx84_inb : ∀ (v2 : IVec S16 32) (v535 : IVec S16 32) (k0_hw84 : k0_chk84 v2 v535), ∀ a x, ((![v2, v535] : Fin 2 → IVec S16 32) a x).toNat < S16x128.size a := fun v2 v535 k0_hw84 => k0_hw84

def k0_chk85 (v232 : IVec S16 32) (v538 : IVec S16 32) : Prop :=
  (∀ a x, ((![v538, v232] : Fin 2 → IVec S16 32) a x).toNat < S8x1024.size a)
theorem k0_idx85_inb : ∀ (v232 : IVec S16 32) (v538 : IVec S16 32) (k0_hw85 : k0_chk85 v232 v538), ∀ a x, ((![v538, v232] : Fin 2 → IVec S16 32) a x).toNat < S8x1024.size a := fun v232 v538 k0_hw85 => k0_hw85

def k0_chk86 (v2 : IVec S16 32) (v540 : IVec S16 32) : Prop :=
  (∀ a x, ((![v2, v540] : Fin 2 → IVec S16 32) a x).toNat < S16x128.size a)
theorem k0_idx86_inb : ∀ (v2 : IVec S16 32) (v540 : IVec S16 32) (k0_hw86 : k0_chk86 v2 v540), ∀ a x, ((![v2, v540] : Fin 2 → IVec S16 32) a x).toNat < S16x128.size a := fun v2 v540 k0_hw86 => k0_hw86

def k0_chk87 (v232 : IVec S16 32) (v543 : IVec S16 32) : Prop :=
  (∀ a x, ((![v543, v232] : Fin 2 → IVec S16 32) a x).toNat < S8x1024.size a)
theorem k0_idx87_inb : ∀ (v232 : IVec S16 32) (v543 : IVec S16 32) (k0_hw87 : k0_chk87 v232 v543), ∀ a x, ((![v543, v232] : Fin 2 → IVec S16 32) a x).toNat < S8x1024.size a := fun v232 v543 k0_hw87 => k0_hw87

def k0_chk88 (v2 : IVec S16 32) (v545 : IVec S16 32) : Prop :=
  (∀ a x, ((![v2, v545] : Fin 2 → IVec S16 32) a x).toNat < S16x128.size a)
theorem k0_idx88_inb : ∀ (v2 : IVec S16 32) (v545 : IVec S16 32) (k0_hw88 : k0_chk88 v2 v545), ∀ a x, ((![v2, v545] : Fin 2 → IVec S16 32) a x).toNat < S16x128.size a := fun v2 v545 k0_hw88 => k0_hw88

def k0_chk89 (v232 : IVec S16 32) (v548 : IVec S16 32) : Prop :=
  (∀ a x, ((![v548, v232] : Fin 2 → IVec S16 32) a x).toNat < S8x1024.size a)
theorem k0_idx89_inb : ∀ (v232 : IVec S16 32) (v548 : IVec S16 32) (k0_hw89 : k0_chk89 v232 v548), ∀ a x, ((![v548, v232] : Fin 2 → IVec S16 32) a x).toNat < S8x1024.size a := fun v232 v548 k0_hw89 => k0_hw89

def k0_chk90 (v2 : IVec S16 32) (v550 : IVec S16 32) : Prop :=
  (∀ a x, ((![v2, v550] : Fin 2 → IVec S16 32) a x).toNat < S16x128.size a)
theorem k0_idx90_inb : ∀ (v2 : IVec S16 32) (v550 : IVec S16 32) (k0_hw90 : k0_chk90 v2 v550), ∀ a x, ((![v2, v550] : Fin 2 → IVec S16 32) a x).toNat < S16x128.size a := fun v2 v550 k0_hw90 => k0_hw90

def k0_chk91 (v232 : IVec S16 32) (v553 : IVec S16 32) : Prop :=
  (∀ a x, ((![v553, v232] : Fin 2 → IVec S16 32) a x).toNat < S8x1024.size a)
theorem k0_idx91_inb : ∀ (v232 : IVec S16 32) (v553 : IVec S16 32) (k0_hw91 : k0_chk91 v232 v553), ∀ a x, ((![v553, v232] : Fin 2 → IVec S16 32) a x).toNat < S8x1024.size a := fun v232 v553 k0_hw91 => k0_hw91

def k0_chk92 (v2 : IVec S16 32) (v555 : IVec S16 32) : Prop :=
  (∀ a x, ((![v2, v555] : Fin 2 → IVec S16 32) a x).toNat < S16x128.size a)
theorem k0_idx92_inb : ∀ (v2 : IVec S16 32) (v555 : IVec S16 32) (k0_hw92 : k0_chk92 v2 v555), ∀ a x, ((![v2, v555] : Fin 2 → IVec S16 32) a x).toNat < S16x128.size a := fun v2 v555 k0_hw92 => k0_hw92

def k0_chk93 (v232 : IVec S16 32) (v558 : IVec S16 32) : Prop :=
  (∀ a x, ((![v558, v232] : Fin 2 → IVec S16 32) a x).toNat < S8x1024.size a)
theorem k0_idx93_inb : ∀ (v232 : IVec S16 32) (v558 : IVec S16 32) (k0_hw93 : k0_chk93 v232 v558), ∀ a x, ((![v558, v232] : Fin 2 → IVec S16 32) a x).toNat < S8x1024.size a := fun v232 v558 k0_hw93 => k0_hw93

def k0_chk94 (v2 : IVec S16 32) (v560 : IVec S16 32) : Prop :=
  (∀ a x, ((![v2, v560] : Fin 2 → IVec S16 32) a x).toNat < S16x128.size a)
theorem k0_idx94_inb : ∀ (v2 : IVec S16 32) (v560 : IVec S16 32) (k0_hw94 : k0_chk94 v2 v560), ∀ a x, ((![v2, v560] : Fin 2 → IVec S16 32) a x).toNat < S16x128.size a := fun v2 v560 k0_hw94 => k0_hw94

def k0_chk95 (v232 : IVec S16 32) (v563 : IVec S16 32) : Prop :=
  (∀ a x, ((![v563, v232] : Fin 2 → IVec S16 32) a x).toNat < S8x1024.size a)
theorem k0_idx95_inb : ∀ (v232 : IVec S16 32) (v563 : IVec S16 32) (k0_hw95 : k0_chk95 v232 v563), ∀ a x, ((![v563, v232] : Fin 2 → IVec S16 32) a x).toNat < S8x1024.size a := fun v232 v563 k0_hw95 => k0_hw95

def k0_chk96 (v2 : IVec S16 32) (v565 : IVec S16 32) : Prop :=
  (∀ a x, ((![v2, v565] : Fin 2 → IVec S16 32) a x).toNat < S16x128.size a)
theorem k0_idx96_inb : ∀ (v2 : IVec S16 32) (v565 : IVec S16 32) (k0_hw96 : k0_chk96 v2 v565), ∀ a x, ((![v2, v565] : Fin 2 → IVec S16 32) a x).toNat < S16x128.size a := fun v2 v565 k0_hw96 => k0_hw96

def k0_chk97 (v232 : IVec S16 32) (v568 : IVec S16 32) : Prop :=
  (∀ a x, ((![v568, v232] : Fin 2 → IVec S16 32) a x).toNat < S8x1024.size a)
theorem k0_idx97_inb : ∀ (v232 : IVec S16 32) (v568 : IVec S16 32) (k0_hw97 : k0_chk97 v232 v568), ∀ a x, ((![v568, v232] : Fin 2 → IVec S16 32) a x).toNat < S8x1024.size a := fun v232 v568 k0_hw97 => k0_hw97
def k0_off8 (i : grid0.Coords) (c40_i32_218 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c88_i32 : BitVec 32 := 88#32
  let v241 : BitVec 32 := Scalar.muli v1 c88_i32
  let v569 : BitVec 32 := Scalar.addi v241 c40_i32_218
  let c0_i32_219 : BitVec 32 := 0#32
  ![v569.toNat, 0]

def k0_chk98 (v2 : IVec S16 32) (v585 : IVec S16 32) : Prop :=
  (∀ a x, ((![v2, v585] : Fin 2 → IVec S16 32) a x).toNat < S16x128.size a)
theorem k0_idx98_inb : ∀ (v2 : IVec S16 32) (v585 : IVec S16 32) (k0_hw98 : k0_chk98 v2 v585), ∀ a x, ((![v2, v585] : Fin 2 → IVec S16 32) a x).toNat < S16x128.size a := fun v2 v585 k0_hw98 => k0_hw98

def k0_chk99 (v232 : IVec S16 32) (v588 : IVec S16 32) : Prop :=
  (∀ a x, ((![v588, v232] : Fin 2 → IVec S16 32) a x).toNat < S8x1024.size a)
theorem k0_idx99_inb : ∀ (v232 : IVec S16 32) (v588 : IVec S16 32) (k0_hw99 : k0_chk99 v232 v588), ∀ a x, ((![v588, v232] : Fin 2 → IVec S16 32) a x).toNat < S8x1024.size a := fun v232 v588 k0_hw99 => k0_hw99

def k0_chk100 (v2 : IVec S16 32) (v590 : IVec S16 32) : Prop :=
  (∀ a x, ((![v2, v590] : Fin 2 → IVec S16 32) a x).toNat < S16x128.size a)
theorem k0_idx100_inb : ∀ (v2 : IVec S16 32) (v590 : IVec S16 32) (k0_hw100 : k0_chk100 v2 v590), ∀ a x, ((![v2, v590] : Fin 2 → IVec S16 32) a x).toNat < S16x128.size a := fun v2 v590 k0_hw100 => k0_hw100

def k0_chk101 (v232 : IVec S16 32) (v593 : IVec S16 32) : Prop :=
  (∀ a x, ((![v593, v232] : Fin 2 → IVec S16 32) a x).toNat < S8x1024.size a)
theorem k0_idx101_inb : ∀ (v232 : IVec S16 32) (v593 : IVec S16 32) (k0_hw101 : k0_chk101 v232 v593), ∀ a x, ((![v593, v232] : Fin 2 → IVec S16 32) a x).toNat < S8x1024.size a := fun v232 v593 k0_hw101 => k0_hw101

def k0_chk102 (v2 : IVec S16 32) (v595 : IVec S16 32) : Prop :=
  (∀ a x, ((![v2, v595] : Fin 2 → IVec S16 32) a x).toNat < S16x128.size a)
theorem k0_idx102_inb : ∀ (v2 : IVec S16 32) (v595 : IVec S16 32) (k0_hw102 : k0_chk102 v2 v595), ∀ a x, ((![v2, v595] : Fin 2 → IVec S16 32) a x).toNat < S16x128.size a := fun v2 v595 k0_hw102 => k0_hw102

def k0_chk103 (v232 : IVec S16 32) (v598 : IVec S16 32) : Prop :=
  (∀ a x, ((![v598, v232] : Fin 2 → IVec S16 32) a x).toNat < S8x1024.size a)
theorem k0_idx103_inb : ∀ (v232 : IVec S16 32) (v598 : IVec S16 32) (k0_hw103 : k0_chk103 v232 v598), ∀ a x, ((![v598, v232] : Fin 2 → IVec S16 32) a x).toNat < S8x1024.size a := fun v232 v598 k0_hw103 => k0_hw103

def k0_chk104 (v2 : IVec S16 32) (v600 : IVec S16 32) : Prop :=
  (∀ a x, ((![v2, v600] : Fin 2 → IVec S16 32) a x).toNat < S16x128.size a)
theorem k0_idx104_inb : ∀ (v2 : IVec S16 32) (v600 : IVec S16 32) (k0_hw104 : k0_chk104 v2 v600), ∀ a x, ((![v2, v600] : Fin 2 → IVec S16 32) a x).toNat < S16x128.size a := fun v2 v600 k0_hw104 => k0_hw104

def k0_chk105 (v232 : IVec S16 32) (v603 : IVec S16 32) : Prop :=
  (∀ a x, ((![v603, v232] : Fin 2 → IVec S16 32) a x).toNat < S8x1024.size a)
theorem k0_idx105_inb : ∀ (v232 : IVec S16 32) (v603 : IVec S16 32) (k0_hw105 : k0_chk105 v232 v603), ∀ a x, ((![v603, v232] : Fin 2 → IVec S16 32) a x).toNat < S8x1024.size a := fun v232 v603 k0_hw105 => k0_hw105

def k0_chk106 (v2 : IVec S16 32) (v605 : IVec S16 32) : Prop :=
  (∀ a x, ((![v2, v605] : Fin 2 → IVec S16 32) a x).toNat < S16x128.size a)
theorem k0_idx106_inb : ∀ (v2 : IVec S16 32) (v605 : IVec S16 32) (k0_hw106 : k0_chk106 v2 v605), ∀ a x, ((![v2, v605] : Fin 2 → IVec S16 32) a x).toNat < S16x128.size a := fun v2 v605 k0_hw106 => k0_hw106

def k0_chk107 (v232 : IVec S16 32) (v608 : IVec S16 32) : Prop :=
  (∀ a x, ((![v608, v232] : Fin 2 → IVec S16 32) a x).toNat < S8x1024.size a)
theorem k0_idx107_inb : ∀ (v232 : IVec S16 32) (v608 : IVec S16 32) (k0_hw107 : k0_chk107 v232 v608), ∀ a x, ((![v608, v232] : Fin 2 → IVec S16 32) a x).toNat < S8x1024.size a := fun v232 v608 k0_hw107 => k0_hw107

def k0_chk108 (v2 : IVec S16 32) (v610 : IVec S16 32) : Prop :=
  (∀ a x, ((![v2, v610] : Fin 2 → IVec S16 32) a x).toNat < S16x128.size a)
theorem k0_idx108_inb : ∀ (v2 : IVec S16 32) (v610 : IVec S16 32) (k0_hw108 : k0_chk108 v2 v610), ∀ a x, ((![v2, v610] : Fin 2 → IVec S16 32) a x).toNat < S16x128.size a := fun v2 v610 k0_hw108 => k0_hw108

def k0_chk109 (v232 : IVec S16 32) (v613 : IVec S16 32) : Prop :=
  (∀ a x, ((![v613, v232] : Fin 2 → IVec S16 32) a x).toNat < S8x1024.size a)
theorem k0_idx109_inb : ∀ (v232 : IVec S16 32) (v613 : IVec S16 32) (k0_hw109 : k0_chk109 v232 v613), ∀ a x, ((![v613, v232] : Fin 2 → IVec S16 32) a x).toNat < S8x1024.size a := fun v232 v613 k0_hw109 => k0_hw109

def k0_chk110 (v2 : IVec S16 32) (v615 : IVec S16 32) : Prop :=
  (∀ a x, ((![v2, v615] : Fin 2 → IVec S16 32) a x).toNat < S16x128.size a)
theorem k0_idx110_inb : ∀ (v2 : IVec S16 32) (v615 : IVec S16 32) (k0_hw110 : k0_chk110 v2 v615), ∀ a x, ((![v2, v615] : Fin 2 → IVec S16 32) a x).toNat < S16x128.size a := fun v2 v615 k0_hw110 => k0_hw110

def k0_chk111 (v232 : IVec S16 32) (v618 : IVec S16 32) : Prop :=
  (∀ a x, ((![v618, v232] : Fin 2 → IVec S16 32) a x).toNat < S8x1024.size a)
theorem k0_idx111_inb : ∀ (v232 : IVec S16 32) (v618 : IVec S16 32) (k0_hw111 : k0_chk111 v232 v618), ∀ a x, ((![v618, v232] : Fin 2 → IVec S16 32) a x).toNat < S8x1024.size a := fun v232 v618 k0_hw111 => k0_hw111

def k0_chk112 (v2 : IVec S16 32) (v620 : IVec S16 32) : Prop :=
  (∀ a x, ((![v2, v620] : Fin 2 → IVec S16 32) a x).toNat < S16x128.size a)
theorem k0_idx112_inb : ∀ (v2 : IVec S16 32) (v620 : IVec S16 32) (k0_hw112 : k0_chk112 v2 v620), ∀ a x, ((![v2, v620] : Fin 2 → IVec S16 32) a x).toNat < S16x128.size a := fun v2 v620 k0_hw112 => k0_hw112

def k0_chk113 (v232 : IVec S16 32) (v623 : IVec S16 32) : Prop :=
  (∀ a x, ((![v623, v232] : Fin 2 → IVec S16 32) a x).toNat < S8x1024.size a)
theorem k0_idx113_inb : ∀ (v232 : IVec S16 32) (v623 : IVec S16 32) (k0_hw113 : k0_chk113 v232 v623), ∀ a x, ((![v623, v232] : Fin 2 → IVec S16 32) a x).toNat < S8x1024.size a := fun v232 v623 k0_hw113 => k0_hw113
def k0_off9 (i : grid0.Coords) (c48_i32_246 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c88_i32 : BitVec 32 := 88#32
  let v241 : BitVec 32 := Scalar.muli v1 c88_i32
  let v624 : BitVec 32 := Scalar.addi v241 c48_i32_246
  let c0_i32_247 : BitVec 32 := 0#32
  ![v624.toNat, 0]

def k0_chk114 (v2 : IVec S16 32) (v640 : IVec S16 32) : Prop :=
  (∀ a x, ((![v2, v640] : Fin 2 → IVec S16 32) a x).toNat < S16x128.size a)
theorem k0_idx114_inb : ∀ (v2 : IVec S16 32) (v640 : IVec S16 32) (k0_hw114 : k0_chk114 v2 v640), ∀ a x, ((![v2, v640] : Fin 2 → IVec S16 32) a x).toNat < S16x128.size a := fun v2 v640 k0_hw114 => k0_hw114

def k0_chk115 (v232 : IVec S16 32) (v643 : IVec S16 32) : Prop :=
  (∀ a x, ((![v643, v232] : Fin 2 → IVec S16 32) a x).toNat < S8x1024.size a)
theorem k0_idx115_inb : ∀ (v232 : IVec S16 32) (v643 : IVec S16 32) (k0_hw115 : k0_chk115 v232 v643), ∀ a x, ((![v643, v232] : Fin 2 → IVec S16 32) a x).toNat < S8x1024.size a := fun v232 v643 k0_hw115 => k0_hw115

def k0_chk116 (v2 : IVec S16 32) (v645 : IVec S16 32) : Prop :=
  (∀ a x, ((![v2, v645] : Fin 2 → IVec S16 32) a x).toNat < S16x128.size a)
theorem k0_idx116_inb : ∀ (v2 : IVec S16 32) (v645 : IVec S16 32) (k0_hw116 : k0_chk116 v2 v645), ∀ a x, ((![v2, v645] : Fin 2 → IVec S16 32) a x).toNat < S16x128.size a := fun v2 v645 k0_hw116 => k0_hw116

def k0_chk117 (v232 : IVec S16 32) (v648 : IVec S16 32) : Prop :=
  (∀ a x, ((![v648, v232] : Fin 2 → IVec S16 32) a x).toNat < S8x1024.size a)
theorem k0_idx117_inb : ∀ (v232 : IVec S16 32) (v648 : IVec S16 32) (k0_hw117 : k0_chk117 v232 v648), ∀ a x, ((![v648, v232] : Fin 2 → IVec S16 32) a x).toNat < S8x1024.size a := fun v232 v648 k0_hw117 => k0_hw117

def k0_chk118 (v2 : IVec S16 32) (v650 : IVec S16 32) : Prop :=
  (∀ a x, ((![v2, v650] : Fin 2 → IVec S16 32) a x).toNat < S16x128.size a)
theorem k0_idx118_inb : ∀ (v2 : IVec S16 32) (v650 : IVec S16 32) (k0_hw118 : k0_chk118 v2 v650), ∀ a x, ((![v2, v650] : Fin 2 → IVec S16 32) a x).toNat < S16x128.size a := fun v2 v650 k0_hw118 => k0_hw118

def k0_chk119 (v232 : IVec S16 32) (v653 : IVec S16 32) : Prop :=
  (∀ a x, ((![v653, v232] : Fin 2 → IVec S16 32) a x).toNat < S8x1024.size a)
theorem k0_idx119_inb : ∀ (v232 : IVec S16 32) (v653 : IVec S16 32) (k0_hw119 : k0_chk119 v232 v653), ∀ a x, ((![v653, v232] : Fin 2 → IVec S16 32) a x).toNat < S8x1024.size a := fun v232 v653 k0_hw119 => k0_hw119

def k0_chk120 (v2 : IVec S16 32) (v655 : IVec S16 32) : Prop :=
  (∀ a x, ((![v2, v655] : Fin 2 → IVec S16 32) a x).toNat < S16x128.size a)
theorem k0_idx120_inb : ∀ (v2 : IVec S16 32) (v655 : IVec S16 32) (k0_hw120 : k0_chk120 v2 v655), ∀ a x, ((![v2, v655] : Fin 2 → IVec S16 32) a x).toNat < S16x128.size a := fun v2 v655 k0_hw120 => k0_hw120

def k0_chk121 (v232 : IVec S16 32) (v658 : IVec S16 32) : Prop :=
  (∀ a x, ((![v658, v232] : Fin 2 → IVec S16 32) a x).toNat < S8x1024.size a)
theorem k0_idx121_inb : ∀ (v232 : IVec S16 32) (v658 : IVec S16 32) (k0_hw121 : k0_chk121 v232 v658), ∀ a x, ((![v658, v232] : Fin 2 → IVec S16 32) a x).toNat < S8x1024.size a := fun v232 v658 k0_hw121 => k0_hw121

def k0_chk122 (v2 : IVec S16 32) (v660 : IVec S16 32) : Prop :=
  (∀ a x, ((![v2, v660] : Fin 2 → IVec S16 32) a x).toNat < S16x128.size a)
theorem k0_idx122_inb : ∀ (v2 : IVec S16 32) (v660 : IVec S16 32) (k0_hw122 : k0_chk122 v2 v660), ∀ a x, ((![v2, v660] : Fin 2 → IVec S16 32) a x).toNat < S16x128.size a := fun v2 v660 k0_hw122 => k0_hw122

def k0_chk123 (v232 : IVec S16 32) (v663 : IVec S16 32) : Prop :=
  (∀ a x, ((![v663, v232] : Fin 2 → IVec S16 32) a x).toNat < S8x1024.size a)
theorem k0_idx123_inb : ∀ (v232 : IVec S16 32) (v663 : IVec S16 32) (k0_hw123 : k0_chk123 v232 v663), ∀ a x, ((![v663, v232] : Fin 2 → IVec S16 32) a x).toNat < S8x1024.size a := fun v232 v663 k0_hw123 => k0_hw123

def k0_chk124 (v2 : IVec S16 32) (v665 : IVec S16 32) : Prop :=
  (∀ a x, ((![v2, v665] : Fin 2 → IVec S16 32) a x).toNat < S16x128.size a)
theorem k0_idx124_inb : ∀ (v2 : IVec S16 32) (v665 : IVec S16 32) (k0_hw124 : k0_chk124 v2 v665), ∀ a x, ((![v2, v665] : Fin 2 → IVec S16 32) a x).toNat < S16x128.size a := fun v2 v665 k0_hw124 => k0_hw124

def k0_chk125 (v232 : IVec S16 32) (v668 : IVec S16 32) : Prop :=
  (∀ a x, ((![v668, v232] : Fin 2 → IVec S16 32) a x).toNat < S8x1024.size a)
theorem k0_idx125_inb : ∀ (v232 : IVec S16 32) (v668 : IVec S16 32) (k0_hw125 : k0_chk125 v232 v668), ∀ a x, ((![v668, v232] : Fin 2 → IVec S16 32) a x).toNat < S8x1024.size a := fun v232 v668 k0_hw125 => k0_hw125

def k0_chk126 (v2 : IVec S16 32) (v670 : IVec S16 32) : Prop :=
  (∀ a x, ((![v2, v670] : Fin 2 → IVec S16 32) a x).toNat < S16x128.size a)
theorem k0_idx126_inb : ∀ (v2 : IVec S16 32) (v670 : IVec S16 32) (k0_hw126 : k0_chk126 v2 v670), ∀ a x, ((![v2, v670] : Fin 2 → IVec S16 32) a x).toNat < S16x128.size a := fun v2 v670 k0_hw126 => k0_hw126

def k0_chk127 (v232 : IVec S16 32) (v673 : IVec S16 32) : Prop :=
  (∀ a x, ((![v673, v232] : Fin 2 → IVec S16 32) a x).toNat < S8x1024.size a)
theorem k0_idx127_inb : ∀ (v232 : IVec S16 32) (v673 : IVec S16 32) (k0_hw127 : k0_chk127 v232 v673), ∀ a x, ((![v673, v232] : Fin 2 → IVec S16 32) a x).toNat < S8x1024.size a := fun v232 v673 k0_hw127 => k0_hw127

def k0_chk128 (v2 : IVec S16 32) (v675 : IVec S16 32) : Prop :=
  (∀ a x, ((![v2, v675] : Fin 2 → IVec S16 32) a x).toNat < S16x128.size a)
theorem k0_idx128_inb : ∀ (v2 : IVec S16 32) (v675 : IVec S16 32) (k0_hw128 : k0_chk128 v2 v675), ∀ a x, ((![v2, v675] : Fin 2 → IVec S16 32) a x).toNat < S16x128.size a := fun v2 v675 k0_hw128 => k0_hw128

def k0_chk129 (v232 : IVec S16 32) (v678 : IVec S16 32) : Prop :=
  (∀ a x, ((![v678, v232] : Fin 2 → IVec S16 32) a x).toNat < S8x1024.size a)
theorem k0_idx129_inb : ∀ (v232 : IVec S16 32) (v678 : IVec S16 32) (k0_hw129 : k0_chk129 v232 v678), ∀ a x, ((![v678, v232] : Fin 2 → IVec S16 32) a x).toNat < S8x1024.size a := fun v232 v678 k0_hw129 => k0_hw129
def k0_off10 (i : grid0.Coords) (c56_i32_274 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c88_i32 : BitVec 32 := 88#32
  let v241 : BitVec 32 := Scalar.muli v1 c88_i32
  let v679 : BitVec 32 := Scalar.addi v241 c56_i32_274
  let c0_i32_275 : BitVec 32 := 0#32
  ![v679.toNat, 0]

def k0_chk130 (v2 : IVec S16 32) (v695 : IVec S16 32) : Prop :=
  (∀ a x, ((![v2, v695] : Fin 2 → IVec S16 32) a x).toNat < S16x128.size a)
theorem k0_idx130_inb : ∀ (v2 : IVec S16 32) (v695 : IVec S16 32) (k0_hw130 : k0_chk130 v2 v695), ∀ a x, ((![v2, v695] : Fin 2 → IVec S16 32) a x).toNat < S16x128.size a := fun v2 v695 k0_hw130 => k0_hw130

def k0_chk131 (v232 : IVec S16 32) (v698 : IVec S16 32) : Prop :=
  (∀ a x, ((![v698, v232] : Fin 2 → IVec S16 32) a x).toNat < S8x1024.size a)
theorem k0_idx131_inb : ∀ (v232 : IVec S16 32) (v698 : IVec S16 32) (k0_hw131 : k0_chk131 v232 v698), ∀ a x, ((![v698, v232] : Fin 2 → IVec S16 32) a x).toNat < S8x1024.size a := fun v232 v698 k0_hw131 => k0_hw131

def k0_chk132 (v2 : IVec S16 32) (v700 : IVec S16 32) : Prop :=
  (∀ a x, ((![v2, v700] : Fin 2 → IVec S16 32) a x).toNat < S16x128.size a)
theorem k0_idx132_inb : ∀ (v2 : IVec S16 32) (v700 : IVec S16 32) (k0_hw132 : k0_chk132 v2 v700), ∀ a x, ((![v2, v700] : Fin 2 → IVec S16 32) a x).toNat < S16x128.size a := fun v2 v700 k0_hw132 => k0_hw132

def k0_chk133 (v232 : IVec S16 32) (v703 : IVec S16 32) : Prop :=
  (∀ a x, ((![v703, v232] : Fin 2 → IVec S16 32) a x).toNat < S8x1024.size a)
theorem k0_idx133_inb : ∀ (v232 : IVec S16 32) (v703 : IVec S16 32) (k0_hw133 : k0_chk133 v232 v703), ∀ a x, ((![v703, v232] : Fin 2 → IVec S16 32) a x).toNat < S8x1024.size a := fun v232 v703 k0_hw133 => k0_hw133

def k0_chk134 (v2 : IVec S16 32) (v705 : IVec S16 32) : Prop :=
  (∀ a x, ((![v2, v705] : Fin 2 → IVec S16 32) a x).toNat < S16x128.size a)
theorem k0_idx134_inb : ∀ (v2 : IVec S16 32) (v705 : IVec S16 32) (k0_hw134 : k0_chk134 v2 v705), ∀ a x, ((![v2, v705] : Fin 2 → IVec S16 32) a x).toNat < S16x128.size a := fun v2 v705 k0_hw134 => k0_hw134

def k0_chk135 (v232 : IVec S16 32) (v708 : IVec S16 32) : Prop :=
  (∀ a x, ((![v708, v232] : Fin 2 → IVec S16 32) a x).toNat < S8x1024.size a)
theorem k0_idx135_inb : ∀ (v232 : IVec S16 32) (v708 : IVec S16 32) (k0_hw135 : k0_chk135 v232 v708), ∀ a x, ((![v708, v232] : Fin 2 → IVec S16 32) a x).toNat < S8x1024.size a := fun v232 v708 k0_hw135 => k0_hw135

def k0_chk136 (v2 : IVec S16 32) (v710 : IVec S16 32) : Prop :=
  (∀ a x, ((![v2, v710] : Fin 2 → IVec S16 32) a x).toNat < S16x128.size a)
theorem k0_idx136_inb : ∀ (v2 : IVec S16 32) (v710 : IVec S16 32) (k0_hw136 : k0_chk136 v2 v710), ∀ a x, ((![v2, v710] : Fin 2 → IVec S16 32) a x).toNat < S16x128.size a := fun v2 v710 k0_hw136 => k0_hw136

def k0_chk137 (v232 : IVec S16 32) (v713 : IVec S16 32) : Prop :=
  (∀ a x, ((![v713, v232] : Fin 2 → IVec S16 32) a x).toNat < S8x1024.size a)
theorem k0_idx137_inb : ∀ (v232 : IVec S16 32) (v713 : IVec S16 32) (k0_hw137 : k0_chk137 v232 v713), ∀ a x, ((![v713, v232] : Fin 2 → IVec S16 32) a x).toNat < S8x1024.size a := fun v232 v713 k0_hw137 => k0_hw137

def k0_chk138 (v2 : IVec S16 32) (v715 : IVec S16 32) : Prop :=
  (∀ a x, ((![v2, v715] : Fin 2 → IVec S16 32) a x).toNat < S16x128.size a)
theorem k0_idx138_inb : ∀ (v2 : IVec S16 32) (v715 : IVec S16 32) (k0_hw138 : k0_chk138 v2 v715), ∀ a x, ((![v2, v715] : Fin 2 → IVec S16 32) a x).toNat < S16x128.size a := fun v2 v715 k0_hw138 => k0_hw138

def k0_chk139 (v232 : IVec S16 32) (v718 : IVec S16 32) : Prop :=
  (∀ a x, ((![v718, v232] : Fin 2 → IVec S16 32) a x).toNat < S8x1024.size a)
theorem k0_idx139_inb : ∀ (v232 : IVec S16 32) (v718 : IVec S16 32) (k0_hw139 : k0_chk139 v232 v718), ∀ a x, ((![v718, v232] : Fin 2 → IVec S16 32) a x).toNat < S8x1024.size a := fun v232 v718 k0_hw139 => k0_hw139

def k0_chk140 (v2 : IVec S16 32) (v720 : IVec S16 32) : Prop :=
  (∀ a x, ((![v2, v720] : Fin 2 → IVec S16 32) a x).toNat < S16x128.size a)
theorem k0_idx140_inb : ∀ (v2 : IVec S16 32) (v720 : IVec S16 32) (k0_hw140 : k0_chk140 v2 v720), ∀ a x, ((![v2, v720] : Fin 2 → IVec S16 32) a x).toNat < S16x128.size a := fun v2 v720 k0_hw140 => k0_hw140

def k0_chk141 (v232 : IVec S16 32) (v723 : IVec S16 32) : Prop :=
  (∀ a x, ((![v723, v232] : Fin 2 → IVec S16 32) a x).toNat < S8x1024.size a)
theorem k0_idx141_inb : ∀ (v232 : IVec S16 32) (v723 : IVec S16 32) (k0_hw141 : k0_chk141 v232 v723), ∀ a x, ((![v723, v232] : Fin 2 → IVec S16 32) a x).toNat < S8x1024.size a := fun v232 v723 k0_hw141 => k0_hw141

def k0_chk142 (v2 : IVec S16 32) (v725 : IVec S16 32) : Prop :=
  (∀ a x, ((![v2, v725] : Fin 2 → IVec S16 32) a x).toNat < S16x128.size a)
theorem k0_idx142_inb : ∀ (v2 : IVec S16 32) (v725 : IVec S16 32) (k0_hw142 : k0_chk142 v2 v725), ∀ a x, ((![v2, v725] : Fin 2 → IVec S16 32) a x).toNat < S16x128.size a := fun v2 v725 k0_hw142 => k0_hw142

def k0_chk143 (v232 : IVec S16 32) (v728 : IVec S16 32) : Prop :=
  (∀ a x, ((![v728, v232] : Fin 2 → IVec S16 32) a x).toNat < S8x1024.size a)
theorem k0_idx143_inb : ∀ (v232 : IVec S16 32) (v728 : IVec S16 32) (k0_hw143 : k0_chk143 v232 v728), ∀ a x, ((![v728, v232] : Fin 2 → IVec S16 32) a x).toNat < S8x1024.size a := fun v232 v728 k0_hw143 => k0_hw143

def k0_chk144 (v2 : IVec S16 32) (v730 : IVec S16 32) : Prop :=
  (∀ a x, ((![v2, v730] : Fin 2 → IVec S16 32) a x).toNat < S16x128.size a)
theorem k0_idx144_inb : ∀ (v2 : IVec S16 32) (v730 : IVec S16 32) (k0_hw144 : k0_chk144 v2 v730), ∀ a x, ((![v2, v730] : Fin 2 → IVec S16 32) a x).toNat < S16x128.size a := fun v2 v730 k0_hw144 => k0_hw144

def k0_chk145 (v232 : IVec S16 32) (v733 : IVec S16 32) : Prop :=
  (∀ a x, ((![v733, v232] : Fin 2 → IVec S16 32) a x).toNat < S8x1024.size a)
theorem k0_idx145_inb : ∀ (v232 : IVec S16 32) (v733 : IVec S16 32) (k0_hw145 : k0_chk145 v232 v733), ∀ a x, ((![v733, v232] : Fin 2 → IVec S16 32) a x).toNat < S8x1024.size a := fun v232 v733 k0_hw145 => k0_hw145
def k0_off11 (i : grid0.Coords) (c64_i32_302 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c88_i32 : BitVec 32 := 88#32
  let v241 : BitVec 32 := Scalar.muli v1 c88_i32
  let v734 : BitVec 32 := Scalar.addi v241 c64_i32_302
  let c0_i32_303 : BitVec 32 := 0#32
  ![v734.toNat, 0]

def k0_chk146 (v2 : IVec S16 32) (v750 : IVec S16 32) : Prop :=
  (∀ a x, ((![v2, v750] : Fin 2 → IVec S16 32) a x).toNat < S16x128.size a)
theorem k0_idx146_inb : ∀ (v2 : IVec S16 32) (v750 : IVec S16 32) (k0_hw146 : k0_chk146 v2 v750), ∀ a x, ((![v2, v750] : Fin 2 → IVec S16 32) a x).toNat < S16x128.size a := fun v2 v750 k0_hw146 => k0_hw146

def k0_chk147 (v232 : IVec S16 32) (v753 : IVec S16 32) : Prop :=
  (∀ a x, ((![v753, v232] : Fin 2 → IVec S16 32) a x).toNat < S8x1024.size a)
theorem k0_idx147_inb : ∀ (v232 : IVec S16 32) (v753 : IVec S16 32) (k0_hw147 : k0_chk147 v232 v753), ∀ a x, ((![v753, v232] : Fin 2 → IVec S16 32) a x).toNat < S8x1024.size a := fun v232 v753 k0_hw147 => k0_hw147

def k0_chk148 (v2 : IVec S16 32) (v755 : IVec S16 32) : Prop :=
  (∀ a x, ((![v2, v755] : Fin 2 → IVec S16 32) a x).toNat < S16x128.size a)
theorem k0_idx148_inb : ∀ (v2 : IVec S16 32) (v755 : IVec S16 32) (k0_hw148 : k0_chk148 v2 v755), ∀ a x, ((![v2, v755] : Fin 2 → IVec S16 32) a x).toNat < S16x128.size a := fun v2 v755 k0_hw148 => k0_hw148

def k0_chk149 (v232 : IVec S16 32) (v758 : IVec S16 32) : Prop :=
  (∀ a x, ((![v758, v232] : Fin 2 → IVec S16 32) a x).toNat < S8x1024.size a)
theorem k0_idx149_inb : ∀ (v232 : IVec S16 32) (v758 : IVec S16 32) (k0_hw149 : k0_chk149 v232 v758), ∀ a x, ((![v758, v232] : Fin 2 → IVec S16 32) a x).toNat < S8x1024.size a := fun v232 v758 k0_hw149 => k0_hw149

def k0_chk150 (v2 : IVec S16 32) (v760 : IVec S16 32) : Prop :=
  (∀ a x, ((![v2, v760] : Fin 2 → IVec S16 32) a x).toNat < S16x128.size a)
theorem k0_idx150_inb : ∀ (v2 : IVec S16 32) (v760 : IVec S16 32) (k0_hw150 : k0_chk150 v2 v760), ∀ a x, ((![v2, v760] : Fin 2 → IVec S16 32) a x).toNat < S16x128.size a := fun v2 v760 k0_hw150 => k0_hw150

def k0_chk151 (v232 : IVec S16 32) (v763 : IVec S16 32) : Prop :=
  (∀ a x, ((![v763, v232] : Fin 2 → IVec S16 32) a x).toNat < S8x1024.size a)
theorem k0_idx151_inb : ∀ (v232 : IVec S16 32) (v763 : IVec S16 32) (k0_hw151 : k0_chk151 v232 v763), ∀ a x, ((![v763, v232] : Fin 2 → IVec S16 32) a x).toNat < S8x1024.size a := fun v232 v763 k0_hw151 => k0_hw151

def k0_chk152 (v2 : IVec S16 32) (v765 : IVec S16 32) : Prop :=
  (∀ a x, ((![v2, v765] : Fin 2 → IVec S16 32) a x).toNat < S16x128.size a)
theorem k0_idx152_inb : ∀ (v2 : IVec S16 32) (v765 : IVec S16 32) (k0_hw152 : k0_chk152 v2 v765), ∀ a x, ((![v2, v765] : Fin 2 → IVec S16 32) a x).toNat < S16x128.size a := fun v2 v765 k0_hw152 => k0_hw152

def k0_chk153 (v232 : IVec S16 32) (v768 : IVec S16 32) : Prop :=
  (∀ a x, ((![v768, v232] : Fin 2 → IVec S16 32) a x).toNat < S8x1024.size a)
theorem k0_idx153_inb : ∀ (v232 : IVec S16 32) (v768 : IVec S16 32) (k0_hw153 : k0_chk153 v232 v768), ∀ a x, ((![v768, v232] : Fin 2 → IVec S16 32) a x).toNat < S8x1024.size a := fun v232 v768 k0_hw153 => k0_hw153

def k0_chk154 (v2 : IVec S16 32) (v770 : IVec S16 32) : Prop :=
  (∀ a x, ((![v2, v770] : Fin 2 → IVec S16 32) a x).toNat < S16x128.size a)
theorem k0_idx154_inb : ∀ (v2 : IVec S16 32) (v770 : IVec S16 32) (k0_hw154 : k0_chk154 v2 v770), ∀ a x, ((![v2, v770] : Fin 2 → IVec S16 32) a x).toNat < S16x128.size a := fun v2 v770 k0_hw154 => k0_hw154

def k0_chk155 (v232 : IVec S16 32) (v773 : IVec S16 32) : Prop :=
  (∀ a x, ((![v773, v232] : Fin 2 → IVec S16 32) a x).toNat < S8x1024.size a)
theorem k0_idx155_inb : ∀ (v232 : IVec S16 32) (v773 : IVec S16 32) (k0_hw155 : k0_chk155 v232 v773), ∀ a x, ((![v773, v232] : Fin 2 → IVec S16 32) a x).toNat < S8x1024.size a := fun v232 v773 k0_hw155 => k0_hw155

def k0_chk156 (v2 : IVec S16 32) (v775 : IVec S16 32) : Prop :=
  (∀ a x, ((![v2, v775] : Fin 2 → IVec S16 32) a x).toNat < S16x128.size a)
theorem k0_idx156_inb : ∀ (v2 : IVec S16 32) (v775 : IVec S16 32) (k0_hw156 : k0_chk156 v2 v775), ∀ a x, ((![v2, v775] : Fin 2 → IVec S16 32) a x).toNat < S16x128.size a := fun v2 v775 k0_hw156 => k0_hw156

def k0_chk157 (v232 : IVec S16 32) (v778 : IVec S16 32) : Prop :=
  (∀ a x, ((![v778, v232] : Fin 2 → IVec S16 32) a x).toNat < S8x1024.size a)
theorem k0_idx157_inb : ∀ (v232 : IVec S16 32) (v778 : IVec S16 32) (k0_hw157 : k0_chk157 v232 v778), ∀ a x, ((![v778, v232] : Fin 2 → IVec S16 32) a x).toNat < S8x1024.size a := fun v232 v778 k0_hw157 => k0_hw157

def k0_chk158 (v2 : IVec S16 32) (v780 : IVec S16 32) : Prop :=
  (∀ a x, ((![v2, v780] : Fin 2 → IVec S16 32) a x).toNat < S16x128.size a)
theorem k0_idx158_inb : ∀ (v2 : IVec S16 32) (v780 : IVec S16 32) (k0_hw158 : k0_chk158 v2 v780), ∀ a x, ((![v2, v780] : Fin 2 → IVec S16 32) a x).toNat < S16x128.size a := fun v2 v780 k0_hw158 => k0_hw158

def k0_chk159 (v232 : IVec S16 32) (v783 : IVec S16 32) : Prop :=
  (∀ a x, ((![v783, v232] : Fin 2 → IVec S16 32) a x).toNat < S8x1024.size a)
theorem k0_idx159_inb : ∀ (v232 : IVec S16 32) (v783 : IVec S16 32) (k0_hw159 : k0_chk159 v232 v783), ∀ a x, ((![v783, v232] : Fin 2 → IVec S16 32) a x).toNat < S8x1024.size a := fun v232 v783 k0_hw159 => k0_hw159

def k0_chk160 (v2 : IVec S16 32) (v785 : IVec S16 32) : Prop :=
  (∀ a x, ((![v2, v785] : Fin 2 → IVec S16 32) a x).toNat < S16x128.size a)
theorem k0_idx160_inb : ∀ (v2 : IVec S16 32) (v785 : IVec S16 32) (k0_hw160 : k0_chk160 v2 v785), ∀ a x, ((![v2, v785] : Fin 2 → IVec S16 32) a x).toNat < S16x128.size a := fun v2 v785 k0_hw160 => k0_hw160

def k0_chk161 (v232 : IVec S16 32) (v788 : IVec S16 32) : Prop :=
  (∀ a x, ((![v788, v232] : Fin 2 → IVec S16 32) a x).toNat < S8x1024.size a)
theorem k0_idx161_inb : ∀ (v232 : IVec S16 32) (v788 : IVec S16 32) (k0_hw161 : k0_chk161 v232 v788), ∀ a x, ((![v788, v232] : Fin 2 → IVec S16 32) a x).toNat < S8x1024.size a := fun v232 v788 k0_hw161 => k0_hw161
def k0_off12 (i : grid0.Coords) (c72_i32_330 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c88_i32 : BitVec 32 := 88#32
  let v241 : BitVec 32 := Scalar.muli v1 c88_i32
  let v789 : BitVec 32 := Scalar.addi v241 c72_i32_330
  let c0_i32_331 : BitVec 32 := 0#32
  ![v789.toNat, 0]

def k0_chk162 (v2 : IVec S16 32) (v802 : IVec S16 32) : Prop :=
  (∀ a x, ((![v2, v802] : Fin 2 → IVec S16 32) a x).toNat < S16x128.size a)
theorem k0_idx162_inb : ∀ (v2 : IVec S16 32) (v802 : IVec S16 32) (k0_hw162 : k0_chk162 v2 v802), ∀ a x, ((![v2, v802] : Fin 2 → IVec S16 32) a x).toNat < S16x128.size a := fun v2 v802 k0_hw162 => k0_hw162

def k0_chk163 (v232 : IVec S16 32) (v805 : IVec S16 32) : Prop :=
  (∀ a x, ((![v805, v232] : Fin 2 → IVec S16 32) a x).toNat < S8x1024.size a)
theorem k0_idx163_inb : ∀ (v232 : IVec S16 32) (v805 : IVec S16 32) (k0_hw163 : k0_chk163 v232 v805), ∀ a x, ((![v805, v232] : Fin 2 → IVec S16 32) a x).toNat < S8x1024.size a := fun v232 v805 k0_hw163 => k0_hw163

def k0_chk164 (v2 : IVec S16 32) (v807 : IVec S16 32) : Prop :=
  (∀ a x, ((![v2, v807] : Fin 2 → IVec S16 32) a x).toNat < S16x128.size a)
theorem k0_idx164_inb : ∀ (v2 : IVec S16 32) (v807 : IVec S16 32) (k0_hw164 : k0_chk164 v2 v807), ∀ a x, ((![v2, v807] : Fin 2 → IVec S16 32) a x).toNat < S16x128.size a := fun v2 v807 k0_hw164 => k0_hw164

def k0_chk165 (v232 : IVec S16 32) (v810 : IVec S16 32) : Prop :=
  (∀ a x, ((![v810, v232] : Fin 2 → IVec S16 32) a x).toNat < S8x1024.size a)
theorem k0_idx165_inb : ∀ (v232 : IVec S16 32) (v810 : IVec S16 32) (k0_hw165 : k0_chk165 v232 v810), ∀ a x, ((![v810, v232] : Fin 2 → IVec S16 32) a x).toNat < S8x1024.size a := fun v232 v810 k0_hw165 => k0_hw165

def k0_chk166 (v2 : IVec S16 32) (v812 : IVec S16 32) : Prop :=
  (∀ a x, ((![v2, v812] : Fin 2 → IVec S16 32) a x).toNat < S16x128.size a)
theorem k0_idx166_inb : ∀ (v2 : IVec S16 32) (v812 : IVec S16 32) (k0_hw166 : k0_chk166 v2 v812), ∀ a x, ((![v2, v812] : Fin 2 → IVec S16 32) a x).toNat < S16x128.size a := fun v2 v812 k0_hw166 => k0_hw166

def k0_chk167 (v232 : IVec S16 32) (v815 : IVec S16 32) : Prop :=
  (∀ a x, ((![v815, v232] : Fin 2 → IVec S16 32) a x).toNat < S8x1024.size a)
theorem k0_idx167_inb : ∀ (v232 : IVec S16 32) (v815 : IVec S16 32) (k0_hw167 : k0_chk167 v232 v815), ∀ a x, ((![v815, v232] : Fin 2 → IVec S16 32) a x).toNat < S8x1024.size a := fun v232 v815 k0_hw167 => k0_hw167

def k0_chk168 (v2 : IVec S16 32) (v817 : IVec S16 32) : Prop :=
  (∀ a x, ((![v2, v817] : Fin 2 → IVec S16 32) a x).toNat < S16x128.size a)
theorem k0_idx168_inb : ∀ (v2 : IVec S16 32) (v817 : IVec S16 32) (k0_hw168 : k0_chk168 v2 v817), ∀ a x, ((![v2, v817] : Fin 2 → IVec S16 32) a x).toNat < S16x128.size a := fun v2 v817 k0_hw168 => k0_hw168

def k0_chk169 (v232 : IVec S16 32) (v820 : IVec S16 32) : Prop :=
  (∀ a x, ((![v820, v232] : Fin 2 → IVec S16 32) a x).toNat < S8x1024.size a)
theorem k0_idx169_inb : ∀ (v232 : IVec S16 32) (v820 : IVec S16 32) (k0_hw169 : k0_chk169 v232 v820), ∀ a x, ((![v820, v232] : Fin 2 → IVec S16 32) a x).toNat < S8x1024.size a := fun v232 v820 k0_hw169 => k0_hw169

def k0_chk170 (v2 : IVec S16 32) (v822 : IVec S16 32) : Prop :=
  (∀ a x, ((![v2, v822] : Fin 2 → IVec S16 32) a x).toNat < S16x128.size a)
theorem k0_idx170_inb : ∀ (v2 : IVec S16 32) (v822 : IVec S16 32) (k0_hw170 : k0_chk170 v2 v822), ∀ a x, ((![v2, v822] : Fin 2 → IVec S16 32) a x).toNat < S16x128.size a := fun v2 v822 k0_hw170 => k0_hw170

def k0_chk171 (v232 : IVec S16 32) (v825 : IVec S16 32) : Prop :=
  (∀ a x, ((![v825, v232] : Fin 2 → IVec S16 32) a x).toNat < S8x1024.size a)
theorem k0_idx171_inb : ∀ (v232 : IVec S16 32) (v825 : IVec S16 32) (k0_hw171 : k0_chk171 v232 v825), ∀ a x, ((![v825, v232] : Fin 2 → IVec S16 32) a x).toNat < S8x1024.size a := fun v232 v825 k0_hw171 => k0_hw171

def k0_chk172 (v2 : IVec S16 32) (v827 : IVec S16 32) : Prop :=
  (∀ a x, ((![v2, v827] : Fin 2 → IVec S16 32) a x).toNat < S16x128.size a)
theorem k0_idx172_inb : ∀ (v2 : IVec S16 32) (v827 : IVec S16 32) (k0_hw172 : k0_chk172 v2 v827), ∀ a x, ((![v2, v827] : Fin 2 → IVec S16 32) a x).toNat < S16x128.size a := fun v2 v827 k0_hw172 => k0_hw172

def k0_chk173 (v232 : IVec S16 32) (v830 : IVec S16 32) : Prop :=
  (∀ a x, ((![v830, v232] : Fin 2 → IVec S16 32) a x).toNat < S8x1024.size a)
theorem k0_idx173_inb : ∀ (v232 : IVec S16 32) (v830 : IVec S16 32) (k0_hw173 : k0_chk173 v232 v830), ∀ a x, ((![v830, v232] : Fin 2 → IVec S16 32) a x).toNat < S8x1024.size a := fun v232 v830 k0_hw173 => k0_hw173

def k0_chk174 (v2 : IVec S16 32) (v832 : IVec S16 32) : Prop :=
  (∀ a x, ((![v2, v832] : Fin 2 → IVec S16 32) a x).toNat < S16x128.size a)
theorem k0_idx174_inb : ∀ (v2 : IVec S16 32) (v832 : IVec S16 32) (k0_hw174 : k0_chk174 v2 v832), ∀ a x, ((![v2, v832] : Fin 2 → IVec S16 32) a x).toNat < S16x128.size a := fun v2 v832 k0_hw174 => k0_hw174

def k0_chk175 (v232 : IVec S16 32) (v835 : IVec S16 32) : Prop :=
  (∀ a x, ((![v835, v232] : Fin 2 → IVec S16 32) a x).toNat < S8x1024.size a)
theorem k0_idx175_inb : ∀ (v232 : IVec S16 32) (v835 : IVec S16 32) (k0_hw175 : k0_chk175 v232 v835), ∀ a x, ((![v835, v232] : Fin 2 → IVec S16 32) a x).toNat < S8x1024.size a := fun v232 v835 k0_hw175 => k0_hw175

def k0_chk176 (v2 : IVec S16 32) (v837 : IVec S16 32) : Prop :=
  (∀ a x, ((![v2, v837] : Fin 2 → IVec S16 32) a x).toNat < S16x128.size a)
theorem k0_idx176_inb : ∀ (v2 : IVec S16 32) (v837 : IVec S16 32) (k0_hw176 : k0_chk176 v2 v837), ∀ a x, ((![v2, v837] : Fin 2 → IVec S16 32) a x).toNat < S16x128.size a := fun v2 v837 k0_hw176 => k0_hw176

def k0_chk177 (v232 : IVec S16 32) (v840 : IVec S16 32) : Prop :=
  (∀ a x, ((![v840, v232] : Fin 2 → IVec S16 32) a x).toNat < S8x1024.size a)
theorem k0_idx177_inb : ∀ (v232 : IVec S16 32) (v840 : IVec S16 32) (k0_hw177 : k0_chk177 v232 v840), ∀ a x, ((![v840, v232] : Fin 2 → IVec S16 32) a x).toNat < S8x1024.size a := fun v232 v840 k0_hw177 => k0_hw177
def k0_off13 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c88_i32 : BitVec 32 := 88#32
  let v241 : BitVec 32 := Scalar.muli v1 c88_i32
  let c80_i32_356 : BitVec 32 := 80#32
  let v841 : BitVec 32 := Scalar.addi v241 c80_i32_356
  let c0_i32_357 : BitVec 32 := 0#32
  ![v841.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x128 : Shape := ⟨2, ![16, 128]⟩
abbrev S16 : Shape := ⟨1, ![16]⟩
abbrev S22x128x1024 : Shape := ⟨3, ![22, 128, 1024]⟩
abbrev S22 : Shape := ⟨1, ![22]⟩
abbrev S16x1 : Shape := ⟨2, ![16, 1]⟩
abbrev S1x16 : Shape := ⟨2, ![1, 16]⟩
abbrev S16x16 : Shape := ⟨2, ![16, 16]⟩
abbrev S_ : Shape := ⟨0, ![]⟩
abbrev S16x2 : Shape := ⟨2, ![16, 2]⟩

abbrev nBuf : Space → Nat
  | .hbm => 114
  | .vmem => 0
  | .smem => 0
  | _ => 0

abbrev bufTy : (tb : Table) → Fin (tcTables nBuf tb) → BufTy
  | .hbm, ⟨0, _⟩ => ⟨S16x128, .f32⟩
  | .hbm, ⟨1, _⟩ => ⟨S16, .i32⟩
  | .hbm, ⟨2, _⟩ => ⟨S22x128x1024, .f32⟩
  | .hbm, ⟨3, _⟩ => ⟨S22, .i32⟩
  | .hbm, ⟨4, _⟩ => ⟨S16x1, .i32⟩
  | .hbm, ⟨5, _⟩ => ⟨S1x16, .i32⟩
  | .hbm, ⟨6, _⟩ => ⟨S16x16, .i32⟩
  | .hbm, ⟨7, _⟩ => ⟨S16x16, .i32⟩
  | .hbm, ⟨8, _⟩ => ⟨S16x16, .i1⟩
  | .hbm, ⟨9, _⟩ => ⟨S_, .i1⟩
  | .hbm, ⟨10, _⟩ => ⟨S16x16, .i1⟩
  | .hbm, ⟨11, _⟩ => ⟨S16x16, .i32⟩
  | .hbm, ⟨12, _⟩ => ⟨S_, .i32⟩
  | .hbm, ⟨13, _⟩ => ⟨S16x16, .i32⟩
  | .hbm, ⟨14, _⟩ => ⟨S16x16, .i32⟩
  | .hbm, ⟨15, _⟩ => ⟨S16x16, .i32⟩
  | .hbm, ⟨16, _⟩ => ⟨S16x16, .i1⟩
  | .hbm, ⟨17, _⟩ => ⟨S_, .i1⟩
  | .hbm, ⟨18, _⟩ => ⟨S16x16, .i1⟩
  | .hbm, ⟨19, _⟩ => ⟨S16x16, .i1⟩
  | .hbm, ⟨20, _⟩ => ⟨S16x16, .i1⟩
  | .hbm, ⟨21, _⟩ => ⟨S16x16, .i32⟩
  | .hbm, ⟨22, _⟩ => ⟨S_, .i32⟩
  | .hbm, ⟨23, _⟩ => ⟨S16, .i32⟩
  | .hbm, ⟨24, _⟩ => ⟨S_, .i32⟩
  | .hbm, ⟨25, _⟩ => ⟨S16, .i32⟩
  | .hbm, ⟨26, _⟩ => ⟨S16, .i1⟩
  | .hbm, ⟨27, _⟩ => ⟨S_, .i32⟩
  | .hbm, ⟨28, _⟩ => ⟨S16, .i32⟩
  | .hbm, ⟨29, _⟩ => ⟨S16, .i32⟩
  | .hbm, ⟨30, _⟩ => ⟨S16, .i32⟩
  | .hbm, ⟨31, _⟩ => ⟨S16x1, .i32⟩
  | .hbm, ⟨32, _⟩ => ⟨S16, .i32⟩
  | .hbm, ⟨33, _⟩ => ⟨S16, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S_, .i32⟩
  | .hbm, ⟨40, _⟩ => ⟨S16, .i32⟩
  | .hbm, ⟨41, _⟩ => ⟨S16, .i32⟩
  | .hbm, ⟨42, _⟩ => ⟨S_, .i32⟩
  | .hbm, ⟨43, _⟩ => ⟨S16, .i32⟩
  | .hbm, ⟨44, _⟩ => ⟨S16, .i1⟩
  | .hbm, ⟨45, _⟩ => ⟨S_, .i32⟩
  | .hbm, ⟨46, _⟩ => ⟨S16, .i32⟩
  | .hbm, ⟨47, _⟩ => ⟨S16, .i1⟩
  | .hbm, ⟨48, _⟩ => ⟨S_, .i32⟩
  | .hbm, ⟨49, _⟩ => ⟨S_, .i1⟩
  | .hbm, ⟨50, _⟩ => ⟨S16, .i1⟩
  | .hbm, ⟨51, _⟩ => ⟨S16, .i1⟩
  | .hbm, ⟨52, _⟩ => ⟨S16, .i1⟩
  | .hbm, ⟨53, _⟩ => ⟨S16, .i32⟩
  | .hbm, ⟨54, _⟩ => ⟨S16, .i32⟩
  | .hbm, ⟨55, _⟩ => ⟨S16, .i32⟩
  | .hbm, ⟨56, _⟩ => ⟨S_, .i32⟩
  | .hbm, ⟨57, _⟩ => ⟨S16, .i32⟩
  | .hbm, ⟨58, _⟩ => ⟨S16, .i1⟩
  | .hbm, ⟨59, _⟩ => ⟨S_, .i32⟩
  | .hbm, ⟨60, _⟩ => ⟨S16, .i32⟩
  | .hbm, ⟨61, _⟩ => ⟨S16, .i32⟩
  | .hbm, ⟨62, _⟩ => ⟨S16, .i32⟩
  | .hbm, ⟨63, _⟩ => ⟨S_, .i32⟩
  | .hbm, ⟨64, _⟩ => ⟨S16, .i32⟩
  | .hbm, ⟨65, _⟩ => ⟨S16, .i1⟩
  | .hbm, ⟨66, _⟩ => ⟨S_, .i32⟩
  | .hbm, ⟨67, _⟩ => ⟨S16, .i32⟩
  | .hbm, ⟨68, _⟩ => ⟨S16, .i32⟩
  | .hbm, ⟨69, _⟩ => ⟨S16, .i32⟩
  | .hbm, ⟨70, _⟩ => ⟨S16x1, .i32⟩
  | .hbm, ⟨71, _⟩ => ⟨S16x1, .i32⟩
  | .hbm, ⟨72, _⟩ => ⟨S16x2, .i32⟩
  | .hbm, ⟨73, _⟩ => ⟨S22x128x1024, .f32⟩
  | .hbm, ⟨74, _⟩ => ⟨S_, .i32⟩
  | .hbm, ⟨75, _⟩ => ⟨S22, .i32⟩
  | .hbm, ⟨76, _⟩ => ⟨S_, .i32⟩
  | .hbm, ⟨77, _⟩ => ⟨S_, .i32⟩
  | .hbm, ⟨78, _⟩ => ⟨S16, .i32⟩
  | .hbm, ⟨79, _⟩ => ⟨S16, .i32⟩
  | .hbm, ⟨80, _⟩ => ⟨S_, .i32⟩
  | .hbm, ⟨81, _⟩ => ⟨S16, .i32⟩
  | .hbm, ⟨82, _⟩ => ⟨S16, .i1⟩
  | .hbm, ⟨83, _⟩ => ⟨S_, .i32⟩
  | .hbm, ⟨84, _⟩ => ⟨S16, .i32⟩
  | .hbm, ⟨85, _⟩ => ⟨S16, .i32⟩
  | .hbm, ⟨86, _⟩ => ⟨S16, .i32⟩
  | .hbm, ⟨87, _⟩ => ⟨S16x1, .i32⟩
  | .hbm, ⟨88, _⟩ => ⟨S_, .i32⟩
  | .hbm, ⟨89, _⟩ => ⟨S16, .i32⟩
  | .hbm, ⟨90, _⟩ => ⟨S22, .i32⟩
  | .hbm, ⟨91, _⟩ => ⟨S22, .i32⟩
  | .hbm, ⟨92, _⟩ => ⟨S_, .i32⟩
  | .hbm, ⟨93, _⟩ => ⟨S_, .i32⟩
  | .hbm, ⟨94, _⟩ => ⟨S_, .i32⟩
  | .hbm, ⟨95, _⟩ => ⟨S_, .i1⟩
  | .hbm, ⟨96, _⟩ => ⟨S_, .i32⟩
  | .hbm, ⟨97, _⟩ => ⟨S_, .i32⟩
  | .hbm, ⟨98, _⟩ => ⟨S22, .i32⟩
  | .hbm, ⟨99, _⟩ => ⟨S22, .i32⟩
  | .hbm, ⟨100, _⟩ => ⟨S_, .i32⟩
  | .hbm, ⟨101, _⟩ => ⟨S22, .i32⟩
  | .hbm, ⟨102, _⟩ => ⟨S22, .i1⟩
  | .hbm, ⟨103, _⟩ => ⟨S_, .i32⟩
  | .hbm, ⟨104, _⟩ => ⟨S22, .i32⟩
  | .hbm, ⟨105, _⟩ => ⟨S22, .i1⟩
  | .hbm, ⟨106, _⟩ => ⟨S_, .i32⟩
  | .hbm, ⟨107, _⟩ => ⟨S_, .i1⟩
  | .hbm, ⟨108, _⟩ => ⟨S22, .i1⟩
  | .hbm, ⟨109, _⟩ => ⟨S22, .i1⟩
  | .hbm, ⟨110, _⟩ => ⟨S22, .i1⟩
  | .hbm, ⟨111, _⟩ => ⟨S22, .i32⟩
  | .hbm, ⟨112, _⟩ => ⟨S22, .i32⟩
  | .hbm, ⟨113, _⟩ => ⟨S22, .i32⟩
  | _, _ => ⟨S16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_0 : Ref sig .tc := ⟨.hbm, 17, rfl⟩
abbrev main_call0_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_0 : Ref sig .tc := ⟨.hbm, 22, rfl⟩
abbrev main_v9 : Ref sig .tc := ⟨.hbm, 23, rfl⟩
abbrev main_c_1 : Ref sig .tc := ⟨.hbm, 24, rfl⟩
abbrev main_v10 : Ref sig .tc := ⟨.hbm, 25, rfl⟩
abbrev main_v11 : Ref sig .tc := ⟨.hbm, 26, rfl⟩
abbrev main_c_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_call1_v0 : Ref sig .tc := ⟨.hbm, 35, rfl⟩
abbrev main_call1_c : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_c_1 : Ref sig .tc := ⟨.hbm, 42, rfl⟩
abbrev main_call1_v5 : Ref sig .tc := ⟨.hbm, 43, rfl⟩
abbrev main_call1_v6 : Ref sig .tc := ⟨.hbm, 44, rfl⟩
abbrev main_call1_c_2 : Ref sig .tc := ⟨.hbm, 45, rfl⟩
abbrev main_call1_v7 : Ref sig .tc := ⟨.hbm, 46, rfl⟩
abbrev main_call1_v8 : Ref sig .tc := ⟨.hbm, 47, rfl⟩
abbrev main_call1_c_3 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_v18 : Ref sig .tc := ⟨.hbm, 55, rfl⟩
abbrev main_c_4 : Ref sig .tc := ⟨.hbm, 56, rfl⟩
abbrev main_v19 : Ref sig .tc := ⟨.hbm, 57, rfl⟩
abbrev main_v20 : Ref sig .tc := ⟨.hbm, 58, rfl⟩
abbrev main_c_5 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_c_6 : Ref sig .tc := ⟨.hbm, 63, rfl⟩
abbrev main_v24 : Ref sig .tc := ⟨.hbm, 64, rfl⟩
abbrev main_v25 : Ref sig .tc := ⟨.hbm, 65, rfl⟩
abbrev main_c_7 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_c_8 : Ref sig .tc := ⟨.hbm, 74, rfl⟩
abbrev main_v33 : Ref sig .tc := ⟨.hbm, 75, rfl⟩
abbrev main_c_9 : Ref sig .tc := ⟨.hbm, 76, rfl⟩
abbrev main_call2_v0 : Ref sig .tc := ⟨.hbm, 77, rfl⟩
abbrev main_call2_v1 : Ref sig .tc := ⟨.hbm, 78, rfl⟩
abbrev main_v34 : Ref sig .tc := ⟨.hbm, 79, rfl⟩
abbrev main_c_10 : Ref sig .tc := ⟨.hbm, 80, rfl⟩
abbrev main_v35 : Ref sig .tc := ⟨.hbm, 81, rfl⟩
abbrev main_v36 : Ref sig .tc := ⟨.hbm, 82, rfl⟩
abbrev main_c_11 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_c_12 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_c_13 : Ref sig .tc := ⟨.hbm, 92, rfl⟩
abbrev main_call3_v0 : Ref sig .tc := ⟨.hbm, 93, rfl⟩
abbrev main_call3_c : Ref sig .tc := ⟨.hbm, 94, rfl⟩
abbrev main_call3_v1 : Ref sig .tc := ⟨.hbm, 95, rfl⟩
abbrev main_call3_c_0 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_call3_c_1 : Ref sig .tc := ⟨.hbm, 100, rfl⟩
abbrev main_call3_v5 : Ref sig .tc := ⟨.hbm, 101, rfl⟩
abbrev main_call3_v6 : Ref sig .tc := ⟨.hbm, 102, rfl⟩
abbrev main_call3_c_2 : Ref sig .tc := ⟨.hbm, 103, rfl⟩
abbrev main_call3_v7 : Ref sig .tc := ⟨.hbm, 104, rfl⟩
abbrev main_call3_v8 : Ref sig .tc := ⟨.hbm, 105, rfl⟩
abbrev main_call3_c_3 : Ref sig .tc := ⟨.hbm, 106, rfl⟩
abbrev main_call3_v9 : Ref sig .tc := ⟨.hbm, 107, rfl⟩
abbrev main_call3_v10 : Ref sig .tc := ⟨.hbm, 108, rfl⟩
abbrev main_call3_v11 : Ref sig .tc := ⟨.hbm, 109, rfl⟩
abbrev main_call3_v12 : Ref sig .tc := ⟨.hbm, 110, rfl⟩
abbrev main_call3_v13 : Ref sig .tc := ⟨.hbm, 111, rfl⟩
abbrev main_call3_v14 : Ref sig .tc := ⟨.hbm, 112, rfl⟩
abbrev main_v44 : Ref sig .tc := ⟨.hbm, 113, rfl⟩

abbrev nD : Nat := 1
abbrev τ : Topo := Topo.v7x

variable {F : FTy → Type} [FloatOps F]
-- ==== Encoder.lean ====
abbrev S16x32x2048 : Shape := ⟨3, ![16, 32, 2048]⟩
abbrev S16 : Shape := ⟨1, ![16]⟩
abbrev S16x32 : Shape := ⟨2, ![16, 32]⟩
abbrev S1024x4096 : Shape := ⟨2, ![1024, 4096]⟩
abbrev S1024 : Shape := ⟨1, ![1024]⟩
abbrev S3072x1024 : Shape := ⟨2, ![3072, 1024]⟩
abbrev S3072 : Shape := ⟨1, ![3072]⟩
abbrev S1024x1024 : Shape := ⟨2, ![1024, 1024]⟩
abbrev S128x1024 : Shape := ⟨2, ![128, 1024]⟩
abbrev S128 : Shape := ⟨1, ![128]⟩
abbrev S16x31x1 : Shape := ⟨3, ![16, 31, 1]⟩
abbrev S_ : Shape := ⟨0, ![]⟩
abbrev S16x1x1 : Shape := ⟨3, ![16, 1, 1]⟩
abbrev S16x32x1 : Shape := ⟨3, ![16, 32, 1]⟩
abbrev S16x1 : Shape := ⟨2, ![16, 1]⟩
abbrev S32x16x1 : Shape := ⟨3, ![32, 16, 1]⟩
abbrev S1024x2048 : Shape := ⟨2, ![1024, 2048]⟩
abbrev S2048x1024 : Shape := ⟨2, ![2048, 1024]⟩
abbrev S1024x3072 : Shape := ⟨2, ![1024, 3072]⟩
abbrev S1024x128 : Shape := ⟨2, ![1024, 128]⟩
abbrev S1x1024 : Shape := ⟨2, ![1, 1024]⟩
abbrev S1x3072 : Shape := ⟨2, ![1, 3072]⟩
abbrev S1x128 : Shape := ⟨2, ![1, 128]⟩
abbrev S4x16x128 : Shape := ⟨3, ![4, 16, 128]⟩
abbrev S32x2x16x3072 : Shape := ⟨4, ![32, 2, 16, 3072]⟩
abbrev S64x1024 : Shape := ⟨2, ![64, 1024]⟩
abbrev S512x2048 : Shape := ⟨2, ![512, 2048]⟩
abbrev S1024x1 : Shape := ⟨2, ![1024, 1]⟩
abbrev S2x16x32x3072 : Shape := ⟨4, ![2, 16, 32, 3072]⟩
abbrev S1 : Shape := ⟨1, ![1]⟩
abbrev S1x1 : Shape := ⟨2, ![1, 1]⟩
abbrev S1x1x16x3072 : Shape := ⟨4, ![1, 1, 16, 3072]⟩
abbrev S16x3072 : Shape := ⟨2, ![16, 3072]⟩
abbrev S1x16x1 : Shape := ⟨3, ![1, 16, 1]⟩
abbrev S64x3072 : Shape := ⟨2, ![64, 3072]⟩
abbrev S64x128 : Shape := ⟨2, ![64, 128]⟩
abbrev S64 : Shape := ⟨1, ![64]⟩
abbrev S64x1 : Shape := ⟨2, ![64, 1]⟩

abbrev nBuf : Space → Nat
  | .hbm => 76
  | .vmem => 23
  | .smem => 0
  | _ => 0

abbrev bufTy : (tb : Table) → Fin (tcTables nBuf tb) → BufTy
  | .hbm, ⟨0, _⟩ => ⟨S16x32x2048, .f32⟩
  | .hbm, ⟨1, _⟩ => ⟨S16x32x2048, .f32⟩
  | .hbm, ⟨2, _⟩ => ⟨S16x32x2048, .f32⟩
  | .hbm, ⟨3, _⟩ => ⟨S16x32x2048, .f32⟩
  | .hbm, ⟨4, _⟩ => ⟨S16, .i32⟩
  | .hbm, ⟨5, _⟩ => ⟨S16x32, .i32⟩
  | .hbm, ⟨6, _⟩ => ⟨S1024x4096, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S3072x1024, .f32⟩
  | .hbm, ⟨11, _⟩ => ⟨S3072x1024, .f32⟩
  | .hbm, ⟨12, _⟩ => ⟨S3072, .f32⟩
  | .hbm, ⟨13, _⟩ => ⟨S3072, .f32⟩
  | .hbm, ⟨14, _⟩ => ⟨S1024x1024, .f32⟩
  | .hbm, ⟨15, _⟩ => ⟨S1024, .f32⟩
  | .hbm, ⟨16, _⟩ => ⟨S128x1024, .f32⟩
  | .hbm, ⟨17, _⟩ => ⟨S128, .f32⟩
  | .hbm, ⟨18, _⟩ => ⟨S16x31x1, .f32⟩
  | .hbm, ⟨19, _⟩ => ⟨S_, .f32⟩
  | .hbm, ⟨20, _⟩ => ⟨S16x31x1, .f32⟩
  | .hbm, ⟨21, _⟩ => ⟨S16x31x1, .i1⟩
  | .hbm, ⟨22, _⟩ => ⟨S16x31x1, .f32⟩
  | .hbm, ⟨23, _⟩ => ⟨S_, .f32⟩
  | .hbm, ⟨24, _⟩ => ⟨S16x1x1, .f32⟩
  | .hbm, ⟨25, _⟩ => ⟨S16x32x1, .f32⟩
  | .hbm, ⟨26, _⟩ => ⟨S_, .i32⟩
  | .hbm, ⟨27, _⟩ => ⟨S16x32, .i32⟩
  | .hbm, ⟨28, _⟩ => ⟨S16x32, .i1⟩
  | .hbm, ⟨29, _⟩ => ⟨S16x32x1, .i1⟩
  | .hbm, ⟨30, _⟩ => ⟨S16x32x1, .f32⟩
  | .hbm, ⟨31, _⟩ => ⟨S_, .f32⟩
  | .hbm, ⟨32, _⟩ => ⟨S16x32x1, .f32⟩
  | .hbm, ⟨33, _⟩ => ⟨S16x32x1, .f32⟩
  | .hbm, ⟨34, _⟩ => ⟨S_, .i32⟩
  | .hbm, ⟨35, _⟩ => ⟨S16, .i32⟩
  | .hbm, ⟨36, _⟩ => ⟨S16, .i1⟩
  | .hbm, ⟨37, _⟩ => ⟨S16x1x1, .i1⟩
  | .hbm, ⟨38, _⟩ => ⟨S16x32x1, .i1⟩
  | .hbm, ⟨39, _⟩ => ⟨S16x32x1, .f32⟩
  | .hbm, ⟨40, _⟩ => ⟨S_, .f32⟩
  | .hbm, ⟨41, _⟩ => ⟨S16x1, .f32⟩
  | .hbm, ⟨42, _⟩ => ⟨S16x1x1, .f32⟩
  | .hbm, ⟨43, _⟩ => ⟨S_, .f32⟩
  | .hbm, ⟨44, _⟩ => ⟨S16x1x1, .f32⟩
  | .hbm, ⟨45, _⟩ => ⟨S16x1x1, .i1⟩
  | .hbm, ⟨46, _⟩ => ⟨S16x32x1, .i1⟩
  | .hbm, ⟨47, _⟩ => ⟨S16x32x1, .f32⟩
  | .hbm, ⟨48, _⟩ => ⟨S_, .f32⟩
  | .hbm, ⟨49, _⟩ => ⟨S16x32x1, .f32⟩
  | .hbm, ⟨50, _⟩ => ⟨S16x32x1, .i1⟩
  | .hbm, ⟨51, _⟩ => ⟨S16x32x1, .f32⟩
  | .hbm, ⟨52, _⟩ => ⟨S32x16x1, .f32⟩
  | .hbm, ⟨53, _⟩ => ⟨S32x16x1, .f32⟩
  | .hbm, ⟨54, _⟩ => ⟨S1024x2048, .f32⟩
  | .hbm, ⟨55, _⟩ => ⟨S2048x1024, .f32⟩
  | .hbm, ⟨56, _⟩ => ⟨S2048x1024, .bf16⟩
  | .hbm, ⟨57, _⟩ => ⟨S1024x2048, .f32⟩
  | .hbm, ⟨58, _⟩ => ⟨S2048x1024, .f32⟩
  | .hbm, ⟨59, _⟩ => ⟨S2048x1024, .bf16⟩
  | .hbm, ⟨60, _⟩ => ⟨S1024x3072, .f32⟩
  | .hbm, ⟨61, _⟩ => ⟨S1024x3072, .bf16⟩
  | .hbm, ⟨62, _⟩ => ⟨S1024x3072, .f32⟩
  | .hbm, ⟨63, _⟩ => ⟨S1024x3072, .bf16⟩
  | .hbm, ⟨64, _⟩ => ⟨S1024x1024, .f32⟩
  | .hbm, ⟨65, _⟩ => ⟨S1024x1024, .bf16⟩
  | .hbm, ⟨66, _⟩ => ⟨S1024x128, .f32⟩
  | .hbm, ⟨67, _⟩ => ⟨S1024x128, .bf16⟩
  | .hbm, ⟨68, _⟩ => ⟨S1x1024, .f32⟩
  | .hbm, ⟨69, _⟩ => ⟨S1x1024, .f32⟩
  | .hbm, ⟨70, _⟩ => ⟨S1x1024, .f32⟩
  | .hbm, ⟨71, _⟩ => ⟨S1x3072, .f32⟩
  | .hbm, ⟨72, _⟩ => ⟨S1x3072, .f32⟩
  | .hbm, ⟨73, _⟩ => ⟨S1x1024, .f32⟩
  | .hbm, ⟨74, _⟩ => ⟨S1x128, .f32⟩
  | .hbm, ⟨75, _⟩ => ⟨S4x16x128, .f32⟩
  | .local _ .vmem, ⟨0, _⟩ => ⟨S16x32x2048, .f32⟩
  | .local _ .vmem, ⟨1, _⟩ => ⟨S16x32x2048, .f32⟩
  | .local _ .vmem, ⟨2, _⟩ => ⟨S16x32x2048, .f32⟩
  | .local _ .vmem, ⟨3, _⟩ => ⟨S16x32x2048, .f32⟩
  | .local _ .vmem, ⟨4, _⟩ => ⟨S32x16x1, .f32⟩
  | .local _ .vmem, ⟨5, _⟩ => ⟨S32x16x1, .f32⟩
  | .local _ .vmem, ⟨6, _⟩ => ⟨S2048x1024, .bf16⟩
  | .local _ .vmem, ⟨7, _⟩ => ⟨S2048x1024, .bf16⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1024x3072, .bf16⟩
  | .local _ .vmem, ⟨12, _⟩ => ⟨S1024x3072, .bf16⟩
  | .local _ .vmem, ⟨13, _⟩ => ⟨S1x3072, .f32⟩
  | .local _ .vmem, ⟨14, _⟩ => ⟨S1x3072, .f32⟩
  | .local _ .vmem, ⟨15, _⟩ => ⟨S1024x1024, .bf16⟩
  | .local _ .vmem, ⟨16, _⟩ => ⟨S1x1024, .f32⟩
  | .local _ .vmem, ⟨17, _⟩ => ⟨S1024x128, .bf16⟩
  | .local _ .vmem, ⟨18, _⟩ => ⟨S1x128, .f32⟩
  | .local _ .vmem, ⟨19, _⟩ => ⟨S4x16x128, .f32⟩
  | .local _ .vmem, ⟨20, _⟩ => ⟨S32x2x16x3072, .bf16⟩
  | .local _ .vmem, ⟨21, _⟩ => ⟨S1x3072, .f32⟩
  | .local _ .vmem, ⟨22, _⟩ => ⟨S64x1024, .f32⟩
  | _, _ => ⟨S16x32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_cst_0 : Ref sig .tc := ⟨.hbm, 23, rfl⟩
abbrev main_v3 : Ref sig .tc := ⟨.hbm, 24, rfl⟩
abbrev main_v4 : Ref sig .tc := ⟨.hbm, 25, rfl⟩
abbrev main_c : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_cst_1 : Ref sig .tc := ⟨.hbm, 31, rfl⟩
abbrev main_v9 : Ref sig .tc := ⟨.hbm, 32, rfl⟩
abbrev main_v10 : Ref sig .tc := ⟨.hbm, 33, rfl⟩
abbrev main_c_2 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_call0_v0 : Ref sig .tc := ⟨.hbm, 38, rfl⟩
abbrev main_v14 : Ref sig .tc := ⟨.hbm, 39, rfl⟩
abbrev main_cst_3 : Ref sig .tc := ⟨.hbm, 40, rfl⟩
abbrev main_v15 : Ref sig .tc := ⟨.hbm, 41, rfl⟩
abbrev main_v16 : Ref sig .tc := ⟨.hbm, 42, rfl⟩
abbrev main_cst_4 : Ref sig .tc := ⟨.hbm, 43, rfl⟩
abbrev main_v17 : Ref sig .tc := ⟨.hbm, 44, rfl⟩
abbrev main_v18 : Ref sig .tc := ⟨.hbm, 45, rfl⟩
abbrev main_call1_v0 : Ref sig .tc := ⟨.hbm, 46, rfl⟩
abbrev main_v19 : Ref sig .tc := ⟨.hbm, 47, rfl⟩
abbrev main_cst_5 : Ref sig .tc := ⟨.hbm, 48, rfl⟩
abbrev main_v20 : Ref sig .tc := ⟨.hbm, 49, rfl⟩
abbrev main_call2_v0 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c32_i32 : BitVec 32 := 32#32
  let v102 : BitVec 32 := Scalar.addi c0_i32 c32_i32
  let c1_i32 : BitVec 32 := 1#32
  ⟨c0_i32, v102, c1_i32⟩
def k0_off1 (k0_t1 : Fin k0_t1_loop.trips) : Fin 4 → Nat :=
  let c0_i32 : BitVec 32 := 0#32
  let c1_i32 : BitVec 32 := 1#32
  let arg23 : BitVec 32 := Scf.iv c0_i32 c1_i32 k0_t1
  let v134 : Index := Scalar.indexCast arg23
  let c0_75 : Index := 0#32
  let c0_76 : Index := 0#32
  let c0_77 : Index := 0#32
  ![v134.toNat, 0, 0, 0]
def k0_off2 (k0_t1 : Fin k0_t1_loop.trips) : Fin 4 → Nat :=
  let c0_i32 : BitVec 32 := 0#32
  let c1_i32 : BitVec 32 := 1#32
  let arg23 : BitVec 32 := Scf.iv c0_i32 c1_i32 k0_t1
  let v138 : Index := Scalar.indexCast arg23
  let c1 : Index := 1#32
  let c0_78 : Index := 0#32
  let c0_79 : Index := 0#32
  ![v138.toNat, 1, 0, 0]
def k0_off3 (k0_t1 : Fin k0_t1_loop.trips) : Fin 3 → Nat :=
  let c0_i32 : BitVec 32 := 0#32
  let c1_i32 : BitVec 32 := 1#32
  let arg23 : BitVec 32 := Scf.iv c0_i32 c1_i32 k0_t1
  let v143 : Index := Scalar.indexCast arg23
  let c0_82 : Index := 0#32
  let c0_83 : Index := 0#32
  ![v143.toNat, 0, 0]
abbrev stage0_0 : Fin 1 → Memref sig .tc .vmem S16x32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x32x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x32x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x32x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024x3072 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1024x3072 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x3072 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x3072 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1024x128 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S4x16x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
-- ==== EncoderReferenceIdeal.lean ====
abbrev S16x32x2048 : Shape := ⟨3, ![16, 32, 2048]⟩
abbrev S16 : Shape := ⟨1, ![16]⟩
abbrev S16x32 : Shape := ⟨2, ![16, 32]⟩
abbrev S1024x4096 : Shape := ⟨2, ![1024, 4096]⟩
abbrev S1024 : Shape := ⟨1, ![1024]⟩
abbrev S3072x1024 : Shape := ⟨2, ![3072, 1024]⟩
abbrev S3072 : Shape := ⟨1, ![3072]⟩
abbrev S1024x1024 : Shape := ⟨2, ![1024, 1024]⟩
abbrev S128x1024 : Shape := ⟨2, ![128, 1024]⟩
abbrev S128 : Shape := ⟨1, ![128]⟩
abbrev S16x31x1 : Shape := ⟨3, ![16, 31, 1]⟩
abbrev S16x32x4096 : Shape := ⟨3, ![16, 32, 4096]⟩
abbrev S_ : Shape := ⟨0, ![]⟩
abbrev S16x1x1 : Shape := ⟨3, ![16, 1, 1]⟩
abbrev S16x32x1 : Shape := ⟨3, ![16, 32, 1]⟩
abbrev S16x1 : Shape := ⟨2, ![16, 1]⟩
abbrev S1x16x32x4096 : Shape := ⟨4, ![1, 16, 32, 4096]⟩
abbrev S4x16x32x4096 : Shape := ⟨4, ![4, 16, 32, 4096]⟩
abbrev S4096x1024 : Shape := ⟨2, ![4096, 1024]⟩
abbrev S4x16x32x1024 : Shape := ⟨4, ![4, 16, 32, 1024]⟩
abbrev S1x1x1024 : Shape := ⟨3, ![1, 1, 1024]⟩
abbrev S1x1x1x1024 : Shape := ⟨4, ![1, 1, 1, 1024]⟩
abbrev S4x16x32 : Shape := ⟨3, ![4, 16, 32]⟩
abbrev S4x16x32x1 : Shape := ⟨4, ![4, 16, 32, 1]⟩
abbrev S16x1024 : Shape := ⟨2, ![16, 1024]⟩
abbrev S4x32x16x1024 : Shape := ⟨4, ![4, 32, 16, 1024]⟩
abbrev S4x16x1024 : Shape := ⟨3, ![4, 16, 1024]⟩
abbrev S32x4x16x1024 : Shape := ⟨4, ![32, 4, 16, 1024]⟩
abbrev S1x4x16x1024 : Shape := ⟨4, ![1, 4, 16, 1024]⟩
abbrev S1024x3072 : Shape := ⟨2, ![1024, 3072]⟩
abbrev S4x16x3072 : Shape := ⟨3, ![4, 16, 3072]⟩
abbrev S1x3072 : Shape := ⟨2, ![1, 3072]⟩
abbrev S1x1x3072 : Shape := ⟨3, ![1, 1, 3072]⟩
abbrev S1x1024 : Shape := ⟨2, ![1, 1024]⟩
abbrev S1024x128 : Shape := ⟨2, ![1024, 128]⟩
abbrev S4x16x128 : Shape := ⟨3, ![4, 16, 128]⟩
abbrev S1x128 : Shape := ⟨2, ![1, 128]⟩
abbrev S1x1x128 : Shape := ⟨3, ![1, 1, 128]⟩
abbrev S4x16 : Shape := ⟨2, ![4, 16]⟩
abbrev S4x16x1 : Shape := ⟨3, ![4, 16, 1]⟩

abbrev nBuf : Space → Nat
  | .hbm => 214
  | .vmem => 0
  | .smem => 0
  | _ => 0

abbrev hbmTy0_0 (i : Nat) : BufTy := match i % 128 with
  | 0 => ⟨S16x32x2048, .f32⟩
  | 1 => ⟨S16x32x2048, .f32⟩
  | 2 => ⟨S16x32x2048, .f32⟩
  | 3 => ⟨S16x32x2048, .f32⟩
  | 4 => ⟨S16, .i32⟩
  | 5 => ⟨S16x32, .i32⟩
  | 6 => ⟨S1024x4096, .f32⟩
  | 7 => ⟨S1024, .f32⟩
  | 8 => ⟨S1024, .f32⟩
  | 9 => ⟨S1024, .f32⟩
  | 10 => ⟨S3072x1024, .f32⟩
  | 11 => ⟨S3072x1024, .f32⟩
  | 12 => ⟨S3072, .f32⟩
  | 13 => ⟨S3072, .f32⟩
  | 14 => ⟨S1024x1024, .f32⟩
  | 15 => ⟨S1024, .f32⟩
  | 16 => ⟨S128x1024, .f32⟩
  | 17 => ⟨S128, .f32⟩
  | 18 => ⟨S16x31x1, .f32⟩
  | 19 => ⟨S16x32x4096, .f32⟩
  | 20 => ⟨S_, .f32⟩
  | 21 => ⟨S16x31x1, .f32⟩
  | 22 => ⟨S16x31x1, .i1⟩
  | 23 => ⟨S16x31x1, .f32⟩
  | 24 => ⟨S_, .f32⟩
  | 25 => ⟨S16x1x1, .f32⟩
  | 26 => ⟨S16x32x1, .f32⟩
  | 27 => ⟨S_, .i32⟩
  | 28 => ⟨S16x32, .i32⟩
  | 29 => ⟨S16x32, .i1⟩
  | 30 => ⟨S16x32x1, .i1⟩
  | 31 => ⟨S16x32x1, .f32⟩
  | 32 => ⟨S_, .f32⟩
  | 33 => ⟨S16x32x1, .f32⟩
  | 34 => ⟨S16x32x1, .f32⟩
  | 35 => ⟨S_, .i32⟩
  | 36 => ⟨S16, .i32⟩
  | 37 => ⟨S16, .i1⟩
  | 38 => ⟨S16x1x1, .i1⟩
  | 39 => ⟨S16x32x1, .i1⟩
  | 40 => ⟨S16x32x1, .f32⟩
  | 41 => ⟨S_, .f32⟩
  | 42 => ⟨S16x1, .f32⟩
  | 43 => ⟨S16x1x1, .f32⟩
  | 44 => ⟨S_, .f32⟩
  | 45 => ⟨S16x1x1, .f32⟩
  | 46 => ⟨S16x1x1, .i1⟩
  | 47 => ⟨S16x32x1, .i1⟩
  | 48 => ⟨S16x32x1, .f32⟩
  | 49 => ⟨S16x32x4096, .f32⟩
  | 50 => ⟨S16x32x4096, .f32⟩
  | 51 => ⟨S_, .f32⟩
  | 52 => ⟨S16x32x1, .f32⟩
  | 53 => ⟨S16x32x1, .i1⟩
  | 54 => ⟨S16x32x1, .f32⟩
  | 55 => ⟨S16x32x4096, .f32⟩
  | 56 => ⟨S16x32x4096, .f32⟩
  | 57 => ⟨S16x32x4096, .f32⟩
  | 58 => ⟨S1x16x32x4096, .f32⟩
  | 59 => ⟨S1x16x32x4096, .f32⟩
  | 60 => ⟨S1x16x32x4096, .f32⟩
  | 61 => ⟨S1x16x32x4096, .f32⟩
  | 62 => ⟨S4x16x32x4096, .f32⟩
  | 63 => ⟨S4096x1024, .f32⟩
  | 64 => ⟨S4x16x32x1024, .f32⟩
  | 65 => ⟨S1x1x1024, .f32⟩
  | 66 => ⟨S1x1x1x1024, .f32⟩
  | 67 => ⟨S4x16x32x1024, .f32⟩
  | 68 => ⟨S4x16x32x1024, .f32⟩
  | 69 => ⟨S_, .f32⟩
  | 70 => ⟨S4x16x32, .f32⟩
  | 71 => ⟨S4x16x32x1, .f32⟩
  | 72 => ⟨S_, .f32⟩
  | 73 => ⟨S4x16x32x1, .f32⟩
  | 74 => ⟨S4x16x32x1, .f32⟩
  | 75 => ⟨S_, .i32⟩
  | 76 => ⟨S_, .f32⟩
  | 77 => ⟨S4x16x32, .f32⟩
  | 78 => ⟨S4x16x32x1, .f32⟩
  | 79 => ⟨S_, .f32⟩
  | 80 => ⟨S4x16x32x1, .f32⟩
  | 81 => ⟨S4x16x32x1, .f32⟩
  | 82 => ⟨S4x16x32x1024, .f32⟩
  | 83 => ⟨S4x16x32x1024, .f32⟩
  | 84 => ⟨S4x16x32x1024, .f32⟩
  | 85 => ⟨S_, .f32⟩
  | 86 => ⟨S_, .f32⟩
  | 87 => ⟨S_, .f32⟩
  | 88 => ⟨S_, .f32⟩
  | 89 => ⟨S4x16x32, .f32⟩
  | 90 => ⟨S4x16x32x1, .f32⟩
  | 91 => ⟨S4x16x32x1, .f32⟩
  | 92 => ⟨S4x16x32x1, .f32⟩
  | 93 => ⟨S_, .f32⟩
  | 94 => ⟨S_, .i1⟩
  | 95 => ⟨S_, .f32⟩
  | 96 => ⟨S_, .f32⟩
  | 97 => ⟨S16x32x1, .f32⟩
  | 98 => ⟨S4x16x32x1, .f32⟩
  | 99 => ⟨S4x16x32x1, .f32⟩
  | 100 => ⟨S4x16x32x1024, .f32⟩
  | 101 => ⟨S4x16x32x1024, .f32⟩
  | 102 => ⟨S_, .f32⟩
  | 103 => ⟨S4x16x32x1, .f32⟩
  | 104 => ⟨S4x16x32x1, .f32⟩
  | 105 => ⟨S4x16x32x1, .f32⟩
  | 106 => ⟨S4x16x32x1024, .f32⟩
  | 107 => ⟨S4x16x32x1024, .f32⟩
  | 108 => ⟨S1x1x1024, .f32⟩
  | 109 => ⟨S1x1x1x1024, .f32⟩
  | 110 => ⟨S4x16x32x1024, .f32⟩
  | 111 => ⟨S4x16x32x1024, .f32⟩
  | 112 => ⟨S1x1x1024, .f32⟩
  | 113 => ⟨S1x1x1x1024, .f32⟩
  | 114 => ⟨S4x16x32x1024, .f32⟩
  | 115 => ⟨S4x16x32x1024, .f32⟩
  | 116 => ⟨S_, .f32⟩
  | 117 => ⟨S4x16x32x1024, .f32⟩
  | 118 => ⟨S4x16x32x1024, .f32⟩
  | 119 => ⟨S_, .f32⟩
  | 120 => ⟨S16x1024, .f32⟩
  | 121 => ⟨S4x32x16x1024, .f32⟩
  | 122 => ⟨S4x16x1024, .f32⟩
  | 123 => ⟨S32x4x16x1024, .f32⟩
  | 124 => ⟨S_, .i32⟩
  | 125 => ⟨S32x4x16x1024, .f32⟩
  | 126 => ⟨S3072x1024, .f32⟩
  | 127 => ⟨S3072, .f32⟩
  | _ => ⟨S16x32x2048, .f32⟩

abbrev hbmTy0_1 (i : Nat) : BufTy := match i % 128 with
  | 0 => ⟨S3072x1024, .f32⟩
  | 1 => ⟨S3072, .f32⟩
  | 2 => ⟨S_, .i32⟩
  | 3 => ⟨S4x16x1024, .f32⟩
  | 4 => ⟨S_, .i32⟩
  | 5 => ⟨S_, .i1⟩
  | 6 => ⟨S_, .i32⟩
  | 7 => ⟨S_, .i32⟩
  | 8 => ⟨S_, .i32⟩
  | 9 => ⟨S1x4x16x1024, .f32⟩
  | 10 => ⟨S4x16x1024, .f32⟩
  | 11 => ⟨S1024x3072, .f32⟩
  | 12 => ⟨S4x16x3072, .f32⟩
  | 13 => ⟨S1x3072, .f32⟩
  | 14 => ⟨S1x1x3072, .f32⟩
  | 15 => ⟨S4x16x3072, .f32⟩
  | 16 => ⟨S4x16x3072, .f32⟩
  | 17 => ⟨S1024x3072, .f32⟩
  | 18 => ⟨S4x16x3072, .f32⟩
  | 19 => ⟨S1x3072, .f32⟩
  | 20 => ⟨S1x1x3072, .f32⟩
  | 21 => ⟨S4x16x3072, .f32⟩
  | 22 => ⟨S4x16x3072, .f32⟩
  | 23 => ⟨S4x16x1024, .f32⟩
  | 24 => ⟨S4x16x1024, .f32⟩
  | 25 => ⟨S4x16x1024, .f32⟩
  | 26 => ⟨S4x16x1024, .f32⟩
  | 27 => ⟨S4x16x1024, .f32⟩
  | 28 => ⟨S4x16x1024, .f32⟩
  | 29 => ⟨S4x16x1024, .f32⟩
  | 30 => ⟨S4x16x1024, .f32⟩
  | 31 => ⟨S4x16x1024, .f32⟩
  | 32 => ⟨S_, .f32⟩
  | 33 => ⟨S4x16x1024, .f32⟩
  | 34 => ⟨S4x16x1024, .f32⟩
  | 35 => ⟨S_, .f32⟩
  | 36 => ⟨S4x16x1024, .f32⟩
  | 37 => ⟨S4x16x1024, .f32⟩
  | 38 => ⟨S4x16x1024, .f32⟩
  | 39 => ⟨S4x16x1024, .f32⟩
  | 40 => ⟨S4x16x1024, .f32⟩
  | 41 => ⟨S_, .f32⟩
  | 42 => ⟨S4x16x1024, .f32⟩
  | 43 => ⟨S4x16x1024, .f32⟩
  | 44 => ⟨S_, .f32⟩
  | 45 => ⟨S4x16x1024, .f32⟩
  | 46 => ⟨S4x16x1024, .f32⟩
  | 47 => ⟨S4x16x1024, .f32⟩
  | 48 => ⟨S4x16x1024, .f32⟩
  | 49 => ⟨S4x16x1024, .f32⟩
  | 50 => ⟨S_, .f32⟩
  | 51 => ⟨S4x16x1024, .f32⟩
  | 52 => ⟨S4x16x1024, .f32⟩
  | 53 => ⟨S4x16x1024, .f32⟩
  | 54 => ⟨S4x16x1024, .f32⟩
  | 55 => ⟨S4x16x1024, .f32⟩
  | 56 => ⟨S_, .i32⟩
  | 57 => ⟨S_, .i32⟩
  | 58 => ⟨S_, .f32⟩
  | 59 => ⟨S4x16x1024, .f32⟩
  | 60 => ⟨S4x16x1024, .f32⟩
  | 61 => ⟨S1024x1024, .f32⟩
  | 62 => ⟨S4x16x1024, .f32⟩
  | 63 => ⟨S1x1024, .f32⟩
  | 64 => ⟨S1x1x1024, .f32⟩
  | 65 => ⟨S4x16x1024, .f32⟩
  | 66 => ⟨S4x16x1024, .f32⟩
  | 67 => ⟨S_, .f32⟩
  | 68 => ⟨S4x16x1024, .f32⟩
  | 69 => ⟨S4x16x1024, .f32⟩
  | 70 => ⟨S1024x128, .f32⟩
  | 71 => ⟨S4x16x128, .f32⟩
  | 72 => ⟨S1x128, .f32⟩
  | 73 => ⟨S1x1x128, .f32⟩
  | 74 => ⟨S4x16x128, .f32⟩
  | 75 => ⟨S4x16x128, .f32⟩
  | 76 => ⟨S4x16x128, .f32⟩
  | 77 => ⟨S_, .f32⟩
  | 78 => ⟨S4x16, .f32⟩
  | 79 => ⟨S4x16x1, .f32⟩
  | 80 => ⟨S4x16x1, .f32⟩
  | 81 => ⟨S_, .f32⟩
  | 82 => ⟨S4x16x1, .f32⟩
  | 83 => ⟨S4x16x1, .f32⟩
  | 84 => ⟨S4x16x128, .f32⟩
  | 85 => ⟨S4x16x128, .f32⟩
  | _ => ⟨S16x32x2048, .f32⟩

abbrev hbmTy (i : Nat) : BufTy := match i / 128 with
  | 0 => hbmTy0_0 i
  | 1 => hbmTy0_1 i
  | _ => ⟨S16x32x2048, .f32⟩

abbrev bufTy : (tb : Table) → Fin (tcTables nBuf tb) → BufTy
  | .hbm, ⟨i, _⟩ => hbmTy i
  | _, _ => ⟨S16x32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_cst : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst_0 : Ref sig .tc := ⟨.hbm, 24, rfl⟩
abbrev main_v4 : Ref sig .tc := ⟨.hbm, 25, rfl⟩
abbrev main_v5 : Ref sig .tc := ⟨.hbm, 26, rfl⟩
abbrev main_c : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst_1 : Ref sig .tc := ⟨.hbm, 32, rfl⟩
abbrev main_v10 : Ref sig .tc := ⟨.hbm, 33, rfl⟩
abbrev main_v11 : Ref sig .tc := ⟨.hbm, 34, rfl⟩
abbrev main_c_2 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_call0_v0 : Ref sig .tc := ⟨.hbm, 39, rfl⟩
abbrev main_v15 : Ref sig .tc := ⟨.hbm, 40, rfl⟩
abbrev main_cst_3 : Ref sig .tc := ⟨.hbm, 41, rfl⟩
abbrev main_v16 : Ref sig .tc := ⟨.hbm, 42, rfl⟩
abbrev main_v17 : Ref sig .tc := ⟨.hbm, 43, rfl⟩
abbrev main_cst_4 : Ref sig .tc := ⟨.hbm, 44, rfl⟩
abbrev main_v18 : Ref sig .tc := ⟨.hbm, 45, rfl⟩
abbrev main_v19 : Ref sig .tc := ⟨.hbm, 46, rfl⟩
abbrev main_call1_v0 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_cst_5 : Ref sig .tc := ⟨.hbm, 51, rfl⟩
abbrev main_v23 : Ref sig .tc := ⟨.hbm, 52, rfl⟩
abbrev main_call2_v0 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_cst_6 : Ref sig .tc := ⟨.hbm, 69, rfl⟩
abbrev main_v39 : Ref sig .tc := ⟨.hbm, 70, rfl⟩
abbrev main_v40 : Ref sig .tc := ⟨.hbm, 71, rfl⟩
abbrev main_cst_7 : Ref sig .tc := ⟨.hbm, 72, rfl⟩
abbrev main_v41 : Ref sig .tc := ⟨.hbm, 73, rfl⟩
abbrev main_v42 : Ref sig .tc := ⟨.hbm, 74, rfl⟩
abbrev main_c_8 : Ref sig .tc := ⟨.hbm, 75, rfl⟩
abbrev main_call3_cst : Ref sig .tc := ⟨.hbm, 76, rfl⟩
abbrev main_call3_v0 : Ref sig .tc := ⟨.hbm, 77, rfl⟩
abbrev main_call3_v1 : Ref sig .tc := ⟨.hbm, 78, rfl⟩
abbrev main_call3_cst_0 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_call3_v5 : Ref sig .tc := ⟨.hbm, 83, rfl⟩
abbrev main_call3_v6 : Ref sig .tc := ⟨.hbm, 84, rfl⟩
abbrev main_call3_v7 : Ref sig .tc := ⟨.hbm, 85, rfl⟩
abbrev main_call3_cst_1 : Ref sig .tc := ⟨.hbm, 86, rfl⟩
abbrev main_call3_v8 : Ref sig .tc := ⟨.hbm, 87, rfl⟩
abbrev main_call3_cst_2 : Ref sig .tc := ⟨.hbm, 88, rfl⟩
abbrev main_call3_v9 : Ref sig .tc := ⟨.hbm, 89, rfl⟩
abbrev main_call3_v10 : Ref sig .tc := ⟨.hbm, 90, rfl⟩
abbrev main_call3_v11 : Ref sig .tc := ⟨.hbm, 91, rfl⟩
abbrev main_call3_v12 : Ref sig .tc := ⟨.hbm, 92, rfl⟩
abbrev main_call3_cst_3 : Ref sig .tc := ⟨.hbm, 93, rfl⟩
abbrev main_call3_v13 : Ref sig .tc := ⟨.hbm, 94, rfl⟩
abbrev main_call3_cst_4 : Ref sig .tc := ⟨.hbm, 95, rfl⟩
abbrev main_call3_call0_v0 : Ref sig .tc := ⟨.hbm, 96, rfl⟩
abbrev main_call3_call0_v1 : Ref sig .tc := ⟨.hbm, 97, rfl⟩
abbrev main_call3_call0_v2 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_cst_9 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_call4_cst : Ref sig .tc := ⟨.hbm, 116, rfl⟩
abbrev main_call4_v0 : Ref sig .tc := ⟨.hbm, 117, rfl⟩
abbrev main_v59 : Ref sig .tc := ⟨.hbm, 118, rfl⟩
abbrev main_cst_10 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_c_11 : Ref sig .tc := ⟨.hbm, 124, rfl⟩
abbrev main_v64_0 : Ref sig .tc := ⟨.hbm, 125, rfl⟩
abbrev main_v64_1 : Ref sig .tc := ⟨.hbm, 126, rfl⟩
abbrev main_v64_2 : Ref sig .tc := ⟨.hbm, 127, rfl⟩
abbrev main_v64_3 : Ref sig .tc := ⟨.hbm, 128, rfl⟩
abbrev main_v64_4 : Ref sig .tc := ⟨.hbm, 129, rfl⟩
abbrev main_v64_5 : Ref sig .tc := ⟨.hbm, 130, rfl⟩
abbrev main_v64_6 : Ref sig .tc := ⟨.hbm, 131, rfl⟩
abbrev main_while0c_c_19 : Ref sig .tc := ⟨.hbm, 132, rfl⟩
abbrev main_while0c_v84 : Ref sig .tc := ⟨.hbm, 133, rfl⟩
abbrev main_while0b_call5_c : Ref sig .tc := ⟨.hbm, 134, rfl⟩
abbrev main_while0b_call5_c_0 : Ref sig .tc := ⟨.hbm, 135, rfl⟩
abbrev main_while0b_call5_c_1 : Ref sig .tc := ⟨.hbm, 136, rfl⟩
abbrev main_while0b_call5_v0 : Ref sig .tc := ⟨.hbm, 137, rfl⟩
abbrev main_while0b_v84 : Ref sig .tc := ⟨.hbm, 138, rfl⟩
abbrev main_while0b_v85 : Ref sig .tc := ⟨.hbm, 139, rfl⟩
abbrev main_while0b_v86 : Ref sig .tc := ⟨.hbm, 140, rfl⟩
abbrev main_while0b_v87 : Ref sig .tc := ⟨.hbm, 141, rfl⟩
abbrev main_while0b_v88 : Ref sig .tc := ⟨.hbm, 142, rfl⟩
abbrev main_while0b_v89 : Ref sig .tc := ⟨.hbm, 143, rfl⟩
abbrev main_while0b_v90 : Ref sig .tc := ⟨.hbm, 144, rfl⟩
abbrev main_while0b_v91 : Ref sig .tc := ⟨.hbm, 145, rfl⟩
abbrev main_while0b_v92 : Ref sig .tc := ⟨.hbm, 146, rfl⟩
abbrev main_while0b_v93 : Ref sig .tc := ⟨.hbm, 147, rfl⟩
abbrev main_while0b_v94 : Ref sig .tc := ⟨.hbm, 148, rfl⟩
abbrev main_while0b_v95 : Ref sig .tc := ⟨.hbm, 149, rfl⟩
abbrev main_while0b_v96 : Ref sig .tc := ⟨.hbm, 150, rfl⟩
abbrev main_while0b_v97 : Ref sig .tc := ⟨.hbm, 151, rfl⟩
abbrev main_while0b_v98 : Ref sig .tc := ⟨.hbm, 152, rfl⟩
abbrev main_while0b_v99 : Ref sig .tc := ⟨.hbm, 153, rfl⟩
abbrev main_while0b_v100 : Ref sig .tc := ⟨.hbm, 154, rfl⟩
abbrev main_while0b_v101 : Ref sig .tc := ⟨.hbm, 155, rfl⟩
abbrev main_while0b_v102 : Ref sig .tc := ⟨.hbm, 156, rfl⟩
abbrev main_while0b_v103 : Ref sig .tc := ⟨.hbm, 157, rfl⟩
abbrev main_while0b_v104 : Ref sig .tc := ⟨.hbm, 158, rfl⟩
abbrev main_while0b_v105 : Ref sig .tc := ⟨.hbm, 159, rfl⟩
abbrev main_while0b_cst_19 : Ref sig .tc := ⟨.hbm, 160, rfl⟩
abbrev main_while0b_v106 : Ref sig .tc := ⟨.hbm, 161, rfl⟩
abbrev main_while0b_v107 : Ref sig .tc := ⟨.hbm, 162, rfl⟩
abbrev main_while0b_cst_20 : Ref sig .tc := ⟨.hbm, 163, rfl⟩
abbrev main_while0b_v108 : Ref sig .tc := ⟨.hbm, 164, rfl⟩
abbrev main_while0b_v109 : Ref sig .tc := ⟨.hbm, 165, rfl⟩
abbrev main_while0b_v110 : Ref sig .tc := ⟨.hbm, 166, rfl⟩
abbrev main_while0b_v111 : Ref sig .tc := ⟨.hbm, 167, rfl⟩
abbrev main_while0b_v112 : Ref sig .tc := ⟨.hbm, 168, rfl⟩
abbrev main_while0b_cst_21 : Ref sig .tc := ⟨.hbm, 169, rfl⟩
abbrev main_while0b_v113 : Ref sig .tc := ⟨.hbm, 170, rfl⟩
abbrev main_while0b_v114 : Ref sig .tc := ⟨.hbm, 171, rfl⟩
abbrev main_while0b_cst_22 : Ref sig .tc := ⟨.hbm, 172, rfl⟩
abbrev main_while0b_v115 : Ref sig .tc := ⟨.hbm, 173, rfl⟩
abbrev main_while0b_v116 : Ref sig .tc := ⟨.hbm, 174, rfl⟩
abbrev main_while0b_v117 : Ref sig .tc := ⟨.hbm, 175, rfl⟩
abbrev main_while0b_v118 : Ref sig .tc := ⟨.hbm, 176, rfl⟩
abbrev main_while0b_v119 : Ref sig .tc := ⟨.hbm, 177, rfl⟩
abbrev main_while0b_cst_23 : Ref sig .tc := ⟨.hbm, 178, rfl⟩
abbrev main_while0b_v120 : Ref sig .tc := ⟨.hbm, 179, rfl⟩
abbrev main_while0b_v121 : Ref sig .tc := ⟨.hbm, 180, rfl⟩
abbrev main_while0b_v122 : Ref sig .tc := ⟨.hbm, 181, rfl⟩
abbrev main_while0b_v123 : Ref sig .tc := ⟨.hbm, 182, rfl⟩
abbrev main_while0b_v124 : Ref sig .tc := ⟨.hbm, 183, rfl⟩
abbrev main_while0b_c_24 : Ref sig .tc := ⟨.hbm, 184, rfl⟩
abbrev main_while0b_v125 : Ref sig .tc := ⟨.hbm, 185, rfl⟩
abbrev main_call6_cst : Ref sig .tc := ⟨.hbm, 186, rfl⟩
abbrev main_call6_v0 : Ref sig .tc := ⟨.hbm, 187, rfl⟩
abbrev main_v65 : Ref sig .tc := ⟨.hbm, 188, rfl⟩
abbrev main_v66 : Ref sig .tc := ⟨.hbm, 189, rfl⟩
abbrev main_v67 : Ref sig .tc := ⟨.hbm, 190, rfl⟩
abbrev main_v68 : Ref sig .tc := ⟨.hbm, 191, rfl⟩
abbrev main_v69 : Ref sig .tc := ⟨.hbm, 192, rfl⟩
abbrev main_v70 : Ref sig .tc := ⟨.hbm, 193, rfl⟩
abbrev main_v71 : Ref sig .tc := ⟨.hbm, 194, rfl⟩
abbrev main_call7_cst : Ref sig .tc := ⟨.hbm, 195, rfl⟩
abbrev main_call7_v0 : Ref sig .tc := ⟨.hbm, 196, rfl⟩
abbrev main_v72 : Ref sig .tc := ⟨.hbm, 197, rfl⟩
abbrev main_v73 : Ref sig .tc := ⟨.hbm, 198, rfl⟩
abbrev main_v74 : Ref sig .tc := ⟨.hbm, 199, rfl⟩
abbrev main_v75 : Ref sig .tc := ⟨.hbm, 200, rfl⟩
abbrev main_v76 : Ref sig .tc := ⟨.hbm, 201, rfl⟩
abbrev main_v77 : Ref sig .tc := ⟨.hbm, 202, rfl⟩
abbrev main_v78 : Ref sig .tc := ⟨.hbm, 203, rfl⟩
abbrev main_call8_v0 : Ref sig .tc := ⟨.hbm, 204, rfl⟩
abbrev main_call8_cst : Ref sig .tc := ⟨.hbm, 205, rfl⟩
abbrev main_call8_v1 : Ref sig .tc := ⟨.hbm, 206, rfl⟩
abbrev main_call8_v2 : Ref sig .tc := ⟨.hbm, 207, rfl⟩
abbrev main_v79 : Ref sig .tc := ⟨.hbm, 208, rfl⟩
abbrev main_cst_12 : Ref sig .tc := ⟨.hbm, 209, rfl⟩
abbrev main_v80 : Ref sig .tc := ⟨.hbm, 210, rfl⟩
abbrev main_v81 : Ref sig .tc := ⟨.hbm, 211, rfl⟩
abbrev main_v82 : Ref sig .tc := ⟨.hbm, 212, rfl⟩
abbrev main_v83 : Ref sig .tc := ⟨.hbm, 213, rfl⟩

abbrev nD : Nat := 1
abbrev τ : Topo := Topo.v7x

variable {F : FTy → Type} [FloatOps F]

abbrev main_while0_count : Scf.Loop 32 := ⟨0#32, 32#32, 1#32⟩
-- ==== Proof.Spec.lean ====
/-
  What one call of the queue update leaves, as plain functions of the labels, the write positions, the key rows and the
  old queues: the element a cell of the stacked queues ends with (`newQ`), an eight-row block with its first rows
  updated (`patchUpTo`), a tile's rows of the result with its first blocks written (`outUpTo`), and the lane store as a
  fold at one element (`storeIdx_apply`).
-/
module

public import proofs.«01_k».proof.Defs
public import Idealize.ShloMosaic.Lib.SparseCore.Ops
public import Idealize.ShloMosaic.Lib.Tactic
public import proofs.«01_k».proof.Proof.Gen.KernelIdeal

@[expose] public section

noncomputable section

namespace Cert.Proof.Queue

open Cert.KernelIdeal Cert.KernelIdeal.Gen
open Idealize.ShloMosaic

variable {F : FTy → Type}

/-- What a call of the queue update works from: the sixteen labels, the sixteen write positions, the key rows, the
    stacked queues. -/
structure Dat (F : FTy → Type) where
  lv : IVec S16 32
  pv : IVec S16 32
  kv : Vec F S16x128 .f32
  qv : Vec F S2816x1024 .f32

/-- The index of key row `b` at feature `n` (below 128). -/
def kIdx (b : S16.Idx) (n : ℕ) : S16x128.Idx := fun | 0 => b 0 | 1 => ⟨n % 128, Nat.mod_lt _ (by decide)⟩ | ⟨_ + 2, h⟩ => absurd h (by simp)

/-- The element at `(r, c)` of the stacked queues after the update: the key row of the last batch entry whose label is
    the class of row `r` and whose position is column `c`, at `r`'s feature; the old element if there is none. -/
def newQ (D : Dat F) (x : S2816x1024.Idx) : Elt F .f32 :=
  (List.finRange 16).foldl (fun acc b =>
    if D.lv (Shape.ofLane b) = BitVec.ofNat 32 ((x 0).val / 128) ∧ (D.pv (Shape.ofLane b)).toNat = (x 1).val
      then D.kv (kIdx (Shape.ofLane b) (x 0).val) else acc) (D.qv x)

/-- Row `r` and column `c` of the stacked queues (`r` taken modulo their number). -/
def qIdx (r : ℕ) (c : Fin 1024) : S2816x1024.Idx := fun | 0 => ⟨r % 2816, Nat.mod_lt _ (by decide)⟩ | 1 => c | ⟨_ + 2, h⟩ => absurd h (by simp)

/-- The eight rows from `r₀` of the stacked queues, the first `n` of them updated. -/
def patchUpTo (D : Dat F) (r₀ n : ℕ) : S8x1024.Idx → Elt F .f32 := fun y =>
  if (y 0).val < n then newQ D (qIdx (r₀ + (y 0).val) (y 1)) else D.qv (qIdx (r₀ + (y 0).val) (y 1))

/-- A result array whose rows below `r` are updated and whose other rows hold `g`. -/
def outUpTo (D : Dat F) (r : ℕ) (g : S2816x1024.Idx → Elt F .f32) : S2816x1024.Idx → Elt F .f32 := fun x =>
  if (x 0).val < r then newQ D x else g x

theorem storeIdx_apply [FloatOps F] {s : Shape} {e : EltTy} {d : Fin 1 → ℕ} (f : Vec F s e) (idxs : Fin s.rank → IVec ⟨1, d⟩ 32)
    (v : Vec F ⟨1, d⟩ e) (mask : IVec ⟨1, d⟩ 1) (h : ∀ a x, (idxs a x).toNat < s.size a) (j : s.Idx) :
    storeIdx f idxs v mask false h j
      = (List.finRange (d 0)).foldl (fun acc b =>
          if mask (Shape.ofLane b) = 1 ∧ ∀ a, (j a).val = (idxs a (Shape.ofLane b)).toNat then v (Shape.ofLane b) else acc) (f j) := by
  unfold storeIdx
  generalize List.finRange (d 0) = l
  induction l generalizing f with
  | nil => rfl
  | cons b l ih =>
    rw [List.foldl_cons, List.foldl_cons]
    refine (ih _).trans ?_
    congr 1
    by_cases hm : mask (Shape.ofLane b) = 1
    · rw [if_pos hm]
      by_cases ha : ∀ a, (j a).val = (idxAt idxs h (Shape.ofLane b) a).val
      · exact (if_pos ha).trans (if_pos ⟨hm, ha⟩).symm
      · exact (if_neg ha).trans (if_neg fun hh => ha hh.2).symm
    · rw [if_neg hm]
      exact (if_neg fun hh => hm hh.1).symm

/-- One masked lane store of a block's row `n`: the block with one more row updated. -/
theorem storeIdx_patch [FloatOps F] (D : Dat F) {r₀ n : ℕ} (hn : n < 8) (h8 : r₀ % 8 = 0) (hr : r₀ + 8 ≤ 2816)
    (idxs : Fin 2 → IVec S16 32) (v : Vec F S16 .f32) (mask : IVec S16 1) (h : ∀ a x, (idxs a x).toNat < S8x1024.size a)
    (hrow : ∀ x, (idxs 0 x).toNat = n) (hcol : ∀ x, (idxs 1 x) = D.pv x)
    (hv : ∀ x, v x = D.kv (kIdx x (r₀ + n))) (hmask : ∀ x, mask x = 1 ↔ D.lv x = BitVec.ofNat 32 (r₀ / 128)) :
    storeIdx (patchUpTo D r₀ n) idxs v mask false h = patchUpTo D r₀ (n + 1) := by
  funext j
  rw [storeIdx_apply]
  have hj : (j 0).val < 8 := (j 0).isLt
  by_cases hjn : (j 0).val = n
  · have hR : patchUpTo D r₀ (n + 1) j = newQ D (qIdx (r₀ + n) (j 1)) := by simp [patchUpTo, hjn]
    have hL : patchUpTo D r₀ n j = D.qv (qIdx (r₀ + n) (j 1)) := by simp [patchUpTo, hjn]
    rw [hR, hL]; unfold newQ
    have h0 : ((qIdx (r₀ + n) (j 1)) 0).val = r₀ + n := Nat.mod_eq_of_lt (by omega)
    have h1 : ((qIdx (r₀ + n) (j 1)) 1) = j 1 := rfl
    rw [h0, h1]
    congr 1
    funext acc b
    have hc : (r₀ + n) / 128 = r₀ / 128 := by omega
    rw [hc, hv]
    congr 1
    rw [hmask, Fin.forall_fin_two, hrow, hcol]
    simp only [hjn, true_and]
    exact propext (and_congr_right fun _ => eq_comm)
  · have hR : patchUpTo D r₀ (n + 1) j = patchUpTo D r₀ n j := by
      unfold patchUpTo
      by_cases hlt : (j 0).val < n
      · rw [if_pos hlt, if_pos (by omega)]
      · rw [if_neg hlt, if_neg (by omega)]
    rw [hR]
    generalize List.finRange _ = l
    induction l with
    | nil => rfl
    | cons b l ih =>
      rw [List.foldl_cons, if_neg]
      · exact ih
      · rintro ⟨-, ha⟩
        exact hjn ((ha 0).trans (hrow _))

/-- The gather of a feature's column: every lane its own key row. -/
theorem loadIdx_key [FloatOps F] (kv : Vec F S16x128 .f32) (idxs : Fin 2 → IVec S16 32) (h : ∀ a x, (idxs a x).toNat < S16x128.size a) (n : ℕ)
    (h0 : ∀ x, (idxs 0 x).toNat = (x 0).val) (h1 : ∀ x, (idxs 1 x).toNat = n % 128) (x : S16.Idx) :
    loadIdx kv idxs h x = kv (kIdx x n) := by
  unfold loadIdx
  congr 1
  funext a
  match a with
  | 0 => exact Fin.ext (h0 x)
  | 1 => exact Fin.ext (h1 x)

end Cert.Proof.Queue

end
-- ==== Proof.Steps.lean ====
/-
  One tile's walk through its eleven blocks of eight rows, as rules on the assertions its states are: a table read by
  the lane gather, a block's row rewritten by the lane store, a read of the next block started and awaited, a write of
  the finished block started and awaited. Each rule is proved once and applied at every block.
-/
module

public import proofs.«01_k».proof.Proof.Spec
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Queue

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight Flight_mono wp_dmaLocal wp_waitLocalO MayWaits)
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
abbrev DF [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL
abbrev EC : UEmb Counters (MT nD τ sig (HIx 1) (Elt F) ℕ UU ℕ) := countersEmb

variable [FloatOps F]

/-! ## A tile, its rows, what its buffers hold -/

/-- The vector subcore at grid point `L`. -/
abbrev tid (d : Dev nD) (L : grid0.Coords) : Thread nD τ := V d ((L 0).castLE hcore0) ((L 1).castLE hsub0)

/-- The first of the tile's 88 rows. -/
def base (L : grid0.Coords) : ℕ := 1408 * (L 0).val + 88 * (L 1).val

theorem base_le (L : grid0.Coords) : base L + 88 ≤ 2816 := by
  have h0 : (L 0).val < 2 := (L 0).isLt
  have h1 : (L 1).val < 16 := (L 1).isLt
  unfold base; omega

theorem base_mod (L : grid0.Coords) (t : ℕ) : (base L + 8 * t) % 8 = 0 := by unfold base; omega

/-- The tile's rows of the stacked queues. -/
def tileSet (L : grid0.Coords) : Finset S2816x1024.Idx := Finset.univ.filter fun x => base L ≤ (x 0).val ∧ (x 0).val < base L + 88
/-- Rows `r` to `r + 7`. -/
def rowSet (r : ℕ) : Finset S2816x1024.Idx := Finset.univ.filter fun x => r ≤ (x 0).val ∧ (x 0).val < r + 8

theorem rowSet_subset (L : grid0.Coords) {t : ℕ} (ht : t < 11) : rowSet (base L + 8 * t) ⊆ tileSet L := by
  intro x hx
  simp only [rowSet, tileSet, Finset.mem_filter, Finset.mem_univ, _root_.true_and] at hx ⊢
  omega

abbrev qM : Memref sig .scVector .hbm S2816x1024 .f32 := Memref.whole main_v1_scv
abbrev oM : Memref sig .scVector .hbm S2816x1024 .f32 := Memref.whole main_v2_0_scv

section State

variable (d : Dev nD) (L : grid0.Coords)

/-- The memref's elements at the tile, held at share `q`, reading `P`. -/
def Holds {sp : Space} {s : Shape} {e : EltTy} (m : Memref sig .scVector sp s e) (q : PosShare TreeShare) (P : s.Idx → Elt F e) : sProp 𝕄 :=
  iprop(∃ f, ⌜m.view.read (Elt F) f = P⌝ ∗ m.view.loc (tid d L) ↦[m.view.set]{q} f)

/-- Elements of the stacked queues at their contents. -/
def qPts (D : Dat F) (I : Finset S2816x1024.Idx) : sProp 𝕄 := qM.view.loc (tid d L) ↦[I]{fullShare} D.qv
/-- The tile's rows of the result, those below `r` updated. -/
def oPts (D : Dat F) (r : ℕ) : sProp 𝕄 := iprop(∃ g, oM.view.loc (tid d L) ↦[tileSet L]{fullShare} (outUpTo D r g : Buf (Elt F) (oM.view.loc (tid d L))))

/-- What the tile carries along: the evidence for its waits, what it owes, and whatever else (`R`). -/
def Own (O : CellTallies nD τ sig (HIx 1)) (W : Waits sig (HIx 1)) (R : sProp 𝕄) : sProp 𝕄 :=
  iprop(MayWaits (tid d L) (none : HIx 1) O ∗ (∃ W', ⌜∀ p ∈ W', p ∈ W ∨ p.2 = none⌝ ∗ owes (tid d L) O W') ∗ R)

/-- The semaphore at the tile, at zero. -/
abbrev sem0 (sm : DmaSem sig) : sProp 𝕄 := semVal (tid d L, SemLoc.dma sm) 0

/-- Block `t` on its way into `y`: when it lands, `y` reads the block and the block's rows are back. -/
def ReadFly (D : Dat F) (y : Memref sig .scVector .vmem S8x1024 .f32) (ry : DmaSem sig) (t : ℕ) : sProp 𝕄 :=
  Flight EC (tid d L) (.dma ry) (none : HIx 1) y.view.dmaCredit
    iprop(Holds d L y fullShare (patchUpTo D (base L + 8 * t) 0) ∗ qPts d L D (rowSet (base L + 8 * t)))

/-- The next block on its way (block `t`, the other rows held), or nothing more to read. -/
def Ahead (D : Dat F) (y : Memref sig .scVector .vmem S8x1024 .f32) (ry : DmaSem sig) (t : ℕ) : sProp 𝕄 :=
  iprop(ReadFly d L D y ry t ∗ qPts d L D (tileSet L \ rowSet (base L + 8 * t)))
def NoAhead (D : Dat F) (y : Memref sig .scVector .vmem S8x1024 .f32) (ry : DmaSem sig) : sProp 𝕄 :=
  iprop((∃ P, Holds d L y fullShare P) ∗ sem0 d L ry ∗ qPts d L D (tileSet L))

/-- The credit of a block's write. -/
abbrev NW : ℕ := sig.dmaCredit .scVector (Kind.scVector.table .hbm) (main_v2_0_scv : Ref sig .scVector).idx S8x1024 .f32

/-- Block `t` on its way out of `x`: when it lands, the result's rows through block `t` are updated and `x` is back. -/
def WriteFly (D : Dat F) (x : Memref sig .scVector .vmem S8x1024 .f32) (wx : DmaSem sig) (t : ℕ) : sProp 𝕄 :=
  Flight EC (tid d L) (.dma wx) (none : HIx 1) NW iprop(oPts d L D (base L + 8 * (t + 1)) ∗ ∃ P, Holds d L x fullShare P)

/-! ## The views -/

omit [FloatOps F] in
theorem access_set {sp : Space} {s : Shape} {e : EltTy} (m : Memref sig .scVector sp s e) : (m.access (.whole s)).set = m.view.set := by
  show (m.view.slice (.whole s)).set = _
  rw [View.set_slice, Rect.set_whole]; rfl

theorem access_read {sp : Space} {s : Shape} {e : EltTy} (m : Memref sig .scVector sp s e) (f : m.view.ty.Contents (Elt F)) :
    (m.access (.whole s)).read (Elt F) f = m.view.read (Elt F) f :=
  funext fun x => congrArg (m.view.read (Elt F) f) (Rect.emb_whole_apply s x)

/-! ## The rules -/

abbrev wpT {α : Type} (p : Prog (TpuEff nD τ sig (Elt F) Λ₀ (tid d L).2) α) (Q : α → sProp 𝕄) : sProp 𝕄 :=
  wp frame (wpE (defs₀ (F := F)) 𝒱₀ (tid d L) none) Set.univ p Q

variable {α : Type} {Q : α → sProp (MT nD τ sig (HIx 1) (Elt F) ℕ UU ℕ)}

theorem step_chk {P : Prop} {dd : Decidable P} {k : PLift P → Prog (TpuEff nD τ sig (Elt F) Λ₀ (tid d L).2) α} {Γ : sProp 𝕄} (h : P)
    (hk : Γ ⊢ wpT d L (k ⟨h⟩) Q) : Γ ⊢ wpT d L (Prog.lift (TpuEff.assume P dd) >>= k) Q :=
  hk.trans (wp_assume 𝒱₀ (tid d L) none Set.univ (k := k) h)

theorem step_gather {s t : Shape} {e : EltTy} {m : Memref sig .scVector .vmem s e} {idxs : Fin s.rank → IVec t 32}
    {h : ∀ a x, (idxs a x).toNat < s.size a} {hl : m.view.Loads} {k : Vec F t e → Prog (TpuEff nD τ sig (Elt F) Λ₀ (tid d L).2) α}
    {q : PosShare TreeShare} {P : s.Idx → Elt F e} {R : sProp 𝕄}
    (hk : iprop(Holds d L m q P ∗ R) ⊢ wpT d L (k (loadIdx P idxs h)) Q) :
    iprop(Holds d L m q P ∗ R) ⊢ wpT d L (SparseCore.vectorLoadIdx m idxs h hl >>= k) Q := by
  unfold Holds at hk ⊢
  iintro ⟨⟨%f, %hf, H⟩, HR⟩
  iapply (SparseCore.wp_vectorLoadIdx (defs := defs₀ (F := F)) 𝒱₀ (tid d L) none Set.univ (base := m) (S := m.view.set) (f := f) (access_set m).le) $$ H
  iintro H
  rw [access_read, hf]
  iapply hk
  isplitl [H]
  · iexists f; isplitr; · ipureintro; exact hf
    iexact H
  · iexact HR

theorem step_scatter {m : Memref sig .scVector .vmem S8x1024 .f32} {idxs : Fin 2 → IVec S16 32} {v : Vec F S16 .f32} {mask : IVec S16 1}
    {h : ∀ a x, (idxs a x).toNat < S8x1024.size a} {hs : (m.access (.whole S8x1024)).Stores Finset.univ}
    {k : PUnit → Prog (TpuEff nD τ sig (Elt F) Λ₀ (tid d L).2) α} {R R' : sProp 𝕄} {D : Dat F} {t n : ℕ}
    (ht : t < 11) (hn : n < 8)
    (hrow : ∀ x, (idxs 0 x).toNat = n) (hcol : ∀ x, (idxs 1 x) = D.pv x)
    (hv : ∀ x, v x = D.kv (kIdx x (base L + 8 * t + n))) (hmask : ∀ x, mask x = 1 ↔ D.lv x = BitVec.ofNat 32 ((base L + 8 * t) / 128))
    (hk : iprop(R' ∗ Holds d L m fullShare (patchUpTo D (base L + 8 * t) (n + 1)) ∗ R) ⊢ wpT d L (k ⟨⟩) Q) :
    iprop(R' ∗ Holds d L m fullShare (patchUpTo D (base L + 8 * t) n) ∗ R) ⊢ wpT d L (SparseCore.vectorStoreIdx m idxs v mask false h hs >>= k) Q := by
  unfold Holds at hk ⊢
  iintro ⟨HR', ⟨%f, %hf, H⟩, HR⟩
  have hL := base_le L
  iapply (SparseCore.wp_vectorStoreIdx (defs := defs₀ (F := F)) 𝒱₀ (tid d L) none Set.univ (base := m) (f := f)) $$ [H]
  · rw [access_set]; iexact H
  iintro H
  iapply hk
  isplitl [HR']; · iexact HR'
  isplitl [H]
  · iexists _; isplitr
    swap
    · rw [access_set]; iexact H
    · ipureintro
      rw [← access_read, View.read_write_univ, access_read, hf]
      exact storeIdx_patch D hn (base_mod L t) (by omega) idxs v mask h hrow hcol hv hmask
  · iexact HR

/-! ### The blocks' copies -/

omit [FloatOps F] in
theorem slice_set {b : Ref sig .scVector} {off : Fin b.ty.shape.rank → ℕ} {size : Fin b.ty.shape.rank → ℕ} {inb} :
    ((View.whole b).slice (Rect.unit (s := b.ty.shape) off size inb)).set = (Rect.unit (s := b.ty.shape) off size inb).set :=
  View.set_slice_whole b _

omit [FloatOps F] in
theorem block_mem {off : Fin 2 → ℕ} {inb} {r : ℕ} (hoff : off = ![r, 0]) (x : S2816x1024.Idx) :
    x ∈ (Rect.unit (s := S2816x1024) off S8x1024.size inb).set ↔ x ∈ rowSet r := by
  subst hoff
  rw [Rect.mem_set_unit, Fin.forall_fin_two]
  simp only [rowSet, Finset.mem_filter, Finset.mem_univ, _root_.true_and]
  have h1 : (x 1).val < 1024 := (x 1).isLt
  show ((r ≤ (x 0).val ∧ (x 0).val < r + 8) ∧ (0 ≤ (x 1).val ∧ (x 1).val < 0 + 1024)) ↔ _
  omega

omit [FloatOps F] in
theorem qBlock_set {off : Fin 2 → ℕ} {inb} {r : ℕ} (hoff : off = ![r, 0]) :
    (qM.slice (Rect.unit (s := S2816x1024) off S8x1024.size inb) (fun _ => rfl)).view.set = rowSet r :=
  (View.set_slice_whole main_v1_scv (Rect.unit (s := S2816x1024) off S8x1024.size inb)).trans (Finset.ext (block_mem hoff))

omit [FloatOps F] in
theorem oBlock_set {off : Fin 2 → ℕ} {inb} {r : ℕ} (hoff : off = ![r, 0]) :
    (oM.slice (Rect.unit (s := S2816x1024) off S8x1024.size inb) (fun _ => rfl)).view.set = rowSet r :=
  (View.set_slice_whole main_v2_0_scv (Rect.unit (s := S2816x1024) off S8x1024.size inb)).trans (Finset.ext (block_mem hoff))

omit [FloatOps F] in
/-- Where a block's element lies. -/
theorem block_emb {off : Fin 2 → ℕ} {inb} {r : ℕ} (hoff : off = ![r, 0]) (hr : r + 8 ≤ 2816) (y : S8x1024.Idx) :
    (Rect.unit (s := S2816x1024) off S8x1024.size inb).emb y = qIdx (r + (y 0).val) (y 1) := by
  subst hoff
  have h0 : (y 0).val < 8 := (y 0).isLt
  funext a
  match a with
  | 0 => exact Fin.ext (show r + 1 * (y 0).val = (r + (y 0).val) % 2816 by omega)
  | 1 => exact Fin.ext (show 0 + 1 * (y 1).val = (y 1).val by omega)

/-- Starting the read of block `t` into a free buffer. -/
theorem read_start {D : Dat F} {x : Memref sig .scVector .vmem S8x1024 .f32} {rx : DmaSem sig} {t : ℕ} (ht : t < 11)
    {off : Fin 2 → ℕ} {inb : ∀ a, off a + S8x1024.size a ≤ S2816x1024.size a} (hoff : off = ![base L + 8 * t, 0])
    {hsrc : (qM.slice (Rect.unit (s := S2816x1024) off S8x1024.size inb) (fun _ => rfl)).view.WordExact} {hdst : x.view.WordExact}
    {hsem : DmaTarget.Typed (nD := nD) (p := (tid d L).2) .hbm (SemLoc.dma rx) (.here x)}
    {k : PUnit → Prog (TpuEff nD τ sig (Elt F) Λ₀ (tid d L).2) α} :
    NoAhead d L D x rx ⊢ iprop((Ahead d L D x rx t -∗ wpT d L (k ⟨⟩) Q)
      -∗ wpT d L (.op (.enqueueDma (qM.slice (Rect.unit (s := S2816x1024) off S8x1024.size inb) (fun _ => rfl)) (.here x) (.dma rx) hsrc hdst hsem) k) Q) := by
  have hL := base_le L
  unfold NoAhead Ahead ReadFly qPts Holds
  iintro ⟨⟨%P, %f, %hf, Hx⟩, Hs, Hq⟩ Hk
  ihave Hq' := (pointsTo_split_subset (rowSet_subset L ht)).1 $$ Hq
  icases Hq' with ⟨Hq, Hrest⟩
  iapply (wp_dmaLocal EC 𝒱₀ (tid d L) none (defs := defs₀ (F := F)) (src := qM.slice (Rect.unit (s := S2816x1024) off S8x1024.size inb) (fun _ => rfl))
    (dst := x) (via := .same) (sm := .dma rx) (q := fullShare) (fs := D.qv) (fd := f) (Sd := x.view.set)
    (none : HIx 1) x.view.dmaCredit rfl (View.dmaCredit_pos _ (by decide)) subset_rfl) $$ [Hq Hx Hs]
  · isplitl [Hq]
    · rw [qBlock_set hoff]; iexact Hq
    isplitl [Hx]; · iexact Hx
    iexact Hs
  iintro Hfl
  iapply Hk
  isplitr [Hrest]
  · iapply (Flight_mono _ _ ?_) $$ Hfl
    iintro ⟨Hx, Hq⟩
    isplitl [Hx]
    · iexists _; isplitr
      swap
      · iexact Hx
      · ipureintro
        rw [View.read_write_univ]
        funext y
        show D.qv ((Rect.unit (s := S2816x1024) off S8x1024.size inb).emb y) = _
        rw [block_emb hoff (by omega)]
        simp [patchUpTo]
    · rw [qBlock_set hoff]; iexact Hq
  · iexact Hrest

/-- Awaiting the read of block `t`. -/
theorem read_wait {D : Dat F} {y : Memref sig .scVector .vmem S8x1024 .f32} {ry : DmaSem sig} {t : ℕ} (ht : t < 11)
    {srcw : Memref sig .scVector .hbm S8x1024 .f32} {hsrc : srcw.view.WordExact} {hdst : y.view.WordExact}
    {O : CellTallies nD τ sig (HIx 1)} {W : Waits sig (HIx 1)} {R : sProp 𝕄}
    {k : PUnit → Prog (TpuEff nD τ sig (Elt F) Λ₀ (tid d L).2) α} :
    iprop(Ahead d L D y ry t ∗ Own d L O W R)
      ⊢ iprop((Holds d L y fullShare (patchUpTo D (base L + 8 * t) 0) ∗ sem0 d L ry ∗ qPts d L D (tileSet L) ∗ Own d L O W R -∗ wpT d L (k ⟨⟩) Q)
      -∗ wpT d L (.op (.waitDma2 ry srcw y hsrc hdst) k) Q) := by
  unfold Ahead Own ReadFly
  iintro ⟨⟨Hfl, Hrest⟩, #Hmw, ⟨%W', %hW', HO⟩, HR⟩ Hk
  ihave Hm := (MayWaits.elim (SemLoc.dma ry)) $$ Hmw
  iapply (wp_waitLocalO EC 𝒱₀ (tid d L) none (defs := defs₀ (F := F)) (dstw := y) (none : HIx 1) rfl) $$ [Hfl HO Hm]
  · isplitl [Hfl]; · iexact Hfl
    isplitl [HO]; · iexact HO
    iexact Hm
  iintro ⟨⟨Hy, Hq⟩, Hs, HO⟩
  iapply Hk
  isplitl [Hy]; · iexact Hy
  isplitl [Hs]; · iexact Hs
  isplitl [Hq Hrest]
  · unfold qPts
    iapply (pointsTo_split_subset (rowSet_subset L ht)).2
    isplitl [Hq] <;> iassumption
  isplitr; · iexact Hmw
  isplitl [HO]
  · iexists _; isplitr
    swap
    · iexact HO
    · ipureintro; intro p hp
      rcases Finset.mem_insert.mp hp with hp | hp
      · exact .inr (hp ▸ rfl)
      · exact hW' p hp
  · iexact HR

/-- What the block's write leaves in the tile's rows of the result. -/
theorem write_block (D : Dat F) {t : ℕ} (ht : t < 11) {off : Fin 2 → ℕ} {inb : ∀ a, off a + S8x1024.size a ≤ S2816x1024.size a}
    (hoff : off = ![base L + 8 * t, 0]) (g : S2816x1024.Idx → Elt F .f32) (x : S2816x1024.Idx) (hx : x ∈ tileSet L) :
    (oM.slice (Rect.unit (s := S2816x1024) off S8x1024.size inb) (fun _ => rfl)).view.write (Elt F) (outUpTo D (base L + 8 * t) g)
        (patchUpTo D (base L + 8 * t) 8) Finset.univ x
      = outUpTo D (base L + 8 * (t + 1)) g x := by
  have hL := base_le L
  by_cases hm : x ∈ rowSet (base L + 8 * t)
  · have hm' : x ∈ (oM.slice (Rect.unit (s := S2816x1024) off S8x1024.size inb) (fun _ => rfl)).view.set := by rw [oBlock_set hoff]; exact hm
    unfold View.set at hm'
    obtain ⟨y, -, rfl⟩ := Finset.mem_map.mp hm'
    have h0 : (y 0).val < 8 := (y 0).isLt
    refine (View.write_emb_of_mem (v := (oM.slice (Rect.unit (s := S2816x1024) off S8x1024.size inb) (fun _ => rfl)).view) _ _ (Finset.mem_univ y)).trans ?_
    show patchUpTo D (base L + 8 * t) 8 y = outUpTo D (base L + 8 * (t + 1)) g ((Rect.unit (s := S2816x1024) off S8x1024.size inb).emb y)
    rw [block_emb hoff (by omega)]
    have h1 : ((qIdx (base L + 8 * t + (y 0).val) (y 1)) 0).val = base L + 8 * t + (y 0).val := Nat.mod_eq_of_lt (by omega)
    simp only [patchUpTo, outUpTo, h1, if_pos h0, if_pos (show base L + 8 * t + (y 0).val < base L + 8 * (t + 1) by omega)]
  · rw [View.write_of_not_mem]
    · simp only [rowSet, tileSet, Finset.mem_filter, Finset.mem_univ, _root_.true_and] at hm hx
      unfold outUpTo
      by_cases h1 : (x 0).val < base L + 8 * t
      · rw [if_pos h1, if_pos (by omega)]
      · rw [if_neg h1, if_neg (by omega)]
    · intro hx'
      apply hm
      rw [← oBlock_set (inb := inb) hoff]
      exact hx'

/-- Starting the write of block `t`, wholly updated in `x`. -/
theorem write_start {D : Dat F} {x : Memref sig .scVector .vmem S8x1024 .f32} {wx : DmaSem sig} {t : ℕ} (ht : t < 11)
    {off : Fin 2 → ℕ} {inb : ∀ a, off a + S8x1024.size a ≤ S2816x1024.size a} (hoff : off = ![base L + 8 * t, 0])
    {hdst : (oM.slice (Rect.unit (s := S2816x1024) off S8x1024.size inb) (fun _ => rfl)).view.WordExact} {hsrc : x.view.WordExact}
    {hsem : DmaTarget.Typed (nD := nD) (p := (tid d L).2) .vmem (SemLoc.dma wx) (.here (oM.slice (Rect.unit (s := S2816x1024) off S8x1024.size inb) (fun _ => rfl)))}
    {k : PUnit → Prog (TpuEff nD τ sig (Elt F) Λ₀ (tid d L).2) α} :
    iprop(Holds d L x fullShare (patchUpTo D (base L + 8 * t) 8) ∗ oPts d L D (base L + 8 * t) ∗ sem0 d L wx) ⊢ iprop((WriteFly d L D x wx t -∗ wpT d L (k ⟨⟩) Q)
      -∗ wpT d L (.op (.enqueueDma x (.here (oM.slice (Rect.unit (s := S2816x1024) off S8x1024.size inb) (fun _ => rfl))) (.dma wx) hsrc hdst hsem) k) Q) := by
  have hL := base_le L
  unfold WriteFly Holds oPts
  iintro ⟨⟨%f, %hf, Hx⟩, ⟨%g, Ho⟩, Hs⟩ Hk
  iapply (wp_dmaLocal EC 𝒱₀ (tid d L) none (defs := defs₀ (F := F)) (src := x)
    (dst := oM.slice (Rect.unit (s := S2816x1024) off S8x1024.size inb) (fun _ => rfl)) (via := .same) (sm := .dma wx) (q := fullShare)
    (fs := f) (fd := outUpTo D (base L + 8 * t) g) (Sd := tileSet L)
    (none : HIx 1) NW rfl (sig.dmaCredit_pos _ _ _ _ _ (by decide)) ((oBlock_set hoff).le.trans (rowSet_subset L ht))) $$ [Ho Hx Hs]
  · isplitl [Hx]; · iexact Hx
    isplitl [Ho]; · iexact Ho
    iexact Hs
  iintro Hfl
  iapply Hk
  iapply (Flight_mono _ _ ?_) $$ Hfl
  iintro ⟨Ho, Hx⟩
  isplitl [Ho]
  · iexists g
    iapply (Entails.of_eq (pointsTo_congr (fun i hi => ?_))) $$ Ho
    show (oM.slice (Rect.unit (s := S2816x1024) off S8x1024.size inb) (fun _ => rfl)).view.write (Elt F) (outUpTo D (base L + 8 * t) g)
        (x.view.read (Elt F) f) Finset.univ i = _
    rw [hf]
    exact write_block L D ht hoff g i hi
  · iexists x.view.read (Elt F) f, f; isplitr
    · ipureintro; rfl
    · iexact Hx

/-- Awaiting the write of block `t`. -/
theorem write_wait {D : Dat F} {x : Memref sig .scVector .vmem S8x1024 .f32} {wx : DmaSem sig} {t : ℕ}
    {off : Fin 2 → ℕ} {inb : ∀ a, off a + S8x1024.size a ≤ S2816x1024.size a}
    {hdst : (oM.slice (Rect.unit (s := S2816x1024) off S8x1024.size inb) (fun _ => rfl)).view.WordExact} {hsrc : x.view.WordExact}
    {O : CellTallies nD τ sig (HIx 1)} {W : Waits sig (HIx 1)} {R : sProp 𝕄}
    {k : PUnit → Prog (TpuEff nD τ sig (Elt F) Λ₀ (tid d L).2) α} :
    iprop(WriteFly d L D x wx t ∗ Own d L O W R)
      ⊢ iprop((oPts d L D (base L + 8 * (t + 1)) ∗ (∃ P, Holds d L x fullShare P) ∗ sem0 d L wx ∗ Own d L O W R -∗ wpT d L (k ⟨⟩) Q)
      -∗ wpT d L (.op (.waitDma2 wx x (oM.slice (Rect.unit (s := S2816x1024) off S8x1024.size inb) (fun _ => rfl)) hsrc hdst) k) Q) := by
  unfold Own WriteFly
  iintro ⟨Hfl, #Hmw, ⟨%W', %hW', HO⟩, HR⟩ Hk
  ihave Hm := (MayWaits.elim (SemLoc.dma wx)) $$ Hmw
  iapply (wp_waitLocalO EC 𝒱₀ (tid d L) none (defs := defs₀ (F := F)) (srcw := x)
    (dstw := oM.slice (Rect.unit (s := S2816x1024) off S8x1024.size inb) (fun _ => rfl)) (none : HIx 1) rfl) $$ [Hfl HO Hm]
  · isplitl [Hfl]; · iexact Hfl
    isplitl [HO]; · iexact HO
    iexact Hm
  iintro ⟨⟨Ho, Hx⟩, Hs, HO⟩
  iapply Hk
  isplitl [Ho]; · iexact Ho
  isplitl [Hx]; · iexact Hx
  isplitl [Hs]; · iexact Hs
  isplitr; · iexact Hmw
  isplitl [HO]
  · iexists _; isplitr
    swap
    · iexact HO
    · ipureintro; intro p hp
      rcases Finset.mem_insert.mp hp with hp | hp
      · exact .inr (hp ▸ rfl)
      · exact hW' p hp
  · iexact HR

end State

end Cert.Proof.Queue

end
-- ==== Proof.Words.lean ====
/-
  The words a tile computes from its grid point: the rows of its blocks, their class and feature, and the index checks
  of the lane gathers and stores, each for every block and row at once.
-/
module

public import proofs.«01_k».proof.Proof.Steps
public import proofs.«01_k».proof.Proof.Gen.KernelIdeal.Skeleton

@[expose] public section

noncomputable section

namespace Cert.Proof.Queue

open Cert.KernelIdeal Cert.KernelIdeal.Gen
open Idealize.ShloMosaic

variable {F : FTy → Type}

/-- The tile's number, and its first row, as the words the program computes. -/
abbrev tileW (L : grid0.Coords) : BitVec 32 := Scalar.addi (Scalar.muli (BitVec.ofNat 32 (L 0).val) 16#32) (BitVec.ofNat 32 (L 1).val)
abbrev rowW (L : grid0.Coords) : BitVec 32 := Scalar.muli (tileW L) 88#32
/-- The feature of a block's first row, and its class, as words. -/
abbrev featW (L : grid0.Coords) (r : ℕ) : BitVec 32 := Scalar.remsi (Scalar.addi (rowW L) (BitVec.ofNat 32 r)) 128#32
abbrev classW (L : grid0.Coords) (r : ℕ) : BitVec 32 := Scalar.divsi (Scalar.addi (rowW L) (BitVec.ofNat 32 r)) 128#32
/-- The lanes' numbers. -/
abbrev lanes : IVec S16 32 := iota .scVector S16 32 [0] iota_S16_d0_w32_scVector

theorem words_all : ∀ L : grid0.Coords, ∀ t : Fin 11,
    featW L (8 * t.val) = BitVec.ofNat 32 ((1408 * (L 0).val + 88 * (L 1).val + 8 * t.val) % 128)
      ∧ classW L (8 * t.val) = BitVec.ofNat 32 ((1408 * (L 0).val + 88 * (L 1).val + 8 * t.val) / 128) := by decide +kernel

/-- The blocks' starts, in a tile: the multiples of eight up to 80. -/
def IsBlock (r : ℕ) : Prop := r % 8 = 0 ∧ r ≤ 80
instance (r : ℕ) : Decidable (IsBlock r) := inferInstanceAs (Decidable (_ ∧ _))

theorem featW_eq (L : grid0.Coords) {r : ℕ} (hr : IsBlock r) : featW L r = BitVec.ofNat 32 ((base L + r) % 128) := by
  obtain ⟨h1, h2⟩ := hr
  have := (words_all L ⟨r / 8, by omega⟩).1
  rwa [show 8 * (r / 8) = r by omega] at this

theorem classW_eq (L : grid0.Coords) {r : ℕ} (hr : IsBlock r) : classW L r = BitVec.ofNat 32 ((base L + r) / 128) := by
  obtain ⟨h1, h2⟩ := hr
  have := (words_all L ⟨r / 8, by omega⟩).2
  rwa [show 8 * (r / 8) = r by omega] at this

theorem lanes_toNat : ∀ x : S16.Idx, (lanes x).toNat = (x 0).val := by decide +kernel

theorem col_nat (L : grid0.Coords) {r j : ℕ} (hr : IsBlock r) (hj : j < 8) :
    (Scalar.addi (featW L r) (BitVec.ofNat 32 j)).toNat = (base L + r + j) % 128 := by
  have hb := base_mod L (r / 8)
  obtain ⟨h1, h2⟩ := id hr
  rw [featW_eq L hr]
  show (BitVec.ofNat 32 ((base L + r) % 128) + BitVec.ofNat 32 j).toNat = _
  simp only [BitVec.toNat_add, BitVec.toNat_ofNat]
  omega

/-- The gather's indices are in range. -/
theorem chk_key (L : grid0.Coords) {r j : ℕ} (hr : IsBlock r) (hj : j < 8) :
    ∀ a x, ((![lanes, broadcast S16 (Scalar.addi (featW L r) (BitVec.ofNat 32 j))] : Fin 2 → IVec S16 32) a x).toNat < S16x128.size a := by
  rw [Fin.forall_fin_two]
  refine ⟨fun x => ?_, fun x => ?_⟩
  · show (lanes x).toNat < 16
    rw [lanes_toNat]; exact (x 0).isLt
  · show (Scalar.addi (featW L r) (BitVec.ofNat 32 j)).toNat < 128
    rw [col_nat L hr hj]; omega

theorem row_nat (w : BitVec 32) {j : ℕ} (hj : j < 8) : (Scalar.addi (BitVec.ofNat 32 j) (Scalar.muli w 0#32)).toNat = j := by
  show (BitVec.ofNat 32 j + w * 0#32).toNat = j
  simp only [BitVec.mul_zero, BitVec.add_zero, BitVec.toNat_ofNat]
  omega

/-- The store's indices are in range. -/
theorem chk_row (w : BitVec 32) {j : ℕ} (hj : j < 8) {pv : IVec S16 32} (hpv : ∀ x, (pv x).toNat < 1024) :
    ∀ a x, ((![broadcast S16 (Scalar.addi (BitVec.ofNat 32 j) (Scalar.muli w 0#32)), pv] : Fin 2 → IVec S16 32) a x).toNat < S8x1024.size a := by
  rw [Fin.forall_fin_two]
  refine ⟨fun x => ?_, hpv⟩
  show (Scalar.addi (BitVec.ofNat 32 j) (Scalar.muli w 0#32)).toNat < 8
  rw [row_nat w hj]; exact hj

/-- The lanes of a block's class. -/
theorem mask_iff (L : grid0.Coords) {r : ℕ} (hr : IsBlock r) (lv : IVec S16 32) (x : S16.Idx) :
    cmpi .eq lv (broadcast S16 (classW L r)) x = 1 ↔ lv x = BitVec.ofNat 32 ((base L + r) / 128) := by
  rw [← classW_eq L hr]
  show BitVec.ofBool (lv x == classW L r) = 1#1 ↔ _
  by_cases h : lv x = classW L r
  · simp [h]
  · have hb : (lv x == classW L r) = false := beq_eq_false_iff_ne.2 h
    rw [hb]
    exact ⟨fun h' => absurd h' (by decide), fun h' => absurd h' h⟩

/-- The gathered column. -/
theorem key_val [FloatOps F] (L : grid0.Coords) {r j : ℕ} (hr : IsBlock r) (hj : j < 8) (kv : Vec F S16x128 .f32)
    (h : ∀ a x, ((![lanes, broadcast S16 (Scalar.addi (featW L r) (BitVec.ofNat 32 j))] : Fin 2 → IVec S16 32) a x).toNat < S16x128.size a)
    (x : S16.Idx) : loadIdx kv ![lanes, broadcast S16 (Scalar.addi (featW L r) (BitVec.ofNat 32 j))] h x = kv (kIdx x (base L + r + j)) :=
  loadIdx_key kv _ h _ lanes_toNat (fun _ => col_nat L hr hj) x

/-- A block's first row as a word. -/
theorem off_all : ∀ L : grid0.Coords, ∀ t : Fin 11, (Scalar.addi (rowW L) (BitVec.ofNat 32 (8 * t.val))).toNat = 1408 * (L 0).val + 88 * (L 1).val + 8 * t.val := by
  decide +kernel
theorem off_eq (L : grid0.Coords) {r : ℕ} (hr : IsBlock r) : (![(Scalar.addi (rowW L) (BitVec.ofNat 32 r)).toNat, 0] : Fin 2 → ℕ) = ![base L + r, 0] := by
  obtain ⟨h1, h2⟩ := hr
  have := off_all L ⟨r / 8, by omega⟩
  rw [show 8 * (r / 8) = r by omega] at this
  rw [this]; rfl

end Cert.Proof.Queue

end
-- ==== Proof.Rules.lean ====
/-
  The states a tile goes through and the rules between them: a block being patched, being written out while the next one
  is read, landed, and idle; the copies in and out; loads and stores of half a pointer table.
-/
module

public import proofs.«01_k».proof.Proof.Words

@[expose] public section

noncomputable section

namespace Cert.Proof.Queue

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight Flight_mono wp_dmaLocal wp_waitLocalO MayWaits)
open Idealize.ShloMosaic.Tactic

variable {F : FTy → Type} [FloatOps F]

local notation "𝕄" => MT nD τ sig (HIx 1) (Elt F) ℕ UU ℕ

abbrev lM : Memref sig .scVector .vmem S16 .i32 := Memref.whole cc0_scratch0
abbrev pM : Memref sig .scVector .vmem S32 .i32 := Memref.whole cc0_scratch1
abbrev kM : Memref sig .scVector .vmem S16x128 .f32 := Memref.whole cc0_scratch2
abbrev nM : Memref sig .scVector .vmem S32 .i32 := Memref.whole cc0_scratch3

theorem isBlock (t : ℕ) (ht : t < 11) : IsBlock (8 * t) := ⟨by omega, by omega⟩

section

variable (d : Dev nD) (L : grid0.Coords)
variable {α β : Type} {Q : α → sProp (MT nD τ sig (HIx 1) (Elt F) ℕ UU ℕ)}

theorem step_bind {p : Prog (TpuEff nD τ sig (Elt F) Λ₀ (tid d L).2) β} {k : β → Prog (TpuEff nD τ sig (Elt F) Λ₀ (tid d L).2) α} {Γ : sProp 𝕄}
    (h : Γ ⊢ wpT d L p (fun r => wpT d L (k r) Q)) : Γ ⊢ wpT d L (p >>= k) Q :=
  h.trans (Entails.of_eq (wp_bind _ _ _ p k Q).symm)

theorem step_conv {p : Prog (TpuEff nD τ sig (Elt F) Λ₀ (tid d L).2) α} {Γ Γ' : sProp 𝕄} (h : Γ ⊢ Γ') (hk : Γ' ⊢ wpT d L p Q) :
    Γ ⊢ wpT d L p Q := BIBase.Entails.trans h hk

theorem ex_left {ι : Type} {Φ : ι → sProp 𝕄} {Γ G : sProp 𝕄} (h : ∀ i, iprop(Φ i ∗ Γ) ⊢ G) : iprop((∃ i, Φ i) ∗ Γ) ⊢ G := by
  iintro ⟨⟨%i, H⟩, HΓ⟩
  iapply (h i)
  isplitl [H]; · iexact H
  iexact HΓ

theorem pure_left {φ : Prop} {Φ Γ G : sProp 𝕄} (h : φ → iprop(Φ ∗ Γ) ⊢ G) : iprop((⌜φ⌝ ∗ Φ) ∗ Γ) ⊢ G := by
  iintro ⟨⟨%hφ, H⟩, HΓ⟩
  iapply (h hφ)
  isplitl [H]; · iexact H
  iexact HΓ

/-- A program that ends in an operation ends in returning its value. -/
theorem step_eta {p : Prog (TpuEff nD τ sig (Elt F) Λ₀ (tid d L).2) α} {Γ : sProp 𝕄} (h : Γ ⊢ wpT d L (p >>= pure) Q) : Γ ⊢ wpT d L p Q := by
  rwa [bind_pure] at h

theorem step_pure {a : α} {Γ : sProp 𝕄} (h : Γ ⊢ Q a) : Γ ⊢ wpT d L (pure a) Q := h.trans (le_wp_ret _ _ _ a Q)

/-! ### Patching a row -/

variable {D : Dat F}

/-- The lane gather of the features of one row. -/
theorem step_keys {idxs : Fin 2 → IVec S16 32} {h : ∀ a x, (idxs a x).toNat < S16x128.size a} {hl : kM.view.Loads}
    {k : Vec F S16 .f32 → Prog (TpuEff nD τ sig (Elt F) Λ₀ (tid d L).2) α} {R : sProp 𝕄}
    (hk : iprop(Holds d L kM fullShare D.kv ∗ R) ⊢ wpT d L (k (loadIdx D.kv idxs h)) Q) :
    iprop(Holds d L kM fullShare D.kv ∗ R) ⊢ wpT d L (SparseCore.vectorLoadIdx kM idxs h hl >>= k) Q :=
  step_gather d L hk

/-- The lane store of row `n` of block `t`. -/
theorem step_row {m : Memref sig .scVector .vmem S8x1024 .f32} {t n : ℕ} {w : BitVec 32} (ht : t < 11) (hn : n < 8)
    {mask : IVec S16 1} (hmask : ∀ x, mask x = 1 ↔ D.lv x = BitVec.ofNat 32 ((base L + 8 * t) / 128))
    {h' : ∀ a x, ((![lanes, broadcast S16 (Scalar.addi (featW L (8 * t)) (BitVec.ofNat 32 n))] : Fin 2 → IVec S16 32) a x).toNat < S16x128.size a}
    {h : ∀ a x, ((![broadcast S16 (Scalar.addi (BitVec.ofNat 32 n) (Scalar.muli w 0#32)), D.pv] : Fin 2 → IVec S16 32) a x).toNat < S8x1024.size a}
    {hs : (m.access (.whole S8x1024)).Stores Finset.univ}
    {k : PUnit → Prog (TpuEff nD τ sig (Elt F) Λ₀ (tid d L).2) α} {R R' : sProp 𝕄}
    (hk : iprop(R' ∗ Holds d L m fullShare (patchUpTo D (base L + 8 * t) (n + 1)) ∗ R) ⊢ wpT d L (k ⟨⟩) Q) :
    iprop(R' ∗ Holds d L m fullShare (patchUpTo D (base L + 8 * t) n) ∗ R)
      ⊢ wpT d L (SparseCore.vectorStoreIdx m ![broadcast S16 (Scalar.addi (BitVec.ofNat 32 n) (Scalar.muli w 0#32)), D.pv]
          (loadIdx D.kv ![lanes, broadcast S16 (Scalar.addi (featW L (8 * t)) (BitVec.ofNat 32 n))] h') mask false h hs >>= k) Q :=
  step_scatter d L ht hn (fun _ => row_nat w hn) (fun _ => rfl) (key_val L (isBlock t ht) hn D.kv h') hmask hk

/-- The two index checks, at the row the state is at. -/
theorem step_chk_key {m : Memref sig .scVector .vmem S8x1024 .f32} {t n : ℕ} {R R' : sProp 𝕄} {P : Prop} {dd : Decidable P}
    {k : PLift P → Prog (TpuEff nD τ sig (Elt F) Λ₀ (tid d L).2) α} (ht : t < 11) (hn : n < 8)
    (h : (∀ a x, ((![lanes, broadcast S16 (Scalar.addi (featW L (8 * t)) (BitVec.ofNat 32 n))] : Fin 2 → IVec S16 32) a x).toNat < S16x128.size a) → P)
    (hk : iprop(R' ∗ Holds d L m fullShare (patchUpTo D (base L + 8 * t) n) ∗ R) ⊢ wpT d L (k ⟨h (chk_key L (isBlock t ht) hn)⟩) Q) :
    iprop(R' ∗ Holds d L m fullShare (patchUpTo D (base L + 8 * t) n) ∗ R) ⊢ wpT d L (Prog.lift (TpuEff.assume P dd) >>= k) Q :=
  step_chk d L (h (chk_key L (isBlock t ht) hn)) hk

theorem step_chk_row {m : Memref sig .scVector .vmem S8x1024 .f32} {t n : ℕ} {w : BitVec 32} {R R' : sProp 𝕄} {P : Prop} {dd : Decidable P}
    {k : PLift P → Prog (TpuEff nD τ sig (Elt F) Λ₀ (tid d L).2) α} (hn : n < 8) (hpb : ∀ x, (D.pv x).toNat < 1024)
    (h : (∀ a x, ((![broadcast S16 (Scalar.addi (BitVec.ofNat 32 n) (Scalar.muli w 0#32)), D.pv] : Fin 2 → IVec S16 32) a x).toNat < S8x1024.size a) → P)
    (hk : iprop(R' ∗ Holds d L m fullShare (patchUpTo D (base L + 8 * t) n) ∗ R) ⊢ wpT d L (k ⟨h (chk_row w hn hpb)⟩) Q) :
    iprop(R' ∗ Holds d L m fullShare (patchUpTo D (base L + 8 * t) n) ∗ R) ⊢ wpT d L (Prog.lift (TpuEff.assume P dd) >>= k) Q :=
  step_chk d L (h (chk_row w hn hpb)) hk

/-! ### The blocks' copies, between states -/

variable (D)

/-- Block `t`, in `x`, has its first `n` rows updated; the other buffer's state is `A`. -/
abbrev PatchS (x : Memref sig .scVector .vmem S8x1024 .f32) (rx wx wy : DmaSem sig) (t n : ℕ) (A E : sProp 𝕄) : sProp 𝕄 :=
  iprop(Holds d L kM fullShare D.kv ∗ Holds d L x fullShare (patchUpTo D (base L + 8 * t) n)
    ∗ (A ∗ sem0 d L rx ∗ sem0 d L wx ∗ sem0 d L wy ∗ oPts d L D (base L + 8 * t) ∗ E))
/-- Block `t`, in `x`, is being written out; the other buffer's state is `A`. -/
abbrev WriteS (x : Memref sig .scVector .vmem S8x1024 .f32) (rx wx wy : DmaSem sig) (t : ℕ) (A E : sProp 𝕄) : sProp 𝕄 :=
  iprop(Holds d L kM fullShare D.kv ∗ WriteFly d L D x wx t ∗ (A ∗ sem0 d L rx ∗ sem0 d L wy ∗ E))
/-- Block `t` has landed in `y` and nothing is in flight; `x` is free. -/
abbrev IdleS (x y : Memref sig .scVector .vmem S8x1024 .f32) (rx ry wx wy : DmaSem sig) (t : ℕ) (E : sProp 𝕄) : sProp 𝕄 :=
  iprop(Holds d L kM fullShare D.kv ∗ Holds d L y fullShare (patchUpTo D (base L + 8 * t) 0)
    ∗ (NoAhead d L D x rx ∗ sem0 d L ry ∗ sem0 d L wx ∗ sem0 d L wy ∗ oPts d L D (base L + 8 * t) ∗ E))
/-- Block `t` has landed in `y`, the block before it is being written out of `x`. -/
abbrev LandedS (x y : Memref sig .scVector .vmem S8x1024 .f32) (rx ry wx wy : DmaSem sig) (t : ℕ) (E : sProp 𝕄) : sProp 𝕄 :=
  iprop(Holds d L kM fullShare D.kv ∗ WriteFly d L D x wx t ∗ (Holds d L y fullShare (patchUpTo D (base L + 8 * (t + 1)) 0)
    ∗ sem0 d L ry ∗ qPts d L D (tileSet L) ∗ sem0 d L rx ∗ sem0 d L wy ∗ E))
/-- Before the first block: both buffers free. -/
abbrev FreshS (x y : Memref sig .scVector .vmem S8x1024 .f32) (rx ry wx wy : DmaSem sig) (E : sProp 𝕄) : sProp 𝕄 :=
  iprop(Holds d L kM fullShare D.kv ∗ NoAhead d L D y ry ∗ ((∃ P, Holds d L x fullShare P) ∗ sem0 d L rx ∗ sem0 d L wx ∗ sem0 d L wy
    ∗ oPts d L D (base L + 8 * 0) ∗ E))
/-- The first block is being read into `y`. -/
abbrev FirstS (x y : Memref sig .scVector .vmem S8x1024 .f32) (rx ry wx wy : DmaSem sig) (E : sProp 𝕄) : sProp 𝕄 :=
  iprop(Holds d L kM fullShare D.kv ∗ Ahead d L D y ry 0 ∗ ((∃ P, Holds d L x fullShare P) ∗ sem0 d L rx ∗ sem0 d L wx ∗ sem0 d L wy
    ∗ oPts d L D (base L + 8 * 0) ∗ E))
/-- Every block is written out. -/
abbrev DoneS (x y : Memref sig .scVector .vmem S8x1024 .f32) (rx ry wx wy : DmaSem sig) (E : sProp 𝕄) : sProp 𝕄 :=
  iprop(Holds d L kM fullShare D.kv ∗ (∃ P, Holds d L x fullShare P) ∗ (NoAhead d L D y ry ∗ sem0 d L rx ∗ sem0 d L wx ∗ sem0 d L wy
    ∗ oPts d L D (base L + 88) ∗ E))

variable {D}
variable {x y : Memref sig .scVector .vmem S8x1024 .f32} {rx ry wx wy : DmaSem sig} {t : ℕ}
  {E A R : sProp (MT nD τ sig (HIx 1) (Elt F) ℕ UU ℕ)}
  {O : CellTallies nD τ sig (HIx 1)} {W : Waits sig (HIx 1)}
  {off : Fin 2 → ℕ} {inb : ∀ a, off a + S8x1024.size a ≤ S2816x1024.size a}
  {k : PUnit → Prog (TpuEff nD τ sig (Elt F) Λ₀ (tid d L).2) α}

theorem to_first (hoff : off = ![base L + 8 * 0, 0])
    {hsrc : (qM.slice (Rect.unit (s := S2816x1024) off S8x1024.size inb) (fun _ => rfl)).view.WordExact} {hdst : y.view.WordExact}
    {hsem : DmaTarget.Typed (nD := nD) (p := (tid d L).2) .hbm (SemLoc.dma ry) (.here y)}
    (hk : FirstS d L D x y rx ry wx wy E ⊢ wpT d L (k ⟨⟩) Q) :
    FreshS d L D x y rx ry wx wy E ⊢ wpT d L (Prog.lift (.enqueueDma (qM.slice (Rect.unit (s := S2816x1024) off S8x1024.size inb) (fun _ => rfl))
      (.here y) (.dma ry) hsrc hdst hsem) >>= k) Q := by
  iintro ⟨Hk, Hy, HR⟩
  iapply (read_start d L (t := 0) (by decide) hoff) $$ Hy
  iintro Hy
  iapply hk
  isplitl [Hk]; · iexact Hk
  isplitl [Hy]; · iexact Hy
  iexact HR

theorem first_to_idle {srcw : Memref sig .scVector .hbm S8x1024 .f32} {hsrc : srcw.view.WordExact} {hdst : y.view.WordExact}
    (hk : IdleS d L D x y rx ry wx wy 0 (Own d L O W R) ⊢ wpT d L (k ⟨⟩) Q) :
    FirstS d L D x y rx ry wx wy (Own d L O W R) ⊢ wpT d L (Prog.lift (.waitDma2 ry srcw y hsrc hdst) >>= k) Q := by
  iintro ⟨Hk, Hy, Hx, Hrx, Hwx, Hwy, Ho, HE⟩
  iapply (read_wait d L (t := 0) (by decide)) $$ [Hy HE]
  · isplitl [Hy]; · iexact Hy
    iexact HE
  iintro ⟨Hy, Hry, Hq, HE⟩
  iapply hk
  isplitl [Hk]; · iexact Hk
  isplitl [Hy]; · iexact Hy
  isplitl [Hx Hrx Hq]
  · unfold NoAhead
    isplitl [Hx]; · iexact Hx
    isplitl [Hrx]; · iexact Hrx
    iexact Hq
  isplitl [Hry]; · iexact Hry
  isplitl [Hwx]; · iexact Hwx
  isplitl [Hwy]; · iexact Hwy
  isplitl [Ho]; · iexact Ho
  iexact HE

theorem idle_to_patch (ht : t + 1 < 11) (hoff : off = ![base L + 8 * (t + 1), 0])
    {hsrc : (qM.slice (Rect.unit (s := S2816x1024) off S8x1024.size inb) (fun _ => rfl)).view.WordExact} {hdst : x.view.WordExact}
    {hsem : DmaTarget.Typed (nD := nD) (p := (tid d L).2) .hbm (SemLoc.dma rx) (.here x)}
    (hk : PatchS d L D y ry wy wx t 0 (Ahead d L D x rx (t + 1)) E ⊢ wpT d L (k ⟨⟩) Q) :
    IdleS d L D x y rx ry wx wy t E ⊢ wpT d L (Prog.lift (.enqueueDma (qM.slice (Rect.unit (s := S2816x1024) off S8x1024.size inb) (fun _ => rfl))
      (.here x) (.dma rx) hsrc hdst hsem) >>= k) Q := by
  iintro ⟨Hk, Hy, Hx, Hry, Hwx, Hwy, Ho, HE⟩
  iapply (read_start d L ht hoff) $$ Hx
  iintro Hx
  iapply hk
  isplitl [Hk]; · iexact Hk
  isplitl [Hy]; · iexact Hy
  isplitl [Hx]; · iexact Hx
  isplitl [Hry]; · iexact Hry
  isplitl [Hwy]; · iexact Hwy
  isplitl [Hwx]; · iexact Hwx
  isplitl [Ho]; · iexact Ho
  iexact HE

theorem patch_to_write (ht : t < 11) (hoff : off = ![base L + 8 * t, 0])
    {hdst : (oM.slice (Rect.unit (s := S2816x1024) off S8x1024.size inb) (fun _ => rfl)).view.WordExact} {hsrc : x.view.WordExact}
    {hsem : DmaTarget.Typed (nD := nD) (p := (tid d L).2) .vmem (SemLoc.dma wx) (.here (oM.slice (Rect.unit (s := S2816x1024) off S8x1024.size inb) (fun _ => rfl)))}
    (hk : WriteS d L D x rx wx wy t A E ⊢ wpT d L (k ⟨⟩) Q) :
    PatchS d L D x rx wx wy t 8 A E ⊢ wpT d L (Prog.lift (.enqueueDma x (.here (oM.slice (Rect.unit (s := S2816x1024) off S8x1024.size inb) (fun _ => rfl)))
      (.dma wx) hsrc hdst hsem) >>= k) Q := by
  iintro ⟨Hk, Hx, HA, Hrx, Hwx, Hwy, Ho, HE⟩
  iapply (write_start d L ht hoff) $$ [Hx Ho Hwx]
  · isplitl [Hx]; · iexact Hx
    isplitl [Ho]; · iexact Ho
    iexact Hwx
  iintro Hx
  iapply hk
  isplitl [Hk]; · iexact Hk
  isplitl [Hx]; · iexact Hx
  isplitl [HA]; · iexact HA
  isplitl [Hrx]; · iexact Hrx
  isplitl [Hwy]; · iexact Hwy
  iexact HE

theorem write_to_landed (ht : t + 1 < 11) {srcw : Memref sig .scVector .hbm S8x1024 .f32} {hsrc : srcw.view.WordExact} {hdst : y.view.WordExact}
    (hk : LandedS d L D x y rx ry wx wy t (Own d L O W R) ⊢ wpT d L (k ⟨⟩) Q) :
    WriteS d L D x rx wx wy t (Ahead d L D y ry (t + 1)) (Own d L O W R) ⊢ wpT d L (Prog.lift (.waitDma2 ry srcw y hsrc hdst) >>= k) Q := by
  iintro ⟨Hk, Hx, HA, Hrx, Hwy, HE⟩
  iapply (read_wait d L ht) $$ [HA HE]
  · isplitl [HA]; · iexact HA
    iexact HE
  iintro ⟨Hy, Hry, Hq, HE⟩
  iapply hk
  isplitl [Hk]; · iexact Hk
  isplitl [Hx]; · iexact Hx
  isplitl [Hy]; · iexact Hy
  isplitl [Hry]; · iexact Hry
  isplitl [Hq]; · iexact Hq
  isplitl [Hrx]; · iexact Hrx
  isplitl [Hwy]; · iexact Hwy
  iexact HE

theorem landed_to_idle {hdst : (oM.slice (Rect.unit (s := S2816x1024) off S8x1024.size inb) (fun _ => rfl)).view.WordExact} {hsrc : x.view.WordExact}
    (hk : IdleS d L D x y rx ry wx wy (t + 1) (Own d L O W R) ⊢ wpT d L (k ⟨⟩) Q) :
    LandedS d L D x y rx ry wx wy t (Own d L O W R) ⊢ wpT d L (Prog.lift (.waitDma2 wx x
      (oM.slice (Rect.unit (s := S2816x1024) off S8x1024.size inb) (fun _ => rfl)) hsrc hdst) >>= k) Q := by
  iintro ⟨Hk, Hx, Hy, Hry, Hq, Hrx, Hwy, HE⟩
  iapply (write_wait d L) $$ [Hx HE]
  · isplitl [Hx]; · iexact Hx
    iexact HE
  iintro ⟨Ho, Hx, Hwx, HE⟩
  iapply hk
  isplitl [Hk]; · iexact Hk
  isplitl [Hy]; · iexact Hy
  isplitl [Hx Hrx Hq]
  · unfold NoAhead
    isplitl [Hx]; · iexact Hx
    isplitl [Hrx]; · iexact Hrx
    iexact Hq
  isplitl [Hry]; · iexact Hry
  isplitl [Hwx]; · iexact Hwx
  isplitl [Hwy]; · iexact Hwy
  isplitl [Ho]; · iexact Ho
  iexact HE

/-- The last block is never followed by a read. -/
theorem idle_last {p : Prog (TpuEff nD τ sig (Elt F) Λ₀ (tid d L).2) α}
    (hk : PatchS d L D y ry wy wx t 0 (NoAhead d L D x rx) E ⊢ wpT d L p Q) : IdleS d L D x y rx ry wx wy t E ⊢ wpT d L p Q := by
  refine BIBase.Entails.trans ?_ hk
  iintro ⟨Hk, Hy, Hx, Hry, Hwx, Hwy, Ho, HE⟩
  isplitl [Hk]; · iexact Hk
  isplitl [Hy]; · iexact Hy
  isplitl [Hx]; · iexact Hx
  isplitl [Hry]; · iexact Hry
  isplitl [Hwy]; · iexact Hwy
  isplitl [Hwx]; · iexact Hwx
  isplitl [Ho]; · iexact Ho
  iexact HE

theorem write_to_done {hdst : (oM.slice (Rect.unit (s := S2816x1024) off S8x1024.size inb) (fun _ => rfl)).view.WordExact} {hsrc : x.view.WordExact}
    (hk : DoneS d L D x y rx ry wx wy (Own d L O W R) ⊢ wpT d L (k ⟨⟩) Q) :
    WriteS d L D x rx wx wy 10 (NoAhead d L D y ry) (Own d L O W R) ⊢ wpT d L (Prog.lift (.waitDma2 wx x
      (oM.slice (Rect.unit (s := S2816x1024) off S8x1024.size inb) (fun _ => rfl)) hsrc hdst) >>= k) Q := by
  iintro ⟨Hk, Hx, HA, Hrx, Hwy, HE⟩
  iapply (write_wait d L) $$ [Hx HE]
  · isplitl [Hx]; · iexact Hx
    iexact HE
  iintro ⟨Ho, Hx, Hwx, HE⟩
  iapply hk
  isplitl [Hk]; · iexact Hk
  isplitl [Hx]; · iexact Hx
  isplitl [HA]; · iexact HA
  isplitl [Hrx]; · iexact Hrx
  isplitl [Hwx]; · iexact Hwx
  isplitl [Hwy]; · iexact Hwy
  isplitl [Ho]; · iexact Ho
  iexact HE

/-! ### Whole copies, and halves of a pointer table -/

/-- A copy started and awaited at once. -/
theorem step_copy {sp sp' : Space} {s : Shape} {e : EltTy} {a : Memref sig .scVector sp s e} {b : Memref sig .scVector sp' s e} {r : DmaSem sig}
    {q : PosShare TreeShare} {P : s.Idx → Elt F e} (hs : 0 < b.view.dmaCredit)
    {h1 : a.view.WordExact} {h2 : b.view.WordExact} {h3 : DmaTarget.Typed (nD := nD) (p := (tid d L).2) sp (SemLoc.dma r) (.here b)}
    {h4 : a.view.WordExact} {h5 : b.view.WordExact}
    (hk : iprop((Holds d L a q P ∗ Holds d L b fullShare P ∗ sem0 d L r) ∗ Own d L O W R) ⊢ wpT d L (k ⟨⟩) Q) :
    iprop((Holds d L a q P ∗ (∃ P', Holds d L b fullShare P') ∗ sem0 d L r) ∗ Own d L O W R)
      ⊢ wpT d L (Prog.lift (.enqueueDma a (.here b) (.dma r) h1 h2 h3) >>= fun _ => Prog.lift (.waitDma2 r a b h4 h5) >>= k) Q := by
  unfold Holds Own at hk ⊢
  iintro ⟨⟨⟨%fa, %hfa, Ha⟩, ⟨%P', %fb, %hfb, Hb⟩, Hs⟩, #Hmw, ⟨%W', %hW', HO⟩, HR⟩
  iapply (wp_dmaLocal EC 𝒱₀ (tid d L) none (defs := defs₀ (F := F)) (src := a)
    (dst := b) (via := .same) (sm := .dma r) (q := q) (fs := fa) (fd := fb) (Sd := b.view.set)
    (none : HIx 1) b.view.dmaCredit rfl hs subset_rfl) $$ [Ha Hb Hs]
  · isplitl [Ha]; · iexact Ha
    isplitl [Hb]; · iexact Hb
    iexact Hs
  iintro Hfl
  ihave Hm := (MayWaits.elim (SemLoc.dma r)) $$ Hmw
  iapply (wp_waitLocalO EC 𝒱₀ (tid d L) none (defs := defs₀ (F := F)) (srcw := a) (dstw := b) (none : HIx 1) rfl) $$ [Hfl HO Hm]
  · isplitl [Hfl]; · iexact Hfl
    isplitl [HO]; · iexact HO
    iexact Hm
  iintro ⟨⟨Hb, Ha⟩, Hs, HO⟩
  iapply hk
  isplitl [Ha Hb Hs]
  · isplitl [Ha]
    · iexists fa; isplitr; · ipureintro; exact hfa
      iexact Ha
    isplitl [Hb]
    · iexists _; isplitr
      swap
      · iexact Hb
      · ipureintro
        rw [View.read_write_univ]; exact hfa
    · iexact Hs
  isplitr; · iexact Hmw
  isplitl [HO]
  · iexists _; isplitr
    swap
    · iexact HO
    · ipureintro; intro p hp
      rcases Finset.mem_insert.mp hp with hp | hp
      · exact .inr (hp ▸ rfl)
      · exact hW' p hp
  · iexact HR

/-- A load through a rectangle. -/
theorem step_load {s : Shape} {e : EltTy} {m : Memref sig .scVector .vmem s e} {r : Rect s} {hl : m.view.LoadsAt r.toLoadRect}
    {q : PosShare TreeShare} {P : s.Idx → Elt F e} {Γ : sProp 𝕄} {k : (r.shape.Idx → Elt F e) → Prog (TpuEff nD τ sig (Elt F) Λ₀ (tid d L).2) α}
    (hk : iprop(Holds d L m q P ∗ Γ) ⊢ wpT d L (k (fun x => P (r.emb x))) Q) :
    iprop(Holds d L m q P ∗ Γ) ⊢ wpT d L (Prog.lift (.load m r.toLoadRect hl) >>= k) Q := by
  unfold Holds at hk ⊢
  iintro ⟨⟨%f, %hf, H⟩, HR⟩
  iapply (wp_load_rect (defs := defs₀ (F := F)) 𝒱₀ (tid d L) none Set.univ (m := m) (r := r) (S := m.view.set) (f := f)
    ((View.set_slice m.view r).le.trans (Finset.map_subset_map.2 (Finset.subset_univ _)))) $$ H
  iintro H
  have e : (m.access r).read (Elt F) f = fun x => P (r.emb x) := by rw [← hf]; rfl
  rw [e]
  iapply hk
  isplitl [H]
  · iexists f; isplitr; · ipureintro; exact hf
    iexact H
  · iexact HR

/-- A store through a rectangle: what the buffer then reads. -/
theorem step_store {s : Shape} {e : EltTy} {m : Memref sig .scVector .vmem s e} {r : Rect s} {w : r.shape.Idx → Elt F e}
    {hx : (m.access r).Stores Finset.univ} {hm : Finset.univ = Finset.univ ∨ ∀ a, r.stride a = 1}
    {P : s.Idx → Elt F e} {Γ : sProp 𝕄}
    (hk : iprop((∃ P', ⌜(∀ x, P' (r.emb x) = w x) ∧ ∀ y, (∀ x, r.emb x ≠ y) → P' y = P y⌝ ∗ Holds d L m fullShare P') ∗ Γ) ⊢ wpT d L (k ⟨⟩) Q) :
    iprop(Holds d L m fullShare P ∗ Γ) ⊢ wpT d L (Prog.lift (.store m r w Finset.univ hx hm) >>= k) Q := by
  unfold Holds at hk ⊢
  iintro ⟨⟨%f, %hf, H⟩, HR⟩
  iapply (wp_store (defs := defs₀ (F := F)) 𝒱₀ (tid d L) none Set.univ (m := m) (r := r) (S := m.view.set) (f := f)
    ((View.set_slice m.view r).le.trans (Finset.map_subset_map.2 (Finset.subset_univ _)))) $$ H
  iintro H
  iapply hk
  isplitl [H]
  · iexists (m.view.read (Elt F) ((m.access r).write (Elt F) f w Finset.univ)); isplitr
    · ipureintro
      refine ⟨fun x => ?_, fun y hy => ?_⟩
      · show (m.access r).read (Elt F) ((m.access r).write (Elt F) f w Finset.univ) x = w x
        rw [View.read_write_univ]
      · rw [← hf]
        unfold View.read
        rw [View.write_of_not_mem]
        intro hmem
        obtain ⟨x, -, hx'⟩ := Finset.mem_map.mp hmem
        exact hy x (m.view.emb.injective hx')
    · iexists _; isplitr
      swap
      · iexact H
      · ipureintro; rfl
  · iexact HR

end

end Cert.Proof.Queue

end
-- ==== Proof.Walk.lean ====
/-
  One tile's whole run: the tables come in, the eleven blocks are read, patched and written out, and the first tile
  writes the advanced pointers.
-/
module

public import proofs.«01_k».proof.Proof.Rules

@[expose] public section

noncomputable section

namespace Cert.Proof.Queue

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight Flight_mono wp_dmaLocal wp_waitLocalO MayWaits)
open Idealize.ShloMosaic.Tactic

variable {F : FTy → Type} [FloatOps F]

local notation "𝕄" => MT nD τ sig (HIx 1) (Elt F) ℕ UU ℕ

abbrev aM : Memref sig .scVector .vmem S8x1024 .f32 := Memref.whole cc0_scratch4
abbrev bM : Memref sig .scVector .vmem S8x1024 .f32 := Memref.whole cc0_scratch5
abbrev npM : Memref sig .scVector .hbm S32 .i32 := Memref.whole main_v2_1_scv
abbrev lSrc : Memref sig .scVector .hbm S16 .i32 := Memref.whole main_arg1_scv
abbrev pSrc : Memref sig .scVector .hbm S32 .i32 := Memref.whole main_v0_scv
abbrev kSrc : Memref sig .scVector .hbm S16x128 .f32 := Memref.whole main_arg0_scv

abbrev bodyAt (L : grid0.Coords) : Prog (TpuEff nD τ sig (Elt F) Λ₀ (.scVector ((L 0).castLE hcore0) ((L 1).castLE hsub0))) PUnit :=
  cc0__queue_body L qM (Memref.isWhole_whole _) kSrc (Memref.isWhole_whole _) lSrc (Memref.isWhole_whole _) pSrc (Memref.isWhole_whole _)
    oM (Memref.isWhole_whole _) npM (Memref.isWhole_whole _) lM (Memref.isWhole_whole _) pM (Memref.isWhole_whole _) kM (Memref.isWhole_whole _)
    nM (Memref.isWhole_whole _) aM (Memref.isWhole_whole _) bM (Memref.isWhole_whole _)
    cc0_scratch6 cc0_scratch7 cc0_scratch8 cc0_scratch9 cc0_scoped0 cc0_scoped1 cc0_scoped2 cc0_scoped3

variable (d : Dev nD) (L : grid0.Coords) {Q : PUnit → sProp (MT nD τ sig (HIx 1) (Elt F) ℕ UU ℕ)}
  {D : Dat F} {O : CellTallies nD τ sig (HIx 1)} {W : Waits sig (HIx 1)}

/-- The positions' words from the labels and the gathered pointers, as the program nests them. -/
def posW (lv : Vec F S16 .i32) (pg : Vec F S16 .i32) : IVec S16 32 :=
  k0_pay27 (F := F) lanes (k0_pay25 lanes lv (k0_pay23 lanes lv (k0_pay22 lanes lv (k0_pay20 lanes lv (k0_pay18 lv) (k0_pay19 lv))
    (k0_pay21 lanes lv) 5#32) 9#32) (k0_pay24 lanes lv)) (k0_pay26 lanes lv) 15#32 pg

theorem load_lanes {lv : Vec F S16 .i32} : (fun x => lv ((Rect.unit (s := S16) ![0] S16.size inb_S16_S16_0).emb x)) = lv := by
  funext x
  refine congrArg lv (funext fun a => ?_)
  match a with
  | 0 => exact Fin.ext (show 0 + 1 * (x 0).val = (x 0).val by omega)

/-- The tile's three tables: where a copy comes from, its buffer, its semaphore. -/
abbrev TabIn {sp : Space} {s : Shape} {e : EltTy} (a : Memref sig .scVector sp s e) (b : Memref sig .scVector .vmem s e) (r : DmaSem sig) (q : PosShare TreeShare) (P : s.Idx → Elt F e) : sProp 𝕄 :=
  iprop(Holds d L a q P ∗ (∃ P', Holds d L b fullShare P') ∗ sem0 d L r)

abbrev Rings (D : Dat F) : sProp 𝕄 := iprop(NoAhead d L D aM cc0_scratch6.sem ∗ ((∃ P, Holds d L bM fullShare P) ∗ sem0 d L cc0_scratch7.sem ∗ sem0 d L cc0_scratch9.sem
        ∗ sem0 d L cc0_scratch8.sem ∗ oPts d L D (base L + 8 * 0)))

/-- The advanced pointers' words, lower and upper half, as the program nests them. -/
def npLo (lv pg : Vec F S16 .i32) : IVec S16 32 :=
  k0_pay8 lanes lv (k0_pay1 lanes) (k0_pay6 lanes lv (k0_pay1 lanes) (k0_pay4 lanes lv (k0_pay1 lanes) (k0_pay2 lanes lv) (k0_pay3 lanes lv))
    (k0_pay5 lanes)) (k0_pay7 lanes lv) pg
def npHi (lv pg : Vec F S16 .i32) : IVec S16 32 :=
  k0_pay17 lanes lv (k0_pay10 lanes k0_pay9) (k0_pay15 lanes lv (k0_pay10 lanes k0_pay9)
    (k0_pay12 lanes lv (k0_pay10 lanes k0_pay9) (k0_pay11 lanes lv k0_pay9) 4#32) (k0_pay13 lanes) k0_pay14) (k0_pay16 lanes lv) pg

/-- The lower and the upper half of a pointer table. -/
abbrev loR : Rect S32 := Rect.unit (s := S32) ![0] S16.size inb_S32_S16_0
abbrev hiR : Rect S32 := Rect.unit (s := S32) ![16] S16.size inb_S32_S16_16

omit [FloatOps F] in
theorem lo_ne_hi (x y : S16.Idx) : loR.emb x ≠ hiR.emb y := by
  intro h
  have h0 : 0 + 1 * (x 0).val = 16 + 1 * (y 0).val := congrArg (fun z : S32.Idx => (z 0).val) h
  have hx : (x 0).val < 16 := (x 0).isLt
  omega

omit [FloatOps F] in
theorem halves (y : S32.Idx) : (∃ x, loR.emb x = y) ∨ ∃ x, hiR.emb x = y := by
  have hy : (y 0).val < 32 := (y 0).isLt
  by_cases h : (y 0).val < 16
  · refine .inl ⟨fun | 0 => ⟨(y 0).val, h⟩, funext fun a => ?_⟩
    match a with
    | 0 => exact Fin.ext (show 0 + 1 * (y 0).val = (y 0).val by omega)
  · refine .inr ⟨fun | 0 => ⟨(y 0).val - 16, by show (y 0).val - 16 < 16; omega⟩, funext fun a => ?_⟩
    match a with
    | 0 => exact Fin.ext (show 16 + 1 * ((y 0).val - 16) = (y 0).val by omega)

/-- The first tile, which writes the pointers. -/
abbrev IsFirst (L : grid0.Coords) : Prop := (L 0).val = 0 ∧ (L 1).val = 0

theorem first_iff : ∀ L : grid0.Coords, (Scalar.cmpi CmpIPredicate.ne (Scalar.extui (Scalar.andi (Scalar.cmpi CmpIPredicate.eq (BitVec.ofNat 32 (L 0).val) 0#32)
    (Scalar.cmpi CmpIPredicate.eq (BitVec.ofNat 32 (L 1).val) 0#32))) 0#32 = 1#1) ↔ IsFirst L := by decide +kernel

/-- The array of advanced pointers, which the first tile alone holds. -/
def NpIn : sProp 𝕄 := if IsFirst L then iprop(∃ P, Holds d L npM fullShare P) else iprop(emp)
def NpOut (np : IVec S32 32) : sProp 𝕄 := if IsFirst L then Holds (F := F) d L npM fullShare (np : S32.Idx → Elt F .i32) else iprop(emp)

/-- What a tile has beside its tables, rows and buffers when it starts, and what it gives back. -/
abbrev Extra : sProp 𝕄 := iprop((∃ P, Holds d L nM fullShare P) ∗ sem0 d L cc0_scoped3.sem ∗ NpIn d L)

/-- What the tile ends with. -/
abbrev FinS (D : Dat F) (pt np : IVec S32 32) (q1 q2 q3 : PosShare TreeShare) (O : CellTallies nD τ sig (HIx 1)) (W : Waits sig (HIx 1)) (R : sProp 𝕄) : sProp 𝕄 :=
  iprop((Holds d L lSrc q1 D.lv ∗ Holds d L pSrc q2 pt ∗ Holds d L kSrc q3 D.kv ∗ qPts d L D (tileSet L) ∗ oPts d L D (base L + 88) ∗ NpOut d L np)
    ∗ ((∃ P, Holds d L lM fullShare P) ∗ (∃ P, Holds d L pM fullShare P) ∗ (∃ P, Holds d L kM fullShare P) ∗ (∃ P, Holds d L nM fullShare P)
      ∗ (∃ P, Holds d L aM fullShare P) ∗ (∃ P, Holds d L bM fullShare P))
    ∗ (sem0 d L cc0_scratch6.sem ∗ sem0 d L cc0_scratch7.sem ∗ sem0 d L cc0_scratch8.sem ∗ sem0 d L cc0_scratch9.sem
      ∗ sem0 d L cc0_scoped0.sem ∗ sem0 d L cc0_scoped1.sem ∗ sem0 d L cc0_scoped2.sem ∗ sem0 d L cc0_scoped3.sem)
    ∗ Own d L O W R)

set_option maxHeartbeats 4000000 in
/-- **The tile's run.** From its share of the tables, its rows of the queues and of the result and its own buffers, all semaphores
    at zero, the tile ends with its rows of the result updated and the rest as it was. -/
theorem body_run (pt np : IVec S32 32) (hlv : ∀ x, (D.lv x).toNat < 32) (hpb : ∀ x, (D.pv x).toNat < 1024)
    (hpv : ∀ h : ∀ a x, ((![D.lv] : Fin 1 → IVec S16 32) a x).toNat < S32.size a,
      posW (F := F) D.lv (loadIdx (F := F) (e := .i32) pt ![D.lv] h) = D.pv)
    (hlo : ∀ x, npLo (F := F) D.lv (fun x => pt (loR.emb x)) x = np (loR.emb x))
    (hhi : ∀ x, npHi (F := F) D.lv (fun x => pt (hiR.emb x)) x = np (hiR.emb x))
    (R : sProp 𝕄) (q1 q2 q3 : PosShare TreeShare) (hQ : FinS d L D pt np q1 q2 q3 O W R ⊢ Q ⟨⟩) :
    iprop(TabIn d L lSrc lM cc0_scoped0.sem q1 D.lv ∗ Own d L O W iprop(TabIn d L pSrc pM cc0_scoped1.sem q2 pt
      ∗ TabIn d L kSrc kM cc0_scoped2.sem q3 D.kv ∗ Rings d L D ∗ Extra d L ∗ R)) ⊢ wpT d L (bodyAt (F := F) L) Q := by
  generalize hR0 : iprop(Extra d L ∗ R) = R0
  unfold bodyAt
  rw [cc0__queue_body_eq_skeleton]
  unfold cc0__queue_body_skel
  refine step_bind d L ?_
  rw [k0_part9_eq_skeleton]
  unfold k0_part9_skel
  dsimp only
  refine step_copy d L (View.dmaCredit_pos _ (by decide)) ?_
  refine step_conv d L (Γ' := iprop(TabIn d L pSrc pM cc0_scoped1.sem q2 pt
    ∗ Own d L O W iprop(TabIn d L kSrc kM cc0_scoped2.sem q3 D.kv ∗ Rings d L D ∗ R0 ∗ Holds d L lSrc q1 D.lv ∗ Holds d L lM fullShare D.lv ∗ sem0 d L cc0_scoped0.sem))) ?_ ?_
  · unfold Own; iintro ⟨⟨H1, H2, H3⟩, #HM, HO, H4, H5, H6, H7⟩; iframe; iexact HM
  refine step_copy d L (View.dmaCredit_pos _ (by decide)) ?_
  refine step_conv d L (Γ' := iprop(TabIn d L kSrc kM cc0_scoped2.sem q3 D.kv
    ∗ Own d L O W iprop(Rings d L D ∗ R0 ∗ Holds d L lSrc q1 D.lv ∗ Holds d L lM fullShare D.lv ∗ sem0 d L cc0_scoped0.sem
      ∗ Holds d L pSrc q2 pt ∗ Holds d L pM fullShare pt ∗ sem0 d L cc0_scoped1.sem))) ?_ ?_
  · unfold Own; iintro ⟨⟨H1, H2, H3⟩, #HM, HO, H4, H5, H6, H7, H8, H9⟩; iframe; iexact HM
  refine step_copy d L (View.dmaCredit_pos _ (by decide)) ?_
  refine step_conv d L (Γ' := iprop(Holds d L lM fullShare D.lv
    ∗ Own d L O W iprop(Rings d L D ∗ R0 ∗ Holds d L lSrc q1 D.lv ∗ sem0 d L cc0_scoped0.sem
      ∗ Holds d L pSrc q2 pt ∗ Holds d L pM fullShare pt ∗ sem0 d L cc0_scoped1.sem
      ∗ Holds d L kSrc q3 D.kv ∗ Holds d L kM fullShare D.kv ∗ sem0 d L cc0_scoped2.sem))) ?_ ?_
  · unfold Own; iintro ⟨⟨H1, H2, H3⟩, #HM, HO, H4, H5, H6, H7, H8, H9, H10, H11⟩; iframe; iexact HM
  refine step_load d L ?_
  rw [load_lanes]
  refine step_chk d L (fun a => by rw [Fin.fin_one_eq_zero a]; exact hlv) ?_
  refine step_pure d L ?_
  dsimp only
  refine step_bind d L ?_
  rw [k0_part10_eq_skeleton]
  unfold k0_part10_skel
  refine step_pure d L ?_
  dsimp only
  refine step_bind d L ?_
  rw [k0_part11_eq_skeleton]
  unfold k0_part11_skel
  refine step_pure d L ?_
  dsimp only
  refine step_bind d L ?_
  rw [k0_part12_eq_skeleton]
  unfold k0_part12_skel
  refine step_pure d L ?_
  dsimp only
  refine step_bind d L ?_
  rw [k0_part13_eq_skeleton]
  unfold k0_part13_skel
  refine step_pure d L ?_
  dsimp only
  refine step_bind d L ?_
  rw [k0_part14_eq_skeleton]
  unfold k0_part14_skel
  refine step_conv d L (Γ' := iprop(Holds d L pM fullShare pt
    ∗ Own d L O W iprop(Rings d L D ∗ R0 ∗ Holds d L lSrc q1 D.lv ∗ Holds d L lM fullShare D.lv ∗ sem0 d L cc0_scoped0.sem
      ∗ Holds d L pSrc q2 pt ∗ sem0 d L cc0_scoped1.sem
      ∗ Holds d L kSrc q3 D.kv ∗ Holds d L kM fullShare D.kv ∗ sem0 d L cc0_scoped2.sem))) ?_ ?_
  · unfold Own; iintro ⟨H1, #HM, HO, H4, H5, H6, H7, H8, H9, H10, H11⟩; iframe; iexact HM
  refine step_gather d L ?_
  have e := hpv (k0_idx1_inb D.lv (fun a => by rw [Fin.fin_one_eq_zero a]; exact hlv))
  unfold posW at e
  dsimp only
  rw [e]
  refine step_conv d L (Γ' := FreshS d L D bM aM cc0_scratch7.sem cc0_scratch6.sem cc0_scratch9.sem cc0_scratch8.sem
    (Own d L O W (iprop(R0 ∗ Holds d L lSrc q1 D.lv ∗ Holds d L lM fullShare D.lv ∗ sem0 d L cc0_scoped0.sem
      ∗ Holds d L pSrc q2 pt ∗ Holds d L pM fullShare pt ∗ sem0 d L cc0_scoped1.sem
      ∗ Holds d L kSrc q3 D.kv ∗ sem0 d L cc0_scoped2.sem)))) ?_ ?_
  · unfold FreshS Own; iintro ⟨H1, #HM, HO, ⟨H4, H5, Ha, Hb, Hc, Hd⟩, H6, H7, H8, H9, H10, H11, H12, H13, H14⟩; iframe; iexact HM
  refine to_first d L (k0_off1_eq L) ?_
  refine first_to_idle d L ?_
  refine idle_to_patch d L (by decide) (off_eq L (by decide)) ?_
  refine step_chk_key d L (by decide) (by decide) (fun h => h) ?_; refine step_keys d L ?_; refine step_chk_row d L (by decide) hpb (fun h => h) ?_
  refine step_row d L (by decide) (by decide) (mask_iff L (isBlock _ (by decide)) _) ?_
  refine step_pure d L ?_
  try dsimp only
  refine step_bind d L ?_
  rw [k0_part15_eq_skeleton]
  unfold k0_part15_skel
  iterate 6 (refine step_chk_key d L (by decide) (by decide) (fun h => h) ?_; refine step_keys d L ?_; refine step_chk_row d L (by decide) hpb (fun h => h) ?_; refine step_row d L (by decide) (by decide) (mask_iff L (isBlock _ (by decide)) _) ?_)
  refine step_pure d L ?_
  try dsimp only
  refine step_bind d L ?_
  rw [k0_part16_eq_skeleton]
  unfold k0_part16_skel
  refine step_chk_key d L (by decide) (by decide) (fun h => h) ?_; refine step_keys d L ?_; refine step_chk_row d L (by decide) hpb (fun h => h) ?_
  refine step_row d L (by decide) (by decide) (mask_iff L (isBlock _ (by decide)) _) ?_
  refine patch_to_write d L (by decide) (off_eq L (by decide)) ?_
  refine write_to_landed d L (by decide) ?_
  refine landed_to_idle d L ?_
  refine idle_to_patch d L (by decide) (off_eq L (by decide)) ?_
  refine step_chk_key d L (by decide) (by decide) (fun h => h) ?_; refine step_keys d L ?_; refine step_chk_row d L (by decide) hpb (fun h => h) ?_
  refine step_row d L (by decide) (by decide) (mask_iff L (isBlock _ (by decide)) _) ?_
  refine step_chk_key d L (by decide) (by decide) (fun h => h) ?_; refine step_keys d L ?_; refine step_chk_row d L (by decide) hpb (fun h => h) ?_
  refine step_pure d L ?_
  try dsimp only
  refine step_bind d L ?_
  rw [k0_part17_eq_skeleton]
  unfold k0_part17_skel
  refine step_row d L (by decide) (by decide) (mask_iff L (isBlock _ (by decide)) _) ?_
  iterate 5 (refine step_chk_key d L (by decide) (by decide) (fun h => h) ?_; refine step_keys d L ?_; refine step_chk_row d L (by decide) hpb (fun h => h) ?_; refine step_row d L (by decide) (by decide) (mask_iff L (isBlock _ (by decide)) _) ?_)
  refine step_chk_key d L (by decide) (by decide) (fun h => h) ?_; refine step_keys d L ?_; refine step_chk_row d L (by decide) hpb (fun h => h) ?_
  refine step_pure d L ?_
  try dsimp only
  refine step_bind d L ?_
  rw [k0_part18_eq_skeleton]
  unfold k0_part18_skel
  refine step_row d L (by decide) (by decide) (mask_iff L (isBlock _ (by decide)) _) ?_
  refine patch_to_write d L (by decide) (off_eq L (by decide)) ?_
  refine write_to_landed d L (by decide) ?_
  refine landed_to_idle d L ?_
  refine idle_to_patch d L (by decide) (off_eq L (by decide)) ?_
  iterate 2 (refine step_chk_key d L (by decide) (by decide) (fun h => h) ?_; refine step_keys d L ?_; refine step_chk_row d L (by decide) hpb (fun h => h) ?_; refine step_row d L (by decide) (by decide) (mask_iff L (isBlock _ (by decide)) _) ?_)
  refine step_chk_key d L (by decide) (by decide) (fun h => h) ?_; refine step_keys d L ?_
  refine step_pure d L ?_
  try dsimp only
  refine step_bind d L ?_
  rw [k0_part19_eq_skeleton]
  unfold k0_part19_skel
  refine step_chk_row d L (by decide) hpb (fun h => h) ?_
  refine step_row d L (by decide) (by decide) (mask_iff L (isBlock _ (by decide)) _) ?_
  iterate 5 (refine step_chk_key d L (by decide) (by decide) (fun h => h) ?_; refine step_keys d L ?_; refine step_chk_row d L (by decide) hpb (fun h => h) ?_; refine step_row d L (by decide) (by decide) (mask_iff L (isBlock _ (by decide)) _) ?_)
  refine patch_to_write d L (by decide) (off_eq L (by decide)) ?_
  refine step_pure d L ?_
  try dsimp only
  refine step_bind d L ?_
  rw [k0_part20_eq_skeleton]
  unfold k0_part20_skel
  refine write_to_landed d L (by decide) ?_
  refine landed_to_idle d L ?_
  refine idle_to_patch d L (by decide) (off_eq L (by decide)) ?_
  iterate 3 (refine step_chk_key d L (by decide) (by decide) (fun h => h) ?_; refine step_keys d L ?_; refine step_chk_row d L (by decide) hpb (fun h => h) ?_; refine step_row d L (by decide) (by decide) (mask_iff L (isBlock _ (by decide)) _) ?_)
  refine step_chk_key d L (by decide) (by decide) (fun h => h) ?_; refine step_keys d L ?_
  refine step_pure d L ?_
  try dsimp only
  refine step_bind d L ?_
  rw [k0_part21_eq_skeleton]
  unfold k0_part21_skel
  refine step_chk_row d L (by decide) hpb (fun h => h) ?_
  refine step_row d L (by decide) (by decide) (mask_iff L (isBlock _ (by decide)) _) ?_
  iterate 4 (refine step_chk_key d L (by decide) (by decide) (fun h => h) ?_; refine step_keys d L ?_; refine step_chk_row d L (by decide) hpb (fun h => h) ?_; refine step_row d L (by decide) (by decide) (mask_iff L (isBlock _ (by decide)) _) ?_)
  refine patch_to_write d L (by decide) (off_eq L (by decide)) ?_
  refine write_to_landed d L (by decide) ?_
  refine step_pure d L ?_
  try dsimp only
  refine step_bind d L ?_
  rw [k0_part22_eq_skeleton]
  unfold k0_part22_skel
  refine landed_to_idle d L ?_
  refine idle_to_patch d L (by decide) (off_eq L (by decide)) ?_
  iterate 4 (refine step_chk_key d L (by decide) (by decide) (fun h => h) ?_; refine step_keys d L ?_; refine step_chk_row d L (by decide) hpb (fun h => h) ?_; refine step_row d L (by decide) (by decide) (mask_iff L (isBlock _ (by decide)) _) ?_)
  refine step_pure d L ?_
  try dsimp only
  refine step_bind d L ?_
  rw [k0_part23_eq_skeleton]
  unfold k0_part23_skel
  iterate 4 (refine step_chk_key d L (by decide) (by decide) (fun h => h) ?_; refine step_keys d L ?_; refine step_chk_row d L (by decide) hpb (fun h => h) ?_; refine step_row d L (by decide) (by decide) (mask_iff L (isBlock _ (by decide)) _) ?_)
  refine patch_to_write d L (by decide) (off_eq L (by decide)) ?_
  refine write_to_landed d L (by decide) ?_
  refine landed_to_idle d L ?_
  refine step_pure d L ?_
  try dsimp only
  refine step_bind d L ?_
  rw [k0_part24_eq_skeleton]
  unfold k0_part24_skel
  refine idle_to_patch d L (by decide) (off_eq L (by decide)) ?_
  iterate 5 (refine step_chk_key d L (by decide) (by decide) (fun h => h) ?_; refine step_keys d L ?_; refine step_chk_row d L (by decide) hpb (fun h => h) ?_; refine step_row d L (by decide) (by decide) (mask_iff L (isBlock _ (by decide)) _) ?_)
  refine step_pure d L ?_
  try dsimp only
  refine step_bind d L ?_
  rw [k0_part25_eq_skeleton]
  unfold k0_part25_skel
  iterate 3 (refine step_chk_key d L (by decide) (by decide) (fun h => h) ?_; refine step_keys d L ?_; refine step_chk_row d L (by decide) hpb (fun h => h) ?_; refine step_row d L (by decide) (by decide) (mask_iff L (isBlock _ (by decide)) _) ?_)
  refine patch_to_write d L (by decide) (off_eq L (by decide)) ?_
  refine write_to_landed d L (by decide) ?_
  refine landed_to_idle d L ?_
  refine idle_to_patch d L (by decide) (off_eq L (by decide)) ?_
  refine step_pure d L ?_
  try dsimp only
  refine step_bind d L ?_
  rw [k0_part26_eq_skeleton]
  unfold k0_part26_skel
  iterate 5 (refine step_chk_key d L (by decide) (by decide) (fun h => h) ?_; refine step_keys d L ?_; refine step_chk_row d L (by decide) hpb (fun h => h) ?_; refine step_row d L (by decide) (by decide) (mask_iff L (isBlock _ (by decide)) _) ?_)
  refine step_chk_key d L (by decide) (by decide) (fun h => h) ?_; refine step_keys d L ?_; refine step_chk_row d L (by decide) hpb (fun h => h) ?_
  refine step_pure d L ?_
  try dsimp only
  refine step_bind d L ?_
  rw [k0_part27_eq_skeleton]
  unfold k0_part27_skel
  refine step_row d L (by decide) (by decide) (mask_iff L (isBlock _ (by decide)) _) ?_
  iterate 2 (refine step_chk_key d L (by decide) (by decide) (fun h => h) ?_; refine step_keys d L ?_; refine step_chk_row d L (by decide) hpb (fun h => h) ?_; refine step_row d L (by decide) (by decide) (mask_iff L (isBlock _ (by decide)) _) ?_)
  refine patch_to_write d L (by decide) (off_eq L (by decide)) ?_
  refine write_to_landed d L (by decide) ?_
  refine landed_to_idle d L ?_
  refine idle_to_patch d L (by decide) (off_eq L (by decide)) ?_
  refine step_chk_key d L (by decide) (by decide) (fun h => h) ?_; refine step_keys d L ?_
  refine step_pure d L ?_
  try dsimp only
  refine step_bind d L ?_
  rw [k0_part28_eq_skeleton]
  unfold k0_part28_skel
  refine step_chk_row d L (by decide) hpb (fun h => h) ?_
  refine step_row d L (by decide) (by decide) (mask_iff L (isBlock _ (by decide)) _) ?_
  iterate 5 (refine step_chk_key d L (by decide) (by decide) (fun h => h) ?_; refine step_keys d L ?_; refine step_chk_row d L (by decide) hpb (fun h => h) ?_; refine step_row d L (by decide) (by decide) (mask_iff L (isBlock _ (by decide)) _) ?_)
  refine step_chk_key d L (by decide) (by decide) (fun h => h) ?_; refine step_keys d L ?_
  refine step_pure d L ?_
  try dsimp only
  refine step_bind d L ?_
  rw [k0_part29_eq_skeleton]
  unfold k0_part29_skel
  refine step_chk_row d L (by decide) hpb (fun h => h) ?_
  refine step_row d L (by decide) (by decide) (mask_iff L (isBlock _ (by decide)) _) ?_
  refine step_chk_key d L (by decide) (by decide) (fun h => h) ?_; refine step_keys d L ?_; refine step_chk_row d L (by decide) hpb (fun h => h) ?_
  refine step_row d L (by decide) (by decide) (mask_iff L (isBlock _ (by decide)) _) ?_
  refine patch_to_write d L (by decide) (off_eq L (by decide)) ?_
  refine write_to_landed d L (by decide) ?_
  refine landed_to_idle d L ?_
  refine idle_to_patch d L (by decide) (off_eq L (by decide)) ?_
  refine step_chk_key d L (by decide) (by decide) (fun h => h) ?_; refine step_keys d L ?_; refine step_chk_row d L (by decide) hpb (fun h => h) ?_
  refine step_row d L (by decide) (by decide) (mask_iff L (isBlock _ (by decide)) _) ?_
  refine step_chk_key d L (by decide) (by decide) (fun h => h) ?_; refine step_keys d L ?_
  refine step_pure d L ?_
  try dsimp only
  refine step_bind d L ?_
  rw [k0_part30_eq_skeleton]
  unfold k0_part30_skel
  refine step_chk_row d L (by decide) hpb (fun h => h) ?_
  refine step_row d L (by decide) (by decide) (mask_iff L (isBlock _ (by decide)) _) ?_
  iterate 5 (refine step_chk_key d L (by decide) (by decide) (fun h => h) ?_; refine step_keys d L ?_; refine step_chk_row d L (by decide) hpb (fun h => h) ?_; refine step_row d L (by decide) (by decide) (mask_iff L (isBlock _ (by decide)) _) ?_)
  refine step_chk_key d L (by decide) (by decide) (fun h => h) ?_; refine step_eta d L ?_; refine step_keys d L ?_
  refine step_pure d L ?_
  try dsimp only
  refine step_bind d L ?_
  rw [k0_part31_eq_skeleton]
  unfold k0_part31_skel
  refine step_chk_row d L (by decide) hpb (fun h => h) ?_
  refine step_row d L (by decide) (by decide) (mask_iff L (isBlock _ (by decide)) _) ?_
  refine patch_to_write d L (by decide) (off_eq L (by decide)) ?_
  refine write_to_landed d L (by decide) ?_
  refine landed_to_idle d L ?_
  refine idle_to_patch d L (by decide) (off_eq L (by decide)) ?_
  iterate 2 (refine step_chk_key d L (by decide) (by decide) (fun h => h) ?_; refine step_keys d L ?_; refine step_chk_row d L (by decide) hpb (fun h => h) ?_; refine step_row d L (by decide) (by decide) (mask_iff L (isBlock _ (by decide)) _) ?_)
  refine step_pure d L ?_
  try dsimp only
  refine step_bind d L ?_
  rw [k0_part32_eq_skeleton]
  unfold k0_part32_skel
  iterate 6 (refine step_chk_key d L (by decide) (by decide) (fun h => h) ?_; refine step_keys d L ?_; refine step_chk_row d L (by decide) hpb (fun h => h) ?_; refine step_row d L (by decide) (by decide) (mask_iff L (isBlock _ (by decide)) _) ?_)
  refine step_pure d L ?_
  try dsimp only
  refine step_bind d L ?_
  rw [k0_part33_eq_skeleton]
  unfold k0_part33_skel
  refine patch_to_write d L (by decide) (off_eq L (by decide)) ?_
  refine write_to_landed d L (by decide) ?_
  refine landed_to_idle d L ?_
  refine idle_last d L ?_
  iterate 3 (refine step_chk_key d L (by decide) (by decide) (fun h => h) ?_; refine step_keys d L ?_; refine step_chk_row d L (by decide) hpb (fun h => h) ?_; refine step_row d L (by decide) (by decide) (mask_iff L (isBlock _ (by decide)) _) ?_)
  refine step_chk_key d L (by decide) (by decide) (fun h => h) ?_; refine step_keys d L ?_
  refine step_pure d L ?_
  try dsimp only
  refine step_bind d L ?_
  rw [k0_part34_eq_skeleton]
  unfold k0_part34_skel
  refine step_chk_row d L (by decide) hpb (fun h => h) ?_
  refine step_row d L (by decide) (by decide) (mask_iff L (isBlock _ (by decide)) _) ?_
  iterate 4 (refine step_chk_key d L (by decide) (by decide) (fun h => h) ?_; refine step_keys d L ?_; refine step_chk_row d L (by decide) hpb (fun h => h) ?_; refine step_row d L (by decide) (by decide) (mask_iff L (isBlock _ (by decide)) _) ?_)
  refine patch_to_write d L (by decide) (off_eq L (by decide)) ?_
  refine write_to_done d L ?_
  refine step_pure d L ?_
  try dsimp only
  subst hR0
  split
  next h1 =>
    have hf : IsFirst L := (first_iff L).1 h1
    obtain ⟨X, hX⟩ : ∃ X : sProp 𝕄, X = iprop((Holds d L lSrc q1 D.lv ∗ Holds d L pSrc q2 pt ∗ Holds d L kSrc q3 D.kv
        ∗ qPts d L D (tileSet L) ∗ oPts d L D (base L + 88))
      ∗ ((∃ P, Holds d L lM fullShare P) ∗ (∃ P, Holds d L kM fullShare P) ∗ (∃ P, Holds d L aM fullShare P) ∗ (∃ P, Holds d L bM fullShare P))
      ∗ (sem0 d L cc0_scratch6.sem ∗ sem0 d L cc0_scratch7.sem ∗ sem0 d L cc0_scratch8.sem ∗ sem0 d L cc0_scratch9.sem
        ∗ sem0 d L cc0_scoped0.sem ∗ sem0 d L cc0_scoped1.sem ∗ sem0 d L cc0_scoped2.sem)
      ∗ ((∃ P, Holds d L npM fullShare P) ∗ sem0 d L cc0_scoped3.sem) ∗ Own d L O W R) := ⟨_, rfl⟩
    refine step_conv d L (Γ' := iprop(Holds d L pM fullShare pt ∗ (∃ P, Holds d L nM fullShare P) ∗ X)) ?_ ?_
    · rw [hX]
      unfold DoneS NoAhead Own Extra NpIn
      rw [if_pos hf]
      iintro ⟨Hk, Ha, ⟨Hb, Hs7, Hq⟩, Hs6, Hs8, Hs9, Ho, #HM, HO, ⟨⟨Hn, Hr3, Hnp⟩, HR⟩, Hl, HlM, Hr0, Hp, HpM, Hr1, Hks, Hr2⟩
      iframe
      isplitl [HlM Hk]
      · isplitl [HlM]; · iexists _; iexact HlM
        iexists _; iexact Hk
      iexact HM
    refine step_bind d L ?_
    rw [k0_part8_eq_skeleton]
    unfold k0_part8_skel
    refine step_bind d L ?_
    rw [k0_part1_eq_skeleton]
    unfold k0_part1_skel
    refine step_pure d L ?_
    try dsimp only
    refine step_bind d L ?_
    rw [k0_part2_eq_skeleton]
    unfold k0_part2_skel
    refine step_pure d L ?_
    try dsimp only
    refine step_bind d L ?_
    rw [k0_part3_eq_skeleton]
    unfold k0_part3_skel
    refine step_pure d L ?_
    try dsimp only
    refine step_bind d L ?_
    rw [k0_part4_eq_skeleton]
    unfold k0_part4_skel
    refine step_load d L ?_
    refine step_conv d L (Γ' := iprop((∃ P, Holds d L nM fullShare P) ∗ Holds d L pM fullShare pt ∗ X)) (by iintro ⟨H1, H2, H3⟩; iframe) ?_
    refine ex_left fun P₀ => ?_
    refine step_load d L ?_
    refine step_store d L ?_
    refine ex_left fun P₁ => pure_left fun hP₁ => ?_
    refine step_pure d L ?_
    try dsimp only
    refine step_bind d L ?_
    rw [k0_part5_eq_skeleton]
    unfold k0_part5_skel
    refine step_pure d L ?_
    try dsimp only
    refine step_bind d L ?_
    rw [k0_part6_eq_skeleton]
    unfold k0_part6_skel
    refine step_pure d L ?_
    try dsimp only
    refine step_bind d L ?_
    rw [k0_part7_eq_skeleton]
    unfold k0_part7_skel
    refine step_pure d L ?_
    try dsimp only
    refine step_conv d L (Γ' := iprop(Holds d L pM fullShare pt ∗ Holds d L nM fullShare P₁ ∗ X)) (by iintro ⟨H1, H2, H3⟩; iframe) ?_
    refine step_load d L ?_
    refine step_conv d L (Γ' := iprop(Holds d L nM fullShare P₁ ∗ Holds d L pM fullShare pt ∗ X)) (by iintro ⟨H1, H2, H3⟩; iframe) ?_
    refine step_pure d L ?_
    try dsimp only
    refine step_load d L ?_
    refine step_store d L ?_
    refine ex_left fun P₂ => pure_left fun hP₂ => ?_
    have hnp : P₂ = np := funext fun y => by
      rcases halves y with ⟨x, rfl⟩ | ⟨x, rfl⟩
      · rw [hP₂.2 _ fun z h => lo_ne_hi x z h.symm, hP₁.1 x]
        exact hlo x
      · rw [hP₂.1 x]
        exact hhi x
    subst hnp
    subst hX
    refine step_conv d L (Γ' := iprop((Holds d L nM fullShare P₂ ∗ (∃ P, Holds d L npM fullShare P) ∗ sem0 d L cc0_scoped3.sem)
      ∗ Own d L O W iprop(R ∗ (Holds d L lSrc q1 D.lv ∗ Holds d L pSrc q2 pt ∗ Holds d L kSrc q3 D.kv
        ∗ qPts d L D (tileSet L) ∗ oPts d L D (base L + 88))
      ∗ ((∃ P, Holds d L lM fullShare P) ∗ (∃ P, Holds d L kM fullShare P) ∗ (∃ P, Holds d L aM fullShare P) ∗ (∃ P, Holds d L bM fullShare P))
      ∗ (sem0 d L cc0_scratch6.sem ∗ sem0 d L cc0_scratch7.sem ∗ sem0 d L cc0_scratch8.sem ∗ sem0 d L cc0_scratch9.sem
        ∗ sem0 d L cc0_scoped0.sem ∗ sem0 d L cc0_scoped1.sem ∗ sem0 d L cc0_scoped2.sem) ∗ Holds d L pM fullShare pt))) ?_ ?_
    · unfold Own
      iintro ⟨Hn, Hp, Ha, Hb, Hc, Hd, #HM, HO, HR⟩
      icases Hd with ⟨Hnp, Hs⟩
      iframe
      iexact HM
    refine step_copy d L (View.dmaCredit_pos _ (by decide)) ?_
    refine step_pure d L ?_
    refine BIBase.Entails.trans ?_ hQ
    unfold FinS Own NpOut
    rw [if_pos hf]
    iintro ⟨⟨Hn, Hnp, Hr3⟩, #HM, HO, HR, ⟨Hl, Hp, Hk, Hq, Ho⟩, ⟨HlM, HkM, Ha, Hb⟩, ⟨Hs6, Hs7, Hs8, Hs9, Hr0, Hr1, Hr2⟩, HpM⟩
    iframe
    isplitl [HpM Hn]
    · isplitl [HpM]; · iexists _; iexact HpM
      iexists _; iexact Hn
    iexact HM
  next h1 =>
    have hf : ¬ IsFirst L := fun h => h1 ((first_iff L).2 h)
    refine step_pure d L ?_
    refine BIBase.Entails.trans ?_ hQ
    unfold FinS DoneS NoAhead Own Extra NpIn NpOut
    rw [if_neg hf, if_neg hf]
    iintro ⟨Hk, Ha, ⟨Hb, Hs7, Hq⟩, Hs6, Hs8, Hs9, Ho, #HM, HO, ⟨⟨Hn, Hr3, -⟩, HR⟩, Hl, HlM, Hr0, Hp, HpM, Hr1, Hks, Hr2⟩
    iframe
    isplitl [HlM HpM Hk]
    · isplitl [HlM]; · iexists _; iexact HlM
      isplitl [HpM]; · iexists _; iexact HpM
      iexists _; iexact Hk
    iexact HM

end Cert.Proof.Queue

end
-- ==== Proof.Tile.lean ====
/-
  A tile as the launch sees it: what the call hands it and takes back, its own buffers and semaphores, and its run from
  the one to the other.
-/
module

public import proofs.«01_k».proof.Proof.Walk

@[expose] public section

noncomputable section

namespace Cert.Proof.Queue

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (MayWaits shareTokN)
open Idealize.ShloMosaic.Tactic

variable {F : FTy → Type} [FloatOps F]

local notation "𝕄" => MT nD τ sig (HIx 1) (Elt F) ℕ UU ℕ

/-! ## What a tile is handed and gives back -/

/-- The arrays of a call, as the device's first thread names them. -/
abbrev kLoc (d : Dev nD) : Loc nD τ sig := (SparseCore.T d).loc main_arg0
abbrev lLoc (d : Dev nD) : Loc nD τ sig := (SparseCore.T d).loc main_arg1
abbrev pLoc (d : Dev nD) : Loc nD τ sig := (SparseCore.T d).loc main_v0
abbrev qLoc (d : Dev nD) : Loc nD τ sig := (SparseCore.T d).loc main_v1
abbrev oLoc (d : Dev nD) : Loc nD τ sig := (SparseCore.T d).loc main_v2_0
abbrev nLoc (d : Dev nD) : Loc nD τ sig := (SparseCore.T d).loc main_v2_1

/-- The tile's share of an array that all tiles read. -/
abbrev tok (L : grid0.Coords) : PosShare TreeShare := shareTokN fullShare ((L 1).val + 16 * (L 0).val)

section Tile

variable (d : Dev nD) (L : grid0.Coords) (D : Dat F) (pt np : IVec S32 32)

/-- The tile's share of the three tables, and its rows of the queues. -/
def Common : sProp 𝕄 :=
  iprop((lLoc d ↦{tok L} (D.lv : Buf (Elt F) (lLoc d))) ∗ (pLoc d ↦{tok L} (pt : Buf (Elt F) (pLoc d))) ∗ (kLoc d ↦{tok L} (D.kv : Buf (Elt F) (kLoc d)))
    ∗ qLoc d ↦[tileSet L]{fullShare} (D.qv : Buf (Elt F) (qLoc d)))

/-- What the call hands the tile: its share of the tables, its rows of the queues and of the result and, the first tile, the
    array of advanced pointers. -/
def TileIn : sProp 𝕄 :=
  iprop(Common d L D pt ∗ (∃ g, oLoc d ↦[tileSet L]{fullShare} g) ∗ if IsFirst L then iprop(∃ f, nLoc d ↦{fullShare} f) else iprop(emp))

/-- What the tile gives back: its rows of the result updated, the pointers advanced. -/
def TileOut : sProp 𝕄 :=
  iprop(Common d L D pt ∗ (oLoc d ↦[tileSet L]{fullShare} (newQ D : Buf (Elt F) (oLoc d)))
    ∗ if IsFirst L then iprop(nLoc d ↦{fullShare} (np : Buf (Elt F) (nLoc d))) else iprop(emp))

instance tileIn_storable : BI.Storable (upEmb : UEmb _ 𝕄) (TileIn d L D pt) := by unfold TileIn Common; split <;> infer_instance
instance tileOut_storable : BI.Storable (upEmb : UEmb _ 𝕄) (TileOut d L D pt np) := by unfold TileOut Common; split <;> infer_instance

omit [FloatOps F] in
/-- A whole array at the tile's share, as the tile's rules hold it. -/
theorem holds_whole (b : Ref sig .scVector) (q : PosShare TreeShare) (P : b.ty.shape.Idx → Elt F b.ty.elt) :
    Holds d L (Memref.whole b) q P ⊣⊢ ((tid d L).loc b ↦{q} (P : Buf (Elt F) ((tid d L).loc b)) : sProp 𝕄) := by
  unfold Holds
  simp only [Memref.view_whole, View.set_whole]
  constructor
  · iintro ⟨%f, %h, H⟩
    rw [show f = P from h]
    iexact H
  · iintro H
    iexists _
    isplitr
    · ipureintro; exact View.read_whole _ _
    · iexact H

omit [FloatOps F] in
/-- A whole array at some contents, as the tile's rules hold it. -/
theorem some_whole (b : Ref sig .scVector) :
    (iprop(∃ P, Holds d L (Memref.whole b) fullShare P) : sProp 𝕄) ⊣⊢ iprop(∃ f, (tid d L).loc b ↦{fullShare} f) := by
  constructor
  · iintro ⟨%P, H⟩
    ihave H := (holds_whole d L b fullShare P).1 $$ H
    iexists _; iexact H
  · iintro ⟨%P, H⟩
    ihave H := (holds_whole d L b fullShare P).2 $$ H
    iexists _; iexact H

/-! ## The tile's own buffers and semaphores -/

def bufSet : Finset (Ref sig .scVector) := {cc0_scratch0, cc0_scratch1, cc0_scratch2, cc0_scratch3, cc0_scratch4, cc0_scratch5}
def semSet : Finset (SemLoc sig) := {.dma cc0_scratch6.sem, .dma cc0_scratch7.sem, .dma cc0_scratch8.sem, .dma cc0_scratch9.sem,
  .dma cc0_scoped0.sem, .dma cc0_scoped1.sem, .dma cc0_scoped2.sem, .dma cc0_scoped3.sem}

theorem semSet_scoped : ∀ sm ∈ semSet, sm.isScoped .scVector = true := by decide

/-- The tile's buffer `b` at some contents. -/
abbrev someBuf (b : Ref sig .scVector) : sProp 𝕄 := iprop(∃ f, (tid d L).loc b ↦{fullShare} f)

def refEmb : Ref sig .scVector ↪ DevRef τ sig := ⟨(tid d L).2.devRef, Proc.devRef_injective _⟩
def semEmb : SemLoc sig ↪ GSem nD τ sig := ⟨fun sm => (tid d L, sm), fun _ _ h => (Prod.mk.inj h).2⟩

def restBufs : sProp 𝕄 := bigSep (ownRefs (tid d L).2 \ bufSet.map (refEmb d L)) fun b => iprop(∃ f, ((d, b) : Loc nD τ sig) ↦{fullShare} f)
def restSems : sProp 𝕄 := bigSep (ownCells (tid d L) \ semSet.map (semEmb d L)) fun g => semVal g 0

omit [FloatOps F] in
theorem ownBufs_eq : (ownBufs (tid d L) : sProp 𝕄)
    = iprop((someBuf d L cc0_scratch0 ∗ someBuf d L cc0_scratch1 ∗ someBuf d L cc0_scratch2 ∗ someBuf d L cc0_scratch3 ∗ someBuf d L cc0_scratch4
        ∗ someBuf d L cc0_scratch5) ∗ restBufs d L) := by
  unfold SparseCore.Cfg.ownBufs restBufs
  rw [bigSep_sdiff_split (t := bufSet.map (refEmb d L)), bigSep_map]
  · unfold bufSet
    rw [SparseCore.bigSep_insert' (by decide), SparseCore.bigSep_insert' (by decide), SparseCore.bigSep_insert' (by decide),
      SparseCore.bigSep_insert' (by decide), SparseCore.bigSep_insert' (by decide), bigSep_singleton]
    rfl
  · intro b hb
    obtain ⟨r, hr, rfl⟩ := Finset.mem_map.mp hb
    refine SparseCore.Cfg.mem_ownRefs_of_owner (p := (tid d L).2) ?_
    simp only [bufSet, Finset.mem_insert, Finset.mem_singleton] at hr
    rcases hr with rfl | rfl | rfl | rfl | rfl | rfl <;> rfl

omit [FloatOps F] in
theorem ownSems0_eq : (ownSems0 (tid d L) : sProp 𝕄)
    = iprop((sem0 d L cc0_scratch6.sem ∗ sem0 d L cc0_scratch7.sem ∗ sem0 d L cc0_scratch8.sem ∗ sem0 d L cc0_scratch9.sem
      ∗ sem0 d L cc0_scoped0.sem ∗ sem0 d L cc0_scoped1.sem ∗ sem0 d L cc0_scoped2.sem ∗ sem0 d L cc0_scoped3.sem) ∗ restSems d L) := by
  unfold SparseCore.Cfg.ownSems0 restSems
  rw [bigSep_sdiff_split (t := semSet.map (semEmb d L)), bigSep_map]
  · unfold semSet
    rw [SparseCore.bigSep_insert' (by decide), SparseCore.bigSep_insert' (by decide), SparseCore.bigSep_insert' (by decide),
      SparseCore.bigSep_insert' (by decide), SparseCore.bigSep_insert' (by decide), SparseCore.bigSep_insert' (by decide),
      SparseCore.bigSep_insert' (by decide), bigSep_singleton]
    rfl
  · intro g hg
    obtain ⟨r, hr, rfl⟩ := Finset.mem_map.mp hg
    refine mem_ownCells.mpr ⟨rfl, ?_⟩
    show r.isScoped .scVector = true
    exact semSet_scoped r hr

/-! ## The tile's run -/

theorem out_eq (g : S2816x1024.Idx → Elt F .f32) :
    (oLoc d ↦[tileSet L]{fullShare} (outUpTo D (base L + 88) g : Buf (Elt F) (oLoc d)) : sProp 𝕄) = oLoc d ↦[tileSet L]{fullShare} (newQ D : Buf (Elt F) (oLoc d)) :=
  pointsTo_congr fun x hx => by
    have h : x ∈ tileSet L := hx
    simp only [tileSet, Finset.mem_filter] at h
    exact if_pos h.2.2

theorem out_start (g : S2816x1024.Idx → Elt F .f32) :
    (oLoc d ↦[tileSet L]{fullShare} (outUpTo D (base L + 8 * 0) g : Buf (Elt F) (oLoc d)) : sProp 𝕄) = oLoc d ↦[tileSet L]{fullShare} (g : Buf (Elt F) (oLoc d)) :=
  pointsTo_congr fun x hx => by
    have h : x ∈ tileSet L := hx
    simp only [tileSet, Finset.mem_filter] at h
    exact if_neg (by omega)

theorem tile_run (hF : (K (F := F)).Facts) (hlv : ∀ x, (D.lv x).toNat < 32) (hpb : ∀ x, (D.pv x).toNat < 1024)
    (hpv : ∀ h : ∀ a x, ((![D.lv] : Fin 1 → IVec S16 32) a x).toNat < S32.size a,
      posW (F := F) D.lv (loadIdx (F := F) (e := .i32) pt ![D.lv] h) = D.pv)
    (hlo : ∀ x, npLo (F := F) D.lv (fun x => pt (loR.emb x)) x = np (loR.emb x))
    (hhi : ∀ x, npHi (F := F) D.lv (fun x => pt (hiR.emb x)) x = np (hiR.emb x))
    (O : CellTallies nD τ sig (HIx 1)) (W : Waits sig (HIx 1)) (hO : ∀ g, O g none = 0) :
    iprop(levAts (K (F := F)).L (K (F := F)).lev ∗ emp ∗ TileIn d L D pt ∗ scopedBufs (tid d L) ∗ scopedSems0 (tid d L) ∗ owes (tid d L) O W)
      ⊢ wpT d L (bodyAt (F := F) L) fun _ => iprop(TileOut d L D pt np ∗ scopedBufs (tid d L) ∗ scopedSems0 (tid d L)
          ∗ ∃ W', ⌜∀ p ∈ W', p ∈ W ∨ p.2 = none⌝ ∗ owes (tid d L) O W') := by
  refine BIBase.Entails.trans ?_ (body_run d L pt np hlv hpb hpv hlo hhi (O := O) (W := W) iprop(restBufs d L ∗ restSems d L) (tok L) (tok L) (tok L) ?_)
  · rw [(K (F := F)).scopedBufs_V hF d _ _, SparseCore.Cfg.scopedSems0_V (Val := Elt F) d _ _, ownBufs_eq, ownSems0_eq]
    unfold TileIn Common Own TabIn Rings Extra NoAhead NpIn qPts
    iintro ⟨#Hlv, -, ⟨⟨Hl, Hp, Hk, Hq⟩, ⟨%g, Ho⟩, Hn⟩, ⟨⟨⟨%f0, B0⟩, ⟨%f1, B1⟩, ⟨%f2, B2⟩, ⟨%f3, B3⟩, ⟨%f4, B4⟩, ⟨%f5, B5⟩⟩, HrB⟩,
      ⟨⟨S6, S7, S8, S9, R0, R1, R2, R3⟩, HrS⟩, HO⟩
    ihave Hmw := ((K (F := F)).mayWaits_none (thr := tid d L) hO) $$ Hlv
    ihave Hl := (holds_whole d L main_arg1_scv _ _).2 $$ Hl
    ihave Hp := (holds_whole d L main_v0_scv _ _).2 $$ Hp
    ihave Hk := (holds_whole d L main_arg0_scv _ _).2 $$ Hk
    ihave B0 := (some_whole d L cc0_scratch0).2 $$ [B0]
    · iexists f0; iexact B0
    ihave B1 := (some_whole d L cc0_scratch1).2 $$ [B1]
    · iexists f1; iexact B1
    ihave B2 := (some_whole d L cc0_scratch2).2 $$ [B2]
    · iexists f2; iexact B2
    ihave B3 := (some_whole d L cc0_scratch3).2 $$ [B3]
    · iexists f3; iexact B3
    ihave B4 := (some_whole d L cc0_scratch4).2 $$ [B4]
    · iexists f4; iexact B4
    ihave B5 := (some_whole d L cc0_scratch5).2 $$ [B5]
    · iexists f5; iexact B5
    isplitl [Hl B0 R0]
    · isplitl [Hl]
      · iexact Hl
      isplitl [B0]
      · iexact B0
      · iexact R0
    isplitr
    · iexact Hmw
    isplitl [HO]
    · iexists W
      isplitr
      · ipureintro; exact fun p hp => Or.inl hp
      · iexact HO
    isplitl [Hp B1 R1]
    · isplitl [Hp]
      · iexact Hp
      isplitl [B1]
      · iexact B1
      · iexact R1
    isplitl [Hk B2 R2]
    · isplitl [Hk]
      · iexact Hk
      isplitl [B2]
      · iexact B2
      · iexact R2
    isplitl [Hq Ho B4 B5 S6 S7 S8 S9]
    · isplitl [B4 S6 Hq]
      · isplitl [B4]
        · iexact B4
        isplitl [S6]
        · iexact S6
        · iexact Hq
      isplitl [B5]
      · iexact B5
      isplitl [S7]
      · iexact S7
      isplitl [S9]
      · iexact S9
      isplitl [S8]
      · iexact S8
      · unfold oPts
        iexists g
        ihave Ho := (BIBase.BiEntails.of_eq (out_start d L D g)).2 $$ Ho
        iexact Ho
    isplitl [B3 R3 Hn]
    · isplitl [B3]
      · iexact B3
      isplitl [R3]
      · iexact R3
      · by_cases h : IsFirst L
        · simp only [if_pos h]
          ihave Hn := (some_whole d L main_v2_1_scv).2 $$ Hn
          iexact Hn
        · simp only [if_neg h]
          iexact Hn
    isplitl [HrB]
    · iexact HrB
    · iexact HrS
  · unfold FinS TileOut Common Own NpOut qPts
    rw [(K (F := F)).scopedBufs_V hF d _ _, SparseCore.Cfg.scopedSems0_V (Val := Elt F) d _ _, ownBufs_eq, ownSems0_eq]
    iintro ⟨⟨Hl, Hp, Hk, Hq, Ho, Hn⟩, ⟨B0, B1, B2, B3, B4, B5⟩, ⟨S6, S7, S8, S9, R0, R1, R2, R3⟩, -, ⟨%W', %hW, HO⟩, HrB, HrS⟩
    unfold oPts
    icases Ho with ⟨%g, Ho⟩
    ihave Hl := (holds_whole d L main_arg1_scv _ _).1 $$ Hl
    ihave Hp := (holds_whole d L main_v0_scv _ _).1 $$ Hp
    ihave Hk := (holds_whole d L main_arg0_scv _ _).1 $$ Hk
    ihave B0 := (some_whole d L cc0_scratch0).1 $$ B0
    ihave B1 := (some_whole d L cc0_scratch1).1 $$ B1
    ihave B2 := (some_whole d L cc0_scratch2).1 $$ B2
    ihave B3 := (some_whole d L cc0_scratch3).1 $$ B3
    ihave B4 := (some_whole d L cc0_scratch4).1 $$ B4
    ihave B5 := (some_whole d L cc0_scratch5).1 $$ B5
    ihave Ho := (BIBase.BiEntails.of_eq (out_eq d L D g)).1 $$ Ho
    isplitl [Hl Hp Hk Hq Ho Hn]
    · isplitl [Hl Hp Hk Hq]
      · isplitl [Hl]
        · iexact Hl
        isplitl [Hp]
        · iexact Hp
        isplitl [Hk]
        · iexact Hk
        · iexact Hq
      isplitl [Ho]
      · iexact Ho
      · by_cases h : IsFirst L
        · simp only [if_pos h]
          ihave Hn := (holds_whole d L main_v2_1_scv _ _).1 $$ Hn
          iexact Hn
        · simp only [if_neg h]
          iexact Hn
    isplitl [B0 B1 B2 B3 B4 B5 HrB]
    · iframe
    isplitl [S6 S7 S8 S9 R0 R1 R2 R3 HrS]
    · iframe
    · iexists W'
      isplitr
      · ipureintro; exact hW
      · iexact HO

end Tile

end Cert.Proof.Queue

end
-- ==== Proof.Deal.lean ====
/-
  The call's arrays dealt to its thirty-two tiles, and gathered from them.
-/
module

public import proofs.«01_k».proof.Proof.Tile

@[expose] public section

noncomputable section

namespace Cert.Proof.Queue

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Transfers (MayWaits shareTokN shareTok shareDrop)

variable {F : FTy → Type} [FloatOps F]

local notation "𝕄" => MT nD τ sig (HIx 1) (Elt F) ℕ UU ℕ

/-- The tile of SparseCore `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The tiles, numbered by core and subcore. -/
abbrev tileAt (p : Fin 2 × Fin 16) : grid0.Coords := coordsV p.1 p.2

theorem base_tileAt (p : Fin 2 × Fin 16) : base (tileAt p) = 1408 * p.1.val + 88 * p.2.val := rfl

theorem mem_tileAt (p : Fin 2 × Fin 16) (x : S2816x1024.Idx) :
    x ∈ tileSet (tileAt p) ↔ 1408 * p.1.val + 88 * p.2.val ≤ (x 0).val ∧ (x 0).val < 1408 * p.1.val + 88 * p.2.val + 88 := by
  unfold tileSet
  rw [Finset.mem_filter, base_tileAt]
  exact and_iff_right (Finset.mem_univ _)

theorem tiles_disjoint : ∀ p ∈ (Finset.univ : Finset (Fin 2 × Fin 16)), ∀ p' ∈ (Finset.univ : Finset (Fin 2 × Fin 16)), p ≠ p' →
    Disjoint (tileSet (tileAt p)) (tileSet (tileAt p')) := by
  intro p _ p' _ hne
  refine Finset.disjoint_left.mpr fun x h h' => hne ?_
  obtain ⟨a, b⟩ := p
  obtain ⟨a', b'⟩ := p'
  have h := (mem_tileAt _ x).1 h
  have h' := (mem_tileAt _ x).1 h'
  dsimp only at h h'
  have h1 := b.isLt; have h2 := b'.isLt
  have e1 : a.val = a'.val := by omega
  have e2 : b.val = b'.val := by omega
  rw [Fin.ext e1, Fin.ext e2]

theorem tiles_cover : (Finset.univ : Finset (Fin 2 × Fin 16)).biUnion (fun p => tileSet (tileAt p)) = Finset.univ := by
  ext x
  have hx : (x 0).val < 2816 := (x 0).isLt
  refine ⟨fun _ => Finset.mem_univ _, fun _ => Finset.mem_biUnion.2
    ⟨(⟨(x 0).val / 1408, by omega⟩, ⟨(x 0).val % 1408 / 88, by omega⟩), Finset.mem_univ _, (mem_tileAt _ x).2 ?_⟩⟩
  dsimp only
  constructor <;> omega

omit [FloatOps F] in
/-- An array's share for all tiles is one share each and a remainder. -/
theorem toks_tiles (ℓ : Loc nD τ sig) (f : Buf (Elt F) ℓ) :
    (ℓ ↦{fullShare} f : sProp 𝕄) ⊣⊢ iprop((ℓ ↦{shareDrop fullShare 32} f) ∗ bigSep Finset.univ fun p : Fin 2 × Fin 16 => ℓ ↦{tok (tileAt p)} f) := by
  have h := Transfers.pointsTo_toks (Ix := HIx 1) (Name := ℕ) (U := UU) (Lvl := ℕ) (ℓ := ℓ) (S := Finset.univ) (f := f) fullShare 32
  rw [bigSep_univ_equiv (finProdFinEquiv (m := 2) (n := 16))] at h
  exact h

omit [FloatOps F] in
/-- An array over the stacked rows is the tiles' rows of it. -/
theorem rows_q (d : Dev nD) (f : Buf (Elt F) (qLoc d)) :
    (qLoc d ↦{fullShare} f : sProp 𝕄) = bigSep Finset.univ fun p : Fin 2 × Fin 16 => qLoc d ↦[tileSet (tileAt p)]{fullShare} f := by
  rw [← pointsTo_biUnion Finset.univ (ℓ := qLoc d) (fun p => tileSet (tileAt p)) tiles_disjoint, tiles_cover]; try rfl
omit [FloatOps F] in
theorem rows_o (d : Dev nD) (f : Buf (Elt F) (oLoc d)) :
    (oLoc d ↦{fullShare} f : sProp 𝕄) = bigSep Finset.univ fun p : Fin 2 × Fin 16 => oLoc d ↦[tileSet (tileAt p)]{fullShare} f := by
  rw [← pointsTo_biUnion Finset.univ (ℓ := oLoc d) (fun p => tileSet (tileAt p)) tiles_disjoint, tiles_cover]; try rfl

omit [FloatOps F] in
/-- What only the first tile holds. -/
theorem only_first (X : sProp 𝕄) :
    (bigSep Finset.univ fun p : Fin 2 × Fin 16 => if IsFirst (tileAt p) then X else iprop(emp)) = X := by
  rw [SparseCore.bigSep_erase' (i := ((0, 0) : Fin 2 × Fin 16)) (Finset.mem_univ _),
    bigSep_congr (Φ := fun p : Fin 2 × Fin 16 => if IsFirst (tileAt p) then X else iprop(emp)) (Ψ := fun _ => iprop(emp)),
    show (bigSep (Finset.univ.erase ((0, 0) : Fin 2 × Fin 16)) fun _ => (iprop(emp) : sProp 𝕄)) = iprop(emp) from bigSep_emp_const _]
  · rw [if_pos (by decide)]
    exact equiv_iff.mp BI.sep_emp
  · intro p hp
    refine if_neg ?_
    revert p
    decide

section Deal

variable (d : Dev nD) (D : Dat F) (pt np : IVec S32 32)

/-- What of the tables no tile is handed. -/
def Kept : sProp 𝕄 :=
  iprop((lLoc d ↦{shareDrop fullShare 32} (D.lv : Buf (Elt F) (lLoc d))) ∗ (pLoc d ↦{shareDrop fullShare 32} (pt : Buf (Elt F) (pLoc d)))
    ∗ (kLoc d ↦{shareDrop fullShare 32} (D.kv : Buf (Elt F) (kLoc d))))

theorem common_eq : (bigSep Finset.univ fun p : Fin 2 × Fin 16 => Common d (tileAt p) D pt : sProp 𝕄)
    = iprop((bigSep Finset.univ fun p : Fin 2 × Fin 16 => lLoc d ↦{tok (tileAt p)} (D.lv : Buf (Elt F) (lLoc d)))
      ∗ (bigSep Finset.univ fun p : Fin 2 × Fin 16 => pLoc d ↦{tok (tileAt p)} (pt : Buf (Elt F) (pLoc d)))
      ∗ (bigSep Finset.univ fun p : Fin 2 × Fin 16 => kLoc d ↦{tok (tileAt p)} (D.kv : Buf (Elt F) (kLoc d)))
      ∗ qLoc d ↦{fullShare} (D.qv : Buf (Elt F) (qLoc d))) := by
  unfold Common
  rw [bigSep_sep', bigSep_sep', bigSep_sep', rows_q]

/-- The arrays the call uses, whole, are the tiles' parts and what is kept; -/
theorem deal (g : Buf (Elt F) (oLoc d)) (f : Buf (Elt F) (nLoc d)) :
    iprop((lLoc d ↦{fullShare} (D.lv : Buf (Elt F) (lLoc d))) ∗ (pLoc d ↦{fullShare} (pt : Buf (Elt F) (pLoc d)))
      ∗ (kLoc d ↦{fullShare} (D.kv : Buf (Elt F) (kLoc d))) ∗ (qLoc d ↦{fullShare} (D.qv : Buf (Elt F) (qLoc d)))
      ∗ (oLoc d ↦{fullShare} g) ∗ nLoc d ↦{fullShare} f)
    ⊢ (iprop(Kept d D pt ∗ bigSep Finset.univ fun c : Fin 2 => bigSep Finset.univ fun s : Fin 16 => TileIn d (tileAt (c, s)) D pt) : sProp 𝕄) := by
  rw [← bigSep_univ_prod (fun p : Fin 2 × Fin 16 => TileIn d (tileAt p) D pt)]
  unfold TileIn Kept
  rw [bigSep_sep', bigSep_sep', only_first, common_eq, rows_o]
  iintro ⟨Hl, Hp, Hk, Hq, Ho, Hn⟩
  ihave Hl := (toks_tiles _ _).1 $$ Hl
  icases Hl with ⟨Kl, Hl⟩
  ihave Hp := (toks_tiles _ _).1 $$ Hp
  icases Hp with ⟨Kp, Hp⟩
  ihave Hk := (toks_tiles _ _).1 $$ Hk
  icases Hk with ⟨Kk, Hk⟩
  isplitl [Kl Kp Kk]
  · iframe
  isplitl [Hl Hp Hk Hq]
  · iframe
  isplitl [Ho]
  · have h : (bigSep Finset.univ fun p : Fin 2 × Fin 16 => oLoc d ↦[tileSet (tileAt p)]{fullShare} g : sProp 𝕄)
        ⊢ bigSep Finset.univ fun p : Fin 2 × Fin 16 => iprop(∃ g, oLoc d ↦[tileSet (tileAt p)]{fullShare} g) :=
      bigSep_mono fun p _ => (exists_intro g : (oLoc d ↦[tileSet (tileAt p)]{fullShare} g : sProp 𝕄) ⊢ iprop(∃ g, oLoc d ↦[tileSet (tileAt p)]{fullShare} g))
    iapply h $$ Ho
  · iexists f; iexact Hn

/-- and the parts given back, with what was kept, are the arrays again. -/
theorem gather :
    (iprop(Kept d D pt ∗ bigSep Finset.univ fun c : Fin 2 => bigSep Finset.univ fun s : Fin 16 => TileOut d (tileAt (c, s)) D pt np) : sProp 𝕄)
    ⊢ iprop((lLoc d ↦{fullShare} (D.lv : Buf (Elt F) (lLoc d))) ∗ (pLoc d ↦{fullShare} (pt : Buf (Elt F) (pLoc d)))
      ∗ (kLoc d ↦{fullShare} (D.kv : Buf (Elt F) (kLoc d))) ∗ (qLoc d ↦{fullShare} (D.qv : Buf (Elt F) (qLoc d)))
      ∗ (oLoc d ↦{fullShare} (newQ D : Buf (Elt F) (oLoc d))) ∗ nLoc d ↦{fullShare} (np : Buf (Elt F) (nLoc d))) := by
  rw [← bigSep_univ_prod (fun p : Fin 2 × Fin 16 => TileOut d (tileAt p) D pt np)]
  unfold TileOut Kept
  rw [bigSep_sep', bigSep_sep', only_first, common_eq, rows_o]
  iintro ⟨⟨Kl, Kp, Kk⟩, ⟨Hl, Hp, Hk, Hq⟩, Ho, Hn⟩
  ihave Hl := (toks_tiles _ _).2 $$ [Kl Hl]
  · iframe
  ihave Hp := (toks_tiles _ _).2 $$ [Kp Hp]
  · iframe
  ihave Hk := (toks_tiles _ _).2 $$ [Kk Hk]
  · iframe
  iframe

end Deal

end Cert.Proof.Queue

end
-- ==== Proof.Launch.lean ====
/-
  The whole program: the host's operations before the call, the call on its tiles, the host's operations after it; what
  every run ends with.
-/
module

public import proofs.«01_k».proof.Proof.Deal

@[expose] public section

noncomputable section

namespace Cert.Proof.Queue

open Cert.KernelIdeal Cert.KernelIdeal.Gen
open Idealize.ShloMosaic
open Idealize.ShloMosaic.SparseCore (S V T)
open Idealize.ShloMosaic.SparseCore.Cfg (HIx Pay ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The host's values -/

variable (m : (ℓ : Loc nD τ sig) → Buf (Elt F) ℓ) (ρ : Dev nD → PrngReg)
variable (pv : Dev nD → IVec S16 32) (np : Dev nD → IVec S32 32)

/-- The pointers, padded to thirty-two lanes. -/
def ptOf (d : Dev nD) : IVec S32 32 :=
  pad S32 ![0] ![10] ![0] (m ((SparseCore.T d).loc main_arg3) : IVec S22 32) (constantI S_ 32 0#32) pads_S22_S32_0100 h_S_
/-- What the call works on: labels, positions, keys, and the queues as stacked rows. -/
def datOf (d : Dev nD) : Dat F where
  lv := m (lLoc d)
  pv := pv d
  kv := m (kLoc d)
  qv := shapeCast S2816x1024 (m ((SparseCore.T d).loc main_arg2) : Vec F S22x128x1024 .f32) shapeCasts_S22x128x1024_S2816x1024

/-- The positions and the advanced pointers are the ones the tiles compute, and in range. -/
structure Good : Prop where
  hlv : ∀ d x, ((datOf m pv d).lv x).toNat < 32
  hpb : ∀ d x, (pv d x).toNat < 1024
  hpv : ∀ d, ∀ h : ∀ a x, ((![(datOf m pv d).lv] : Fin 1 → IVec S16 32) a x).toNat < S32.size a,
    posW (F := F) (datOf m pv d).lv (loadIdx (F := F) (e := .i32) (ptOf m d) ![(datOf m pv d).lv] h) = pv d
  hlo : ∀ d x, npLo (F := F) (datOf m pv d).lv (fun x => ptOf m d (loR.emb x)) x = np d (loR.emb x)
  hhi : ∀ d x, npHi (F := F) (datOf m pv d).lv (fun x => ptOf m d (hiR.emb x)) x = np d (hiR.emb x)

/-! ## What the handshakes carry -/

def P : (K (F := F)).Pay (nD := nD) (Val := Elt F) (Name := ℕ) (U := UU) where
  st := fun q d c => match q with | 0 => bigSep Finset.univ fun s : Fin 16 => TileIn d (coordsV c s) (datOf m pv d) (ptOf m d)
  dn := fun q d c => match q with | 0 => bigSep Finset.univ fun s : Fin 16 => TileOut d (coordsV c s) (datOf m pv d) (ptOf m d) (np d)
  go := fun q d c s => match q with | 0 => TileIn d (coordsV c s) (datOf m pv d) (ptOf m d)
  td := fun q d c s => match q with | 0 => TileOut d (coordsV c s) (datOf m pv d) (ptOf m d) (np d)
  x := fun _ _ => iprop(emp)

instance P_storable : (P m pv np).IsStorable where
  st q d c := match q with
    | 0 =>
      haveI := fun s : Fin 16 => tileIn_storable d (coordsV c s) (datOf m pv d) (ptOf m d)
      BI.Storable.bigSep (ι := (upEmb : UEmb _ 𝕄)) Finset.univ fun s : Fin 16 => TileIn d (coordsV c s) (datOf m pv d) (ptOf m d)
  dn q d c := match q with
    | 0 =>
      haveI := fun s : Fin 16 => tileOut_storable d (coordsV c s) (datOf m pv d) (ptOf m d) (np d)
      BI.Storable.bigSep (ι := (upEmb : UEmb _ 𝕄)) Finset.univ fun s : Fin 16 => TileOut d (coordsV c s) (datOf m pv d) (ptOf m d) (np d)
  go q d c s := match q with
    | 0 => (inferInstance : BI.Storable (upEmb : UEmb _ 𝕄) (TileIn d (coordsV c s) (datOf m pv d) (ptOf m d)))
  td q d c s := match q with
    | 0 => (inferInstance : BI.Storable (upEmb : UEmb _ 𝕄) (TileOut d (coordsV c s) (datOf m pv d) (ptOf m d) (np d)))

theorem defs₀_vector (c : Fin τ.nSC) (s : Fin τ.nSub) :
    defs₀ (F := F) (.scVector c s) 0 () = SparseCore.onTile hcore0 hsub0 (fun c s => bodyAt (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hG : Good m pv np) : (K (F := F)).TileObl (DF (F := F)) 𝒱 (P m pv np) v₀ 0 := by
  intro d c i O W hO _ _
  simp only [show (P m pv np).ox = fun _ _ => 0 from rfl, add_zero]
  change _ ⊢ wp _ _ _ (Pipeline.liftProg (defs₀ (F := F) (.scVector ((K (F := F)).core 0 c) ((K (F := F)).sub 0 i)) 0 ())) _
  refine BIBase.Entails.trans ?_ (Pipeline.wp_liftProg (DF (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have h := (tile_run d (coordsV c i) (datOf m pv d) (ptOf m d) (np d) facts (hG.hlv d) (hG.hpb d) (hG.hpv d) (hG.hlo d) (hG.hhi d) O W hO).trans
    (wp_mono frame _ _ fun _ => obl_post (q := 0))
  generalize hb : bodyAt (F := F) (coordsV c i) = b at h
  have e : bodyAt (F := F) (coordsV ⟨_, hc.1⟩ ⟨_, hc.2⟩) = b := hb
  rw [e]
  exact h

theorem vecSplit : (K (F := F)).VecSplit' (P m pv np) 0 := by
  intro d c
  show (bigSep Finset.univ fun s : Fin 16 => TileIn d (coordsV c s) (datOf m pv d) (ptOf m d) : sProp 𝕄) ⊢ |={Set.univ}=> iprop(
      (bigSep Finset.univ fun s : Fin 16 => TileIn d (coordsV c s) (datOf m pv d) (ptOf m d))
      ∗ ((bigSep Finset.univ fun s : Fin 16 => TileOut d (coordsV c s) (datOf m pv d) (ptOf m d) (np d))
          -∗ bigSep Finset.univ fun s : Fin 16 => TileOut d (coordsV c s) (datOf m pv d) (ptOf m d) (np d)))
  iintro H
  imodintro
  isplitl [H]
  · iexact H
  · iintro H; iexact H

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m pv np).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The host's program -/

abbrev op1 : HloOp τ sig (Elt F) := StableHlo.nullary main_c (constantI S_ 32 0#32)
abbrev op2 : HloOp τ sig (Elt F) := StableHlo.TRef.unary (.of main_c : StableHlo.TRef sig ⟨S_, .i32⟩) main_call0.v0 id
abbrev op3 : HloOp τ sig (Elt F) :=
  StableHlo.TRef.binary (.of main_arg3 : StableHlo.TRef sig ⟨S22, .i32⟩) main_call0.v0 main_call0.v1 (fun x v => pad S32 ![0] ![10] ![0] x v pads_S22_S32_0100 h_S_)
abbrev op4 : HloOp τ sig (Elt F) := StableHlo.reshape main_arg2 main_v1 (rfl : (.f32 : EltTy) = .f32) shapeCasts_S22x128x1024_S2816x1024
abbrev op5 : HloOp τ sig (Elt F) := StableHlo.reshape main_v2_0 main_v3 (rfl : (.f32 : EltTy) = .f32) shapeCasts_S2816x1024_S22x128x1024
abbrev op6 : HloOp τ sig (Elt F) :=
  StableHlo.unary main_v2_1 main_v4 ((extractStridedSlice S22 ![0] · slices_S32_S22_0) : (⟨S32, .i32⟩ : BufTy).Contents (Elt F) → (⟨S22, .i32⟩ : BufTy).Contents (Elt F))

abbrev dr (b : Ref sig .tc) : DevRef τ sig := Proc.devRef .tc b

/-- The host's arrays. -/
abbrev SH : Finset (DevRef τ sig) := {dr main_arg0, dr main_arg1, dr main_arg2, dr main_arg3, dr main_c, dr main_call0_v0, dr main_v0, dr main_v1,
  dr main_v2_0, dr main_v2_1, dr main_v3, dr main_v4}

theorem hop1 : (op1 (F := F)).bufs ⊆ SH := show ({dr main_c} : Finset (DevRef τ sig)) ⊆ SH by decide
theorem hop2 : (op2 (F := F)).bufs ⊆ SH := show ({dr main_c, dr main_call0_v0} : Finset (DevRef τ sig)) ⊆ SH by decide
theorem hop3 : (op3 (F := F)).bufs ⊆ SH := show ({dr main_arg3, dr main_call0_v0, dr main_v0} : Finset (DevRef τ sig)) ⊆ SH by decide
theorem hop4 : (op4 (F := F)).bufs ⊆ SH := show ({dr main_arg2, dr main_v1} : Finset (DevRef τ sig)) ⊆ SH by decide
theorem hop5 : (op5 (F := F)).bufs ⊆ SH := show ({dr main_v2_0, dr main_v3} : Finset (DevRef τ sig)) ⊆ SH by decide
theorem hop6 : (op6 (F := F)).bufs ⊆ SH := show ({dr main_v2_1, dr main_v4} : Finset (DevRef τ sig)) ⊆ SH by decide

/-- The arrays apart from the six the call uses. -/
abbrev restH (d : Dev nD) (W : Valuation τ sig (Elt F)) : sProp 𝕄 :=
  iprop(((SparseCore.T d).loc main_arg2 ↦{fullShare} W (dr main_arg2)) ∗ ((SparseCore.T d).loc main_arg3 ↦{fullShare} W (dr main_arg3))
    ∗ ((SparseCore.T d).loc main_c ↦{fullShare} W (dr main_c)) ∗ ((SparseCore.T d).loc main_call0_v0 ↦{fullShare} W (dr main_call0_v0))
    ∗ ((SparseCore.T d).loc main_v3 ↦{fullShare} W (dr main_v3)) ∗ ((SparseCore.T d).loc main_v4 ↦{fullShare} W (dr main_v4)))

omit [FloatOps F] in
theorem held_SH (d : Dev nD) (W : Valuation τ sig (Elt F)) :
    (held (T d) SH W : sProp 𝕄) ⊣⊢ iprop(((lLoc d ↦{fullShare} W (dr main_arg1)) ∗ (pLoc d ↦{fullShare} W (dr main_v0)) ∗ (kLoc d ↦{fullShare} W (dr main_arg0))
      ∗ (qLoc d ↦{fullShare} W (dr main_v1)) ∗ (oLoc d ↦{fullShare} W (dr main_v2_0)) ∗ nLoc d ↦{fullShare} W (dr main_v2_1)) ∗ restH d W) := by
  unfold held SH restH
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  constructor
  · iintro ⟨H0, H1, H2, H3, Hc, Hc0, Hv0, Hv1, Ho, Hn, H5, H6⟩
    isplitl [H1 Hv0 H0 Hv1 Ho Hn]
    · isplitl [H1]; · iexact H1
      isplitl [Hv0]; · iexact Hv0
      isplitl [H0]; · iexact H0
      isplitl [Hv1]; · iexact Hv1
      isplitl [Ho]; · iexact Ho
      iexact Hn
    · isplitl [H2]; · iexact H2
      isplitl [H3]; · iexact H3
      isplitl [Hc]; · iexact Hc
      isplitl [Hc0]; · iexact Hc0
      isplitl [H5]; · iexact H5
      iexact H6
  · iintro ⟨⟨H1, Hv0, H0, Hv1, Ho, Hn⟩, H2, H3, Hc, Hc0, H5, H6⟩
    isplitl [H0]; · iexact H0
    isplitl [H1]; · iexact H1
    isplitl [H2]; · iexact H2
    isplitl [H3]; · iexact H3
    isplitl [Hc]; · iexact Hc
    isplitl [Hc0]; · iexact Hc0
    isplitl [Hv0]; · iexact Hv0
    isplitl [Hv1]; · iexact Hv1
    isplitl [Ho]; · iexact Ho
    isplitl [Hn]; · iexact Hn
    isplitl [H5]; · iexact H5
    iexact H6

/-- The launch contents; before the call; after it; at the end. -/
def V0 (d : Dev nD) : Valuation τ sig (Elt F) := fun b => m (d, b)
def V4 (d : Dev nD) : Valuation τ sig (Elt F) := op4.result (op3.result (op2.result (op1.result (V0 m d))))
def V5 (d : Dev nD) : Valuation τ sig (Elt F) :=
  Function.update (Function.update (V4 m d) (dr main_v2_0) (newQ (datOf m pv d))) (dr main_v2_1) (np d)
def V7 (d : Dev nD) : Valuation τ sig (Elt F) := op6.result (op5.result (V5 m pv np d))

omit [FloatOps F] in
theorem unscoped_held (d : Dev nD) : (unscopedBufs d (fun b => m ((SparseCore.T d).loc b)) : sProp 𝕄) = held (T d) SH (V0 m d) := by
  unfold unscopedBufs held
  rw [show (Finset.univ.filter fun b : Ref sig .tc => ¬ b.isScoped)
    = {main_arg0, main_arg1, main_arg2, main_arg3, main_c, main_call0_v0, main_v0, main_v1, main_v2_0, main_v2_1, main_v3, main_v4} by decide,
    show SH = ({main_arg0, main_arg1, main_arg2, main_arg3, main_c, main_call0_v0, main_v0, main_v1, main_v2_0, main_v2_1, main_v3, main_v4} : Finset (Ref sig .tc)).map
      ⟨Proc.devRef (τ := τ) .tc, Proc.devRef_injective _⟩ by decide, bigSep_map]
  rfl

section Values

variable (d : Dev nD)

theorem V4_l : V4 m d (dr main_arg1) = (datOf m pv d).lv := by
  unfold V4 op1 op2 op3 op4
  simp (disch := decide) only [StableHlo.reshape_result_ne', StableHlo.binary_result_ne', StableHlo.unary_result_ne', StableHlo.nullary_result_ne']
  rfl
theorem V4_k : V4 m d (dr main_arg0) = (datOf m pv d).kv := by
  unfold V4 op1 op2 op3 op4
  simp (disch := decide) only [StableHlo.reshape_result_ne', StableHlo.binary_result_ne', StableHlo.unary_result_ne', StableHlo.nullary_result_ne']
  rfl
theorem V4_2 : V4 m d (dr main_arg2) = m ((SparseCore.T d).loc main_arg2) := by
  unfold V4 op1 op2 op3 op4
  simp (disch := decide) only [StableHlo.reshape_result_ne', StableHlo.binary_result_ne', StableHlo.unary_result_ne', StableHlo.nullary_result_ne']
  rfl
theorem V4_3 : V4 m d (dr main_arg3) = m ((SparseCore.T d).loc main_arg3) := by
  unfold V4 op1 op2 op3 op4
  simp (disch := decide) only [StableHlo.reshape_result_ne', StableHlo.binary_result_ne', StableHlo.unary_result_ne', StableHlo.nullary_result_ne']
  rfl
/-- Before the call the pointers are padded, -/
theorem V4_p : V4 m d (dr main_v0) = ptOf m d := by
  unfold V4 op1 op2 op3 op4
  simp (disch := decide) only [StableHlo.reshape_result_ne', StableHlo.binary_result', StableHlo.binary_result_ne', StableHlo.unary_result', StableHlo.unary_result_ne',
    StableHlo.nullary_result', StableHlo.nullary_result_ne']
  rfl
/-- and the queues stacked. -/
theorem V4_q : V4 m d (dr main_v1) = (datOf m pv d).qv := by
  unfold V4 op1 op2 op3 op4
  simp (disch := decide) only [StableHlo.reshape_result', StableHlo.reshape_result_ne', StableHlo.binary_result_ne', StableHlo.unary_result_ne', StableHlo.nullary_result_ne']
  rfl

theorem V5_ne {b : DevRef τ sig} (h : b ≠ dr main_v2_0) (h' : b ≠ dr main_v2_1) : V5 m pv np d b = V4 m d b := by
  unfold V5
  rw [Function.update_of_ne h', Function.update_of_ne h]
theorem V5_o : V5 m pv np d (dr main_v2_0) = newQ (datOf m pv d) := by
  unfold V5
  rw [Function.update_of_ne (by decide), Function.update_self]
theorem V5_n : V5 m pv np d (dr main_v2_1) = np d := by
  unfold V5
  rw [Function.update_self]

theorem V7_ne {b : Ref sig .tc} (h : b ≠ main_v3) (h' : b ≠ main_v4) : V7 m pv np d (dr b) = V5 m pv np d (dr b) := by
  unfold V7 op5 op6
  rw [StableHlo.unary_result_ne (h := h'), StableHlo.reshape_result_ne (h := h)]
/-- At the end, the first result is the queues unstacked, -/
theorem V7_3 : V7 m pv np d (dr main_v3) = shapeCast S22x128x1024 (newQ (datOf m pv d)) shapeCasts_S2816x1024_S22x128x1024 := by
  unfold V7 op5 op6
  rw [StableHlo.unary_result_ne (h := by decide), StableHlo.reshape_result, V5_o]
  rfl
/-- and the second the first twenty-two advanced pointers. -/
theorem V7_4 : V7 m pv np d (dr main_v4) = extractStridedSlice S22 ![0] (np d) slices_S32_S22_0 := by
  unfold V7 op5 op6
  rw [StableHlo.unary_result, StableHlo.reshape_result_ne (h := by decide), V5_n]

end Values

/-! ## The host's run -/

theorem st0_eq (d : Dev nD) : (bigSep Finset.univ fun c : Fin ((K (F := F)).nCore 0) => (P m pv np).st 0 d c)
    = bigSep Finset.univ fun c : Fin 2 => bigSep Finset.univ fun s : Fin 16 => TileIn d (tileAt (c, s)) (datOf m pv d) (ptOf m d) := rfl
theorem dn0_eq (d : Dev nD) : (bigSep Finset.univ fun c : Fin ((K (F := F)).nCore 0) => (P m pv np).dn 0 d c)
    = bigSep Finset.univ fun c : Fin 2 => bigSep Finset.univ fun s : Fin 16 => TileOut d (tileAt (c, s)) (datOf m pv d) (ptOf m d) (np d) := rfl

/-- The arrays at the end of the run. -/
abbrev FIN (d : Dev nD) : sProp 𝕄 := held (T d) SH (V7 m pv np d)

theorem V5_rest (d : Dev nD) : (restH d (V5 m pv np d) : sProp 𝕄) = restH d (V4 m d) := by
  unfold restH
  rw [V5_ne m pv np d (by decide) (by decide), V5_ne m pv np d (by decide) (by decide), V5_ne m pv np d (by decide) (by decide),
    V5_ne m pv np d (by decide) (by decide), V5_ne m pv np d (by decide) (by decide), V5_ne m pv np d (by decide) (by decide)]

/-- The host's run on device `d`: four operations, the call, two operations. -/
theorem hmain (κ : GSem nD τ sig → ℕ) (d : Dev nD) :
    iprop((K (F := F)).ctx EH (P m pv np) κ ∗ (K (F := F)).tcSt EH d 0 ∗ (K (F := F)).tcRes m ρ d ∗ emp)
      ⊢ wp frame (wpE ((K (F := F)).defs (DF (F := F))) 𝒱 (SparseCore.T d) none) Set.univ (main d)
          fun _ => iprop((K (F := F)).tcSt EH d 1 ∗ FIN m pv np d ∗ (K (F := F)).tcEnd d) := by
  unfold SparseCore.Cfg.tcRes SparseCore.Cfg.tcEnd
  rw [unscoped_held]
  simp only [main, fn_pad.body, wp_bind, wp_pure]
  iintro ⟨#Hctx, Hst, ⟨Hb, Hheld, Hts, -⟩, -⟩
  iapply (wp_hlo_within 𝒱 (SparseCore.T d) none Set.univ (op := op1) (S := SH) hop1 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := SH) hop2 (V := op1.result (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op3) (S := SH) hop3 (V := op2.result (op1.result (V0 m d)))) $$ [Hb Hheld]
  · isplitl [Hb]; · iexact Hb
    iexact Hheld
  iintro ⟨Hb, Hheld⟩
  rw [wp_ret]; imodintro; imodintro
  iapply (wp_hlo_within 𝒱 (SparseCore.T d) none Set.univ (op := op4) (S := SH) hop4 (V := op3.result (op2.result (op1.result (V0 m d))))) $$ [Hb Hheld]
  · isplitl [Hb]; · iexact Hb
    iexact Hheld
  iintro ⟨Hb, Hheld⟩
  rw [wp_ret]; imodintro
  ihave Hh := (held_SH d (op4.result (op3.result (op2.result (op1.result (V0 m d)))))).1 $$ Hheld
  rw [show op4.result (op3.result (op2.result (op1.result (V0 m d)))) = V4 m d from rfl]
  icases Hh with ⟨H6, Hrest⟩
  rw [V4_l m pv, V4_k m pv, V4_p, V4_q m pv]
  ihave Hd := (deal d (datOf m pv d) (ptOf m d) _ _) $$ H6
  icases Hd with ⟨Hkept, Hin⟩
  iapply ((K (F := F)).wp_run (DF (F := F)) 𝒱 (EH := EH) (P := P m pv np) κ d 0) $$ [Hst Hkept Hin Hrest Hb Hts]
  isplitr; · iexact Hctx
  isplitl [Hst]; · iexact Hst
  isplitl [Hin]
  · rw [st0_eq]
    iexact Hin
  iintro ⟨Hst, Hdn⟩
  ihave Hdn := (BIBase.Entails.of_eq (dn0_eq m pv np d)) $$ Hdn
  ihave H6 := (gather d (datOf m pv d) (ptOf m d) (np d)) $$ [Hkept Hdn]
  · isplitl [Hkept]; · iexact Hkept
    iexact Hdn
  ihave Hheld := (held_SH d (V5 m pv np d)).2 $$ [H6 Hrest]
  · rw [V5_rest, V5_o, V5_n, V5_ne m pv np d (b := dr main_arg1) (by decide) (by decide), V5_ne m pv np d (b := dr main_v0) (by decide) (by decide),
      V5_ne m pv np d (b := dr main_arg0) (by decide) (by decide), V5_ne m pv np d (b := dr main_v1) (by decide) (by decide), V4_l m pv, V4_k m pv, V4_p, V4_q m pv]
    isplitl [H6]; · iexact H6
    iexact Hrest
  iapply (wp_hlo_within 𝒱 (SparseCore.T d) none Set.univ (op := op5) (S := SH) hop5 (V := V5 m pv np d)) $$ [Hb Hheld]
  · isplitl [Hb]; · iexact Hb
    iexact Hheld
  iintro ⟨Hb, Hheld⟩
  rw [wp_ret]; imodintro
  iapply (wp_hlo_within 𝒱 (SparseCore.T d) none Set.univ (op := op6) (S := SH) hop6 (V := op5.result (V5 m pv np d))) $$ [Hb Hheld]
  · isplitl [Hb]; · iexact Hb
    iexact Hheld
  iintro ⟨Hb, Hheld⟩
  rw [wp_ret]; imodintro
  imodintro
  isplitl [Hst]; · iexact Hst
  isplitl [Hheld]
  · unfold FIN V7; iexact Hheld
  isplitl [Hb] <;> iassumption

/-! ## What every run ends with -/

/-- The memory at the end of a run: the arguments unchanged, the results at their values. -/
def fq (d : Dev nD) (s' : Phys nD τ sig (Elt F)) : Prop := ∀ b : Ref sig .tc, dr b ∈ SH → s'.mem.mem ((SparseCore.T d).loc b) = V7 m pv np d (dr b)

theorem hfin (d : Dev nD) (s' : Phys nD τ sig (Elt F)) : iprop(FIN m pv np d ∗ SI s') ⊢ (⌜fq m pv np d s'⌝ : sProp 𝕄) := by
  refine BIBase.Entails.trans (forall_intro fun b => pure_imp_intro fun hb => ?_) pure_forall.2
  unfold FIN held
  rw [SparseCore.bigSep_erase' hb]
  iintro ⟨⟨H, -⟩, HSI⟩
  ihave H := (SI_pointsTo_agree (st := s') (ℓ := (SparseCore.T d).loc b) (I := Finset.univ) (q := fullShare) (f := V7 m pv np d (dr b))) $$ [HSI H]
  · isplitl [HSI]; · iexact HSI
    iexact H
  icases H with %h
  ipureintro; exact funext fun i => h i (Finset.mem_univ i)

/-- What holds at the end of every run: each of the host's arrays at its final contents, every semaphore at zero. -/
def QC : PUnit × MemSt nD τ sig (Elt F) → Prop := fun r =>
  (∀ (d : Dev nD) (b : Ref sig .tc), dr b ∈ SH → r.2.mem ((SparseCore.T d).loc b) = V7 m pv np d (dr b)) ∧ r.2.sem = fun _ => 0

/-- Every run of the program ends so. -/
theorem run_main [∀ e, Nonempty (Elt F e)] (hG : Good m pv np) :
    θ_run (Cert.KernelIdeal.defs (F := F)) (Cert.KernelIdeal.threads (F := F)) ⟨m, fun _ => 0, ρ⟩ (QC m pv np) :=
  SparseCore.Cfg.θ_run_sc_quiescent (K := K (F := F)) (D := DF (F := F)) (𝒱 := 𝒱) (EH := EH) (P := P m pv np) (A := ∅) facts v₀
    (fun q hq => match q with | 0 => nomatch hq)
    (fun q _ => match q with | 0 => tileObl m pv np hG)
    (fun q _ => match q with | 0 => SparseCore.Cfg.VecSplit.of_plain (vecSplit m pv np))
    m ρ main (fun _ => iprop(emp)) (FIN m pv np) (u₀ (F := F)) (sep_elim_left.trans (hu₀ m pv np)) (hmain m ρ pv np) (fq m pv np) (hfin m pv np) (QC m pv np)
    (fun _ h hz => ⟨h, hz⟩)

/-- The arguments end as they began; -/
theorem end_arg (d : Dev nD) {b : Ref sig .tc} (h : b ∈ ({main_arg0, main_arg1, main_arg2, main_arg3} : Finset (Ref sig .tc))) :
    V7 m pv np d (dr b) = m ((SparseCore.T d).loc b) := by
  simp only [Finset.mem_insert, Finset.mem_singleton] at h
  rcases h with rfl | rfl | rfl | rfl
  · rw [V7_ne m pv np d (by decide) (by decide), V5_ne m pv np d (by decide) (by decide)]; exact V4_k m pv d
  · rw [V7_ne m pv np d (by decide) (by decide), V5_ne m pv np d (by decide) (by decide)]; exact V4_l m pv d
  · rw [V7_ne m pv np d (by decide) (by decide), V5_ne m pv np d (by decide) (by decide)]; exact V4_2 m d
  · rw [V7_ne m pv np d (by decide) (by decide), V5_ne m pv np d (by decide) (by decide)]; exact V4_3 m d

/-- At the end of every run the arguments are unchanged, the first result is the updated queues and the second the advanced
    pointers, and every semaphore is at zero. -/
theorem run_end [∀ e, Nonempty (Elt F e)] (hG : Good m pv np) :
    θ_run (Cert.KernelIdeal.defs (F := F)) (Cert.KernelIdeal.threads (F := F)) ⟨m, fun _ => 0, ρ⟩ (fun r => (∀ d : Dev nD,
      r.2.mem ((SparseCore.T d).loc main_v3) = shapeCast S22x128x1024 (newQ (datOf m pv d)) shapeCasts_S2816x1024_S22x128x1024
      ∧ r.2.mem ((SparseCore.T d).loc main_v4) = extractStridedSlice S22 ![0] (np d) slices_S32_S22_0
      ∧ r.2.mem ((SparseCore.T d).loc main_arg0) = m ((SparseCore.T d).loc main_arg0) ∧ r.2.mem ((SparseCore.T d).loc main_arg1) = m ((SparseCore.T d).loc main_arg1)
      ∧ r.2.mem ((SparseCore.T d).loc main_arg2) = m ((SparseCore.T d).loc main_arg2) ∧ r.2.mem ((SparseCore.T d).loc main_arg3) = m ((SparseCore.T d).loc main_arg3))
      ∧ r.2.sem = fun _ => 0) :=
  (θ_run Cert.KernelIdeal.defs _ _).mono (fun r h => ⟨fun d =>
    ⟨(h.1 d main_v3 (by decide)).trans (V7_3 m pv np d), (h.1 d main_v4 (by decide)).trans (V7_4 m pv np d),
      (h.1 d main_arg0 (by decide)).trans (end_arg m pv np d (by decide)), (h.1 d main_arg1 (by decide)).trans (end_arg m pv np d (by decide)),
      (h.1 d main_arg2 (by decide)).trans (end_arg m pv np d (by decide)), (h.1 d main_arg3 (by decide)).trans (end_arg m pv np d (by decide))⟩, h.2⟩)
    (run_main m ρ pv np hG)

end Cert.Proof.Queue

end
-- ==== Proof.Counts.lean ====
/-
  The positions and the advanced pointers a tile computes, counted: a batch entry's position is its class's pointer and
  the number of earlier entries of the same class, modulo the queue's length; a class's pointer advances by the number
  of its entries.
-/
module

public import proofs.«01_k».proof.Proof.Walk

@[expose] public section

noncomputable section

namespace Cert.Proof.Queue

open Cert.KernelIdeal Cert.KernelIdeal.Gen
open Idealize.ShloMosaic

variable {F : FTy → Type} [FloatOps F]

/-- The batch entries before lane `n` with label `c`; with label `c`. -/
def before (lv : IVec S16 32) (c : BitVec 32) (n : ℕ) : ℕ := (List.finRange 16).countP fun j : Fin 16 => decide (lv (Shape.ofLane j) = c ∧ j.val < n)
def total (lv : IVec S16 32) (c : BitVec 32) : ℕ := (List.finRange 16).countP fun j : Fin 16 => decide (lv (Shape.ofLane j) = c)

theorem before_le (lv : IVec S16 32) (c : BitVec 32) (n : ℕ) : before lv c n ≤ 16 := (List.countP_le_length).trans (by simp)
theorem total_le (lv : IVec S16 32) (c : BitVec 32) : total lv c ≤ 16 := (List.countP_le_length).trans (by simp)

/-- The position of each batch entry; each class's advanced pointer. -/
def posOf (lv : IVec S16 32) (pt : IVec S32 32) : IVec S16 32 := fun x =>
  BitVec.ofNat 32 (((pt (Shape.ofLane ⟨(lv x).toNat % 32, Nat.mod_lt _ (by decide)⟩)).toNat + before lv (lv x) (x 0).val) % 1024)
def nextOf (lv : IVec S16 32) (pt : IVec S32 32) : IVec S32 32 := fun c =>
  BitVec.ofNat 32 (((pt c).toNat + total lv (BitVec.ofNat 32 (c 0).val)) % 1024)

theorem foldl_ind {l : List (Fin 16)} (p : Fin 16 → Bool) (a : BitVec 32) :
    l.foldl (fun acc j => acc + if p j then 1#32 else 0#32) a = a + BitVec.ofNat 32 (l.countP p) := by
  induction l generalizing a with
  | nil => simp
  | cons j l ih =>
    rw [List.foldl_cons, ih, List.countP_cons]
    by_cases h : p j
    · simp only [h, ↓reduceIte]
      apply BitVec.eq_of_toNat_eq
      simp only [BitVec.toNat_add, BitVec.toNat_ofNat]
      omega
    · simp [h]

theorem lanes_lane (k : Fin 16) : lanes (Shape.ofLane k : S16.Idx) = BitVec.ofNat 32 k.val := by revert k; decide +kernel

/-- The sum of a vector that is zero but at one lane is that lane's word. -/
theorem pick (lv : IVec S16 32) (j : ℕ) (hj : j < 16) :
    extractAt ![15] (scan .sum (select (cmpi .eq lanes (broadcast S16 (BitVec.ofNat 32 j))) lv (broadcast S16 0#32))) inpos_S16_p15
      = lv (Shape.ofLane ⟨j, hj⟩) := by
  have hv : ∀ k : Fin 16, (select (cmpi .eq lanes (broadcast S16 (BitVec.ofNat 32 j))) lv (broadcast S16 0#32) : IVec S16 32) (Shape.ofLane k)
      = if k.val = j then lv (Shape.ofLane ⟨j, hj⟩) else 0#32 := by
    intro k
    show (if BitVec.ofBool (lanes (Shape.ofLane k : S16.Idx) == BitVec.ofNat 32 j) = 1#1 then lv (Shape.ofLane k) else 0#32) = _
    rw [lanes_lane]
    by_cases h : k.val = j
    · subst h; simp
    · rw [if_neg h, if_neg]
      intro hc
      replace hc : BitVec.ofNat 32 k.val = BitVec.ofNat 32 j := beq_iff_eq.mp ((by decide : ∀ b : Bool, BitVec.ofBool b = 1#1 → b = true) _ hc)
      have := congrArg BitVec.toNat hc
      have hk := k.isLt
      simp only [BitVec.toNat_ofNat] at this
      omega
  generalize (select (cmpi .eq lanes (broadcast S16 (BitVec.ofNat 32 j))) lv (broadcast S16 0#32) : IVec S16 32) = v at hv
  show ((List.finRange 16).filter fun k => decide (0 < k.val ∧ k.val ≤ 15)).foldl
      (fun r k => ScanKind.sum.step r (v (Shape.ofLane k))) (v (Shape.ofLane (0 : Fin 16))) = _
  rw [show ((List.finRange 16).filter fun k => decide (0 < k.val ∧ k.val ≤ 15)) = [1, 2, 3, 4, 5, 6, 7, 8, 9, 10, 11, 12, 13, 14, 15] by decide]
  simp only [List.foldl, hv, ScanKind.step, IntOp.addi]
  interval_cases j <;> simp

/-- The first payloads, the lanes' numbers named. -/
theorem pay18_eq (lv : IVec S16 32) : k0_pay18 (F := F) lv = addi (addi (broadcast S16 0#32)
    (extui 32 (andi (cmpi .eq (broadcast S16 (extractAt ![15] (scan .sum (select (cmpi .eq lanes (broadcast S16 0#32)) lv (broadcast S16 0#32))) inpos_S16_p15)) lv)
      (cmpi .sgt lanes (broadcast S16 0#32))) natLt_1_32))
    (extui 32 (andi (cmpi .eq (broadcast S16 (extractAt ![15] (scan .sum (select (cmpi .eq lanes (broadcast S16 1#32)) lv (broadcast S16 0#32))) inpos_S16_p15)) lv)
      (cmpi .sgt lanes (broadcast S16 1#32))) natLt_1_32) := rfl
theorem pay19_eq (lv : IVec S16 32) : k0_pay19 (F := F) lv = select (cmpi .eq lanes (broadcast S16 2#32)) lv (broadcast S16 0#32) := rfl

theorem extui_bit (b : Bool) : (BitVec.setWidth 32 (BitVec.ofBool b)) = if b then 1#32 else 0#32 := by cases b <;> rfl

theorem rem_words (u : ArithUnit) {a : BitVec 32} {n : ℕ} (ha : a.toNat < 1024) (hn : n ≤ 16) :
    IntOp.remsi u (a + BitVec.ofNat 32 n) 1024#32 = BitVec.ofNat 32 ((a.toNat + n) % 1024) := by
  have hs : (a + BitVec.ofNat 32 n).toNat = a.toNat + n := by rw [BitVec.toNat_add, BitVec.toNat_ofNat]; omega
  apply BitVec.eq_of_toNat_eq
  rw [IntOp.toNat_remsi u (by rw [hs]; omega) 1024 (by decide) (by decide), hs, BitVec.toNat_ofNat]
  omega

/-- The lanes, listed. -/
abbrev sixteen : List (Fin 16) := [⟨0, by decide⟩, ⟨1, by decide⟩, ⟨2, by decide⟩, ⟨3, by decide⟩, ⟨4, by decide⟩, ⟨5, by decide⟩, ⟨6, by decide⟩, ⟨7, by decide⟩, ⟨8, by decide⟩, ⟨9, by decide⟩, ⟨10, by decide⟩, ⟨11, by decide⟩, ⟨12, by decide⟩, ⟨13, by decide⟩, ⟨14, by decide⟩, ⟨15, by decide⟩]

/-- Sixteen bits added up, lane by lane. -/
theorem bits_sum (p : Fin 16 → Bool) :
    sixteen.foldl (fun (acc : BitVec 32) (j : Fin 16) => acc + BitVec.setWidth 32 (BitVec.ofBool (p j))) 0#32
      = BitVec.ofNat 32 ((List.finRange 16).countP p) := by
  simp only [extui_bit]
  rw [show sixteen = List.finRange 16 by decide, foldl_ind, BitVec.zero_add]

theorem total_eq (lv : IVec S16 32) (c : BitVec 32) : (List.finRange 16).countP (fun j : Fin 16 => lv (Shape.ofLane j) == c) = total lv c := by
  unfold total
  congr 1

theorem npLo_eq (lv : IVec S16 32) {pt : IVec S32 32} (hpt : ∀ c, (pt c).toNat < 1024) (x : S16.Idx) :
    npLo (F := F) lv (fun x => pt (loR.emb x)) x = nextOf lv pt (loR.emb x) := by
  have hx : (0#32 + lanes x) = BitVec.ofNat 32 (loR.emb x 0).val := by revert x; decide +kernel
  have key : npLo (F := F) lv (fun x => pt (loR.emb x)) x = IntOp.remsi .vector (pt (loR.emb x)
      + sixteen.foldl
          (fun (acc : BitVec 32) (j : Fin 16) => acc + BitVec.setWidth 32 (BitVec.ofBool (lv (Shape.ofLane j) == (0#32 + lanes x)))) 0#32) 1024#32 := by
    simp only [npLo, k0_pay1, k0_pay2, k0_pay3, k0_pay4, k0_pay5, k0_pay6, k0_pay7, k0_pay8, pick, Nat.reduceLT]
    rfl
  rw [key, bits_sum, hx, total_eq, rem_words _ (hpt _) (total_le _ _)]
  rfl

theorem npHi_eq (lv : IVec S16 32) {pt : IVec S32 32} (hpt : ∀ c, (pt c).toNat < 1024) (x : S16.Idx) :
    npHi (F := F) lv (fun x => pt (hiR.emb x)) x = nextOf lv pt (hiR.emb x) := by
  have hx : (16#32 + lanes x) = BitVec.ofNat 32 (hiR.emb x 0).val := by revert x; decide +kernel
  have key : npHi (F := F) lv (fun x => pt (hiR.emb x)) x = IntOp.remsi .vector (pt (hiR.emb x)
      + sixteen.foldl
          (fun (acc : BitVec 32) (j : Fin 16) => acc + BitVec.setWidth 32 (BitVec.ofBool (lv (Shape.ofLane j) == (16#32 + lanes x)))) 0#32) 1024#32 := by
    simp only [npHi, k0_pay9, k0_pay10, k0_pay11, k0_pay12, k0_pay13, k0_pay14, k0_pay15, k0_pay16, k0_pay17, pick, Nat.reduceLT]
    rfl
  rw [key, bits_sum, hx, total_eq, rem_words _ (hpt _) (total_le _ _)]
  rfl

/-- An entry's position: its class's pointer and the earlier entries of its class. -/
theorem posW_eq (lv pg : IVec S16 32) (hpg : ∀ x, (pg x).toNat < 1024) (x : S16.Idx) :
    posW (F := F) lv pg x = BitVec.ofNat 32 (((pg x).toNat + before lv (lv x) (x 0).val) % 1024) := by
  have key : posW (F := F) lv pg x = IntOp.remsi .vector (pg x
      + sixteen.foldl
          (fun (acc : BitVec 32) (j : Fin 16) => acc + BitVec.setWidth 32 (BitVec.ofBool (lv (Shape.ofLane j) == lv x) &&& BitVec.ofBool ((BitVec.ofNat 32 j.val).slt (lanes x)))) 0#32) 1024#32 := by
    simp only [posW, pay18_eq, pay19_eq, k0_pay20, k0_pay21, k0_pay22, k0_pay23, k0_pay24, k0_pay25, k0_pay26, k0_pay27, pick, Nat.reduceLT]
    simp only [remsi, addi, extui, andi, cmpi, broadcast, IntOp.addi, IntOp.andi, IntOp.cmpi, sixteen, List.foldl]
    rfl
  have hj : ∀ j : Fin 16, (BitVec.ofNat 32 j.val).slt (lanes x) = decide (j.val < (x 0).val) := by
    intro j
    have hl : lanes x = BitVec.ofNat 32 (x 0).val := by clear key; revert x; decide +kernel
    rw [hl, BitVec.slt, BitVec.toInt_eq_toNat_of_lt, BitVec.toInt_eq_toNat_of_lt]
    all_goals have h1 := j.isLt; have h2 := (x 0).isLt
    all_goals simp only [BitVec.toNat_ofNat]
    all_goals replace h2 : (x 0).val < 16 := h2
    · congr 1; simp only [eq_iff_iff]; omega
    · omega
    · omega
  have hb : ∀ a b : Bool, BitVec.ofBool a &&& BitVec.ofBool b = BitVec.ofBool (a && b) := by decide
  simp only [hb, hj] at key
  rw [key, bits_sum (fun j : Fin 16 => lv (Shape.ofLane j) == lv x && decide (j.val < (x 0).val))]
  rw [show (List.finRange 16).countP (fun j : Fin 16 => lv (Shape.ofLane j) == lv x && decide (j.val < (x 0).val)) = before lv (lv x) (x 0).val from by
    unfold before; congr 1; funext j; simp [Bool.decide_and, beq_eq_decide]]
  exact rem_words _ (hpg _) (before_le _ _ _)

end Cert.Proof.Queue

end
-- ==== Proof.Value.lean ====
/-
  The precondition read back as ranges, and the positions and advanced pointers of a whole launch in closed form.
-/
module

public import proofs.«01_k».proof.Proof.Launch
public import proofs.«01_k».proof.Proof.Counts
public import proofs.«01_k».proof.Proof.Gen.Pre_in_range
public import Idealize.ShloMosaic.Lib.ReduceAll

@[expose] public section

noncomputable section

namespace Cert.Proof.Queue

open Cert.KernelIdeal Cert.KernelIdeal.Gen
open Idealize.ShloMosaic

variable {F : FTy → Type} [FloatOps F]

theorem toNat_lt_of_toInt {a : BitVec 32} {n : ℕ} (h0 : 0 ≤ a.toInt) (h1 : a.toInt < n) : a.toNat < n := by
  have := a.isLt
  rw [BitVec.toInt_eq_toNat_cond] at h0 h1
  split at h0 <;> omega

instance : Subsingleton Cert.Pre_in_range.S_.Idx := ⟨fun a b => funext fun x => x.elim0⟩

/-- The precondition says the labels name classes and the pointers name queue slots. -/
theorem ranges (a0 : FVec F S16x128 .f32) (a1 : IVec S16 32) (a2 : FVec F S22x128x1024 .f32) (a3 : IVec S22 32)
    (h : Cert.Pre_in_range.fn (F := F) a0 a1 a2 a3 = fun _ => 1#1) : (∀ x, (a1 x).toNat < 22) ∧ ∀ c, (a3 c).toNat < 1024 := by
  have e := congrFun h (fun x => x.elim0)
  dsimp only [Cert.Pre_in_range.fn] at e
  obtain ⟨e1, e2⟩ := IntOp.andi_eq_one.1 e
  obtain ⟨e1, e3⟩ := IntOp.andi_eq_one.1 e1
  obtain ⟨e1, e4⟩ := IntOp.andi_eq_one.1 e1
  refine ⟨fun x => ?_, fun c => ?_⟩
  · exact toNat_lt_of_toInt (IntOp.cmpi_sge.1 (Host.reduce_andi_all _ _ _ _ _ e1 x)) (IntOp.cmpi_slt.1 (Host.reduce_andi_all _ _ _ _ _ e4 x))
  · exact toNat_lt_of_toInt (IntOp.cmpi_sge.1 (Host.reduce_andi_all _ _ _ _ _ e3 c)) (IntOp.cmpi_slt.1 (Host.reduce_andi_all _ _ _ _ _ e2 c))

variable (m : (ℓ : Loc nD τ sig) → Buf (Elt F) ℓ)

/-- The labels of a launch name classes and its pointers name queue slots. -/
structure InRange : Prop where
  hl : ∀ (d : Dev nD) x, ((m (lLoc d) : IVec S16 32) x).toNat < 22
  hp : ∀ (d : Dev nD) c, ((m ((SparseCore.T d).loc main_arg3) : IVec S22 32) c).toNat < 1024

theorem ptOf_lt {m : (ℓ : Loc nD τ sig) → Buf (Elt F) ℓ} (h : InRange m) (d : Dev nD) (c : S32.Idx) : (ptOf m d c).toNat < 1024 := by
  unfold ptOf pad
  split
  · exact h.hp d _
  · decide

/-- A launch's positions and advanced pointers. -/
def posM (d : Dev nD) : IVec S16 32 := posOf (m (lLoc d)) (ptOf m d)
def nextM (d : Dev nD) : IVec S32 32 := nextOf (m (lLoc d)) (ptOf m d)

theorem good {m : (ℓ : Loc nD τ sig) → Buf (Elt F) ℓ} (h : InRange m) : Good m (posM m) (nextM m) where
  hlv d x := (h.hl d x).trans (by decide)
  hpb d x := by
    show (BitVec.ofNat 32 _).toNat < 1024
    rw [BitVec.toNat_ofNat]
    omega
  hpv d hc := by
    funext x
    refine (posW_eq _ _ (fun y => ptOf_lt h d _) x).trans ?_
    have hx : idxAt (s := S32) ![(datOf m (posM m) d).lv] hc x
        = (Shape.ofLane ⟨((m (lLoc d) : IVec S16 32) x).toNat % 32, Nat.mod_lt _ (by decide)⟩ : S32.Idx) := by
      funext a
      obtain rfl : a = 0 := Subsingleton.elim _ _
      apply Fin.ext
      exact (Nat.mod_eq_of_lt ((h.hl d x).trans (by decide))).symm
    show BitVec.ofNat 32 (((ptOf m d (idxAt (s := S32) ![(datOf m (posM m) d).lv] hc x)).toNat + _) % 1024) = _
    rw [hx]
    rfl
  hlo d x := npLo_eq _ (ptOf_lt h d) x
  hhi d x := npHi_eq _ (ptOf_lt h d) x

end Cert.Proof.Queue

end
-- ==== Proof.RefParts.lean ====
/-
  The reference's pieces in closed form: the wrap of the indices, the remainder, the count of earlier entries, the
  histogram of the labels.
-/
module

public import proofs.«01_k».proof.Proof.Counts
public import proofs.«01_k».proof.Proof.Gen.ReferenceIdeal.Run
public import Idealize.ShloMosaic.Lib.Routing.OpsPair
public import Idealize.ShloMosaic.Lib.Routing.OpsSet

@[expose] public section

noncomputable section

namespace Cert.Proof.Ref

open Cert.ReferenceIdeal Cert.ReferenceIdeal.Gen Cert.ReferenceIdeal.Facts
open Idealize.ShloMosaic Idealize.ShloMosaic.ValueIdx Idealize.ShloMosaic.Routing
open Cert.Proof.Queue (before total)

variable {F : FTy → Type} [FloatOps F]

theorem ofLane_eq {n : ℕ} (k : Fin n) : (Shape.ofLane (d := ![n]) k : (shape1 n).Idx) = ix1 k := by
  funext a
  obtain rfl : a = 0 := Subsingleton.elim _ _
  rfl

/-- A label or an index, a negative one wrapped. -/
abbrev wrapL (lv : IVec S16 32) (n : BitVec 32) : IVec S16 32 :=
  select (cmpi .slt lv (broadcastInDim S16 ![] bcast_S_S16 (constantI S_ 32 0#32))) (addi lv (broadcastInDim S16 ![] bcast_S_S16 (constantI S_ 32 n))) lv
abbrev col (lv : IVec S16 32) : IVec S16x1 32 := broadcastInDim S16x1 ![0] bcast_S16_S16x1_0 lv

theorem wrapL_apply (lv : IVec S16 32) (n : BitVec 32) (x : S16.Idx) (h : (lv x).toNat < 2 ^ 31) : wrapL lv n x = lv x :=
  wrap_of_lt (lv x) (lv x + n) h

theorem col_apply (lv : IVec S16 32) (i : Fin 16) (j : Fin 1) : col lv (ix2 i j) = lv (ix1 i) := by
  show lv _ = lv _
  congr 1
  funext a
  obtain rfl : a = 0 := Subsingleton.elim _ _
  rfl

/-- The divisor, one in place of zero. -/
abbrev dvs : IVec S_ 32 := select (cmpi .eq (id (constantI S_ 32 1024#32)) (constantI S_ 32 0#32)) (constantI S_ 32 1#32) (id (constantI S_ 32 1024#32))

/-- The remainder of one word, its sign the divisor's. -/
theorem rem_word {v : BitVec 32} (h : v.toNat < 2 ^ 31) :
    Scalar.select (IntOp.andi (IntOp.cmpi .ne (IntOp.cmpi .slt (IntOp.remsi .host v 1024#32) 0#32) 0#1) (IntOp.cmpi .ne (IntOp.remsi .host v 1024#32) 0#32))
      (IntOp.addi (IntOp.remsi .host v 1024#32) 1024#32) (IntOp.remsi .host v 1024#32) = BitVec.ofNat 32 (v.toNat % 1024) := by
  have hr : IntOp.remsi .host v 1024#32 = BitVec.ofNat 32 (v.toNat % 1024) := by
    apply BitVec.eq_of_toNat_eq
    rw [IntOp.toNat_remsi .host (by omega) 1024 (by decide) (by decide), BitVec.toNat_ofNat]
    omega
  have hs : IntOp.cmpi .slt (BitVec.ofNat 32 (v.toNat % 1024)) 0#32 = 0#1 := by
    refine (BitVec.eq_zero_or_eq_one _).resolve_right fun h => ?_
    have := IntOp.cmpi_slt.1 h
    rw [BitVec.toInt_eq_toNat_of_lt (by rw [BitVec.toNat_ofNat]; omega)] at this
    simp at this
    omega
  rw [hr, hs]
  have hz : ∀ b : BitVec 1, IntOp.andi (IntOp.cmpi .ne 0#1 0#1) b = 0#1 := by decide
  rw [hz]
  rfl

abbrev rem16 (v : IVec S16 32) : IVec S16 32 :=
  select (andi (cmpi .ne (cmpi .slt (Host.remsi v (broadcastInDim S16 ![] bcast_S_S16 dvs)) (broadcastInDim S16 ![] bcast_S_S16 (constantI S_ 32 0#32))) (broadcastInDim S16 ![] bcast_S_S16 (cmpi .slt dvs (constantI S_ 32 0#32))))
    (cmpi .ne (Host.remsi v (broadcastInDim S16 ![] bcast_S_S16 dvs)) (broadcastInDim S16 ![] bcast_S_S16 (constantI S_ 32 0#32))))
    (addi (Host.remsi v (broadcastInDim S16 ![] bcast_S_S16 dvs)) (broadcastInDim S16 ![] bcast_S_S16 dvs)) (Host.remsi v (broadcastInDim S16 ![] bcast_S_S16 dvs))
abbrev rem22 (v : IVec S22 32) : IVec S22 32 :=
  select (andi (cmpi .ne (cmpi .slt (Host.remsi v (broadcastInDim S22 ![] bcast_S_S22 dvs)) (broadcastInDim S22 ![] bcast_S_S22 (constantI S_ 32 0#32))) (broadcastInDim S22 ![] bcast_S_S22 (cmpi .slt dvs (constantI S_ 32 0#32))))
    (cmpi .ne (Host.remsi v (broadcastInDim S22 ![] bcast_S_S22 dvs)) (broadcastInDim S22 ![] bcast_S_S22 (constantI S_ 32 0#32))))
    (addi (Host.remsi v (broadcastInDim S22 ![] bcast_S_S22 dvs)) (broadcastInDim S22 ![] bcast_S_S22 dvs)) (Host.remsi v (broadcastInDim S22 ![] bcast_S_S22 dvs))

theorem rem16_apply (v : IVec S16 32) (x : S16.Idx) (h : (v x).toNat < 2 ^ 31) : rem16 v x = BitVec.ofNat 32 ((v x).toNat % 1024) := rem_word h
theorem rem22_apply (v : IVec S22 32) (x : S22.Idx) (h : (v x).toNat < 2 ^ 31) : rem22 v x = BitVec.ofNat 32 ((v x).toNat % 1024) := rem_word h

/-- The mask of earlier entries. -/
abbrev lower : IVec S16x16 1 :=
  select (cmpi .sge (addi (iotaInDim S16x16 32 0) (broadcastInDim S16x16 ![] bcast_S_S16x16 (constantI S_ 32 4294967295#32))) (iotaInDim S16x16 32 1)) (broadcastInDim S16x16 ![] bcast_S_S16x16 (constantI S_ 1 1#1)) (broadcastInDim S16x16 ![] bcast_S_S16x16 (constantI S_ 1 0#1))

theorem lower_apply : ∀ i q : Fin 16, lower (ix2 i q) = 1#1 ↔ q.val < i.val := by decide +kernel

/-- The mask of entries of one class. -/
abbrev same (lv : IVec S16 32) : IVec S16x16 1 :=
  cmpi .eq (broadcastInDim S16x16 ![0, 1] bcast_S16x1_S16x16_0_1 (broadcastInDim S16x1 ![0] bcast_S16_S16x1_0 lv)) (broadcastInDim S16x16 ![0, 1] bcast_S1x16_S16x16_0_1 (broadcastInDim S1x16 ![1] bcast_S16_S1x16_1 lv))

theorem same_apply (lv : IVec S16 32) (i q : Fin 16) : same lv (ix2 i q) = 1#1 ↔ lv (ix1 q) = lv (ix1 i) := by
  have e : same lv (ix2 i q) = IntOp.cmpi .eq (lv (ix1 i)) (lv (ix1 q)) := by
    show IntOp.cmpi .eq (lv _) (lv _) = _
    congr 2 <;> (funext a; obtain rfl : a = 0 := Subsingleton.elim _ _; rfl)
  rw [e, IntOp.cmpi_eq]
  exact eq_comm

abbrev offs (lv : IVec S16 32) : IVec S16 32 :=
  Host.reduce IntOp.addi (extui 32 (andi (same lv) lower) natLt_1_32) (constantI S_ 32 0#32) reducesTo_S16x16_S16_d1 h_S_

theorem before_card (lv : IVec S16 32) (c : BitVec 32) (n : ℕ) :
    before lv c n = (Finset.univ.filter fun j : Fin 16 => lv (ix1 j) = c ∧ j.val < n).card := by
  unfold before
  rw [List.countP_eq_length_filter]
  show (Finset.univ.filter fun j : Fin 16 => lv (Shape.ofLane (d := ![16]) j) = c ∧ j.val < n).card = _
  simp only [ofLane_eq]

theorem total_card (lv : IVec S16 32) (c : BitVec 32) : total lv c = (Finset.univ.filter fun j : Fin 16 => lv (ix1 j) = c).card := by
  unfold total
  rw [List.countP_eq_length_filter]
  show (Finset.univ.filter fun j : Fin 16 => lv (Shape.ofLane (d := ![16]) j) = c).card = _
  simp only [ofLane_eq]

theorem offs_apply (lv : IVec S16 32) (i : Fin 16) : offs lv (ix1 i) = BitVec.ofNat 32 (before lv (lv (ix1 i)) i.val) := by
  apply BitVec.eq_of_toNat_eq
  have hb := Queue.before_le lv (lv (ix1 i)) i.val
  refine (StableHlo.Predicate.toNat_reduce_count_cols (by decide) (andi (same lv) lower) natLt_1_32 reducesTo_S16x16_S16_d1 h_S_ (ix1 i)).trans ?_
  rw [BitVec.toNat_ofNat, Nat.mod_eq_of_lt (by omega), before_card]
  refine congrArg Finset.card (Finset.filter_congr fun q _ => ?_)
  show andi (same lv) lower (StableHlo.Predicate.ij i q) = 1#1 ↔ _
  rw [ij_eq_ix2]
  show IntOp.andi _ _ = 1#1 ↔ _
  rw [IntOp.andi_eq_one, same_apply, lower_apply]

/-! ## The pointers -/

/-- Where the update of one label lands. -/
theorem hist_lands (idx : IVec S16x1 32) (k : S16.Idx) (x : S22.Idx) :
    scatter_S22_S16x1_S16_n_0_0_1.resultIdx? k idx = some x ↔ (idx (ix2 (k 0 : Fin 16) (0 : Fin 1))).toInt = ((x 0).val : Int) := by
  have hw : scatter_S22_S16x1_S16_n_0_0_1.window k 0 = 0 := rfl
  have hs : scatter_S22_S16x1_S16_n_0_0_1.start k idx 0 = (idx (ix2 (k 0 : Fin 16) (0 : Fin 1))).toInt := by
    show (idx _).toInt = _
    congr 2
    funext a
    match a with
    | ⟨0, _⟩ => rfl
    | ⟨1, _⟩ => rfl
  rw [resultIdx?_eq_some]
  constructor
  · intro h
    have := h 0
    rw [hw, hs] at this
    omega
  · intro h a
    obtain rfl : a = 0 := Subsingleton.elim _ _
    rw [hw, hs]
    omega

/-- Where the update of one entry and feature lands. -/
theorem queue_lands (idx : IVec S16x2 32) (k : S16x128.Idx) (x : S22x128x1024.Idx) :
    scatter_S22x128x1024_S16x2_S16x128_1_02_02_1.resultIdx? k idx = some x
      ↔ (idx (ix2 (k 0 : Fin 16) (0 : Fin 2))).toInt = ((x 0).val : Int) ∧ (k 1).val = (x 1).val ∧ (idx (ix2 (k 0 : Fin 16) (1 : Fin 2))).toInt = ((x 2).val : Int) := by
  have hw0 : scatter_S22x128x1024_S16x2_S16x128_1_02_02_1.window k 0 = 0 := rfl
  have hw1 : scatter_S22x128x1024_S16x2_S16x128_1_02_02_1.window k 1 = (k 1).val := rfl
  have hw2 : scatter_S22x128x1024_S16x2_S16x128_1_02_02_1.window k 2 = 0 := rfl
  have hs0 : scatter_S22x128x1024_S16x2_S16x128_1_02_02_1.start k idx 0 = (idx (ix2 (k 0 : Fin 16) (0 : Fin 2))).toInt := by
    show (idx _).toInt = _
    congr 2
    funext a
    match a with
    | ⟨0, _⟩ => rfl
    | ⟨1, _⟩ => rfl
  have hs1 : scatter_S22x128x1024_S16x2_S16x128_1_02_02_1.start k idx 1 = 0 := rfl
  have hs2 : scatter_S22x128x1024_S16x2_S16x128_1_02_02_1.start k idx 2 = (idx (ix2 (k 0 : Fin 16) (1 : Fin 2))).toInt := by
    show (idx _).toInt = _
    congr 2
    funext a
    match a with
    | ⟨0, _⟩ => rfl
    | ⟨1, _⟩ => rfl
  rw [resultIdx?_eq_some]
  constructor
  · intro h
    have h0 := h 0
    have h1 := h 1
    have h2 := h 2
    rw [hw0, hs0] at h0
    rw [hw1, hs1] at h1
    rw [hw2, hs2] at h2
    refine ⟨?_, ?_, ?_⟩ <;> omega
  · rintro ⟨h0, h1, h2⟩ a
    match a with
    | ⟨0, _⟩ => exact (congrArg₂ _ hs0 (congrArg _ hw0)).trans (by simpa using h0)
    | ⟨1, _⟩ => exact (congrArg₂ _ hs1 (congrArg _ hw1)).trans (by simpa using h1)
    | ⟨2, _⟩ => exact (congrArg₂ _ hs2 (congrArg _ hw2)).trans (by simpa using h2)

/-- The features of one column, out of all updates in row-major order. -/
theorem feature_filter : ∀ c : Fin 128, (List.finRange 2048).filter (fun n => decide (n.val % 128 = c.val))
    = (List.finRange 16).map fun b => (⟨128 * b.val + c.val, by omega⟩ : Fin 2048) := by decide +kernel

end Cert.Proof.Ref

end
-- ==== Proof.Ref.lean ====
/-
  What the reference returns, in closed form.
-/
module

public import proofs.«01_k».proof.Proof.RefParts

@[expose] public section

noncomputable section

namespace Cert.Proof.Ref

open Cert.ReferenceIdeal Cert.ReferenceIdeal.Gen Cert.ReferenceIdeal.Facts
open Idealize.ShloMosaic Idealize.ShloMosaic.ValueIdx Idealize.ShloMosaic.Routing
open Cert.Proof.Queue (before total)
open Cert.ReferenceIdeal.Value (res_main_v32 res_main_v44)

variable {F : FTy → Type} [FloatOps F]

/-- The labels, none below zero. -/
abbrev clip (lv : IVec S16 32) : IVec S16 32 := maxsi (broadcastInDim S16 ![] bcast_S_S16 (id (constantI S_ 32 0#32))) lv

theorem clip_apply (lv : IVec S16 32) (x : S16.Idx) (h : (lv x).toNat < 2 ^ 31) : clip lv x = lv x := by
  show (if (lv x).slt 0#32 then 0#32 else lv x) = lv x
  rw [if_neg]
  intro hc
  rw [BitVec.slt_iff_toInt_lt, BitVec.toInt_eq_toNat_of_lt (by omega)] at hc
  simp at hc
  omega

/-- The histogram of the labels. -/
abbrev hist (lv : IVec S16 32) : IVec S22 32 :=
  Host.scatter scatter_S22_S16x1_S16_n_0_0_1 IntOp.addi (broadcastInDim S22 ![] bcast_S_S22 (constantI S_ 32 0#32)) (col (wrapL (clip lv) 22#32))
    (broadcastInDim S16 ![] bcast_S_S16 (constantI S_ 32 1#32))

theorem toInt_eq_iff {a : BitVec 32} (h : a.toNat < 2 ^ 31) {n : ℕ} (hn : n < 2 ^ 31) : a.toInt = (n : ℤ) ↔ a = BitVec.ofNat 32 n := by
  rw [BitVec.toInt_eq_toNat_of_lt (by omega)]
  constructor
  · intro e
    apply BitVec.eq_of_toNat_eq
    rw [BitVec.toNat_ofNat]; omega
  · intro e
    rw [e, BitVec.toNat_ofNat]; omega

theorem foldl_cast {β : Type} {M N : ℕ} (h : N = M) (g : β → Fin M → β) (a : β) :
    (List.finRange N).foldl (fun acc n => g acc (n.cast h)) a = (List.finRange M).foldl g a := by
  subst h; rfl

theorem hist_apply (lv : IVec S16 32) (hl : ∀ x, (lv x).toNat < 22) (x : S22.Idx) : hist lv x = BitVec.ofNat 32 (total lv (BitVec.ofNat 32 (x 0).val)) := by
  have hx : (x 0).val < 22 := (x 0).isLt
  have h31 : ∀ y, (lv y).toNat < 2 ^ 31 := fun y => (hl y).trans (by decide)
  unfold hist
  rw [scatter_at]
  have hiff : ∀ n : Fin S16.numel, scatter_S22_S16x1_S16_n_0_0_1.resultIdx? (S16.rowMajor.symm n) (col (wrapL (clip lv) 22#32)) = some x
      ↔ lv (ix1 (n.cast (numel1 16))) = BitVec.ofNat 32 (x 0).val := by
    intro n
    rw [hist_lands, symm1]
    show (col (wrapL (clip lv) 22#32) (ix2 (n.cast (numel1 16)) (0 : Fin 1))).toInt = _ ↔ _
    rw [col_apply, wrapL_apply _ _ _ (by rw [clip_apply _ _ (h31 _)]; exact h31 _), clip_apply _ _ (h31 _), toInt_eq_iff (h31 _) (by omega)]
  simp only [hiff]
  refine (foldl_cast (numel1 16) (fun (a : BitVec 32) (j : Fin 16) => if lv (ix1 j) = BitVec.ofNat 32 (x 0).val then IntOp.addi a 1#32 else a) 0#32).trans ?_
  have := Queue.foldl_ind (l := List.finRange 16) (fun j : Fin 16 => decide (lv (ix1 j) = BitVec.ofNat 32 (x 0).val)) 0#32
  rw [BitVec.zero_add] at this
  unfold total
  simp only [ofLane_eq]
  rw [← this]
  congr 1
  funext a j
  by_cases h : lv (ix1 j) = BitVec.ofNat 32 (x 0).val
  · simp only [h, ↓reduceIte, decide_true]; rfl
  · simp [h]

/-- The reference's second result: the pointers advanced by the counts, modulo the length. -/
theorem ref_ptrs (m : (ℓ : Loc nD τ sig) → Buf (Elt F) ℓ) (c : Dev nD) (lv : IVec S16 32) (pt : IVec S22 32)
    (hlv : m ((c.tc : Thread nD τ).loc main_arg1) = lv) (hpt : m ((c.tc : Thread nD τ).loc main_arg3) = pt)
    (hl : ∀ x, (lv x).toNat < 22) (hp : ∀ x, (pt x).toNat < 1024) (x : S22.Idx) :
    res_main_v44 m c x = BitVec.ofNat 32 (((pt x).toNat + total lv (BitVec.ofNat 32 (x 0).val)) % 1024) := by
  have ht := Queue.total_le lv (BitVec.ofNat 32 (x 0).val)
  have hpx := hp x
  have hs : (addi pt (hist lv) x).toNat = (pt x).toNat + total lv (BitVec.ofNat 32 (x 0).val) := by
    show (pt x + hist lv x).toNat = _
    rw [hist_apply _ hl, BitVec.toNat_add, BitVec.toNat_ofNat]
    omega
  have e : res_main_v44 m c = rem22 (addi pt (hist lv)) := by
    subst hlv hpt
    unfold res_main_v44; rfl
  exact (congrFun e x).trans ((rem22_apply _ _ (by rw [hs]; omega)).trans (by rw [hs]))

/-- The reference's positions. -/
abbrev posR (lv : IVec S16 32) (pt : IVec S22 32) : IVec S16 32 :=
  rem16 (addi (Host.gather gather_S22_S16x1_S16_n_0_n_n_0_1_1 pt (col (wrapL lv 22#32))) (offs lv))
abbrev pairs (lv : IVec S16 32) (pt : IVec S22 32) : IVec S16x2 32 :=
  concatenate S16x2 1 [⟨S16x1, col (wrapL lv 22#32)⟩, ⟨S16x1, col (wrapL (posR lv pt) 1024#32)⟩] concatenates_S16x1_S16x1_S16x2_d1

theorem posR_apply (lv : IVec S16 32) (pt : IVec S22 32) (hl : ∀ x, (lv x).toNat < 22) (hp : ∀ x, (pt x).toNat < 1024) (i : Fin 16) :
    posR lv pt (ix1 i) = BitVec.ofNat 32 (((pt (ix1 ⟨(lv (ix1 i)).toNat, hl _⟩)).toNat + before lv (lv (ix1 i)) i.val) % 1024) := by
  have hb := Queue.before_le lv (lv (ix1 i)) i.val
  have hpx := hp (ix1 ⟨(lv (ix1 i)).toNat, hl _⟩)
  have hg : Host.gather gather_S22_S16x1_S16_n_0_n_n_0_1_1 pt (col (wrapL lv 22#32)) (ix1 i) = pt (ix1 ⟨(lv (ix1 i)).toNat, hl _⟩) := by
    refine gather_take1 gather_S22_S16x1_S16_n_0_n_n_0_1_1 rfl rfl rfl rfl pt _ i ⟨(lv (ix1 i)).toNat, hl _⟩ ?_ (by decide)
    rw [col_apply, wrapL_apply _ _ _ ((hl _).trans (by decide))]
    simp
  have hs : (addi (Host.gather gather_S22_S16x1_S16_n_0_n_n_0_1_1 pt (col (wrapL lv 22#32))) (offs lv) (ix1 i)).toNat
      = (pt (ix1 ⟨(lv (ix1 i)).toNat, hl _⟩)).toNat + before lv (lv (ix1 i)) i.val := by
    show (Host.gather gather_S22_S16x1_S16_n_0_n_n_0_1_1 pt (col (wrapL lv 22#32)) (ix1 i) + offs lv (ix1 i)).toNat = _
    rw [hg, offs_apply, BitVec.toNat_add, BitVec.toNat_ofNat]
    omega
  exact (rem16_apply _ _ (by rw [hs]; omega)).trans (by rw [hs])

theorem concat_apply0 (f g : IVec S16x1 32) (i : Fin 16) :
    concatenate S16x2 1 [⟨S16x1, f⟩, ⟨S16x1, g⟩] concatenates_S16x1_S16x1_S16x2_d1 (ix2 i (0 : Fin 2)) = f (ix2 i (0 : Fin 1)) := by
  show f _ = f _
  congr 1
  funext a
  match a with
  | ⟨0, _⟩ => rfl
  | ⟨1, _⟩ => rfl
theorem concat_apply1 (f g : IVec S16x1 32) (i : Fin 16) :
    concatenate S16x2 1 [⟨S16x1, f⟩, ⟨S16x1, g⟩] concatenates_S16x1_S16x1_S16x2_d1 (ix2 i (1 : Fin 2)) = g (ix2 i (0 : Fin 1)) := by
  show g _ = g _
  congr 1
  funext a
  match a with
  | ⟨0, _⟩ => rfl
  | ⟨1, _⟩ => rfl

theorem pairs_apply0 (lv : IVec S16 32) (pt : IVec S22 32) (hl : ∀ x, (lv x).toNat < 22) (i : Fin 16) : pairs lv pt (ix2 i (0 : Fin 2)) = lv (ix1 i) := by
  have e : pairs lv pt (ix2 i (0 : Fin 2)) = col (wrapL lv 22#32) (ix2 i (0 : Fin 1)) := concat_apply0 _ _ i
  rw [e, col_apply, wrapL_apply _ _ _ ((hl _).trans (by decide))]

theorem pairs_apply1 (lv : IVec S16 32) (pt : IVec S22 32) (hl : ∀ x, (lv x).toNat < 22) (hp : ∀ x, (pt x).toNat < 1024) (i : Fin 16) :
    pairs lv pt (ix2 i (1 : Fin 2)) = posR lv pt (ix1 i) := by
  have e : pairs lv pt (ix2 i (1 : Fin 2)) = col (wrapL (posR lv pt) 1024#32) (ix2 i (0 : Fin 1)) := concat_apply1 _ _ i
  rw [e, col_apply, wrapL_apply]
  rw [posR_apply lv pt hl hp, BitVec.toNat_ofNat]
  omega

/-- The reference's first result: each entry's keys set at its class and position, a later entry over an earlier one. -/
theorem ref_queues (m : (ℓ : Loc nD τ sig) → Buf (Elt F) ℓ) (c : Dev nD) (lv : IVec S16 32) (pt : IVec S22 32) (kv : Vec F S16x128 .f32)
    (qv : Vec F S22x128x1024 .f32) (hkv : m ((c.tc : Thread nD τ).loc main_arg0) = kv) (hlv : m ((c.tc : Thread nD τ).loc main_arg1) = lv)
    (hqv : m ((c.tc : Thread nD τ).loc main_arg2) = qv) (hpt : m ((c.tc : Thread nD τ).loc main_arg3) = pt)
    (hl : ∀ x, (lv x).toNat < 22) (hp : ∀ x, (pt x).toNat < 1024) (x : S22x128x1024.Idx) :
    res_main_v32 m c x = (List.finRange 16).foldl (fun acc (b : Fin 16) =>
      if lv (ix1 b) = BitVec.ofNat 32 (x 0).val ∧ (posR lv pt (ix1 b)).toNat = (x 2).val then kv (ix2 b (x 1 : Fin 128)) else acc) (qv x) := by
  have e : res_main_v32 m c = Host.scatter scatter_S22x128x1024_S16x2_S16x128_1_02_02_1 (fun _ b => b) qv (pairs lv pt) kv := by
    subst hlv hpt hkv hqv
    unfold res_main_v32; rfl
  have hx0 : (x 0).val < 22 := (x 0).isLt
  have hx2 : (x 2).val < 1024 := (x 2).isLt
  have hP : ∀ b : Fin 16, (posR lv pt (ix1 b)).toNat < 1024 := fun b => by rw [posR_apply lv pt hl hp, BitVec.toNat_ofNat]; omega
  refine (congrFun e x).trans ((scatter_at _ _ _ _ _ _).trans ?_)
  have hiff : ∀ n : Fin S16x128.numel, scatter_S22x128x1024_S16x2_S16x128_1_02_02_1.resultIdx? (S16x128.rowMajor.symm n) (pairs lv pt) = some x
      ↔ n.val % 128 = (x 1).val ∧ lv (ix1 (⟨n.val / 128, by have := n.isLt; have e : S16x128.numel = 2048 := rfl; omega⟩ : Fin 16)) = BitVec.ofNat 32 (x 0).val
        ∧ (posR lv pt (ix1 (⟨n.val / 128, by have := n.isLt; have e : S16x128.numel = 2048 := rfl; omega⟩ : Fin 16))).toNat = (x 2).val := by
    intro n
    have hn : n.val < 2048 := n.isLt
    rw [queue_lands, symm22 n (show n.val / 128 < 16 by omega) (show n.val % 128 < 128 by omega)]
    show (pairs lv pt (ix2 (⟨n.val / 128, _⟩ : Fin 16) (0 : Fin 2))).toInt = _ ∧ n.val % 128 = (x 1).val ∧ (pairs lv pt (ix2 (⟨n.val / 128, _⟩ : Fin 16) (1 : Fin 2))).toInt = _ ↔ _
    rw [pairs_apply0 lv pt hl, pairs_apply1 lv pt hl hp, toInt_eq_iff ((hl _).trans (by decide)) (by omega),
      BitVec.toInt_eq_toNat_of_lt (by have := hP ⟨n.val / 128, by omega⟩; omega)]
    constructor
    · rintro ⟨h0, h1, h2⟩; exact ⟨h1, h0, by omega⟩
    · rintro ⟨h1, h0, h2⟩; exact ⟨h0, h1, by omega⟩
  simp only [hiff]
  have hc : ∀ n : Fin 2048, S16x128.rowMajor.symm n = ix2 (⟨n.val / 128, by omega⟩ : Fin 16) (⟨n.val % 128, by omega⟩ : Fin 128) :=
    fun n => symm22 (A := 16) (B := 128) n _ _
  have hf := List.foldl_filter (l := List.finRange 2048) (p := fun n => decide (n.val % 128 = (x 1).val))
    (f := fun (acc : Elt F .f32) (n : Fin 2048) => if lv (ix1 (⟨n.val / 128, by omega⟩ : Fin 16)) = BitVec.ofNat 32 (x 0).val
        ∧ (posR lv pt (ix1 (⟨n.val / 128, by omega⟩ : Fin 16))).toNat = (x 2).val then kv (ix2 (⟨n.val / 128, by omega⟩ : Fin 16) (⟨n.val % 128, by omega⟩ : Fin 128)) else acc)
    (init := qv x)
  rw [feature_filter (x 1 : Fin 128), List.foldl_map] at hf
  refine Eq.trans (Eq.trans ?_ hf.symm) ?_
  · show (List.finRange 2048).foldl _ _ = _
    congr 1
    funext acc n
    simp only [decide_eq_true_eq, ite_and]
    rw [hc n]
  · congr 1
    funext acc b
    have hb := b.isLt
    have hx1 : (x 1).val < 128 := (x 1).isLt
    have e1 : (⟨(128 * b.val + (x 1).val) / 128, by omega⟩ : Fin 16) = b := Fin.ext (by show (128 * b.val + (x 1).val) / 128 = b.val; omega)
    have e2 : (⟨(128 * b.val + (x 1).val) % 128, by omega⟩ : Fin 128) = (x 1 : Fin 128) := Fin.ext (by show (128 * b.val + (x 1).val) % 128 = (x 1).val; omega)
    simp only [e1, e2]

end Cert.Proof.Ref

end
-- ==== Proof.Agree.lean ====
/-
  The kernel's results, entry by entry, are the reference's.
-/
module

public import proofs.«01_k».proof.Proof.Value
public import proofs.«01_k».proof.Proof.Ref

@[expose] public section

noncomputable section

namespace Cert.Proof.Queue

open Cert.KernelIdeal Cert.KernelIdeal.Gen Cert.KernelIdeal.Facts
open Idealize.ShloMosaic Idealize.ShloMosaic.ValueIdx Idealize.ShloMosaic.Routing
open Cert.Proof.Ref (posR posR_apply ofLane_eq)

variable {F : FTy → Type} [FloatOps F] (m : (ℓ : Loc nD τ sig) → Buf (Elt F) ℓ)

/-- The labels, pointers and keys a launch finds on device `d`. -/
abbrev labels (d : Dev nD) : IVec S16 32 := m (lLoc d)
abbrev ptrs (d : Dev nD) : IVec S22 32 := m ((SparseCore.T d).loc main_arg3)
abbrev keys (d : Dev nD) : Vec F S16x128 .f32 := m (kLoc d)

/-- The row of the stacked queues that feature `x 1` of class `x 0` is, at column `x 2`. -/
abbrev rowOf (x : S22x128x1024.Idx) : S2816x1024.Idx :=
  ix2 (⟨(x 0).val * 128 + (x 1).val, by have := (x 0).isLt; have := (x 1).isLt; change _ < 22 at *; change (x 1).val < 128 at *; omega⟩ : Fin 2816) (x 2)

theorem rowOf_rowMajor (x : S22x128x1024.Idx) : (S2816x1024.rowMajor (rowOf x)).val = (S22x128x1024.rowMajor x).val := by
  refine (Shape.rowMajor_val_two (rowOf x)).trans (Eq.trans ?_ (Shape.rowMajor_val_three x).symm)
  rfl

/-- A padded pointer of a class is the class's pointer. -/
theorem ptOf_at (d : Dev nD) (n : ℕ) (hn : n < 22) (hn' : n < 32) :
    ptOf m d (ix1 ⟨n, hn'⟩) = (ptrs m d) (ix1 ⟨n, hn⟩) := by
  refine (pad1 (ptrs m d) (constantI S_ 32 0#32) pads_S22_S32_0100 h_S_ ⟨n, hn'⟩).trans ?_
  rw [dif_pos ⟨Nat.zero_le _, by simpa using hn⟩]
  exact congrArg (ptrs m d) (congrArg ix1 (Fin.ext (Nat.sub_zero n)))

/-- The position the kernel gives batch entry `b` is the reference's. -/
theorem posM_eq (h : InRange m) (d : Dev nD) (b : Fin 16) :
    posM m d (ix1 b) = posR (labels m d) (ptrs m d) (ix1 b) := by
  refine Eq.trans ?_ (posR_apply (labels m d) (ptrs m d) (h.hl d) (h.hp d) b).symm
  have e : (Shape.ofLane ⟨((labels m d) (ix1 b)).toNat % 32, Nat.mod_lt _ (by decide)⟩ : S32.Idx)
      = ix1 ⟨((labels m d) (ix1 b)).toNat, (h.hl d _).trans (by decide)⟩ := by
    refine (ofLane_eq _).trans (congrArg ix1 (Fin.ext ?_))
    exact Nat.mod_eq_of_lt ((h.hl d _).trans (by decide))
  show BitVec.ofNat 32 (((ptOf m d (Shape.ofLane ⟨((labels m d) (ix1 b)).toNat % 32, _⟩)).toNat + _) % 1024) = _
  rw [e, ptOf_at m d _ (h.hl d _)]

/-- The updated queues at class `x 0`, feature `x 1` and column `x 2`. -/
theorem queues_at (h : InRange m) (d : Dev nD) (x : S22x128x1024.Idx) :
    shapeCast S22x128x1024 (newQ (datOf m (posM m) d)) shapeCasts_S2816x1024_S22x128x1024 x
      = (List.finRange 16).foldl (fun acc (b : Fin 16) =>
          if (labels m d) (ix1 b) = BitVec.ofNat 32 (x 0).val
              ∧ (posR (labels m d) (ptrs m d) (ix1 b)).toNat = (x 2).val
            then (keys m d) (ix2 b (x 1)) else acc)
        ((m ((SparseCore.T d).loc main_arg2) : Vec F S22x128x1024 .f32) x) := by
  have h1 : (x 1).val < 128 := (x 1).isLt
  refine (shapeCast_apply _ _ x (rowOf x) (rowOf_rowMajor x)).trans ?_
  unfold newQ
  have hq : (datOf m (posM m) d).qv (rowOf x) = (m ((SparseCore.T d).loc main_arg2) : Vec F S22x128x1024 .f32) x :=
    shapeCast_apply _ _ _ x (rowOf_rowMajor x).symm
  rw [hq]
  refine congrArg (fun f => List.foldl f _ (List.finRange 16)) (funext fun acc => funext fun (b : Fin 16) => ?_)
  have hd : ((rowOf x) 0).val / 128 = (x 0).val := by
    show ((x 0).val * 128 + (x 1).val) / 128 = _
    omega
  have hk : kIdx (Shape.ofLane b) ((rowOf x) 0).val = ix2 b (x 1) := by
    funext a
    match a with
    | ⟨0, _⟩ => rfl
    | ⟨1, _⟩ =>
      apply Fin.ext
      show ((x 0).val * 128 + (x 1).val) % 128 = (x 1).val
      omega
  have ho : (Shape.ofLane b : S16.Idx) = ix1 b := ofLane_eq b
  have hp : (datOf m (posM m) d).pv (ix1 b) = posR (labels m d) (ptrs m d) (ix1 b) := posM_eq m h d b
  rw [hd, hk, ho, hp]
  rfl

/-- The advanced pointer of class `x 0`. -/
theorem ptrs_at (d : Dev nD) (x : S22.Idx) :
    extractStridedSlice S22 ![0] (nextM m d) slices_S32_S22_0 x
      = BitVec.ofNat 32 ((((ptrs m d) x).toNat
          + total (labels m d) (BitVec.ofNat 32 (x 0).val)) % 1024) := by
  have hx : (x 0).val < 22 := (x 0).isLt
  have e : extractStridedSlice S22 ![0] (nextM m d) slices_S32_S22_0 x = nextM m d (ix1 ⟨(x 0).val, by omega⟩) := by
    unfold extractStridedSlice
    refine congrArg (nextM m d) (funext fun a => ?_)
    obtain rfl : a = 0 := Subsingleton.elim _ _
    exact Fin.ext (Nat.zero_add _)
  refine e.trans ?_
  show BitVec.ofNat 32 (((ptOf m d (ix1 ⟨(x 0).val, _⟩)).toNat + _) % 1024) = _
  rw [ptOf_at m d _ hx]
  have hix : (ix1 ⟨(x 0).val, hx⟩ : S22.Idx) = x := (eq_ix1 x).symm
  rw [hix]

variable (m' : (ℓ : Loc Cert.ReferenceIdeal.nD Cert.ReferenceIdeal.τ Cert.ReferenceIdeal.sig) → Buf (Elt F) ℓ)

/-- On equal arguments the reference's queues are the kernel's. -/
theorem queues_eq (h : InRange m) (d : Dev nD)
    (e0 : m' ((SparseCore.T d).loc Cert.ReferenceIdeal.main_arg0) = m ((SparseCore.T d).loc main_arg0))
    (e1 : m' ((SparseCore.T d).loc Cert.ReferenceIdeal.main_arg1) = m ((SparseCore.T d).loc main_arg1))
    (e2 : m' ((SparseCore.T d).loc Cert.ReferenceIdeal.main_arg2) = m ((SparseCore.T d).loc main_arg2))
    (e3 : m' ((SparseCore.T d).loc Cert.ReferenceIdeal.main_arg3) = m ((SparseCore.T d).loc main_arg3)) :
    Cert.ReferenceIdeal.Value.res_main_v32 m' d
      = shapeCast S22x128x1024 (newQ (datOf m (posM m) d)) shapeCasts_S2816x1024_S22x128x1024 :=
  funext fun x => (Cert.Proof.Ref.ref_queues m' d _ _ _ _ e0 e1 e2 e3 (h.hl d) (h.hp d) x).trans (queues_at m h d x).symm

/-- On equal arguments the reference's pointers are the kernel's. -/
theorem ptrs_eq (h : InRange m) (d : Dev nD)
    (e1 : m' ((SparseCore.T d).loc Cert.ReferenceIdeal.main_arg1) = m ((SparseCore.T d).loc main_arg1))
    (e3 : m' ((SparseCore.T d).loc Cert.ReferenceIdeal.main_arg3) = m ((SparseCore.T d).loc main_arg3)) :
    Cert.ReferenceIdeal.Value.res_main_v44 m' d = extractStridedSlice S22 ![0] (nextM m d) slices_S32_S22_0 :=
  funext fun x => (Cert.Proof.Ref.ref_ptrs m' d _ _ e1 e3 (h.hl d) (h.hp d) x).trans (ptrs_at m d x).symm

end Cert.Proof.Queue

end
-- ==== Proof.Enc.RefEntry.lean ====
/-
  What the reference's host operations before its recurrence leave for it: the rows of the four streams projected,
  normalised and clipped, frame by frame, and the recurrence's parameters, over the reference's arguments.
-/
module

public import proofs.«01_k».proof.Proof.Gen.EncoderReferenceIdeal.Run
public import Idealize.ShloMosaic.Lib.StableHlo.RunClose

@[expose] public section

set_option maxRecDepth 16384

noncomputable section

namespace Cert.EncoderReferenceIdeal.Value

open Cert.EncoderReferenceIdeal.Gen
open Idealize.ShloMosaic Idealize.ShloMosaic.TcCoe Idealize.ShloMosaic.StableHlo

variable {F : FTy → Type} [FloatOps F]

section terms

variable (labels : Vec F S16 .i32) (frames : Vec F S16x32 .i32) (rand : Vec F S16x31x1 .f32)

/-- The random mask: whether the draw is positive, and one at the last frame. -/
def maskRandom : Vec F S16x32x1 .f32 :=
  concatenate S16x32x1 1 [⟨S16x31x1, uitofp (F := F) .f32 (cmpf .ogt rand (broadcastInDim S16x31x1 ![] bcast_S_S16x31x1 (constant S_ .f32 0x00000000#32)))⟩,
    ⟨S16x1x1, broadcastInDim S16x1x1 ![] bcast_S_S16x1x1 (constant (F := F) S_ .f32 0x3F800000#32)⟩] concatenates_S16x31x1_S16x1x1_S16x32x1_d1

/-- Which frames are background. -/
def isBg : Vec F S16x32x1 .f32 :=
  uitofp (F := F) .f32 (broadcastInDim S16x32x1 ![0, 1] bcast_S16x32_S16x32x1_0_1 (cmpi .eq frames (broadcastInDim S16x32 ![] bcast_S_S16x32 (constantI S_ 32 0#32))))

/-- Which samples are background. -/
def bgSample : Vec F S16x1x1 .i1 :=
  shapeCast S16x1x1 (cmpi .eq labels (broadcastInDim S16 ![] bcast_S_S16 (constantI S_ 32 0#32))) shapeCasts_S16_S16x1x1

/-- The core mask before an empty one is replaced. -/
def maskCore0 : Vec F S16x32x1 .f32 :=
  select (broadcastInDim S16x32x1 ![0, 1, 2] bcast_S16x1x1_S16x32x1_0_1_2 (bgSample (F := F) labels)) (maskRandom rand)
    (subf (broadcastInDim S16x32x1 ![] bcast_S_S16x32x1 (constant S_ .f32 0x3F800000#32)) (isBg (F := F) frames))

/-- The core mask. -/
def maskCore : Vec F S16x32x1 .f32 :=
  select (broadcastInDim S16x32x1 ![0, 1, 2] bcast_S16x1x1_S16x32x1_0_1_2
      (cmpf .ogt (broadcastInDim S16x1x1 ![0, 2] bcast_S16x1_S16x1x1_0_2
        (Host.reduceAdd (maskCore0 (F := F) labels frames rand) (constant S_ .f32 0x00000000#32) reducesTo_S16x32x1_S16x1_d1 h_S_))
        (broadcastInDim S16x1x1 ![] bcast_S_S16x1x1 (constant S_ .f32 0x00000000#32))))
    (maskCore0 (F := F) labels frames rand) (maskRandom rand)

/-- The context mask. -/
def maskCtx : Vec F S16x32x1 .f32 :=
  select (broadcastInDim S16x32x1 ![0, 1, 2] bcast_S16x1x1_S16x32x1_0_1_2 (bgSample (F := F) labels))
    (broadcastInDim S16x32x1 ![] bcast_S_S16x32x1 (constant S_ .f32 0x00000000#32)) (isBg (F := F) frames)

/-- A sample's two halves side by side. -/
def video (a b : Vec F S16x32x2048 .f32) : Vec F S16x32x4096 .f32 :=
  concatenate S16x32x4096 2 [⟨S16x32x2048, a⟩, ⟨S16x32x2048, b⟩] concatenates_S16x32x2048_S16x32x2048_S16x32x4096_d2

/-- The four streams, from the anchor, the shuffled sample and the two masks. -/
def streams (anchor shuffled : Vec F S16x32x4096 .f32) (mc mx : Vec F S16x32x1 .f32) : Vec F S4x16x32x4096 .f32 :=
  concatenate S4x16x32x4096 0
    [⟨S1x16x32x4096, broadcastInDim S1x16x32x4096 ![1, 2, 3] bcast_S16x32x4096_S1x16x32x4096_1_2_3
        (mulf anchor (broadcastInDim S16x32x4096 ![0, 1, 2] bcast_S16x32x1_S16x32x4096_0_1_2 mc))⟩,
      ⟨S1x16x32x4096, broadcastInDim S1x16x32x4096 ![1, 2, 3] bcast_S16x32x4096_S1x16x32x4096_1_2_3
        (mulf anchor (broadcastInDim S16x32x4096 ![0, 1, 2] bcast_S16x32x1_S16x32x4096_0_1_2 mx))⟩,
      ⟨S1x16x32x4096, broadcastInDim S1x16x32x4096 ![1, 2, 3] bcast_S16x32x4096_S1x16x32x4096_1_2_3 anchor⟩,
      ⟨S1x16x32x4096, broadcastInDim S1x16x32x4096 ![1, 2, 3] bcast_S16x32x4096_S1x16x32x4096_1_2_3 shuffled⟩]
    concatenates_S1x16x32x4096_S1x16x32x4096_S1x16x32x4096_S1x16x32x4096_S4x16x32x4096_d0

/-- A parameter laid along the last axis of the streams. -/
def along (a : Vec F S1024 .f32) : Vec F S4x16x32x1024 .f32 :=
  broadcastInDim S4x16x32x1024 ![0, 1, 2, 3] bcast_S1x1x1x1024_S4x16x32x1024_0_1_2_3
    (broadcastInDim S1x1x1x1024 ![1, 2, 3] bcast_S1x1x1024_S1x1x1x1024_1_2_3
      (broadcastInDim S1x1x1024 ![2] bcast_S1024_S1x1x1024_2 a))

/-- The projection of every row. -/
def project (x : Vec F S4x16x32x4096 .f32) (w : Vec F S1024x4096 .f32) (b : Vec F S1024 .f32) : Vec F S4x16x32x1024 .f32 :=
  addf (Host.dotGeneral dot_S4x16x32x4096_S4096x1024_S4x16x32x1024_3_0_012_1_n_n none x
    (transpose S4096x1024 [1, 0] w transposes_S1024x4096_S4096x1024_1_0)) (along b)

/-- The sum of every row. -/
def rowSum (p : Vec F S4x16x32x1024 .f32) : Vec F S4x16x32x1 .f32 :=
  broadcastInDim S4x16x32x1 ![0, 1, 2] bcast_S4x16x32_S4x16x32x1_0_1_2
    (Host.reduceAdd p (constant S_ .f32 0x00000000#32) reducesTo_S4x16x32x1024_S4x16x32_d3 h_S_)

/-- The mean of every row. -/
def rowMean (p : Vec F S4x16x32x1024 .f32) : Vec F S4x16x32x1 .f32 :=
  Host.divf (rowSum p) (broadcastInDim S4x16x32x1 ![] bcast_S_S4x16x32x1 (constant S_ .f32 0x44800000#32))

/-- A row's number laid along the row. -/
def wide (x : Vec F S4x16x32x1 .f32) : Vec F S4x16x32x1024 .f32 :=
  broadcastInDim S4x16x32x1024 ![0, 1, 2, 3] bcast_S4x16x32x1_S4x16x32x1024_0_1_2_3 x

/-- The divisor of the variance: the width less the correction. -/
def freedom (d : Vec F S_ .i32) : Vec F S_ .f32 := subf (constant S_ .f32 0x44800000#32) (sitofp .f32 d)

/-- The variance of every row. -/
def rowVar (p : Vec F S4x16x32x1024 .f32) (d : Vec F S_ .i32) : Vec F S4x16x32x1 .f32 :=
  select (broadcastInDim S4x16x32x1 ![] bcast_S_S4x16x32x1 (cmpf .ogt (freedom (F := F) d) (constant S_ .f32 0x00000000#32)))
    (Host.divf (rowSum (mulf (subf p (wide (rowMean p))) (subf p (wide (rowMean p)))))
      (broadcastInDim S4x16x32x1 ![] bcast_S_S4x16x32x1 (freedom (F := F) d)))
    (broadcastInDim S4x16x32x1 ![1, 2, 3] bcast_S16x32x1_S4x16x32x1_1_2_3
      (broadcastInDim S16x32x1 ![] bcast_S_S16x32x1 (constant S_ .f32 0x7FC00000#32)))

/-- The layer norm of every row, from its mean and variance, scaled, shifted and clipped below at zero. -/
def rowNorm (p : Vec F S4x16x32x1024 .f32) (mu va : Vec F S4x16x32x1 .f32) (g be : Vec F S1024 .f32) : Vec F S4x16x32x1024 .f32 :=
  maximumf
    (addf (mulf (Host.divf (subf p (wide mu)) (wide (Host.sqrt (addf va (broadcastInDim S4x16x32x1 ![] bcast_S_S4x16x32x1 (constant S_ .f32 0x3727C5AC#32))))))
      (along g)) (along be))
    (broadcastInDim S4x16x32x1024 ![] bcast_S_S4x16x32x1024 (constant S_ .f32 0x00000000#32))

/-- The rows with the frame first. -/
def byFrame (y : Vec F S4x16x32x1024 .f32) : Vec F S32x4x16x1024 .f32 :=
  transpose S32x4x16x1024 [1, 0, 2, 3] (transpose S4x32x16x1024 [0, 2, 1, 3] y transposes_S4x16x32x1024_S4x32x16x1024_0_2_1_3)
    transposes_S4x32x16x1024_S32x4x16x1024_1_0_2_3

end terms

/-! ## The stretches, one after another -/

/-- What the stretches up to the projection leave. -/
abbrev preA : List (List (HloOp τ sig (Elt F))) := [hostOps0, hostOps0_1, hostOps0_2, hostOps0_3, hostOps0_4, hostOps0_5, hostOps0_6]
/-- The stretches from the variance on. -/
abbrev preB : List (List (HloOp τ sig (Elt F))) := [hostOps0_7, hostOps0_8, hostOps0_9, hostOps0_10]

variable (V : Valuation τ sig (Elt F))

/-- The projection of every row, over a valuation. -/
def projAt : Vec F S4x16x32x1024 .f32 :=
  project (streams (video (V (Proc.devRef .tc main_arg0)) (V (Proc.devRef .tc main_arg1))) (video (V (Proc.devRef .tc main_arg2)) (V (Proc.devRef .tc main_arg3)))
      (maskCore (F := F) (V (Proc.devRef .tc main_arg4)) (V (Proc.devRef .tc main_arg5)) (V (Proc.devRef .tc main_arg18)))
      (maskCtx (F := F) (V (Proc.devRef .tc main_arg4)) (V (Proc.devRef .tc main_arg5))))
    (V (Proc.devRef .tc main_arg6)) (V (Proc.devRef .tc main_arg7))

set_option maxHeartbeats 2000000 in
theorem preA_v38 : afterL preA V (Proc.devRef .tc main_v38) = projAt V := by
  unfold projAt project streams video along maskCore maskCtx maskCore0 maskRandom isBg bgSample
  simp only [preA, afterL_cons, afterL_nil, hostOps0, hostOps0_1, hostOps0_2, hostOps0_3, hostOps0_4, hostOps0_5, hostOps0_6]
  after_results_entrywise []

/-- The last stretch before the variance leaves the mean of the projection it made. -/
theorem last_v42 : after hostOps0_6 V (Proc.devRef .tc main_v42) = rowMean (after hostOps0_6 V (Proc.devRef .tc main_v38)) := by
  unfold rowMean rowSum
  simp only [hostOps0_6]
  after_results_entrywise []

theorem preA_v42 : afterL preA V (Proc.devRef .tc main_v42) = rowMean (projAt V) :=
  (last_v42 (afterL [hostOps0, hostOps0_1, hostOps0_2, hostOps0_3, hostOps0_4, hostOps0_5] V)).trans (congrArg rowMean (preA_v38 V))

theorem preA_c_8 : afterL preA V (Proc.devRef .tc main_c_8) = (constantI S_ 32 0#32 : Vec F S_ .i32) := by
  simp only [preA, afterL_cons, afterL_nil, hostOps0, hostOps0_1, hostOps0_2, hostOps0_3, hostOps0_4, hostOps0_5, hostOps0_6]
  after_results_entrywise []

set_option maxHeartbeats 2000000 in
theorem preB_v64_0 : afterL preB V (Proc.devRef .tc main_v64_0)
    = byFrame (rowNorm (V (Proc.devRef .tc main_v38)) (V (Proc.devRef .tc main_v42))
        (rowVar (V (Proc.devRef .tc main_v38)) (V (Proc.devRef .tc main_c_8))) (V (Proc.devRef .tc main_arg8)) (V (Proc.devRef .tc main_arg9))) := by
  unfold byFrame rowNorm rowVar freedom wide rowMean rowSum along
  simp only [preB, afterL_cons, afterL_nil, hostOps0_7, hostOps0_8, hostOps0_9, hostOps0_10]
  after_results_entrywise []

/-- The recurrence's parameters, as it enters. -/
theorem preB_params : afterL preB V (Proc.devRef .tc main_v64_1) = V (Proc.devRef .tc main_arg10)
    ∧ afterL preB V (Proc.devRef .tc main_v64_2) = V (Proc.devRef .tc main_arg12)
    ∧ afterL preB V (Proc.devRef .tc main_v64_3) = V (Proc.devRef .tc main_arg11)
    ∧ afterL preB V (Proc.devRef .tc main_v64_4) = V (Proc.devRef .tc main_arg13) := by
  simp only [preB, afterL_cons, afterL_nil, hostOps0_7, hostOps0_8, hostOps0_9, hostOps0_10]
  refine ⟨?_, ?_, ?_, ?_⟩ <;> after_results_entrywise []

theorem preB_v64_6 : afterL preB V (Proc.devRef .tc main_v64_6)
    = broadcastInDim S4x16x1024 ![1, 2] bcast_S16x1024_S4x16x1024_1_2 (broadcastInDim S16x1024 ![] bcast_S_S16x1024 (constant (F := F) S_ .f32 0x00000000#32)) := by
  simp only [preB, afterL_cons, afterL_nil, hostOps0_7, hostOps0_8, hostOps0_9, hostOps0_10]
  after_results_entrywise []

/-- The stretches up to the projection leave what they do not write. -/
theorem preA_keeps (r : Ref sig .tc)
    (h : r ∉ hostOps0_W ++ hostOps0_1_W ++ hostOps0_2_W ++ hostOps0_3_W ++ hostOps0_4_W ++ hostOps0_5_W ++ hostOps0_6_W) :
    afterL preA V (Proc.devRef .tc r) = V (Proc.devRef .tc r) := by
  simp only [List.mem_append, not_or] at h
  obtain ⟨⟨⟨⟨⟨⟨h0, h1⟩, h2⟩, h3⟩, h4⟩, h5⟩, h6⟩ := h
  exact (after_of_writes_sub hostOps0_6 _ hostOps0_6_writes h6).trans
    ((after_of_writes_sub hostOps0_5 _ hostOps0_5_writes h5).trans
      ((after_of_writes_sub hostOps0_4 _ hostOps0_4_writes h4).trans
        ((after_of_writes_sub hostOps0_3 _ hostOps0_3_writes h3).trans
          ((after_of_writes_sub hostOps0_2 _ hostOps0_2_writes h2).trans
            ((after_of_writes_sub hostOps0_1 _ hostOps0_1_writes h1).trans
              (after_of_writes_sub hostOps0 V hostOps0_writes h0))))))

/-! ## At the recurrence's entry -/

variable (m : (ℓ : Loc nD τ sig) → Buf (Elt F) ℓ) (c : Dev nD)

/-- An argument as launched. -/
abbrev at_ (r : Ref sig .tc) : Buf (Elt F) ((c : Thread nD τ).loc r) := m ((c : Thread nD τ).loc r)

/-- The projection of every row, over the arguments. -/
def projOf : Vec F S4x16x32x1024 .f32 :=
  project (streams (video (at_ m c main_arg0) (at_ m c main_arg1)) (video (at_ m c main_arg2) (at_ m c main_arg3))
      (maskCore (F := F) (at_ m c main_arg4) (at_ m c main_arg5) (at_ m c main_arg18))
      (maskCtx (F := F) (at_ m c main_arg4) (at_ m c main_arg5)))
    (at_ m c main_arg6) (at_ m c main_arg7)

theorem entry_eq : entryContents preI m c = afterL preB (afterL preA (launchContents m c)) := rfl

/-- The rows the recurrence enters with. -/
theorem entry_v64_0 : entryContents preI m c (Proc.devRef .tc main_v64_0)
    = byFrame (rowNorm (projOf m c) (rowMean (projOf m c)) (rowVar (projOf m c) (constantI S_ 32 0#32)) (at_ m c main_arg8) (at_ m c main_arg9)) := by
  rw [entry_eq, preB_v64_0, preA_v38, preA_v42, preA_c_8, preA_keeps _ main_arg8 (by decide +kernel), preA_keeps _ main_arg9 (by decide +kernel)]
  rfl

theorem entry_params : entryContents preI m c (Proc.devRef .tc main_v64_1) = at_ m c main_arg10
    ∧ entryContents preI m c (Proc.devRef .tc main_v64_2) = at_ m c main_arg12
    ∧ entryContents preI m c (Proc.devRef .tc main_v64_3) = at_ m c main_arg11
    ∧ entryContents preI m c (Proc.devRef .tc main_v64_4) = at_ m c main_arg13 := by
  have h := preB_params (afterL preA (launchContents m c))
  rw [entry_eq]
  exact ⟨h.1.trans (preA_keeps _ main_arg10 (by decide +kernel)), h.2.1.trans (preA_keeps _ main_arg12 (by decide +kernel)),
    h.2.2.1.trans (preA_keeps _ main_arg11 (by decide +kernel)), h.2.2.2.trans (preA_keeps _ main_arg13 (by decide +kernel))⟩

theorem entry_v64_6 : entryContents preI m c (Proc.devRef .tc main_v64_6)
    = broadcastInDim S4x16x1024 ![1, 2] bcast_S16x1024_S4x16x1024_1_2 (broadcastInDim S16x1024 ![] bcast_S_S16x1024 (constant (F := F) S_ .f32 0x00000000#32)) := by
  rw [entry_eq, preB_v64_6]

end Cert.EncoderReferenceIdeal.Value
end
-- ==== Proof.Enc.Spec.lean ====
/-
  The encoder's mathematics on one row at a time: the projection and its layer norm, the gates' input part, one step
  of the gated recurrence, and the normalised head. Both programs are shown to compute these functions.
-/
module

public import Idealize.ShloMosaic.PureOps.Ideal

@[expose] public section

noncomputable section

namespace Cert.Enc

open Idealize.ShloMosaic

/-- `1024`, as the programs spell it. -/
abbrev width : EReal := Ideal.ofBits .f32 0x44800000#32
/-- The layer norm's guard. -/
abbrev eps : EReal := Ideal.ofBits .f32 0x3727C5AC#32
/-- The head's guard. -/
abbrev tiny : EReal := Ideal.ofBits .f32 0x2B8CBCCC#32

/-- The mean of a row. -/
def mean (p : Fin 1024 → EReal) : EReal := Ideal.div (∑ k, p k) width

/-- The variance of a row. -/
def variance (p : Fin 1024 → EReal) : EReal := Ideal.div (∑ k, (p k - mean p) * (p k - mean p)) width

/-- The layer norm of a row, scaled, shifted and clipped below at zero. -/
def norm (p g be : Fin 1024 → EReal) (j : Fin 1024) : EReal :=
  max (Ideal.div (p j - mean p) (Ideal.sqrt (variance p + eps)) * g j + be j) 0

/-- A row times a matrix whose rows are the outputs. -/
def lin {n m : ℕ} (x : Fin n → EReal) (W : Fin m → Fin n → EReal) (j : Fin m) : EReal := ∑ k, x k * W j k

/-- The place of the first, second and third gate's column. -/
abbrev col (o : ℕ) (j : Fin 1024) (h : o ≤ 2048 := by decide) : Fin 3072 := ⟨o + j.1, by have := j.2; omega⟩

/-- One step of the recurrence, from the input's and the state's parts of the gates. -/
def gru (gi gh : Fin 3072 → EReal) (h : Fin 1024 → EReal) (j : Fin 1024) : EReal :=
  (1 - Ideal.logistic (gi (col 1024 j) + gh (col 1024 j)))
      * Ideal.tanh (gi (col 2048 j) + Ideal.logistic (gi (col 0 j) + gh (col 0 j)) * gh (col 2048 j))
    + Ideal.logistic (gi (col 1024 j) + gh (col 1024 j)) * h j

/-- The head before it is normalised. -/
def headRow (h : Fin 1024 → EReal) (W1 : Fin 1024 → Fin 1024 → EReal) (b1 : Fin 1024 → EReal)
    (W2 : Fin 128 → Fin 1024 → EReal) (b2 : Fin 128 → EReal) (j : Fin 128) : EReal :=
  lin (fun l => max (lin (fun k => max (h k) 0) W1 l + b1 l) 0) W2 j + b2 j

/-- A row over its length. -/
def unit (q : Fin 128 → EReal) (j : Fin 128) : EReal :=
  Ideal.div (q j) (max (Ideal.sqrt (∑ k, q k * q k)) tiny)

/-- The state of a stream after `n` steps, from the gates' input part of each of its rows. -/
def state (gi : ℕ → Fin 3072 → EReal) (Whh : Fin 3072 → Fin 1024 → EReal) (bhh : Fin 3072 → EReal) :
    ℕ → Fin 1024 → EReal
  | 0 => fun _ => 0
  | n + 1 => gru (gi n) (fun j => lin (state gi Whh bhh n) Whh j + bhh j) (state gi Whh bhh n)

theorem state_succ (gi : ℕ → Fin 3072 → EReal) (Whh : Fin 3072 → Fin 1024 → EReal) (bhh : Fin 3072 → EReal) (n : ℕ) :
    state gi Whh bhh (n + 1)
      = gru (gi n) (fun j => lin (state gi Whh bhh n) Whh j + bhh j) (state gi Whh bhh n) := rfl

/-- Two rows laid end to end. -/
def cat (a b : Fin 2048 → EReal) (k : Fin 4096) : EReal :=
  if h : k.1 < 2048 then a ⟨k.1, h⟩ else b ⟨k.1 - 2048, by have := k.2; omega⟩

/-- The encoder's parameters. -/
@[ext] structure Params where
  W1 : Fin 1024 → Fin 4096 → EReal
  b1 : Fin 1024 → EReal
  g : Fin 1024 → EReal
  be : Fin 1024 → EReal
  Wih : Fin 3072 → Fin 1024 → EReal
  Whh : Fin 3072 → Fin 1024 → EReal
  bih : Fin 3072 → EReal
  bhh : Fin 3072 → EReal
  Wh1 : Fin 1024 → Fin 1024 → EReal
  bh1 : Fin 1024 → EReal
  Wh2 : Fin 128 → Fin 1024 → EReal
  bh2 : Fin 128 → EReal

/-- A row of a stream, projected, normalised and clipped. -/
def Params.embed (P : Params) (x : Fin 4096 → EReal) : Fin 1024 → EReal :=
  norm (fun j => lin x P.W1 j + P.b1 j) P.g P.be

/-- The gates' input part of a row of a stream. -/
def Params.gate (P : Params) (x : Fin 4096 → EReal) (j : Fin 3072) : EReal := lin (P.embed x) P.Wih j + P.bih j

/-- The embedding of a stream given by its rows. -/
def Params.out (P : Params) (x : ℕ → Fin 4096 → EReal) : Fin 128 → EReal :=
  unit (headRow (state (fun t => P.gate (x t)) P.Whh P.bhh 32) P.Wh1 P.bh1 P.Wh2 P.bh2)

/-- The row of stream `s` at a frame: the anchor's under the core mask `mc` and under the context mask `mx`, the
anchor's as it is, the shuffled sample's as it is. -/
def streamRow (s : Fin 4) (anchor shuffled : Fin 4096 → EReal) (mc mx : EReal) : Fin 4096 → EReal :=
  match s with
  | 0 => fun k => anchor k * mc
  | 1 => fun k => anchor k * mx
  | 2 => anchor
  | 3 => shuffled

/-- A row laid out of two is summed against a matrix in two halves. -/
theorem lin_cat {m : ℕ} (a b : Fin 2048 → EReal) (W : Fin m → Fin 4096 → EReal) (j : Fin m) :
    lin (cat a b) W j = (∑ k : Fin 2048, a k * W j ⟨k.1, by have := k.2; omega⟩)
      + ∑ k : Fin 2048, b k * W j ⟨2048 + k.1, by have := k.2; omega⟩ := by
  unfold lin
  refine (Fin.sum_univ_add (a := 2048) (b := 2048) (fun k : Fin (2048 + 2048) => cat a b k * W j k)).trans ?_
  refine congrArg₂ (· + ·) (Finset.sum_congr rfl fun k _ => ?_) (Finset.sum_congr rfl fun k _ => ?_)
  · have h : (Fin.castAdd 2048 k : Fin (2048 + 2048)).1 < 2048 := k.2
    rw [show cat a b (Fin.castAdd 2048 k : Fin (2048 + 2048)) = a k from dif_pos h]
    rfl
  · have h : ¬ (Fin.natAdd 2048 k : Fin (2048 + 2048)).1 < 2048 := Nat.not_lt.2 (Nat.le_add_right _ _)
    rw [show cat a b (Fin.natAdd 2048 k : Fin (2048 + 2048)) = b k from
      (dif_neg h).trans (congrArg b (Fin.ext (Nat.add_sub_cancel_left _ _)))]
    rfl

/-- A row masked out gives the bias alone. -/
theorem lin_zero {n m : ℕ} (x : Fin n → EReal) (W : Fin m → Fin n → EReal) (j : Fin m) :
    lin (fun k => x k * 0) W j = 0 := by
  unfold lin
  exact Finset.sum_eq_zero fun k _ => by simp only [mul_zero, zero_mul]

end Cert.Enc
end
-- ==== Proof.Enc.RVal.lean ====
/-
  The reference over extended reals, row by row: every element of its result is the encoder's function of that stream's
  rows.
-/
module

public import proofs.«01_k».proof.Proof.Enc.RefEntry
public import proofs.«01_k».proof.Proof.Enc.Spec
public import Idealize.ShloMosaic.Lib.Pointwise

@[expose] public section

set_option maxRecDepth 16384

noncomputable section

namespace Cert.EncoderReferenceIdeal.Value

open Cert.EncoderReferenceIdeal.Gen
open Idealize.ShloMosaic Idealize.ShloMosaic.TcCoe Idealize.ShloMosaic.StableHlo Cert.Enc

/-! ## The rows before the recurrence -/

theorem video_at (a f : Vec Ideal S16x32x2048 .f32) (b : Fin 16) (t : Fin 32) :
    (fun k => video a f (ix3 b t k)) = cat (fun k => a (ix3 b t k)) (fun k => f (ix3 b t k)) := by
  funext k
  pointwise [video]
  rfl

theorem streams_at (a f : Vec Ideal S16x32x4096 .f32) (mc mx : Vec Ideal S16x32x1 .f32) (s : Fin 4) (b : Fin 16) (t : Fin 32) :
    (fun k => streams a f mc mx (ix4 s b t k))
      = streamRow s (fun k => a (ix3 b t k)) (fun k => f (ix3 b t k)) (mc (ix3 b t 0)) (mx (ix3 b t 0)) := by
  funext k
  pointwise [streams]
  match s with
  | 0 => rfl
  | 1 => rfl
  | 2 => rfl
  | 3 => rfl

theorem project_at (x : Vec Ideal S4x16x32x4096 .f32) (w : Vec Ideal S1024x4096 .f32) (a : Vec Ideal S1024 .f32)
    (s : Fin 4) (b : Fin 16) (t : Fin 32) (j : Fin 1024) :
    project x w a (ix4 s b t j) = lin (fun k => x (ix4 s b t k)) (fun j k => w (ix2 j k)) j + a (ix1 j) := by
  pointwise [project, along]
  rfl

theorem rowMean_at (p : Vec Ideal S4x16x32x1024 .f32) (s : Fin 4) (b : Fin 16) (t : Fin 32) :
    rowMean p (ix4 s b t 0) = mean fun j => p (ix4 s b t j) := by
  pointwise [rowMean, rowSum]
  rfl

/-- The width is the number it spells. -/
theorem width_eq : Ideal.ofBits .f32 0x44800000#32 = ((1024 : ℝ) : EReal) := by
  simp [Ideal.ofBits, Ideal.ieee, -EReal.coe_mul]
  norm_num

theorem rowVar_at (p : Vec Ideal S4x16x32x1024 .f32) (s : Fin 4) (b : Fin 16) (t : Fin 32) :
    rowVar p (constantI S_ 32 0#32) (ix4 s b t 0) = variance fun j => p (ix4 s b t j) := by
  have z : (FloatOps.sitofp (F := Ideal) FTy.f32 (0#32 : BitVec 32) : EReal) = 0 := by
    show (((0#32 : BitVec 32).toInt : ℝ) : EReal) = 0
    simp
  have p0 : (0 : EReal) < Ideal.ofBits .f32 0x44800000#32 := by
    rw [width_eq]
    exact EReal.coe_pos.2 (by norm_num)
  pointwise [rowVar, freedom, wide, rowMean, rowSum]
  simp only [z, sub_zero]
  rw [if_pos p0]
  rfl

theorem rows_at (p : Vec Ideal S4x16x32x1024 .f32) (g be : Vec Ideal S1024 .f32) (t : Fin 32) (s : Fin 4) (b : Fin 16) (j : Fin 1024) :
    byFrame (rowNorm p (rowMean p) (rowVar p (constantI S_ 32 0#32)) g be) (ix4 t s b j)
      = norm (fun j => p (ix4 s b t j)) (fun j => g (ix1 j)) (fun j => be (ix1 j)) j := by
  pointwise [byFrame, rowNorm, along, wide]
  rw [rowMean_at, rowVar_at]
  rfl

/-! ## One step of the recurrence -/

variable (V : Valuation τ sig (Elt Ideal))

/-- The rows the recurrence carries. -/
abbrev carriedX : Vec Ideal S32x4x16x1024 .f32 := V (Proc.devRef .tc main_v64_0)
abbrev carriedWih : Vec Ideal S3072x1024 .f32 := V (Proc.devRef .tc main_v64_1)
abbrev carriedBih : Vec Ideal S3072 .f32 := V (Proc.devRef .tc main_v64_2)
abbrev carriedWhh : Vec Ideal S3072x1024 .f32 := V (Proc.devRef .tc main_v64_3)
abbrev carriedBhh : Vec Ideal S3072 .f32 := V (Proc.devRef .tc main_v64_4)
abbrev carriedK : Vec Ideal S_ .i32 := V (Proc.devRef .tc main_v64_5)
/-- The state the recurrence carries. -/
abbrev carriedH : Vec Ideal S4x16x1024 .f32 := V (Proc.devRef .tc main_v64_6)

theorem state_part (s : Fin 4) (b : Fin 16) (j : Fin 3072) :
    (res_main_while0b_v96 V : Vec Ideal S4x16x3072 .f32) (ix3 s b j)
      = lin (fun k => carriedH V (ix3 s b k)) (fun j k => carriedWhh V (ix2 j k)) j + carriedBhh V (ix1 j) := by
  pointwise [res_main_while0b_v96]
  rfl

/-- Where a frame's slice starts. -/
theorem starts_at : ∀ k : Fin 32, Host.clampedStart S32x4x16x1024 S1x4x16x1024 rfl
      (fun a => (((![fun _ => BitVec.ofNat 32 k.1, constantI S_ 32 0#32, constantI S_ 32 0#32, constantI S_ 32 0#32] : Fin 4 → Vec Ideal S_ .i32)) a (Shape.Idx.first h_S_)).toInt) 0 = k.1
    ∧ ∀ a : Fin 4, a ≠ 0 → Host.clampedStart S32x4x16x1024 S1x4x16x1024 rfl
      (fun a => (((![fun _ => BitVec.ofNat 32 k.1, constantI S_ 32 0#32, constantI S_ 32 0#32, constantI S_ 32 0#32] : Fin 4 → Vec Ideal S_ .i32)) a (Shape.Idx.first h_S_)).toInt) a = 0 := by
  decide

theorem input_part (k : Fin 32) (hk : carriedK V = fun _ => BitVec.ofNat 32 k.1) (s : Fin 4) (b : Fin 16) (j : Fin 3072) :
    (res_main_while0b_v90 V : Vec Ideal S4x16x3072 .f32) (ix3 s b j)
      = lin (fun l => carriedX V (ix4 k s b l)) (fun j k => carriedWih V (ix2 j k)) j + carriedBih V (ix1 j) := by
  have c0 : Host.clampedStart S32x4x16x1024 S1x4x16x1024 rfl
      (fun a => (((![carriedK V, constantI S_ 32 0#32, constantI S_ 32 0#32, constantI S_ 32 0#32] : Fin 4 → Vec Ideal S_ .i32)) a (Shape.Idx.first h_S_)).toInt) 0 = k.1 := by
    rw [hk]
    exact (starts_at k).1
  have c' : ∀ a : Fin 4, a ≠ 0 → Host.clampedStart S32x4x16x1024 S1x4x16x1024 rfl
      (fun a => (((![carriedK V, constantI S_ 32 0#32, constantI S_ 32 0#32, constantI S_ 32 0#32] : Fin 4 → Vec Ideal S_ .i32)) a (Shape.Idx.first h_S_)).toInt) a = 0 := by
    rw [hk]
    exact (starts_at k).2
  pointwise [res_main_while0b_v90]
  refine congrArg₂ (· + ·) (Finset.sum_congr rfl fun l _ => congrArg (· * carriedWih V (ix2 j l)) (congrArg (carriedX V) ?_)) rfl
  have e : ∀ {a a' : Fin 32} {b b' : Fin 4} {c c' : Fin 16} {d d' : Fin 1024}, a = a' → b = b' → c = c' → d = d' →
      (ix4 a b c d : S32x4x16x1024.Idx) = ix4 a' b' c' d' := by
    rintro _ _ _ _ _ _ _ _ rfl rfl rfl rfl
    rfl
  exact e (Fin.ext c0) (Fin.ext ((congrArg (· + s.1) (c' 1 (by decide))).trans (Nat.zero_add _))) (Fin.ext ((congrArg (· + b.1) (c' 2 (by decide))).trans (Nat.zero_add _)))
    (Fin.ext ((congrArg (· + l.1) (c' 3 (by decide))).trans (Nat.zero_add _)))

/-- One step of the recurrence, stream by stream and sample by sample. -/
theorem step_at (k : Fin 32) (hk : carriedK V = fun _ => BitVec.ofNat 32 k.1) (s : Fin 4) (b : Fin 16) (j : Fin 1024) :
    (step_main_v64_6 V : Vec Ideal S4x16x1024 .f32) (ix3 s b j)
      = gru (fun j => lin (fun l => carriedX V (ix4 k s b l)) (fun j k => carriedWih V (ix2 j k)) j + carriedBih V (ix1 j))
          (fun j => lin (fun k => carriedH V (ix3 s b k)) (fun j k => carriedWhh V (ix2 j k)) j + carriedBhh V (ix1 j))
          (fun j => carriedH V (ix3 s b j)) j := by
  have g := input_part V k hk s b
  have h := state_part V s b
  rw [step_main_v64_6, id_eq]
  pointwise [res_main_while0b_v116]
  simp only [g, h]
  unfold gru
  simp only [col, Nat.zero_add]
  rfl

end Cert.EncoderReferenceIdeal.Value
end
-- ==== Proof.Enc.RunA.lean ====
/-
  The encoder kernel's body run once, on whole memrefs at any contents: it ends with its inputs as they were and the
  output buffer overwritten by the pieces found on the way.
-/
module

public import proofs.«01_k».proof.Proof.Gen.EncoderIdeal.Frame.Runs

@[expose] public section

set_option maxRecDepth 16384

noncomputable section

namespace Cert.EncoderIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the body takes 23 memrefs, which is long to substitute
set_option maxHeartbeats 8000000 in
/-- The body's triple, with the pieces it leaves in the output buffer. -/
noncomputable def kernelRun0_A (c : Dev nD) (arg0 : Memref sig .tc .vmem S16x32x2048 .f32) (harg0 : arg0.IsWhole) (arg1 : Memref sig .tc .vmem S16x32x2048 .f32) (harg1 : arg1.IsWhole) (arg2 : Memref sig .tc .vmem S16x32x2048 .f32) (harg2 : arg2.IsWhole) (arg3 : Memref sig .tc .vmem S16x32x2048 .f32) (harg3 : arg3.IsWhole) (arg4 : Memref sig .tc .vmem S32x16x1 .f32) (harg4 : arg4.IsWhole) (arg5 : Memref sig .tc .vmem S32x16x1 .f32) (harg5 : arg5.IsWhole) (arg6 : Memref sig .tc .vmem S2048x1024 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x3072 .bf16) (harg11 : arg11.IsWhole) (arg12 : Memref sig .tc .vmem S1024x3072 .bf16) (harg12 : arg12.IsWhole) (arg13 : Memref sig .tc .vmem S1x3072 .f32) (harg13 : arg13.IsWhole) (arg14 : Memref sig .tc .vmem S1x3072 .f32) (harg14 : arg14.IsWhole) (arg15 : Memref sig .tc .vmem S1024x1024 .bf16) (harg15 : arg15.IsWhole) (arg16 : Memref sig .tc .vmem S1x1024 .f32) (harg16 : arg16.IsWhole) (arg17 : Memref sig .tc .vmem S1024x128 .bf16) (harg17 : arg17.IsWhole) (arg18 : Memref sig .tc .vmem S1x128 .f32) (harg18 : arg18.IsWhole) (arg19 : Memref sig .tc .vmem S4x16x128 .f32) (harg19 : arg19.IsWhole) (arg20 : Memref sig .tc .vmem S32x2x16x3072 .bf16) (harg20 : arg20.IsWhole) (arg21 : Memref sig .tc .vmem S1x3072 .f32) (harg21 : arg21.IsWhole) (arg22 : Memref sig .tc .vmem S64x1024 .f32) (harg22 : arg22.IsWhole)
    (x0 : Vec F S16x32x2048 .f32) (x1 : Vec F S16x32x2048 .f32) (x2 : Vec F S16x32x2048 .f32) (x3 : Vec F S16x32x2048 .f32) (x4 : Vec F S32x16x1 .f32) (x5 : Vec F S32x16x1 .f32) (x6 : Vec F S2048x1024 .bf16) (x7 : Vec F S2048x1024 .bf16) (x8 : Vec F S1x1024 .f32) (x9 : Vec F S1x1024 .f32) (x10 : Vec F S1x1024 .f32) (x11 : Vec F S1024x3072 .bf16) (x12 : Vec F S1024x3072 .bf16) (x13 : Vec F S1x3072 .f32) (x14 : Vec F S1x3072 .f32) (x15 : Vec F S1024x1024 .bf16) (x16 : Vec F S1x1024 .f32) (x17 : Vec F S1024x128 .bf16) (x18 : Vec F S1x128 .f32) :
    { L19 : List (View.Piece (Elt F) S4x16x128 .f32) //
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ (∃ f, arg19.view.loc (c : Thread nD τ) ↦[arg19.view.set]{fullShare} arg19.view.writes (Elt F) f L19) ∗ (∃ d, owns (c : Thread nD τ) arg20 fullShare d) ∗ (∃ d, owns (c : Thread nD τ) arg21 fullShare d) ∗ (∃ d, owns (c : Thread nD τ) arg22 fullShare d)) -∗ K ⟨⟩))
          ⊢ wp frame (wpE (defs₀ (F := F)) Variants.none c none) E (cc0__fused_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, fun E K => ?run⟩
  case run =>
    simp only [cc0__fused_body_eq_skeleton]; unfold cc0__fused_body_skel
    simp only [k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%ds0, %fs0, -, HS0⟩, ⟨%ds1, %fs1, -, HS1⟩, ⟨%ds2, %fs2, -, HS2⟩, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]
    · iexists _; isplitr; · ipureintro; exact harg18.read_unread _
      iexact H18
    isplitl [H19]; · iexists _; iexact H19
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.EncoderIdeal.Gen

end
-- ==== Proof.Enc.Frame.lean ====
/-
  The encoder program: what its one pipeline leaves, that it ends with every argument unchanged and every semaphore at
  zero, and the contents of its result.
-/
module

public import proofs.«01_k».proof.Proof.Enc.RunA
public import Idealize.ShloMosaic.Lib.Claim
public import Idealize.ShloMosaic.Lib.Pipeline.Value

@[expose] public section

set_option maxRecDepth 16384

noncomputable section

namespace Cert.EncoderIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The pieces cover the output. -/
theorem cover0_A_19 (c : Dev nD) (arg0 : Memref sig .tc .vmem S16x32x2048 .f32) (harg0 : arg0.IsWhole) (arg1 : Memref sig .tc .vmem S16x32x2048 .f32) (harg1 : arg1.IsWhole) (arg2 : Memref sig .tc .vmem S16x32x2048 .f32) (harg2 : arg2.IsWhole) (arg3 : Memref sig .tc .vmem S16x32x2048 .f32) (harg3 : arg3.IsWhole) (arg4 : Memref sig .tc .vmem S32x16x1 .f32) (harg4 : arg4.IsWhole) (arg5 : Memref sig .tc .vmem S32x16x1 .f32) (harg5 : arg5.IsWhole) (arg6 : Memref sig .tc .vmem S2048x1024 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x3072 .bf16) (harg11 : arg11.IsWhole) (arg12 : Memref sig .tc .vmem S1024x3072 .bf16) (harg12 : arg12.IsWhole) (arg13 : Memref sig .tc .vmem S1x3072 .f32) (harg13 : arg13.IsWhole) (arg14 : Memref sig .tc .vmem S1x3072 .f32) (harg14 : arg14.IsWhole) (arg15 : Memref sig .tc .vmem S1024x1024 .bf16) (harg15 : arg15.IsWhole) (arg16 : Memref sig .tc .vmem S1x1024 .f32) (harg16 : arg16.IsWhole) (arg17 : Memref sig .tc .vmem S1024x128 .bf16) (harg17 : arg17.IsWhole) (arg18 : Memref sig .tc .vmem S1x128 .f32) (harg18 : arg18.IsWhole) (arg19 : Memref sig .tc .vmem S4x16x128 .f32) (harg19 : arg19.IsWhole) (arg20 : Memref sig .tc .vmem S32x2x16x3072 .bf16) (harg20 : arg20.IsWhole) (arg21 : Memref sig .tc .vmem S1x3072 .f32) (harg21 : arg21.IsWhole) (arg22 : Memref sig .tc .vmem S64x1024 .f32) (harg22 : arg22.IsWhole)
    (x0 : Vec F S16x32x2048 .f32) (x1 : Vec F S16x32x2048 .f32) (x2 : Vec F S16x32x2048 .f32) (x3 : Vec F S16x32x2048 .f32) (x4 : Vec F S32x16x1 .f32) (x5 : Vec F S32x16x1 .f32) (x6 : Vec F S2048x1024 .bf16) (x7 : Vec F S2048x1024 .bf16) (x8 : Vec F S1x1024 .f32) (x9 : Vec F S1x1024 .f32) (x10 : Vec F S1x1024 .f32) (x11 : Vec F S1024x3072 .bf16) (x12 : Vec F S1024x3072 .bf16) (x13 : Vec F S1x3072 .f32) (x14 : Vec F S1x3072 .f32) (x15 : Vec F S1024x1024 .bf16) (x16 : Vec F S1x1024 .f32) (x17 : Vec F S1024x128 .bf16) (x18 : Vec F S1x128 .f32) (y : S4x16x128.Idx) :
    ∃ pc ∈ (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 x17 x18).1, y ∈ pc.1.set :=
  View.cover_of_tiledL (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 x17 x18).1 S4x16x128.size (by sl_kernel_rfl) y

/-- What the body leaves in the output buffer. -/
def out0_A_19 (c : Dev nD) (arg0 : Memref sig .tc .vmem S16x32x2048 .f32) (harg0 : arg0.IsWhole) (arg1 : Memref sig .tc .vmem S16x32x2048 .f32) (harg1 : arg1.IsWhole) (arg2 : Memref sig .tc .vmem S16x32x2048 .f32) (harg2 : arg2.IsWhole) (arg3 : Memref sig .tc .vmem S16x32x2048 .f32) (harg3 : arg3.IsWhole) (arg4 : Memref sig .tc .vmem S32x16x1 .f32) (harg4 : arg4.IsWhole) (arg5 : Memref sig .tc .vmem S32x16x1 .f32) (harg5 : arg5.IsWhole) (arg6 : Memref sig .tc .vmem S2048x1024 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x3072 .bf16) (harg11 : arg11.IsWhole) (arg12 : Memref sig .tc .vmem S1024x3072 .bf16) (harg12 : arg12.IsWhole) (arg13 : Memref sig .tc .vmem S1x3072 .f32) (harg13 : arg13.IsWhole) (arg14 : Memref sig .tc .vmem S1x3072 .f32) (harg14 : arg14.IsWhole) (arg15 : Memref sig .tc .vmem S1024x1024 .bf16) (harg15 : arg15.IsWhole) (arg16 : Memref sig .tc .vmem S1x1024 .f32) (harg16 : arg16.IsWhole) (arg17 : Memref sig .tc .vmem S1024x128 .bf16) (harg17 : arg17.IsWhole) (arg18 : Memref sig .tc .vmem S1x128 .f32) (harg18 : arg18.IsWhole) (arg19 : Memref sig .tc .vmem S4x16x128 .f32) (harg19 : arg19.IsWhole) (arg20 : Memref sig .tc .vmem S32x2x16x3072 .bf16) (harg20 : arg20.IsWhole) (arg21 : Memref sig .tc .vmem S1x3072 .f32) (harg21 : arg21.IsWhole) (arg22 : Memref sig .tc .vmem S64x1024 .f32) (harg22 : arg22.IsWhole)
    (x0 : Vec F S16x32x2048 .f32) (x1 : Vec F S16x32x2048 .f32) (x2 : Vec F S16x32x2048 .f32) (x3 : Vec F S16x32x2048 .f32) (x4 : Vec F S32x16x1 .f32) (x5 : Vec F S32x16x1 .f32) (x6 : Vec F S2048x1024 .bf16) (x7 : Vec F S2048x1024 .bf16) (x8 : Vec F S1x1024 .f32) (x9 : Vec F S1x1024 .f32) (x10 : Vec F S1x1024 .f32) (x11 : Vec F S1024x3072 .bf16) (x12 : Vec F S1024x3072 .bf16) (x13 : Vec F S1x3072 .f32) (x14 : Vec F S1x3072 .f32) (x15 : Vec F S1024x1024 .bf16) (x16 : Vec F S1x1024 .f32) (x17 : Vec F S1024x128 .bf16) (x18 : Vec F S1x128 .f32) : Vec F S4x16x128 .f32 :=
  VO0_19.read (Elt F) (VO0_19.writes (Elt F) VO0_19.junk (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 x17 x18).1)

/-- The same at the one grid point. -/
def outsAt0 (c : Dev nD) (t : Fin cfg0.N) : Vec F S4x16x128 .f32 :=
  out0_A_19 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => (outsAt0 m c t)
    | ⟨_ + 20, h⟩ => absurd h (Nat.not_lt.2 (Nat.le_add_left _ _))
  Φ _ := Pipeline.ΦA spec0 c
  q _ := fullShare
  owed _ := 0

/-- The arrays start at their contents on entry. -/
theorem A_eq (c : Dev nD) (w : Fin cfg0.W) : (dats m 0 c).A w = V m c (Pipeline.arrRef spec0 w) := by
  dsimp only [dats]

/-- An input's window is not written back, has no idle point and no cut; -/
theorem input_win (w : Fin cfg0.W) (hw : w ≠ 19) : (cfg0.win w).isOut = false :=
  (by decide : ∀ w : Fin 20, w ≠ 19 → (win0 w).isOut = false) w hw
theorem uncut_win (w : Fin cfg0.W) (t t' : Fin cfg0.N) : (cfg0.win w).clip (grid0.coords t) = (cfg0.win w).clip (grid0.coords t') := by
  fin_cases w <;> rfl

set_option maxHeartbeats 1000000 in
/-- the body leaves its block as it was, -/
theorem after_in (c : Dev nD) (w : Fin cfg0.W) (hw : w ≠ 19) (t : Fin cfg0.N) (d) :
    (dats m 0 c).fetched w t d = (dats m 0 c).after w t ∧ (cfg0.win w).cut (grid0.coords t) ((dats m 0 c).after w t) = (dats m 0 c).blockOf w t := by
  unfold Dat.fetched Dat.blockOf
  fin_cases w <;> dsimp only [dats] <;> first | exact absurd rfl hw | (unfold iblk; exact ⟨rfl, rfl⟩)

/-- and its buffer holds that block when the body starts. -/
theorem before_in (c : Dev nD) (w : Fin cfg0.W) (hw : w ≠ 19) (t : Fin cfg0.N) (d) : (dats m 0 c).before w t d = (dats m 0 c).after w t :=
  ((dats m 0 c).before_in_eq_fetched w (input_win w hw) (fun _ => rfl) (fun _ _ _ => uncut_win w _ _) (fun t => (after_in m c w hw t d).2) t d).trans
    (after_in m c w hw t d).1

/-- The body leaves in the output buffer what the run found. -/
theorem after_out (c : Dev nD) (t : Fin cfg0.N) : (dats m 0 c).after 19 t = outsAt0 m c t := by dsimp only [dats]

/-- What the body is given, -/
def bodyPre (c : Dev nD) (t : Fin cfg0.N) : sProp 𝕄 :=
  iprop((dats m 0 c).Φ t.castSucc ∗ (dats m 0 c).owesAt () t.castSucc
    ∗ bigSep Finset.univ fun w : Fin 20 => iprop(∃ d, owns (c : Thread nD τ) ((cfg0.win w).stage (cfg0.slots t w)) fullShare ((dats m 0 c).before w t d)))

/-- and what it returns. -/
def bodyPost (c : Dev nD) (t : Fin cfg0.N) : sProp 𝕄 :=
  iprop((dats m 0 c).Φ t.succ ∗ (dats m 0 c).owesAt () t.succ
    ∗ bigSep Finset.univ fun w : Fin 20 => owns (c : Thread nD τ) ((cfg0.win w).stage (cfg0.slots t w)) fullShare ((dats m 0 c).after w t))

set_option maxHeartbeats 2000000 in
/-- The body at the point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [bigSep_W0, bigSep_W0]
  simp (disch := decide) only [before_in m c]
  rw [show (dats m 0 c).Φ t.succ = (dats m 0 c).Φ t.castSucc from rfl,
    show (dats m 0 c).owesAt () t.succ = (dats m 0 c).owesAt () t.castSucc from rfl, after_out]
  rw [show (dats m 0 c).Φ t.castSucc = Pipeline.ΦA spec0 c from rfl, PhiA0_eq]
  unfold outsAt0
  unfold out0_A_19
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply ((kernelRun0_A c _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [HS0]; · iexact HS0
  isplitl [HS1]; · iexact HS1
  isplitl [HS2]; · iexact HS2
  iintro ⟨H0, H1, H2, H3, H4, H5, H6, H7, H8, H9, H10, H11, H12, H13, H14, H15, H16, H17, H18, ⟨%e19, H19⟩, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  unfold owns; iexists _; isplitr
  swap; · iexact H19
  ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body in the table is the body at the point. -/
theorem defs₀_row (t : Fin cfg0.N) :
    defs₀ (F := F) .tc cfg0.body (cfg0.bodyArgs t (cfg0.slots t)) = bodyAt0 t := by
  unfold defs₀; rw [Defs.onTc_tc]

/-- The body keeps what the pipeline asks of it. -/
theorem body_obligation (c : Dev nD) : BodyObligation (dats (F := F) m 0 c) (defs₀ (F := F)) Variants.none () Set.univ := fun t => by
  rw [defs₀_row]
  exact triple_restated (sound_body m c t) rfl .rfl fun _ => .rfl

set_option backward.isDefEq.respectTransparency.types false in
/-- The run, with every counter at zero at its end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  θ_run_and (unchanged m ρ) ((θ_run defs _ _).mono (fun _ h => h.2) (run_main_quiescent m ρ))

/-- What the point writes back. -/
theorem flushed19 (c : Dev nD) (t : Fin cfg0.N) :
    (dats m 0 c).flushed 19 t = (cfg0.win 19).cut (grid0.coords t) (outsAt0 m c t) := by
  show (cfg0.win 19).cut (grid0.coords t) ((dats m 0 c).after 19 t) = _
  rw [after_out]

theorem idx_inj19 : ∀ t t' : Fin cfg0.N, win0_19.index t = win0_19.index t' → t = t' :=
  (by decide +kernel : ∀ t t' : Fin grid0.N, win0_19.index t = win0_19.index t' → t = t')

theorem disjoint19 : ∀ t t' : Fin cfg0.N, (cfg0.win 19).flush t = true → (cfg0.win 19).flush t' = true → t ≠ t' →
    Disjoint ((cfg0.win 19).blk t).view.set ((cfg0.win 19).blk t').view.set :=
  fun t t' _ _ hne => (cfg0.win 19).disjoint_blk fun h => hne (idx_inj19 t t' h)

/-- The block of the final array is what was written back. -/
theorem blocks19 (c : Dev nD) (t : Fin cfg0.N) (hf : (cfg0.win 19).flush t = true) :
    ((cfg0.win 19).blk t).view.read (Elt F) ((dats m 0 c).arrAt 19 cfg0.N) = (dats m 0 c).flushed 19 t :=
  (dats m 0 c).read_blk_arrAt_eq_flushed 19 disjoint19 cfg0.N t t.isLt hf

/-- The result is the pipeline's output array. -/
theorem post19 (r : PUnit × MemSt nD τ sig (Elt F)) (h : Pipeline.FramePost cfgs (dats m) 0 (V m) r) (c : Dev nD) :
    r.2.mem ((c : Thread nD τ).loc main_v45) = (dats m 0 c).arrAt 19 cfg0.N :=
  (h c).1 19

/-- The run, its result named. -/
theorem run_blocks : θ_run defs (onTc (τ := τ) (main (F := F))) ⟨m, fun _ => 0, ρ⟩ fun r => ∀ c : Dev nD,
      r.2.mem ((c : Thread nD τ).loc main_v45) = (dats m 0 c).arrAt 19 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18) :=
  (θ_run defs _ _).mono (fun r h c => ⟨post19 m r h.1 c, h.2 c⟩) (θ_run_and (run_main m ρ) (unchanged m ρ))

end Cert.EncoderIdeal.Gen

end
-- ==== Proof.Enc.Closed.lean ====
/-
  The value the encoder's one pallas body stores, in closed form: the projection of every row once, the gates'
  input part of every row once, then thirty-two steps of the recurrence over the four streams at once, then the
  head. Stated over the body's nineteen inputs, at any float semantics.
-/
module

public import proofs.«01_k».proof.Proof.Enc.Frame
public import Idealize.ShloMosaic.Lib.VecWindow

@[expose] public section

set_option maxRecDepth 16384

noncomputable section

namespace Cert.EncoderIdeal.Gen

open Idealize.ShloMosaic Idealize.ShloMosaic.TcCoe
open Idealize.ShloMosaic.Pipeline (Dat Cfg Window cellOf)

variable {F : FTy → Type} [FloatOps F]

variable (x0 : Vec F S16x32x2048 .f32)
  (x1 : Vec F S16x32x2048 .f32)
  (x2 : Vec F S16x32x2048 .f32)
  (x3 : Vec F S16x32x2048 .f32)
  (x4 : Vec F S32x16x1 .f32)
  (x5 : Vec F S32x16x1 .f32)
  (x6 : Vec F S2048x1024 .bf16)
  (x7 : Vec F S2048x1024 .bf16)
  (x8 : Vec F S1x1024 .f32)
  (x9 : Vec F S1x1024 .f32)
  (x10 : Vec F S1x1024 .f32)
  (x11 : Vec F S1024x3072 .bf16)
  (x12 : Vec F S1024x3072 .bf16)
  (x13 : Vec F S1x3072 .f32)
  (x14 : Vec F S1x3072 .f32)
  (x15 : Vec F S1024x1024 .bf16)
  (x16 : Vec F S1x1024 .f32)
  (x17 : Vec F S1024x128 .bf16)
  (x18 : Vec F S1x128 .f32)

/-- The gates' input part of every row of every stream. -/
def giOf : Vec F S32x2x16x3072 .bf16 :=
  k0_pay8 (k0_pay5 x0 x2 x1 x3 x6 x7 x8) (k0_pay6 x0 x2 x1 x3 x6 x7 x8) (k0_pay7 x0 x2 x1 x3 x6 x7 x8) x9 x10 x11

/-- The gates' input part of a row that is masked out. -/
def g0Of : Vec F S1x3072 .f32 :=
  k0_pay12 (k0_pay9 x8) (k0_pay10 x8) (k0_pay11 x8) x9 x10 x11

/-- One step of the recurrence, at trip `k`, from the gates' input parts. -/
def stepOf (gi : Vec F S32x2x16x3072 .bf16) (g0 : Vec F S1x3072 .f32) (k : Fin k0_t1_loop.trips)
    (h : Vec F S64x1024 .f32) : Vec F S64x1024 .f32 :=
  k0_pay14
    (k0_pay2 (VecWindow.window gi (k0_off1 k) S1x1x16x3072.size (k0_off1_inb k))
      (VecWindow.window gi (k0_off2 k) S1x1x16x3072.size (k0_off2_inb k)) g0
      (VecWindow.window x4 (k0_off3 k) S1x16x1.size (k0_off3_inb k))
      (VecWindow.window x5 (k0_off3 k) S1x16x1.size (k0_off3_inb k)) x13)
    h (k0_pay3 h) (k0_pay4 x12) (constant S64x3072 .f32 0x00000000#32) x14

/-- The recurrence's state before trip `k`. -/
def hAt (gi : Vec F S32x2x16x3072 .bf16) (g0 : Vec F S1x3072 .f32) : ℕ → Vec F S64x1024 .f32
  | 0 => k0_pay13
  | k + 1 => if h : k < k0_t1_loop.trips then stepOf x4 x5 x12 x13 x14 gi g0 ⟨k, h⟩ (hAt gi g0 k) else hAt gi g0 k

/-- What the body stores. -/
def encOut : Vec F S4x16x128 .f32 :=
  k0_pay1
    (k0_pay15 (hAt x4 x5 x12 x13 x14 (giOf x0 x1 x2 x3 x6 x7 x8 x9 x10 x11) (g0Of x8 x9 x10 x11)
      (Scf.trips k0_t1_loop.lb k0_t1_loop.ub k0_t1_loop.st)))
    (k0_pay16 x15) (constant S64x1024 .f32 0x00000000#32) x16 x17 x18

/-- A load of a whole memref reads its contents. -/
theorem load_whole {κ : Kind} {sp : Space} {s : Shape} {e : EltTy} {M : Memref sig κ sp s e} (h : M.IsWhole)
    (x : s.Idx → Elt F e) {off : Fin s.rank → ℕ} (inb : ∀ a, off a + s.size a ≤ s.size a) :
    M.view.readAt (Elt F) (Rect.unit off s.size inb).toLoadRect (h.unread x) = x := by
  rw [View.readAt_full, Memref.IsWhole.read_unread]

/-- A load of part of a memref reads a window of its contents. -/
theorem load_part {κ : Kind} {sp : Space} {s : Shape} {e : EltTy} {M : Memref sig κ sp s e}
    (f : M.view.ty.Contents (Elt F)) {off size : Fin s.rank → ℕ} (inb : ∀ a, off a + size a ≤ s.size a) :
    M.view.readAt (Elt F) (Rect.unit off size inb).toLoadRect f = VecWindow.window (M.view.read (Elt F) f) off size inb :=
  View.readAt_unit _ _ inb rfl inb

section

variable (c : Dev nD)
variable (arg0 : Memref sig .tc .vmem S16x32x2048 .f32) (harg0 : arg0.IsWhole)
  (arg1 : Memref sig .tc .vmem S16x32x2048 .f32) (harg1 : arg1.IsWhole)
  (arg2 : Memref sig .tc .vmem S16x32x2048 .f32) (harg2 : arg2.IsWhole)
  (arg3 : Memref sig .tc .vmem S16x32x2048 .f32) (harg3 : arg3.IsWhole)
  (arg4 : Memref sig .tc .vmem S32x16x1 .f32) (harg4 : arg4.IsWhole)
  (arg5 : Memref sig .tc .vmem S32x16x1 .f32) (harg5 : arg5.IsWhole)
  (arg6 : Memref sig .tc .vmem S2048x1024 .bf16) (harg6 : arg6.IsWhole)
  (arg7 : Memref sig .tc .vmem S2048x1024 .bf16) (harg7 : arg7.IsWhole)
  (arg8 : Memref sig .tc .vmem S1x1024 .f32) (harg8 : arg8.IsWhole)
  (arg9 : Memref sig .tc .vmem S1x1024 .f32) (harg9 : arg9.IsWhole)
  (arg10 : Memref sig .tc .vmem S1x1024 .f32) (harg10 : arg10.IsWhole)
  (arg11 : Memref sig .tc .vmem S1024x3072 .bf16) (harg11 : arg11.IsWhole)
  (arg12 : Memref sig .tc .vmem S1024x3072 .bf16) (harg12 : arg12.IsWhole)
  (arg13 : Memref sig .tc .vmem S1x3072 .f32) (harg13 : arg13.IsWhole)
  (arg14 : Memref sig .tc .vmem S1x3072 .f32) (harg14 : arg14.IsWhole)
  (arg15 : Memref sig .tc .vmem S1024x1024 .bf16) (harg15 : arg15.IsWhole)
  (arg16 : Memref sig .tc .vmem S1x1024 .f32) (harg16 : arg16.IsWhole)
  (arg17 : Memref sig .tc .vmem S1024x128 .bf16) (harg17 : arg17.IsWhole)
  (arg18 : Memref sig .tc .vmem S1x128 .f32) (harg18 : arg18.IsWhole)
  (arg19 : Memref sig .tc .vmem S4x16x128 .f32) (harg19 : arg19.IsWhole)
  (arg20 : Memref sig .tc .vmem S32x2x16x3072 .bf16) (harg20 : arg20.IsWhole)
  (arg21 : Memref sig .tc .vmem S1x3072 .f32) (harg21 : arg21.IsWhole)
  (arg22 : Memref sig .tc .vmem S64x1024 .f32) (harg22 : arg22.IsWhole)

/-- One trip of the loop stores the next state. -/
theorem trip_read (v64 : FVec F S1x1024 .f32) (v68 v75 : FVec F S1x1 .f32) (X20 : arg20.view.ty.Contents (Elt F)) (X21 : arg21.view.ty.Contents (Elt F))
    (f G : arg22.view.ty.Contents (Elt F)) (L : List (View.Piece (Elt F) S64x1024 .f32)) (k : Fin k0_t1_loop.trips) :
    arg22.view.read (Elt F) (arg22.view.writes (Elt F) f
      ((trip_k0_t1 (F := F) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v64 v68 v75
        (harg4.unread x4) (harg5.unread x5) (harg12.unread x12) (harg13.unread x13) (harg14.unread x14) X20 X21 k).1 G ++ L))
      = stepOf x4 x5 x12 x13 x14 (arg20.view.read (Elt F) X20) (arg21.view.read (Elt F) X21) k (arg22.view.read (Elt F) G) := by
  unfold trip_k0_t1
  dsimp only [List.cons_append, List.nil_append]
  refine (View.read_writes_full arg22.view f _ _ L).trans ?_
  unfold trip_k0_t1.sl.r trip_k0_t1.sl.r_1 trip_k0_t1.sl.r_2 trip_k0_t1.sl.r_3 trip_k0_t1.sl.cst_94 stepOf
  rw [View.readAt_full arg22.view G, View.readAt_full arg21.view X21, load_whole harg12, load_whole harg13, load_whole harg14,
    load_part (M := arg20), load_part (M := arg20), load_part (M := arg4), load_part (M := arg5),
    Memref.IsWhole.read_unread, Memref.IsWhole.read_unread]

/-- The state before trip `k` is what the trips before it leave. -/
theorem loop_read (v64 : FVec F S1x1024 .f32) (v68 v75 : FVec F S1x1 .f32) (X20 : arg20.view.ty.Contents (Elt F)) (X21 : arg21.view.ty.Contents (Elt F))
    (G : arg22.view.ty.Contents (Elt F)) (hG : arg22.view.read (Elt F) G = k0_pay13) (k : ℕ) (hk : k ≤ k0_t1_loop.trips) :
    arg22.view.read (Elt F) (arg22.view.writes (Elt F) G
      (pb_k0_t1 (F := F) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v64 v68 v75
        (harg4.unread x4) (harg5.unread x5) (harg12.unread x12) (harg13.unread x13) (harg14.unread x14) X20 X21 G k))
      = hAt x4 x5 x12 x13 x14 (arg20.view.read (Elt F) X20) (arg21.view.read (Elt F) X21) k := by
  induction k with
  | zero => exact hG
  | succ k ih =>
    have hk' : k < k0_t1_loop.trips := hk
    refine (congrArg (fun L => arg22.view.read (Elt F) (arg22.view.writes (Elt F) G L))
      (pb_k0_t1_succ (F := F) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v64 v68 v75
        (harg4.unread x4) (harg5.unread x5) (harg12.unread x12) (harg13.unread x13) (harg14.unread x14) X20 X21 G ⟨k, hk'⟩)).trans ?_
    dsimp only
    refine (trip_read x4 x5 x12 x13 x14 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v64 v68 v75 X20 X21 G _ _ ⟨k, hk'⟩).trans ?_
    rw [ih (Nat.le_of_lt hk')]
    simp only [hAt, dif_pos hk']

/-- The body's stored value in closed form. -/
theorem out_eq : out0_A_19 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 x17 x18 = encOut x0 x1 x2 x3 x4 x5 x6 x7 x8 x9 x10 x11 x12 x13 x14 x15 x16 x17 x18 := by
  unfold out0_A_19 kernelRun0_A
  dsimp only
  refine (View.read_writes_full VO0_19 _ _ _ []).trans ?_
  unfold encOut kernelRun0_A.sl.r_6 kernelRun0_A.sl.r_7 kernelRun0_A.sl.cst_61 kernelRun0_A.sl.v103
  rw [load_whole harg15, load_whole harg16, load_whole harg17, load_whole harg18]
  congr 2
  unfold View.readCov
  rw [View.readAt_full, View.writes_append]
  refine (loop_read x4 x5 x12 x13 x14 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 _ _ _ _ _ _
    (View.read_writes_full arg22.view _ _ _ []) _ (le_refl _)).trans ?_
  congr 1
  · unfold kernelRun0_A.sl.HS0_1
    refine (View.read_writes_full arg20.view _ _ _ []).trans ?_
    unfold kernelRun0_A.sl.r kernelRun0_A.sl.r_1 kernelRun0_A.sl.r_2 giOf
    rw [load_whole harg0, load_whole harg1, load_whole harg2, load_whole harg3, load_whole harg6, load_whole harg7, load_whole harg8,
      load_whole harg9, load_whole harg10, load_whole harg11]
  · unfold kernelRun0_A.sl.HS1_1
    refine (View.read_writes_full arg21.view _ _ _ []).trans ?_
    unfold kernelRun0_A.sl.r_3 kernelRun0_A.sl.r_4 kernelRun0_A.sl.r_5 g0Of
    rw [load_whole harg8, load_whole harg9, load_whole harg10, load_whole harg11]

end

end Cert.EncoderIdeal.Gen
end
-- ==== Proof.Enc.KVal.lean ====
/-
  The kernel's closed form over extended reals, row by row: every element it stores is the encoder's function of that
  stream's rows.
-/
module

public import proofs.«01_k».proof.Proof.Enc.Closed
public import proofs.«01_k».proof.Proof.Enc.Spec
public import Idealize.ShloMosaic.Lib.Pointwise

@[expose] public section

set_option maxRecDepth 16384

noncomputable section

namespace Cert.EncoderIdeal.Gen

open Idealize.ShloMosaic Idealize.ShloMosaic.TcCoe Cert.Enc

variable (x0 : Vec Ideal S16x32x2048 .f32)
  (x1 : Vec Ideal S16x32x2048 .f32)
  (x2 : Vec Ideal S16x32x2048 .f32)
  (x3 : Vec Ideal S16x32x2048 .f32)
  (x4 : Vec Ideal S32x16x1 .f32)
  (x5 : Vec Ideal S32x16x1 .f32)
  (x6 : Vec Ideal S2048x1024 .bf16)
  (x7 : Vec Ideal S2048x1024 .bf16)
  (x8 : Vec Ideal S1x1024 .f32)
  (x9 : Vec Ideal S1x1024 .f32)
  (x10 : Vec Ideal S1x1024 .f32)
  (x11 : Vec Ideal S1024x3072 .bf16)
  (x12 : Vec Ideal S1024x3072 .bf16)
  (x13 : Vec Ideal S1x3072 .f32)
  (x14 : Vec Ideal S1x3072 .f32)
  (x15 : Vec Ideal S1024x1024 .bf16)
  (x16 : Vec Ideal S1x1024 .f32)
  (x17 : Vec Ideal S1024x128 .bf16)
  (x18 : Vec Ideal S1x128 .f32)

/-- The parameters as the call's windows hold them. -/
def kParams : Params where
  W1 j k := cat (fun k => x6 (ix2 k j)) (fun k => x7 (ix2 k j)) k
  b1 j := x8 (ix2 0 j)
  g j := x9 (ix2 0 j)
  be j := x10 (ix2 0 j)
  Wih j k := x11 (ix2 k j)
  Whh j k := x12 (ix2 k j)
  bih j := x13 (ix2 0 j)
  bhh j := x14 (ix2 0 j)
  Wh1 j k := x15 (ix2 k j)
  bh1 j := x16 (ix2 0 j)
  Wh2 j k := x17 (ix2 k j)
  bh2 j := x18 (ix2 0 j)

/-- A frame of a sample: its two halves. -/
def frameRow (a f : Vec Ideal S16x32x2048 .f32) (b : Fin 16) (t : Fin 32) : Fin 4096 → EReal :=
  cat (fun k => a (ix3 b t k)) (fun k => f (ix3 b t k))

theorem mean_of (r : Fin 1024) :
    k0_pay6 x0 x2 x1 x3 x6 x7 x8 (ix2 r 0) = mean fun j => k0_pay5 x0 x2 x1 x3 x6 x7 x8 (ix2 r j) := by
  pointwise [k0_pay6]
  rfl

theorem variance_of (r : Fin 1024) :
    k0_pay7 x0 x2 x1 x3 x6 x7 x8 (ix2 r 0) = variance fun j => k0_pay5 x0 x2 x1 x3 x6 x7 x8 (ix2 r j) := by
  pointwise [k0_pay7]
  simp only [mean_of]
  rfl

/-- The projection of a row of the anchor. -/
theorem proj_anchor (b : Fin 16) (t : Fin 32) (r : Fin 1024) (hr : r.1 = 0 * 512 + b.1 * 32 + t.1) (j : Fin 1024) :
    k0_pay5 x0 x2 x1 x3 x6 x7 x8 (ix2 r j)
      = lin (frameRow x0 x1 b t) (fun j k => cat (fun k => x6 (ix2 k j)) (fun k => x7 (ix2 k j)) k) j + x8 (ix2 0 j) := by
  have hb := b.2
  have ht := t.2
  have h : r.1 < 512 := by omega
  have e1 : (⟨r.1 / 32, by omega⟩ : Fin 16) = b := Fin.ext (by simp only; omega)
  have e2 : (⟨r.1 % 32, by omega⟩ : Fin 32) = t := Fin.ext (by simp only; omega)
  pointwise [k0_pay5]
  simp only [dif_pos h, e1, e2]
  unfold frameRow
  rw [lin_cat]
  refine congrArg₂ (· + ·) (congrArg₂ (· + ·) (Finset.sum_congr rfl fun k _ => ?_) (Finset.sum_congr rfl fun k _ => ?_)) rfl
  · simp only [cat, k.2, dite_true]
  · simp only [cat, show ¬ 2048 + k.1 < 2048 by omega, dite_false, Nat.add_sub_cancel_left]

/-- The projection of a row of the shuffled sample. -/
theorem proj_shuffled (b : Fin 16) (t : Fin 32) (r : Fin 1024) (hr : r.1 = 1 * 512 + b.1 * 32 + t.1) (j : Fin 1024) :
    k0_pay5 x0 x2 x1 x3 x6 x7 x8 (ix2 r j)
      = lin (frameRow x2 x3 b t) (fun j k => cat (fun k => x6 (ix2 k j)) (fun k => x7 (ix2 k j)) k) j + x8 (ix2 0 j) := by
  have hb := b.2
  have ht := t.2
  have h : ¬ r.1 < 512 := by omega
  have e1 : (⟨(r.1 - 512) / 32, by omega⟩ : Fin 16) = b := Fin.ext (by simp only; omega)
  have e2 : (⟨(r.1 - 512) % 32, by omega⟩ : Fin 32) = t := Fin.ext (by simp only; omega)
  pointwise [k0_pay5]
  simp only [dif_neg h, e1, e2]
  unfold frameRow
  rw [lin_cat]
  refine congrArg₂ (· + ·) (congrArg₂ (· + ·) (Finset.sum_congr rfl fun k _ => ?_) (Finset.sum_congr rfl fun k _ => ?_)) rfl
  · simp only [cat, k.2, dite_true]
  · simp only [cat, show ¬ 2048 + k.1 < 2048 by omega, dite_false, Nat.add_sub_cancel_left]

/-- The gates' input part of a row, over that row's projection. -/
theorem gates_of (t : Fin 32) (e : Fin 2) (b : Fin 16) (j : Fin 3072) (p : Fin 1024 → EReal)
    (hp : ∀ (r : Fin 1024), r.1 = e.1 * 512 + b.1 * 32 + t.1 → ∀ j, k0_pay5 x0 x2 x1 x3 x6 x7 x8 (ix2 r j) = p j) :
    giOf x0 x1 x2 x3 x6 x7 x8 x9 x10 x11 (ix4 t e b j)
      = lin (norm p (fun j => x9 (ix2 0 j)) (fun j => x10 (ix2 0 j))) (fun j k => x11 (ix2 k j)) j := by
  unfold giOf
  pointwise [k0_pay8]
  have hp' : ∀ (H : e.1 * 512 + b.1 * 32 + t.1 < 1024) j,
      k0_pay5 x0 x2 x1 x3 x6 x7 x8 (ix2 ⟨e.1 * 512 + b.1 * 32 + t.1, H⟩ j) = p j := fun H j => hp _ rfl j
  simp only [mean_of, variance_of, hp']
  rfl

theorem gates_anchor (t : Fin 32) (b : Fin 16) (j : Fin 3072) :
    giOf x0 x1 x2 x3 x6 x7 x8 x9 x10 x11 (ix4 t 0 b j)
      = lin ((kParams x6 x7 x8 x9 x10 x11 x12 x13 x14 x15 x16 x17 x18).embed (frameRow x0 x1 b t)) (fun j k => x11 (ix2 k j)) j :=
  gates_of x0 x1 x2 x3 x6 x7 x8 x9 x10 x11 t 0 b j _ fun r hr j => proj_anchor x0 x1 x2 x3 x6 x7 x8 b t r hr j

theorem gates_shuffled (t : Fin 32) (b : Fin 16) (j : Fin 3072) :
    giOf x0 x1 x2 x3 x6 x7 x8 x9 x10 x11 (ix4 t 1 b j)
      = lin ((kParams x6 x7 x8 x9 x10 x11 x12 x13 x14 x15 x16 x17 x18).embed (frameRow x2 x3 b t)) (fun j k => x11 (ix2 k j)) j :=
  gates_of x0 x1 x2 x3 x6 x7 x8 x9 x10 x11 t 1 b j _ fun r hr j => proj_shuffled x0 x1 x2 x3 x6 x7 x8 b t r hr j

/-- The gates' input part of a row masked out. -/
theorem gates_masked (x : Fin 4096 → EReal) (j : Fin 3072) :
    g0Of x8 x9 x10 x11 (ix2 0 j)
      = lin ((kParams x6 x7 x8 x9 x10 x11 x12 x13 x14 x15 x16 x17 x18).embed (fun k => x k * 0)) (fun j k => x11 (ix2 k j)) j := by
  have e : (fun j => lin (fun k => x k * 0) (kParams x6 x7 x8 x9 x10 x11 x12 x13 x14 x15 x16 x17 x18).W1 j
      + (kParams x6 x7 x8 x9 x10 x11 x12 x13 x14 x15 x16 x17 x18).b1 j) = fun j => x8 (ix2 0 j) :=
    funext fun j => by rw [lin_zero, zero_add]; rfl
  unfold Params.embed
  rw [e]
  have m : k0_pay10 x8 (ix2 0 0) = mean fun j => x8 (ix2 0 j) := by pointwise [k0_pay9, k0_pay10]; rfl
  have v : k0_pay11 x8 (ix2 0 0) = variance fun j => x8 (ix2 0 j) := by
    pointwise [k0_pay9, k0_pay11]
    simp only [m]
    rfl
  unfold g0Of
  pointwise [k0_pay12]
  simp only [m, v]
  pointwise [k0_pay9]
  rfl

/-! ## One step of the recurrence -/

theorem trips_eq : k0_t1_loop.trips = 32 := by decide

/-- A trip is a frame. -/
abbrev frameOf (k : Fin k0_t1_loop.trips) : Fin 32 := ⟨k.1, lt_of_lt_of_eq k.2 trips_eq⟩

theorem off1_eq (k : Fin k0_t1_loop.trips) : k0_off1 k = ![k.1, 0, 0, 0] := by
  revert k
  decide

theorem off2_eq (k : Fin k0_t1_loop.trips) : k0_off2 k = ![k.1, 1, 0, 0] := by
  revert k
  decide

theorem off3_eq (k : Fin k0_t1_loop.trips) : k0_off3 k = ![k.1, 0, 0] := by
  revert k
  decide

theorem window_at {α : Type} {s : Shape} (x : s.Idx → α) {off off' size : Fin s.rank → ℕ} (e : off = off')
    (inb : ∀ a, off a + size a ≤ s.size a) (y : (Rect.unit off size inb).shape.Idx) (z : s.Idx)
    (h : ∀ a, off' a + 1 * (y a).1 = (z a).1) : VecWindow.window x off size inb y = x z := by
  subst e
  exact congrArg x (funext fun a => Fin.ext (h a))

theorem window1 (gi : Vec Ideal S32x2x16x3072 .bf16) (k : Fin k0_t1_loop.trips) (b : Fin 16) (j : Fin 3072) :
    (VecWindow.window gi (k0_off1 k) S1x1x16x3072.size (k0_off1_inb k) : Vec Ideal S1x1x16x3072 .bf16) (ix4 0 0 b j) = gi (ix4 (frameOf k) 0 b j) := by
  refine window_at gi (off1_eq k) _ _ _ fun a => ?_
  fin_cases a <;> simp [ix3, ix4]

theorem window2 (gi : Vec Ideal S32x2x16x3072 .bf16) (k : Fin k0_t1_loop.trips) (b : Fin 16) (j : Fin 3072) :
    (VecWindow.window gi (k0_off2 k) S1x1x16x3072.size (k0_off2_inb k) : Vec Ideal S1x1x16x3072 .bf16) (ix4 0 0 b j) = gi (ix4 (frameOf k) 1 b j) := by
  refine window_at gi (off2_eq k) _ _ _ fun a => ?_
  fin_cases a <;> simp [ix3, ix4]

theorem window3 (x : Vec Ideal S32x16x1 .f32) (k : Fin k0_t1_loop.trips) (b : Fin 16) :
    (VecWindow.window x (k0_off3 k) S1x16x1.size (k0_off3_inb k) : Vec Ideal S1x16x1 .f32) (ix3 0 b 0) = x (ix3 (frameOf k) b 0) := by
  refine window_at x (off3_eq k) _ _ _ fun a => ?_
  fin_cases a <;> simp [ix3, ix4]

/-- A mask is zero or one everywhere. -/
def IsMask (x : Vec Ideal S32x16x1 .f32) : Prop := ∀ t b, x (ix3 t b 0) = 0 ∨ x (ix3 t b 0) = 1

/-- The row of a stream at a frame, in the call's windows. -/
def kRow (s : Fin 4) (b : Fin 16) (t : ℕ) : Fin 4096 → EReal :=
  if h : t < 32 then
    streamRow s (frameRow x0 x1 b ⟨t, h⟩) (frameRow x2 x3 b ⟨t, h⟩) (x4 (ix3 ⟨t, h⟩ b 0)) (x5 (ix3 ⟨t, h⟩ b 0))
  else fun _ => 0

/-- The gates' input parts of one step, stream by stream. -/
theorem pay2_at (ga gs : Vec Ideal S1x1x16x3072 .bf16) (g0 bi : Vec Ideal S1x3072 .f32) (mc mx : Vec Ideal S1x16x1 .f32)
    (s : Fin 4) (b : Fin 16) (r : Fin 64) (hr : r.1 = s.1 * 16 + b.1) (j : Fin 3072) :
    k0_pay2 ga gs g0 mc mx bi (ix2 r j)
      = (match s with
          | 0 => if 0 < mc (ix3 0 b 0) then ga (ix4 0 0 b j) else g0 (ix2 0 j)
          | 1 => if 0 < mx (ix3 0 b 0) then ga (ix4 0 0 b j) else g0 (ix2 0 j)
          | 2 => ga (ix4 0 0 b j)
          | 3 => gs (ix4 0 0 b j)) + bi (ix2 0 j) := by
  have hb := b.2
  pointwise [k0_pay2]
  refine congrArg (· + bi (ix2 0 j)) ?_
  match s, hr with
  | 0, hr =>
    have h : r.1 < 16 := by simp at hr; omega
    have e : (⟨r.1, h⟩ : Fin 16) = b := Fin.ext (by simp at hr; exact hr)
    simp only [dif_pos h, e]
  | 1, hr =>
    have h0 : ¬ r.1 < 16 := by simp at hr; omega
    have h : r.1 - 16 < 16 := by simp at hr; omega
    have e : (⟨r.1 - 16, h⟩ : Fin 16) = b := Fin.ext (by simp at hr ⊢; omega)
    simp only [dif_neg h0, dif_pos h, e]
  | 2, hr =>
    have h0 : ¬ r.1 < 16 := by simp at hr; omega
    have h1 : ¬ r.1 - 16 < 16 := by simp at hr; omega
    have h : r.1 - 16 - 16 < 16 := by simp at hr; omega
    have e : (⟨r.1 - 16 - 16, h⟩ : Fin 16) = b := Fin.ext (by simp at hr ⊢; omega)
    simp only [dif_neg h0, dif_neg h1, dif_pos h, e]
  | 3, hr =>
    have h0 : ¬ r.1 < 16 := by simp at hr; omega
    have h1 : ¬ r.1 - 16 < 16 := by simp at hr; omega
    have h2 : ¬ r.1 - 16 - 16 < 16 := by simp at hr; omega
    have h : r.1 - 16 - 16 - 16 < 16 := by simp at hr; omega
    have e : (⟨r.1 - 16 - 16 - 16, h⟩ : Fin 16) = b := Fin.ext (by simp at hr ⊢; omega)
    simp only [dif_neg h0, dif_neg h1, dif_neg h2, e]

/-- A row under its mask: the row's gates where the mask is one, the masked-out row's where it is zero. -/
theorem gates_select (t : Fin 32) (b : Fin 16) (m : EReal) (hm : m = 0 ∨ m = 1) (j : Fin 3072) :
    (if 0 < m then giOf x0 x1 x2 x3 x6 x7 x8 x9 x10 x11 (ix4 t 0 b j) else g0Of x8 x9 x10 x11 (ix2 0 j))
      = lin ((kParams x6 x7 x8 x9 x10 x11 x12 x13 x14 x15 x16 x17 x18).embed (fun k => frameRow x0 x1 b t k * m))
          (fun j k => x11 (ix2 k j)) j := by
  rcases hm with rfl | rfl
  · rw [if_neg (lt_irrefl _)]
    exact gates_masked x6 x7 x8 x9 x10 x11 x12 x13 x14 x15 x16 x17 x18 _ j
  · rw [if_pos zero_lt_one, show (fun k => frameRow x0 x1 b t k * (1 : EReal)) = frameRow x0 x1 b t from funext fun k => mul_one _]
    exact gates_anchor x0 x1 x2 x3 x6 x7 x8 x9 x10 x11 x12 x13 x14 x15 x16 x17 x18 _ b j

/-- The gates' input part of every stream at a trip. -/
theorem gates_step (h4 : IsMask x4) (h5 : IsMask x5) (k : Fin k0_t1_loop.trips) (s : Fin 4) (b : Fin 16) (r : Fin 64)
    (hr : r.1 = s.1 * 16 + b.1) (j : Fin 3072) :
    k0_pay2
        (VecWindow.window (giOf x0 x1 x2 x3 x6 x7 x8 x9 x10 x11) (k0_off1 k) S1x1x16x3072.size (k0_off1_inb k))
        (VecWindow.window (giOf x0 x1 x2 x3 x6 x7 x8 x9 x10 x11) (k0_off2 k) S1x1x16x3072.size (k0_off2_inb k))
        (g0Of x8 x9 x10 x11)
        (VecWindow.window x4 (k0_off3 k) S1x16x1.size (k0_off3_inb k))
        (VecWindow.window x5 (k0_off3 k) S1x16x1.size (k0_off3_inb k)) x13 (ix2 r j)
      = (kParams x6 x7 x8 x9 x10 x11 x12 x13 x14 x15 x16 x17 x18).gate (kRow x0 x1 x2 x3 x4 x5 s b k.1) j := by
  have hk : k.1 < 32 := lt_of_lt_of_eq k.2 trips_eq
  refine (pay2_at _ _ _ _ _ _ s b r hr j).trans ?_
  have row : kRow x0 x1 x2 x3 x4 x5 s b k.1
      = streamRow s (frameRow x0 x1 b (frameOf k)) (frameRow x2 x3 b (frameOf k)) (x4 (ix3 (frameOf k) b 0)) (x5 (ix3 (frameOf k) b 0)) :=
    dif_pos hk
  rw [row]
  refine congrArg (· + x13 (ix2 0 j)) ?_
  match s with
  | 0 =>
    refine Eq.trans ?_ (gates_select x0 x1 x2 x3 x6 x7 x8 x9 x10 x11 x12 x13 x14 x15 x16 x17 x18 (frameOf k) b _ (h4 (frameOf k) b) j)
    rw [← window3 x4 k b, ← window1 (giOf x0 x1 x2 x3 x6 x7 x8 x9 x10 x11) k b j]
  | 1 =>
    refine Eq.trans ?_ (gates_select x0 x1 x2 x3 x6 x7 x8 x9 x10 x11 x12 x13 x14 x15 x16 x17 x18 (frameOf k) b _ (h5 (frameOf k) b) j)
    rw [← window3 x5 k b, ← window1 (giOf x0 x1 x2 x3 x6 x7 x8 x9 x10 x11) k b j]
  | 2 => exact (window1 _ k b j).trans (gates_anchor x0 x1 x2 x3 x6 x7 x8 x9 x10 x11 x12 x13 x14 x15 x16 x17 x18 (frameOf k) b j)
  | 3 => exact (window2 _ k b j).trans (gates_shuffled x0 x1 x2 x3 x6 x7 x8 x9 x10 x11 x12 x13 x14 x15 x16 x17 x18 (frameOf k) b j)

/-- The kernel's state before a trip is the recurrence's, stream by stream and sample by sample. -/
theorem hAt_eq (h4 : IsMask x4) (h5 : IsMask x5) (s : Fin 4) (b : Fin 16) (r : Fin 64)
    (hr : r.1 = s.1 * 16 + b.1) (n : ℕ) (hn : n ≤ 32) (j : Fin 1024) :
    hAt x4 x5 x12 x13 x14 (giOf x0 x1 x2 x3 x6 x7 x8 x9 x10 x11) (g0Of x8 x9 x10 x11) n (ix2 r j)
      = state (fun t => (kParams x6 x7 x8 x9 x10 x11 x12 x13 x14 x15 x16 x17 x18).gate (kRow x0 x1 x2 x3 x4 x5 s b t))
          (fun j k => x12 (ix2 k j)) (fun j => x14 (ix2 0 j)) n j := by
  induction n generalizing j with
  | zero =>
    unfold hAt state
    pointwise [k0_pay13]
  | succ n ih =>
    have h : n < k0_t1_loop.trips := by rw [trips_eq]; omega
    have ih' := fun j => ih (by omega) j
    unfold hAt
    rw [dif_pos h]
    unfold stepOf
    have g := gates_step x0 x1 x2 x3 x4 x5 x6 x7 x8 x9 x10 x11 x12 x13 x14 x15 x16 x17 x18 h4 h5 ⟨n, h⟩ s b r hr
    pointwise [k0_pay14, k0_pay3, k0_pay4]
    simp only [g, ih']
    rw [state_succ]
    unfold gru lin
    simp only [col, Nat.zero_add]

/-- What the kernel stores is the embedding of each stream of each sample. -/
theorem encOut_eq (h4 : IsMask x4) (h5 : IsMask x5) (s : Fin 4) (b : Fin 16) (j : Fin 128) :
    encOut x0 x1 x2 x3 x4 x5 x6 x7 x8 x9 x10 x11 x12 x13 x14 x15 x16 x17 x18 (ix3 s b j)
      = (kParams x6 x7 x8 x9 x10 x11 x12 x13 x14 x15 x16 x17 x18).out (kRow x0 x1 x2 x3 x4 x5 s b) j := by
  have hb := b.2
  have hs := s.2
  have e : Scf.trips k0_t1_loop.lb k0_t1_loop.ub k0_t1_loop.st = 32 := by decide
  have H := fun H j => hAt_eq x0 x1 x2 x3 x4 x5 x6 x7 x8 x9 x10 x11 x12 x13 x14 x15 x16 x17 x18 h4 h5 s b ⟨s.1 * 16 + b.1, H⟩ rfl 32 (le_refl _) j
  unfold encOut
  rw [e]
  pointwise [k0_pay1, k0_pay15, k0_pay16]
  simp only [H]
  rfl

end Cert.EncoderIdeal.Gen
end
-- ==== Proof.Enc.Out.lean ====
/-
  What the encoder's call returns, over the contents its host code leaves in the arrays it passes: every window is a
  whole array, so the result is the body's value of those arrays.
-/
module

public import proofs.«01_k».proof.Proof.Enc.Closed

@[expose] public section

set_option maxRecDepth 16384

noncomputable section

namespace Cert.EncoderIdeal.Gen

open Idealize.ShloMosaic Idealize.ShloMosaic.TcCoe
open Idealize.ShloMosaic.Pipeline (Dat Cfg Window cellOf)

variable {F : FTy → Type} [FloatOps F]

variable (m : (ℓ : Loc nD τ sig) → Buf (Elt F) ℓ) (c : Dev nD)

/-- The one block of a window that is a whole array reads the array. -/
theorem read_whole_window {s : Shape} {e : EltTy} {cs : CoreSpace} (arr : Memref sig .tc .hbm s e) (isOut sync : Bool)
    (stage : Memref sig .tc (.core cs) ⟨s.rank, s.size⟩ e) (sem : DmaSem sig) (harr : arr.IsWhole) (hstage : stage.IsWhole)
    (t : Fin Pipeline.Grid.none.N) (f : arr.view.ty.Contents (Elt F)) :
    ((Window.whole arr isOut sync stage sem harr hstage).blk t).view.read (Elt F) f = arr.view.read (Elt F) f := by
  funext y
  refine congrArg (arr.view.read (Elt F) f) (funext fun a => Fin.ext ?_)
  show 0 * s.size a + 1 * (y a).val = (y a).val
  omega

/-- The grid's one point. -/
abbrev t0 : Fin cfg0.N := ⟨0, by decide⟩

theorem iblk_0 (t : Fin cfg0.N) : iblk m c 0 t = V m c main_arg0 :=
  read_whole_window _ _ _ _ _ (Memref.isWhole_whole _) (hstage0_0 0) t _
theorem iblk_1 (t : Fin cfg0.N) : iblk m c 1 t = V m c main_arg1 :=
  read_whole_window _ _ _ _ _ (Memref.isWhole_whole _) (hstage0_1 0) t _
theorem iblk_2 (t : Fin cfg0.N) : iblk m c 2 t = V m c main_arg2 :=
  read_whole_window _ _ _ _ _ (Memref.isWhole_whole _) (hstage0_2 0) t _
theorem iblk_3 (t : Fin cfg0.N) : iblk m c 3 t = V m c main_arg3 :=
  read_whole_window _ _ _ _ _ (Memref.isWhole_whole _) (hstage0_3 0) t _
theorem iblk_4 (t : Fin cfg0.N) : iblk m c 4 t = V m c main_v22 :=
  read_whole_window _ _ _ _ _ (Memref.isWhole_whole _) (hstage0_4 0) t _
theorem iblk_5 (t : Fin cfg0.N) : iblk m c 5 t = V m c main_v23 :=
  read_whole_window _ _ _ _ _ (Memref.isWhole_whole _) (hstage0_5 0) t _
theorem iblk_6 (t : Fin cfg0.N) : iblk m c 6 t = V m c main_v26 :=
  read_whole_window _ _ _ _ _ (Memref.isWhole_whole _) (hstage0_6 0) t _
theorem iblk_7 (t : Fin cfg0.N) : iblk m c 7 t = V m c main_v29 :=
  read_whole_window _ _ _ _ _ (Memref.isWhole_whole _) (hstage0_7 0) t _
theorem iblk_8 (t : Fin cfg0.N) : iblk m c 8 t = V m c main_v38 :=
  read_whole_window _ _ _ _ _ (Memref.isWhole_whole _) (hstage0_8 0) t _
theorem iblk_9 (t : Fin cfg0.N) : iblk m c 9 t = V m c main_v39 :=
  read_whole_window _ _ _ _ _ (Memref.isWhole_whole _) (hstage0_9 0) t _
theorem iblk_10 (t : Fin cfg0.N) : iblk m c 10 t = V m c main_v40 :=
  read_whole_window _ _ _ _ _ (Memref.isWhole_whole _) (hstage0_10 0) t _
theorem iblk_11 (t : Fin cfg0.N) : iblk m c 11 t = V m c main_v31 :=
  read_whole_window _ _ _ _ _ (Memref.isWhole_whole _) (hstage0_11 0) t _
theorem iblk_12 (t : Fin cfg0.N) : iblk m c 12 t = V m c main_v33 :=
  read_whole_window _ _ _ _ _ (Memref.isWhole_whole _) (hstage0_12 0) t _
theorem iblk_13 (t : Fin cfg0.N) : iblk m c 13 t = V m c main_v41 :=
  read_whole_window _ _ _ _ _ (Memref.isWhole_whole _) (hstage0_13 0) t _
theorem iblk_14 (t : Fin cfg0.N) : iblk m c 14 t = V m c main_v42 :=
  read_whole_window _ _ _ _ _ (Memref.isWhole_whole _) (hstage0_14 0) t _
theorem iblk_15 (t : Fin cfg0.N) : iblk m c 15 t = V m c main_v35 :=
  read_whole_window _ _ _ _ _ (Memref.isWhole_whole _) (hstage0_15 0) t _
theorem iblk_16 (t : Fin cfg0.N) : iblk m c 16 t = V m c main_v43 :=
  read_whole_window _ _ _ _ _ (Memref.isWhole_whole _) (hstage0_16 0) t _
theorem iblk_17 (t : Fin cfg0.N) : iblk m c 17 t = V m c main_v37 :=
  read_whole_window _ _ _ _ _ (Memref.isWhole_whole _) (hstage0_17 0) t _
theorem iblk_18 (t : Fin cfg0.N) : iblk m c 18 t = V m c main_v44 :=
  read_whole_window _ _ _ _ _ (Memref.isWhole_whole _) (hstage0_18 0) t _

/-- What the body stores at a point, over the arrays. -/
theorem outs_eq (t : Fin cfg0.N) : outsAt0 m c t = encOut (V m c main_arg0) (V m c main_arg1) (V m c main_arg2) (V m c main_arg3) (V m c main_v22) (V m c main_v23) (V m c main_v26) (V m c main_v29) (V m c main_v38) (V m c main_v39) (V m c main_v40) (V m c main_v31) (V m c main_v33) (V m c main_v41) (V m c main_v42) (V m c main_v35) (V m c main_v43) (V m c main_v37) (V m c main_v44) := by
  unfold outsAt0
  refine (out_eq ..).trans ?_
  simp only [iblk_0, iblk_1, iblk_2, iblk_3, iblk_4, iblk_5, iblk_6, iblk_7, iblk_8, iblk_9, iblk_10, iblk_11, iblk_12, iblk_13, iblk_14, iblk_15, iblk_16, iblk_17, iblk_18]

/-- The call's result over the arrays passed to it. -/
theorem arr19 : (dats m 0 c).arrAt 19 cfg0.N = encOut (V m c main_arg0) (V m c main_arg1) (V m c main_arg2) (V m c main_arg3) (V m c main_v22) (V m c main_v23) (V m c main_v26) (V m c main_v29) (V m c main_v38) (V m c main_v39) (V m c main_v40) (V m c main_v31) (V m c main_v33) (V m c main_v41) (V m c main_v42) (V m c main_v35) (V m c main_v43) (V m c main_v37) (V m c main_v44) := by
  refine (read_whole_window (Memref.whole main_v45) true false (stage0_19 0) (sem0_19 0) (Memref.isWhole_whole _) (hstage0_19 0) t0 _).symm.trans
    ((blocks19 m c t0 (flush0_19 _)).trans ((flushed19 m c t0).trans ?_))
  exact outs_eq m c t0

end Cert.EncoderIdeal.Gen
end
-- ==== Proof.Enc.Host.lean ====
/-
  What the encoder's host code leaves in the arrays it passes to the call, over its arguments: the two masks, the
  weights transposed and rounded, the rows of parameters.
-/
module

public import proofs.«01_k».proof.Proof.Enc.Out
public import Idealize.ShloMosaic.Lib.StableHlo.RunClose

@[expose] public section

set_option maxRecDepth 16384

noncomputable section

namespace Cert.EncoderIdeal.Gen

open Idealize.ShloMosaic Idealize.ShloMosaic.TcCoe Idealize.ShloMosaic.StableHlo
open Idealize.ShloMosaic.Pipeline (Dat Cfg Window cellOf)

variable {F : FTy → Type} [FloatOps F]

section masks

variable (labels : Vec F S16 .i32) (frames : Vec F S16x32 .i32) (rand : Vec F S16x31x1 .f32)

/-- The random mask: whether the draw is positive, and one at the last frame. -/
def maskRandom : Vec F S16x32x1 .f32 :=
  concatenate S16x32x1 1 [⟨S16x31x1, uitofp (F := F) .f32 (cmpf .ogt rand (broadcastInDim S16x31x1 ![] bcast_S_S16x31x1 (constant S_ .f32 0x00000000#32)))⟩,
    ⟨S16x1x1, broadcastInDim S16x1x1 ![] bcast_S_S16x1x1 (constant (F := F) S_ .f32 0x3F800000#32)⟩] concatenates_S16x31x1_S16x1x1_S16x32x1_d1

/-- Which frames are background. -/
def isBg : Vec F S16x32x1 .f32 :=
  uitofp (F := F) .f32 (broadcastInDim S16x32x1 ![0, 1] bcast_S16x32_S16x32x1_0_1 (cmpi .eq frames (broadcastInDim S16x32 ![] bcast_S_S16x32 (constantI S_ 32 0#32))))

/-- Which samples are background. -/
def bgSample : Vec F S16x1x1 .i1 :=
  shapeCast S16x1x1 (cmpi .eq labels (broadcastInDim S16 ![] bcast_S_S16 (constantI S_ 32 0#32))) shapeCasts_S16_S16x1x1

/-- The core mask before an empty one is replaced. -/
def maskCore0 : Vec F S16x32x1 .f32 :=
  select (broadcastInDim S16x32x1 ![0, 1, 2] bcast_S16x1x1_S16x32x1_0_1_2 (bgSample (F := F) labels)) (maskRandom rand)
    (subf (broadcastInDim S16x32x1 ![] bcast_S_S16x32x1 (constant S_ .f32 0x3F800000#32)) (isBg (F := F) frames))

/-- The core mask. -/
def maskCore : Vec F S16x32x1 .f32 :=
  select (broadcastInDim S16x32x1 ![0, 1, 2] bcast_S16x1x1_S16x32x1_0_1_2
      (cmpf .ogt (broadcastInDim S16x1x1 ![0, 2] bcast_S16x1_S16x1x1_0_2
        (Host.reduceAdd (maskCore0 (F := F) labels frames rand) (constant S_ .f32 0x00000000#32) reducesTo_S16x32x1_S16x1_d1 h_S_))
        (broadcastInDim S16x1x1 ![] bcast_S_S16x1x1 (constant S_ .f32 0x00000000#32))))
    (maskCore0 (F := F) labels frames rand) (maskRandom rand)

/-- The context mask. -/
def maskCtx : Vec F S16x32x1 .f32 :=
  select (broadcastInDim S16x32x1 ![0, 1, 2] bcast_S16x1x1_S16x32x1_0_1_2 (bgSample (F := F) labels))
    (broadcastInDim S16x32x1 ![] bcast_S_S16x32x1 (constant S_ .f32 0x00000000#32)) (isBg (F := F) frames)

end masks

variable (m : (ℓ : Loc nD τ sig) → Buf (Elt F) ℓ) (c : Dev nD)

/-- An argument as launched. -/
abbrev at_ (r : Ref sig .tc) : Buf (Elt F) ((c : Thread nD τ).loc r) := m ((c : Thread nD τ).loc r)

/-- The masks as the call gets them, the frames first. -/
theorem host_masks :
    V m c main_v22 = transpose S32x16x1 [1, 0, 2] (maskCore (F := F) (at_ m c main_arg4) (at_ m c main_arg5) (at_ m c main_arg18)) transposes_S16x32x1_S32x16x1_1_0_2
      ∧ V m c main_v23 = transpose S32x16x1 [1, 0, 2] (maskCtx (F := F) (at_ m c main_arg4) (at_ m c main_arg5)) transposes_S16x32x1_S32x16x1_1_0_2 := by
  unfold V maskCtx maskCore maskCore0 maskRandom isBg bgSample
  simp only [hostOps0, hostOps0_1, hostOps0_2, hostOps0_3, hostOps0_4, hostOps0_5, hostOps0_6,
    List.flatten_cons, List.flatten_nil, List.append_nil, List.cons_append, List.nil_append]
  constructor <;> after_results_entrywise []

/-- The weights as the call gets them, transposed and rounded, and the rows of parameters. -/
theorem host_params :
    V m c main_v26 = truncf (F := F) .bf16 (transpose S2048x1024 [1, 0] (extractStridedSlice S1024x2048 ![0, 0] (at_ m c main_arg6) slices_S1024x4096_S1024x2048_0_0) transposes_S1024x2048_S2048x1024_1_0) bitsLt_bf16_f32
      ∧ V m c main_v29 = truncf (F := F) .bf16 (transpose S2048x1024 [1, 0] (extractStridedSlice S1024x2048 ![0, 2048] (at_ m c main_arg6) slices_S1024x4096_S1024x2048_0_2048) transposes_S1024x2048_S2048x1024_1_0) bitsLt_bf16_f32
      ∧ V m c main_v31 = truncf (F := F) .bf16 (transpose S1024x3072 [1, 0] (at_ m c main_arg10) transposes_S3072x1024_S1024x3072_1_0) bitsLt_bf16_f32
      ∧ V m c main_v33 = truncf (F := F) .bf16 (transpose S1024x3072 [1, 0] (at_ m c main_arg11) transposes_S3072x1024_S1024x3072_1_0) bitsLt_bf16_f32
      ∧ V m c main_v35 = truncf (F := F) .bf16 (transpose S1024x1024 [1, 0] (at_ m c main_arg14) transposes_S1024x1024_S1024x1024_1_0) bitsLt_bf16_f32
      ∧ V m c main_v37 = truncf (F := F) .bf16 (transpose S1024x128 [1, 0] (at_ m c main_arg16) transposes_S128x1024_S1024x128_1_0) bitsLt_bf16_f32
      ∧ V m c main_v38 = shapeCast S1x1024 (at_ m c main_arg7) shapeCasts_S1024_S1x1024
      ∧ V m c main_v39 = shapeCast S1x1024 (at_ m c main_arg8) shapeCasts_S1024_S1x1024
      ∧ V m c main_v40 = shapeCast S1x1024 (at_ m c main_arg9) shapeCasts_S1024_S1x1024
      ∧ V m c main_v41 = shapeCast S1x3072 (at_ m c main_arg12) shapeCasts_S3072_S1x3072
      ∧ V m c main_v42 = shapeCast S1x3072 (at_ m c main_arg13) shapeCasts_S3072_S1x3072
      ∧ V m c main_v43 = shapeCast S1x1024 (at_ m c main_arg15) shapeCasts_S1024_S1x1024
      ∧ V m c main_v44 = shapeCast S1x128 (at_ m c main_arg17) shapeCasts_S128_S1x128 := by
  unfold V
  simp only [hostOps0, hostOps0_1, hostOps0_2, hostOps0_3, hostOps0_4, hostOps0_5, hostOps0_6,
    List.flatten_cons, List.flatten_nil, List.append_nil, List.cons_append, List.nil_append]
  refine ⟨?_, ?_, ?_, ?_, ?_, ?_, ?_, ?_, ?_, ?_, ?_, ?_, ?_⟩ <;> after_results_entrywise []

end Cert.EncoderIdeal.Gen
end
-- ==== Proof.Enc.KOut.lean ====
/-
  The kernel's result over extended reals, in the encoder's own arguments.
-/
module

public import proofs.«01_k».proof.Proof.Enc.KVal
public import proofs.«01_k».proof.Proof.Enc.Host

@[expose] public section

set_option maxRecDepth 16384

noncomputable section

namespace Cert.EncoderIdeal.Gen

open Idealize.ShloMosaic Idealize.ShloMosaic.TcCoe Cert.Enc

/-- The parameters as the arguments hold them. -/
def params (a6 : Vec Ideal S1024x4096 .f32) (a7 a8 a9 : Vec Ideal S1024 .f32) (a10 a11 : Vec Ideal S3072x1024 .f32)
    (a12 a13 : Vec Ideal S3072 .f32) (a14 : Vec Ideal S1024x1024 .f32) (a15 : Vec Ideal S1024 .f32)
    (a16 : Vec Ideal S128x1024 .f32) (a17 : Vec Ideal S128 .f32) : Params where
  W1 j k := a6 (ix2 j k)
  b1 j := a7 (ix1 j)
  g j := a8 (ix1 j)
  be j := a9 (ix1 j)
  Wih j k := a10 (ix2 j k)
  Whh j k := a11 (ix2 j k)
  bih j := a12 (ix1 j)
  bhh j := a13 (ix1 j)
  Wh1 j k := a14 (ix2 j k)
  bh1 j := a15 (ix1 j)
  Wh2 j k := a16 (ix2 j k)
  bh2 j := a17 (ix1 j)

/-- The row of a stream at a frame, in the arguments and the masks. -/
def rowOf (a0 a1 a2 a3 : Vec Ideal S16x32x2048 .f32) (mc mx : Vec Ideal S16x32x1 .f32) (s : Fin 4) (b : Fin 16) (t : ℕ) :
    Fin 4096 → EReal :=
  if h : t < 32 then
    streamRow s (frameRow a0 a1 b ⟨t, h⟩) (frameRow a2 a3 b ⟨t, h⟩) (mc (ix3 b ⟨t, h⟩ 0)) (mx (ix3 b ⟨t, h⟩ 0))
  else fun _ => 0

section masks

variable (labels : Vec Ideal S16 .i32) (frames : Vec Ideal S16x32 .i32) (rand : Vec Ideal S16x31x1 .f32)

theorem bit_mask (b : BitVec 1) : (((b.toNat : ℝ) : EReal)) = 0 ∨ (((b.toNat : ℝ) : EReal)) = 1 := by
  have h := b.isLt
  rcases (show b.toNat = 0 ∨ b.toNat = 1 by omega) with e | e <;> rw [e]
  · left; simp
  · right; simp

theorem select_mask (c : BitVec 1) {x y : EReal} (hx : x = 0 ∨ x = 1) (hy : y = 0 ∨ y = 1) :
    Scalar.select c x y = 0 ∨ Scalar.select c x y = 1 := by
  unfold Scalar.select
  split
  · exact hx
  · exact hy

theorem isBg_mask (b : Fin 16) (t : Fin 32) : isBg (F := Ideal) frames (ix3 b t 0) = 0 ∨ isBg (F := Ideal) frames (ix3 b t 0) = 1 := by
  unfold isBg
  pointwise
  exact bit_mask _

theorem maskRandom_mask (b : Fin 16) (t : Fin 32) : maskRandom rand (ix3 b t 0) = 0 ∨ maskRandom rand (ix3 b t 0) = 1 := by
  unfold maskRandom
  pointwise
  split
  · exact bit_mask _
  · exact Or.inr rfl

theorem maskCore0_mask (b : Fin 16) (t : Fin 32) :
    maskCore0 labels frames rand (ix3 b t 0) = 0 ∨ maskCore0 labels frames rand (ix3 b t 0) = 1 := by
  unfold maskCore0
  pointwise
  refine select_mask _ (maskRandom_mask rand b t) ?_
  · rcases isBg_mask frames b t with e | e <;> rw [e]
    · exact Or.inr (sub_zero _)
    · exact Or.inl (by rw [← EReal.coe_one, ← EReal.coe_sub]; simp)

theorem maskCore_mask (b : Fin 16) (t : Fin 32) :
    maskCore labels frames rand (ix3 b t 0) = 0 ∨ maskCore labels frames rand (ix3 b t 0) = 1 := by
  unfold maskCore
  pointwise
  split
  · exact maskCore0_mask labels frames rand b t
  · exact maskRandom_mask rand b t

theorem maskCtx_mask (b : Fin 16) (t : Fin 32) :
    maskCtx (F := Ideal) labels frames (ix3 b t 0) = 0 ∨ maskCtx (F := Ideal) labels frames (ix3 b t 0) = 1 := by
  unfold maskCtx
  pointwise
  exact select_mask _ (Or.inl rfl) (isBg_mask frames b t)

end masks

/-! ## The windows the host code prepares, at an index -/

theorem halves_eq (a : Vec Ideal S1024x4096 .f32) (j : Fin 1024) (k : Fin 4096) :
    cat (fun k => truncf (F := Ideal) .bf16 (transpose S2048x1024 [1, 0] (extractStridedSlice S1024x2048 ![0, 0] a
          slices_S1024x4096_S1024x2048_0_0) transposes_S1024x2048_S2048x1024_1_0) bitsLt_bf16_f32 (ix2 k j))
        (fun k => truncf (F := Ideal) .bf16 (transpose S2048x1024 [1, 0] (extractStridedSlice S1024x2048 ![0, 2048] a
          slices_S1024x4096_S1024x2048_0_2048) transposes_S1024x2048_S2048x1024_1_0) bitsLt_bf16_f32 (ix2 k j)) k
      = a (ix2 j k) := by
  unfold cat
  split
  · pointwise
  · rename_i h
    pointwise
    refine congrArg a (congrArg (ix2 j) (Fin.ext ?_))
    show 2048 + (k.1 - 2048) = k.1
    omega

theorem row_eq (a : Vec Ideal S1024 .f32) (j : Fin 1024) :
    shapeCast S1x1024 a shapeCasts_S1024_S1x1024 (ix2 0 j) = a (ix1 j) := by pointwise

theorem row_eq' (a : Vec Ideal S3072 .f32) (j : Fin 3072) :
    shapeCast S1x3072 a shapeCasts_S3072_S1x3072 (ix2 0 j) = a (ix1 j) := by pointwise

theorem row_eq'' (a : Vec Ideal S128 .f32) (j : Fin 128) :
    shapeCast S1x128 a shapeCasts_S128_S1x128 (ix2 0 j) = a (ix1 j) := by pointwise

theorem flip_eq (a : Vec Ideal S3072x1024 .f32) (j : Fin 3072) (k : Fin 1024) :
    truncf (F := Ideal) .bf16 (transpose S1024x3072 [1, 0] a transposes_S3072x1024_S1024x3072_1_0) bitsLt_bf16_f32 (ix2 k j)
      = a (ix2 j k) := by pointwise

theorem flip_eq' (a : Vec Ideal S1024x1024 .f32) (j k : Fin 1024) :
    truncf (F := Ideal) .bf16 (transpose S1024x1024 [1, 0] a transposes_S1024x1024_S1024x1024_1_0) bitsLt_bf16_f32 (ix2 k j)
      = a (ix2 j k) := by pointwise

theorem flip_eq'' (a : Vec Ideal S128x1024 .f32) (j : Fin 128) (k : Fin 1024) :
    truncf (F := Ideal) .bf16 (transpose S1024x128 [1, 0] a transposes_S128x1024_S1024x128_1_0) bitsLt_bf16_f32 (ix2 k j)
      = a (ix2 j k) := by pointwise

theorem kParams_at (a6 : Vec Ideal S1024x4096 .f32) (a7 a8 a9 : Vec Ideal S1024 .f32) (a10 a11 : Vec Ideal S3072x1024 .f32)
    (a12 a13 : Vec Ideal S3072 .f32) (a14 : Vec Ideal S1024x1024 .f32) (a15 : Vec Ideal S1024 .f32)
    (a16 : Vec Ideal S128x1024 .f32) (a17 : Vec Ideal S128 .f32)
    {x6 x7 : Vec Ideal S2048x1024 .bf16} {x8 x9 x10 : Vec Ideal S1x1024 .f32} {x11 x12 : Vec Ideal S1024x3072 .bf16}
    {x13 x14 : Vec Ideal S1x3072 .f32} {x15 : Vec Ideal S1024x1024 .bf16} {x16 : Vec Ideal S1x1024 .f32}
    {x17 : Vec Ideal S1024x128 .bf16} {x18 : Vec Ideal S1x128 .f32}
    (h6 : x6 = truncf (F := Ideal) .bf16 (transpose S2048x1024 [1, 0] (extractStridedSlice S1024x2048 ![0, 0] a6
          slices_S1024x4096_S1024x2048_0_0) transposes_S1024x2048_S2048x1024_1_0) bitsLt_bf16_f32)
    (h7 : x7 = truncf (F := Ideal) .bf16 (transpose S2048x1024 [1, 0] (extractStridedSlice S1024x2048 ![0, 2048] a6
          slices_S1024x4096_S1024x2048_0_2048) transposes_S1024x2048_S2048x1024_1_0) bitsLt_bf16_f32)
    (h8 : x8 = shapeCast S1x1024 a7 shapeCasts_S1024_S1x1024)
    (h9 : x9 = shapeCast S1x1024 a8 shapeCasts_S1024_S1x1024)
    (h10 : x10 = shapeCast S1x1024 a9 shapeCasts_S1024_S1x1024)
    (h11 : x11 = truncf (F := Ideal) .bf16 (transpose S1024x3072 [1, 0] a10 transposes_S3072x1024_S1024x3072_1_0) bitsLt_bf16_f32)
    (h12 : x12 = truncf (F := Ideal) .bf16 (transpose S1024x3072 [1, 0] a11 transposes_S3072x1024_S1024x3072_1_0) bitsLt_bf16_f32)
    (h13 : x13 = shapeCast S1x3072 a12 shapeCasts_S3072_S1x3072)
    (h14 : x14 = shapeCast S1x3072 a13 shapeCasts_S3072_S1x3072)
    (h15 : x15 = truncf (F := Ideal) .bf16 (transpose S1024x1024 [1, 0] a14 transposes_S1024x1024_S1024x1024_1_0) bitsLt_bf16_f32)
    (h16 : x16 = shapeCast S1x1024 a15 shapeCasts_S1024_S1x1024)
    (h17 : x17 = truncf (F := Ideal) .bf16 (transpose S1024x128 [1, 0] a16 transposes_S128x1024_S1024x128_1_0) bitsLt_bf16_f32)
    (h18 : x18 = shapeCast S1x128 a17 shapeCasts_S128_S1x128) :
    kParams x6 x7 x8 x9 x10 x11 x12 x13 x14 x15 x16 x17 x18 = params a6 a7 a8 a9 a10 a11 a12 a13 a14 a15 a16 a17 := by
  subst h6 h7 h8 h9 h10 h11 h12 h13 h14 h15 h16 h17 h18
  exact Params.ext (funext fun j => funext fun k => halves_eq a6 j k) (funext fun j => row_eq a7 j)
    (funext fun j => row_eq a8 j) (funext fun j => row_eq a9 j) (funext fun j => funext fun k => flip_eq a10 j k)
    (funext fun j => funext fun k => flip_eq a11 j k) (funext fun j => row_eq' a12 j) (funext fun j => row_eq' a13 j)
    (funext fun j => funext fun k => flip_eq' a14 j k) (funext fun j => row_eq a15 j)
    (funext fun j => funext fun k => flip_eq'' a16 j k) (funext fun j => row_eq'' a17 j)

variable (m : (ℓ : Loc nD τ sig) → Buf (Elt Ideal) ℓ) (c : Dev nD)

/-- The parameters the call's windows hold are the arguments'. -/
theorem kParams_eq :
    kParams (V m c main_v26) (V m c main_v29) (V m c main_v38) (V m c main_v39) (V m c main_v40) (V m c main_v31)
        (V m c main_v33) (V m c main_v41) (V m c main_v42) (V m c main_v35) (V m c main_v43) (V m c main_v37) (V m c main_v44)
      = params (at_ m c main_arg6) (at_ m c main_arg7) (at_ m c main_arg8) (at_ m c main_arg9) (at_ m c main_arg10)
          (at_ m c main_arg11) (at_ m c main_arg12) (at_ m c main_arg13) (at_ m c main_arg14) (at_ m c main_arg15)
          (at_ m c main_arg16) (at_ m c main_arg17) := by
  obtain ⟨h26, h29, h31, h33, h35, h37, h38, h39, h40, h41, h42, h43, h44⟩ := host_params m c
  exact kParams_at _ _ _ _ _ _ _ _ _ _ _ _ h26 h29 h38 h39
    h40 h31 h33 h41 h42 h35
    h43 h37 h44

/-- The rows the call's windows hold are the arguments' under the masks. -/
theorem kRow_eq (s : Fin 4) (b : Fin 16) :
    kRow (V m c main_arg0) (V m c main_arg1) (V m c main_arg2) (V m c main_arg3) (V m c main_v22) (V m c main_v23) s b
      = rowOf (at_ m c main_arg0) (at_ m c main_arg1) (at_ m c main_arg2) (at_ m c main_arg3)
          (maskCore (at_ m c main_arg4) (at_ m c main_arg5) (at_ m c main_arg18))
          (maskCtx (F := Ideal) (at_ m c main_arg4) (at_ m c main_arg5)) s b := by
  rw [V_main_arg0, V_main_arg1, V_main_arg2, V_main_arg3, (host_masks m c).1, (host_masks m c).2]
  funext t
  unfold kRow rowOf
  split
  · pointwise
  · rfl

theorem core_isMask : IsMask (V m c main_v22) := by
  intro t b
  rw [(host_masks m c).1]
  pointwise
  exact maskCore_mask _ _ _ b t

theorem ctx_isMask : IsMask (V m c main_v23) := by
  intro t b
  rw [(host_masks m c).2]
  pointwise
  exact maskCtx_mask _ _ b t

/-- The array the call fills, element by element. -/
theorem kernel_value (s : Fin 4) (b : Fin 16) (j : Fin 128) :
    ((dats m 0 c).arrAt 19 cfg0.N : Vec Ideal S4x16x128 .f32) (ix3 s b j)
      = (params (at_ m c main_arg6) (at_ m c main_arg7) (at_ m c main_arg8) (at_ m c main_arg9) (at_ m c main_arg10)
          (at_ m c main_arg11) (at_ m c main_arg12) (at_ m c main_arg13) (at_ m c main_arg14) (at_ m c main_arg15)
          (at_ m c main_arg16) (at_ m c main_arg17)).out
        (rowOf (at_ m c main_arg0) (at_ m c main_arg1) (at_ m c main_arg2) (at_ m c main_arg3)
          (maskCore (at_ m c main_arg4) (at_ m c main_arg5) (at_ m c main_arg18))
          (maskCtx (F := Ideal) (at_ m c main_arg4) (at_ m c main_arg5)) s b) j := by
  refine (congrFun (arr19 m c) (ix3 s b j)).trans ?_
  refine (encOut_eq _ _ _ _ _ _ _ _ _ _ _ _ _ _ _ _ _ _ _ (core_isMask m c) (ctx_isMask m c) s b j).trans ?_
  rw [kParams_eq, kRow_eq]

end Cert.EncoderIdeal.Gen
end
-- ==== Proof.Enc.ROut.lean ====
/-
  The reference's result over extended reals, in the encoder's own arguments.
-/
module

public import proofs.«01_k».proof.Proof.Enc.RVal
public import proofs.«01_k».proof.Proof.Enc.KOut

@[expose] public section

set_option maxRecDepth 16384

noncomputable section

namespace Cert.EncoderReferenceIdeal.Value

open Cert.EncoderReferenceIdeal.Gen
open Idealize.ShloMosaic Idealize.ShloMosaic.TcCoe Idealize.ShloMosaic.StableHlo Cert.Enc
open Cert.EncoderIdeal.Gen (params rowOf)

variable (m : (b : Loc nD τ sig) → Buf (Elt Ideal) b) (c : Dev nD)

/-- The parameters the arguments hold. -/
abbrev parOf : Params :=
  params (at_ m c main_arg6) (at_ m c main_arg7) (at_ m c main_arg8) (at_ m c main_arg9) (at_ m c main_arg10)
    (at_ m c main_arg11) (at_ m c main_arg12) (at_ m c main_arg13) (at_ m c main_arg14) (at_ m c main_arg15)
    (at_ m c main_arg16) (at_ m c main_arg17)

/-- The rows the arguments hold. -/
abbrev rowsOf (s : Fin 4) (b : Fin 16) : ℕ → Fin 4096 → EReal :=
  rowOf (at_ m c main_arg0) (at_ m c main_arg1) (at_ m c main_arg2) (at_ m c main_arg3)
    (maskCore (F := Ideal) (at_ m c main_arg4) (at_ m c main_arg5) (at_ m c main_arg18))
    (maskCtx (F := Ideal) (at_ m c main_arg4) (at_ m c main_arg5)) s b

/-- The contents after `k` trips. -/
abbrev after_ (k : ℕ) : Valuation τ sig (Elt Ideal) := STEP^[k] (entryContents preI m c)

theorem row_at (s : Fin 4) (b : Fin 16) (t : Fin 32) (j : Fin 1024) :
    carriedX (entryContents preI m c) (ix4 t s b j) = (parOf m c).embed (rowsOf m c s b t) j := by
  have e : carriedX (entryContents preI m c) = _ := entry_v64_0 m c
  rw [e, rows_at]
  have r : (fun k => streams (video (at_ m c main_arg0) (at_ m c main_arg1)) (video (at_ m c main_arg2) (at_ m c main_arg3))
      (maskCore (F := Ideal) (at_ m c main_arg4) (at_ m c main_arg5) (at_ m c main_arg18))
      (maskCtx (F := Ideal) (at_ m c main_arg4) (at_ m c main_arg5)) (ix4 s b t k)) = rowsOf m c s b t := by
    rw [streams_at, video_at, video_at]
    unfold rowsOf rowOf
    rw [dif_pos t.2]
    rfl
  have p : (fun j => projOf m c (ix4 s b t j)) = fun j => lin (rowsOf m c s b t) (parOf m c).W1 j + (parOf m c).b1 j := by
    funext j
    unfold projOf
    rw [project_at, r]
    rfl
  rw [p]
  rfl

theorem carried (k : ℕ) : carriedX (after_ m c k) = carriedX (entryContents preI m c)
    ∧ carriedWih (after_ m c k) = at_ m c main_arg10 ∧ carriedBih (after_ m c k) = at_ m c main_arg12
    ∧ carriedWhh (after_ m c k) = at_ m c main_arg11 ∧ carriedBhh (after_ m c k) = at_ m c main_arg13 := by
  induction k with
  | zero => exact ⟨rfl, entry_params m c⟩
  | succ k ih =>
    obtain ⟨h0, h1, h2, h3, h4⟩ := ih
    unfold after_
    rw [Function.iterate_succ_apply']
    exact ⟨(STEP_main_v64_0 _).trans h0, (STEP_main_v64_1 _).trans h1, (STEP_main_v64_2 _).trans h2,
      (STEP_main_v64_3 _).trans h3, (STEP_main_v64_4 _).trans h4⟩

theorem counted (k : ℕ) : carriedK (after_ m c k) = fun _ => BitVec.ofNat 32 k := by
  induction k with
  | zero => exact ctr_entry m c
  | succ k ih =>
    unfold after_
    rw [Function.iterate_succ_apply']
    refine (STEP_main_v64_5 _).trans ?_
    funext i
    show carriedK (after_ m c k) i + 1#32 = _
    rw [ih]
    exact (BitVec.ofNat_add_ofNat k 1)

/-- The state after `k` trips. -/
theorem state_at (s : Fin 4) (b : Fin 16) (k : ℕ) (hk : k ≤ 32) : ∀ j : Fin 1024,
    carriedH (after_ m c k) (ix3 s b j)
      = state (fun t => (parOf m c).gate (rowsOf m c s b t)) (parOf m c).Whh (parOf m c).bhh k j := by
  induction k with
  | zero =>
    intro j
    have e : carriedH (after_ m c 0) = _ := entry_v64_6 m c
    rw [e]
    pointwise
    rfl
  | succ k ih =>
    intro j
    obtain ⟨h0, h1, h2, h3, h4⟩ := carried m c k
    have e : carriedH (after_ m c (k + 1)) = step_main_v64_6 (after_ m c k) := by
      unfold after_
      rw [Function.iterate_succ_apply']
      exact STEP_main_v64_6 _
    have g := step_at (after_ m c k) ⟨k, hk⟩ (counted m c k) s b j
    rw [h0, h1, h2, h3, h4] at g
    have hx : (fun l => carriedX (entryContents preI m c) (ix4 (⟨k, hk⟩ : Fin 32) s b l))
        = (parOf m c).embed (rowsOf m c s b k) := funext fun l => row_at m c s b ⟨k, hk⟩ l
    have hh : (fun l => carriedH (after_ m c k) (ix3 s b l))
        = state (fun t => (parOf m c).gate (rowsOf m c s b t)) (parOf m c).Whh (parOf m c).bhh k :=
      funext (ih (Nat.le_of_succ_le hk))
    rw [e, g, state_succ, hx, hh]
    refine congrFun (congr (congr (congrArg gru ?_) ?_) rfl) j
    · funext i
      rfl
    · funext i
      rfl

/-- The reference's result, in the arguments. -/
theorem ref_value (s : Fin 4) (b : Fin 16) (j : Fin 128) :
    (out_main_v83 (STEP^[32] (entryContents preI m c)) : Vec Ideal S4x16x128 .f32) (ix3 s b j)
      = (parOf m c).out (rowsOf m c s b) j := by
  have h := state_at m c s b 32 (Nat.le_refl _)
  pointwise [out_main_v83]
  rw [iter_main_arg14, iter_main_arg15, iter_main_arg16, iter_main_arg17]
  simp only [h]
  rfl

end Cert.EncoderReferenceIdeal.Value
end
-- ==== Proof.Enc.Same.lean ====
/-
  From equal arguments the encoder's call and the reference end with the same array.
-/
module

public import proofs.«01_k».proof.Proof.Enc.ROut

@[expose] public section

set_option maxRecDepth 16384

noncomputable section

namespace Cert.Enc

open Idealize.ShloMosaic Idealize.ShloMosaic.TcCoe Idealize.ShloMosaic.StableHlo

variable (m : (ℓ : Loc Cert.EncoderIdeal.nD Cert.EncoderIdeal.τ Cert.EncoderIdeal.sig) → Buf (Elt Ideal) ℓ)
  (m' : (ℓ : Loc Cert.EncoderReferenceIdeal.nD Cert.EncoderReferenceIdeal.τ Cert.EncoderReferenceIdeal.sig) → Buf (Elt Ideal) ℓ)
  (c : Dev Cert.EncoderIdeal.nD)

/-- An argument of the kernel, on a device. -/
abbrev own (r : Ref Cert.EncoderIdeal.sig .tc) : Buf (Elt Ideal) ((c.tc : Thread Cert.EncoderIdeal.nD Cert.EncoderIdeal.τ).loc r) :=
  m ((c.tc : Thread Cert.EncoderIdeal.nD Cert.EncoderIdeal.τ).loc r)

/-- An argument of the reference, on a device. -/
abbrev ref (r : Ref Cert.EncoderReferenceIdeal.sig .tc) :
    Buf (Elt Ideal) ((c.tc : Thread Cert.EncoderReferenceIdeal.nD Cert.EncoderReferenceIdeal.τ).loc r) :=
  m' ((c.tc : Thread Cert.EncoderReferenceIdeal.nD Cert.EncoderReferenceIdeal.τ).loc r)

open Cert.EncoderIdeal in
theorem results_eq
    (e0 : ref m' c Cert.EncoderReferenceIdeal.main_arg0 = own m c main_arg0)
    (e1 : ref m' c Cert.EncoderReferenceIdeal.main_arg1 = own m c main_arg1)
    (e2 : ref m' c Cert.EncoderReferenceIdeal.main_arg2 = own m c main_arg2)
    (e3 : ref m' c Cert.EncoderReferenceIdeal.main_arg3 = own m c main_arg3)
    (e4 : ref m' c Cert.EncoderReferenceIdeal.main_arg4 = own m c main_arg4)
    (e5 : ref m' c Cert.EncoderReferenceIdeal.main_arg5 = own m c main_arg5)
    (e6 : ref m' c Cert.EncoderReferenceIdeal.main_arg6 = own m c main_arg6)
    (e7 : ref m' c Cert.EncoderReferenceIdeal.main_arg7 = own m c main_arg7)
    (e8 : ref m' c Cert.EncoderReferenceIdeal.main_arg8 = own m c main_arg8)
    (e9 : ref m' c Cert.EncoderReferenceIdeal.main_arg9 = own m c main_arg9)
    (e10 : ref m' c Cert.EncoderReferenceIdeal.main_arg10 = own m c main_arg10)
    (e11 : ref m' c Cert.EncoderReferenceIdeal.main_arg11 = own m c main_arg11)
    (e12 : ref m' c Cert.EncoderReferenceIdeal.main_arg12 = own m c main_arg12)
    (e13 : ref m' c Cert.EncoderReferenceIdeal.main_arg13 = own m c main_arg13)
    (e14 : ref m' c Cert.EncoderReferenceIdeal.main_arg14 = own m c main_arg14)
    (e15 : ref m' c Cert.EncoderReferenceIdeal.main_arg15 = own m c main_arg15)
    (e16 : ref m' c Cert.EncoderReferenceIdeal.main_arg16 = own m c main_arg16)
    (e17 : ref m' c Cert.EncoderReferenceIdeal.main_arg17 = own m c main_arg17)
    (e18 : ref m' c Cert.EncoderReferenceIdeal.main_arg18 = own m c main_arg18) :
    (Cert.EncoderReferenceIdeal.Value.out_main_v83 (Cert.EncoderReferenceIdeal.Value.STEP^[32]
        (entryContents Cert.EncoderReferenceIdeal.Value.preI m' c)) : Vec Ideal S4x16x128 .f32)
      = (Cert.EncoderIdeal.Gen.dats m 0 c).arrAt 19 Cert.EncoderIdeal.cfg0.N := by
  funext i
  rw [eq_ix3 i]
  refine (Cert.EncoderReferenceIdeal.Value.ref_value m' c (i 0) (i 1) (i 2)).trans
    (Eq.trans ?_ (Cert.EncoderIdeal.Gen.kernel_value m c (i 0) (i 1) (i 2)).symm)
  have hp : Cert.EncoderReferenceIdeal.Value.parOf m' c = Cert.EncoderIdeal.Gen.params (own m c main_arg6) (own m c main_arg7)
      (own m c main_arg8) (own m c main_arg9) (own m c main_arg10) (own m c main_arg11) (own m c main_arg12)
      (own m c main_arg13) (own m c main_arg14) (own m c main_arg15) (own m c main_arg16) (own m c main_arg17) := by
    rw [← e6, ← e7, ← e8, ← e9, ← e10, ← e11, ← e12, ← e13, ← e14, ← e15, ← e16, ← e17]
  have hr : Cert.EncoderReferenceIdeal.Value.rowsOf m' c (i 0) (i 1) = Cert.EncoderIdeal.Gen.rowOf (own m c main_arg0)
      (own m c main_arg1) (own m c main_arg2) (own m c main_arg3)
      (Cert.EncoderIdeal.Gen.maskCore (F := Ideal) (own m c main_arg4) (own m c main_arg5) (own m c main_arg18))
      (Cert.EncoderIdeal.Gen.maskCtx (F := Ideal) (own m c main_arg4) (own m c main_arg5)) (i 0) (i 1) := by
    rw [← e0, ← e1, ← e2, ← e3, ← e4, ← e5, ← e18]
    rfl
  rw [hp, hr]

end Cert.Enc
end
-- ==== Proof.Enc.Words.lean ====
/-
  The encoder's call over machine floats has the text of the idealized one, so the run proved over any float values is its
  run too.
-/
module

public import proofs.«01_k».proof.Defs
public import proofs.«01_k».proof.Proof.Gen.Encoder
public import proofs.«01_k».proof.Proof.Gen.EncoderIdeal
public import proofs.«01_k».proof.Proof.Enc.Frame

@[expose] public section

set_option maxHeartbeats 4000000

noncomputable section

namespace Cert.Enc

open Idealize.ShloMosaic Idealize.SL.Sem

theorem body_same (l : Cert.Encoder.Λ₀.Label) (a : Cert.Encoder.Λ₀.Args l) :
    Cert.Encoder.defs₀ (F := Bits) .tc l a = Cert.EncoderIdeal.defs₀ (F := Bits) .tc l a := by
  match l, a with
  | 0, (t, s) => rfl

theorem bodies_same : Cert.Encoder.defs₀ (F := Bits) = Cert.EncoderIdeal.defs₀ (F := Bits) := by
  funext p
  match p with
  | .tc => exact funext fun l => funext fun a => body_same l a
  | .scScalar _ => rfl
  | .scVector _ _ => rfl

theorem defs_same : Cert.Encoder.defs (F := Bits) = Cert.EncoderIdeal.defs (F := Bits) :=
  congrArg (Pipeline.defs Cert.EncoderIdeal.pcfgs) bodies_same

theorem main_same : Cert.Encoder.main (F := Bits) = Cert.EncoderIdeal.main (F := Bits) := rfl

/-- The encoder's call runs to the end from any launch, its arguments unchanged and its semaphores at zero. -/
theorem frame_words : Cert.quiescent_Encoder := fun m ρ _ => by
  have h := Cert.EncoderIdeal.Gen.frame (F := Bits) m ρ
  rw [← defs_same, ← main_same] at h
  exact h

end Cert.Enc
end
-- ==== Proof.lean ====
/-
  The proof of `Cert.Claim`: for the call on the queues and for the encoder's call, the frames of the kernel, of its
  idealization and of the idealized reference, the idealization's text being the kernel's, and the kernel's results equal
  to the reference's.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Gen.Encoder
public import proofs.«01_k».proof.Proof.Gen.EncoderIdeal
public import proofs.«01_k».proof.Proof.Gen.EncoderIdeal.Frame.Runs
public import proofs.«01_k».proof.Proof.Gen.EncoderReferenceIdeal
public import proofs.«01_k».proof.Proof.Gen.EncoderReferenceIdeal.Run
public import proofs.«01_k».proof.Proof.Agree
public import proofs.«01_k».proof.Proof.Enc.Same
public import proofs.«01_k».proof.Proof.Enc.Words
public import Idealize.ShloMosaic.Adequacy
public import Idealize.ShloMosaic.Init

@[expose] public section

noncomputable section

namespace Cert.Proof

open Idealize.ShloMosaic Idealize.SL.Sem
open Cert.Proof.Queue (InRange good posM nextM run_end ranges queues_eq ptrs_eq)

/-- The precondition on every device gives the ranges of the labels and of the pointers. -/
theorem inRange {F : FTy → Type} [FloatOps F]
    (m : (ℓ : Loc Cert.KernelIdeal.nD Cert.KernelIdeal.τ Cert.KernelIdeal.sig) → Buf (Elt F) ℓ)
    (h : ∀ d, Cert.Pre_in_range.fn (F := F) (m ((SparseCore.T d).loc Cert.KernelIdeal.main_arg0)) (m ((SparseCore.T d).loc Cert.KernelIdeal.main_arg1))
      (m ((SparseCore.T d).loc Cert.KernelIdeal.main_arg2)) (m ((SparseCore.T d).loc Cert.KernelIdeal.main_arg3)) = fun _ => 1#1) : InRange m where
  hl d := (ranges _ _ _ _ (h d)).1
  hp d := (ranges _ _ _ _ (h d)).2

/-- The kernel runs to the end from any launch in range, its arguments unchanged and its semaphores at zero. -/
theorem frame_kernel : Cert.quiescent_Kernel := fun m ρ hpre =>
  (θ_run Cert.KernelIdeal.defs _ _).mono (fun _ h => ⟨fun c => (h.1 c).2.2, h.2⟩)
    (run_end (F := Bits) m ρ (posM m) (nextM m) (good (inRange m hpre)))

/-- The idealized kernel likewise. -/
theorem frame_ideal : Cert.quiescent_KernelIdeal := fun m ρ hpre =>
  (θ_run Cert.KernelIdeal.defs _ _).mono (fun _ h => ⟨fun c => (h.1 c).2.2, h.2⟩)
    (run_end (F := Ideal) m ρ (posM m) (nextM m) (good (inRange m hpre)))

/-- The idealized reference runs to the end from any launch, its arguments unchanged; it has no semaphore. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The idealized reference likewise from launches in range. -/
theorem frame_reference_in_range : Cert.quiescent_ReferenceIdeal_pre_in_range := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- From any launch in range the idealized kernel and the idealized reference end with the same queues and pointers. -/
theorem algebraic : Cert.algebraic_KernelIdeal_ReferenceIdeal := by
  intro m ρ m' ρ' hpre hag
  have hr : InRange m := inRange m hpre
  refine ⟨_, _, (θ_run Cert.KernelIdeal.defs _ _).mono (fun _ h c => h.1 c) (run_end (F := Ideal) m ρ (posM m) (nextM m) (good hr)), ?_⟩
  refine (θ_run Cert.ReferenceIdeal.defs _ _).mono (fun _ h c => ?_) (Cert.ReferenceIdeal.Value.run (F := Ideal) m' ρ')
  obtain ⟨e0, e1, e2, e3⟩ := hag c
  exact ⟨(h c).1.trans (queues_eq m m' hr c e0 e1 e2 e3), (h c).2.1.trans (ptrs_eq m m' hr c e1 e3), (h c).2.2⟩

/-- The encoder's call runs to the end from any launch, its arguments unchanged and its semaphores at zero. -/
theorem frame_encoder : Cert.quiescent_Encoder := Cert.Enc.frame_words

/-- The idealized call likewise. -/
theorem frame_encoder_ideal : Cert.quiescent_EncoderIdeal := fun m ρ _ => Cert.EncoderIdeal.Gen.frame (F := Ideal) m ρ

/-- The idealized reference of the encoder likewise; it has no semaphore. -/
theorem frame_encoder_reference : Cert.quiescent_EncoderReferenceIdeal := fun m ρ _ =>
  (θ_run Cert.EncoderReferenceIdeal.defs _ _).mono (fun r h => ⟨fun c => (h c).2, sem_eq_zero_of_no_sems (by decide) r.2⟩)
    (Cert.EncoderReferenceIdeal.Value.run (F := Ideal) m ρ)

/-- From equal arguments the idealized call and the idealized reference end with the same embeddings of the four streams. -/
theorem algebraic_encoder : Cert.algebraic_EncoderIdeal_EncoderReferenceIdeal := by
  intro m ρ m' ρ' _ hag
  refine ⟨_, Cert.EncoderIdeal.Gen.run_blocks (F := Ideal) m ρ, ?_⟩
  refine (θ_run Cert.EncoderReferenceIdeal.defs _ _).mono (fun _ h c => ?_) (Cert.EncoderReferenceIdeal.Value.run (F := Ideal) m' ρ')
  obtain ⟨e0, e1, e2, e3, e4, e5, e6, e7, e8, e9, e10, e11, e12, e13, e14, e15, e16, e17, e18⟩ := hag c
  exact ⟨(h c).1.trans (Cert.Enc.results_eq m m' c e0 e1 e2 e3 e4 e5 e6 e7 e8 e9 e10 e11 e12 e13 e14 e15 e16 e17 e18), (h c).2⟩

/-- All the claims. -/
theorem claim : Cert.Claim := ⟨Cert.Kernel.Gen.facts, Cert.KernelIdeal.Gen.facts, Cert.ReferenceIdeal.Gen.facts,
  Cert.Encoder.Gen.facts, Cert.EncoderIdeal.Gen.facts, Cert.EncoderReferenceIdeal.Gen.facts, Cert.Pre_in_range.Gen.facts,
  frame_kernel, frame_ideal, frame_reference, frame_reference_in_range, frame_encoder, frame_encoder_ideal,
  frame_encoder_reference, trivial, algebraic, trivial, algebraic_encoder⟩

end Cert.Proof

end
